-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_v_and_lambdas [hPre_finite_v_and_lambdas : Cert.Pre_finite_v_and_lambdas.Facts] (m : (ℓ : Loc Cert.KernelIdeal.nD Cert.KernelIdeal.τ Cert.KernelIdeal.sig) → Buf (Elt Ideal) ℓ) : Prop :=
  ∀ c : Dev Cert.KernelIdeal.nD,
    (Cert.Pre_finite_v_and_lambdas.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_v_and_lambdas [hPre_finite_v_and_lambdas : Cert.Pre_finite_v_and_lambdas.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_v_and_lambdas.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_v_and_lambdas [hKernelIdeal : Cert.KernelIdeal.Facts] [hPre_finite_v_and_lambdas : Cert.Pre_finite_v_and_lambdas.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_v_and_lambdas m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_v_and_lambdas [hReferenceIdeal : Cert.ReferenceIdeal.Facts] [hPre_finite_v_and_lambdas : Cert.Pre_finite_v_and_lambdas.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_v_and_lambdas m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "qscale" .f32 0x3E38AA3B#32 (((8 * (Real.log 2))⁻¹ : ℝ) : EReal)
  ∧ IdealRules.named_const.Statement Cert.KernelIdeal.κ "half_mask" .f32 0xF0C9F2CA#32 ⊥

def algebraic_KernelIdeal_ReferenceIdeal_pre_finite_v_and_lambdas [hKernelIdeal : Cert.KernelIdeal.Facts] [hReferenceIdeal : Cert.ReferenceIdeal.Facts] [hPre_finite_v_and_lambdas : Cert.Pre_finite_v_and_lambdas.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_v_and_lambdas m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)) (v3 : (c : Dev Cert.Kernel3Ideal.nD) → Buf (Elt Ideal) ((c.tc : Thread Cert.Kernel3Ideal.nD Cert.Kernel3Ideal.τ).loc Cert.Kernel3Ideal.main_v13_3)) (v4 : (c : Dev Cert.Kernel3Ideal.nD) → Buf (Elt Ideal) ((c.tc : Thread Cert.Kernel3Ideal.nD Cert.Kernel3Ideal.τ).loc Cert.Kernel3Ideal.main_v13_4)) (v5 : (c : Dev Cert.Kernel3Ideal.nD) → Buf (Elt Ideal) ((c.tc : Thread Cert.Kernel3Ideal.nD Cert.Kernel3Ideal.τ).loc Cert.Kernel3Ideal.main_v13_5)) (v6 : (c : Dev Cert.Kernel3Ideal.nD) → Buf (Elt Ideal) ((c.tc : Thread Cert.Kernel3Ideal.nD Cert.Kernel3Ideal.τ).loc Cert.Kernel3Ideal.main_v13_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_v13_3) = v3 c
          ∧ r.2.mem ((c.tc : Thread Cert.Kernel3Ideal.nD Cert.Kernel3Ideal.τ).loc Cert.Kernel3Ideal.main_v13_4) = v4 c
          ∧ r.2.mem ((c.tc : Thread Cert.Kernel3Ideal.nD Cert.Kernel3Ideal.τ).loc Cert.Kernel3Ideal.main_v13_5) = v5 c
          ∧ r.2.mem ((c.tc : Thread Cert.Kernel3Ideal.nD Cert.Kernel3Ideal.τ).loc Cert.Kernel3Ideal.main_v13_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v101) = v0 c
          ∧ r.2.mem ((c.tc : Thread Cert.Reference3Ideal.nD Cert.Reference3Ideal.τ).loc Cert.Reference3Ideal.main_v104) = v1 c
          ∧ r.2.mem ((c.tc : Thread Cert.Reference3Ideal.nD Cert.Reference3Ideal.τ).loc Cert.Reference3Ideal.main_v106) = v2 c
          ∧ r.2.mem ((c.tc : Thread Cert.Reference3Ideal.nD Cert.Reference3Ideal.τ).loc Cert.Reference3Ideal.main_v109) = v3 c
          ∧ r.2.mem ((c.tc : Thread Cert.Reference3Ideal.nD Cert.Reference3Ideal.τ).loc Cert.Reference3Ideal.main_v112) = v4 c
          ∧ r.2.mem ((c.tc : Thread Cert.Reference3Ideal.nD Cert.Reference3Ideal.τ).loc Cert.Reference3Ideal.main_v114) = v5 c
          ∧ r.2.mem ((c.tc : Thread Cert.Reference3Ideal.nD Cert.Reference3Ideal.τ).loc Cert.Reference3Ideal.main_v117) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_v_and_lambdas : Cert.Pre_finite_v_and_lambdas.Facts),
    quiescent_Kernel (hKernel := hKernel)
    ∧ quiescent_KernelIdeal (hKernelIdeal := hKernelIdeal)
    ∧ quiescent_KernelIdeal_pre_finite_v_and_lambdas (hKernelIdeal := hKernelIdeal) (hPre_finite_v_and_lambdas := hPre_finite_v_and_lambdas)
    ∧ quiescent_ReferenceIdeal (hReferenceIdeal := hReferenceIdeal)
    ∧ quiescent_ReferenceIdeal_pre_finite_v_and_lambdas (hReferenceIdeal := hReferenceIdeal) (hPre_finite_v_and_lambdas := hPre_finite_v_and_lambdas)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_v_and_lambdas (hKernelIdeal := hKernelIdeal) (hReferenceIdeal := hReferenceIdeal) (hPre_finite_v_and_lambdas := hPre_finite_v_and_lambdas)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_v_and_lambdas.lean ====
abbrev S4x8192x4x2x64 : Shape := ⟨5, ![4, 8192, 4, 2, 64]⟩
abbrev S4x8192x4x128 : Shape := ⟨4, ![4, 8192, 4, 128]⟩
abbrev S64 : Shape := ⟨1, ![64]⟩
abbrev S128 : Shape := ⟨1, ![128]⟩
abbrev S_ : Shape := ⟨0, ![]⟩

class Facts : Prop where
  bcast_S_S4x8192x4x128 : S_.BroadcastsInDim S4x8192x4x128 (![] : Fin 0 → Fin S4x8192x4x128.rank)
  reducesTo_S4x8192x4x128_S_d0_1_2_3 : S4x8192x4x128.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S4x8192x4x2x64 .f32) (main_arg1 : FVec F S4x8192x4x2x64 .f32) (main_arg2 : FVec F S4x8192x4x128 .f32) (main_arg3 : FVec F S64 .f32) (main_arg4 : FVec F S64 .f32) (main_arg5 : FVec F S64 .f32) (main_arg6 : FVec F S64 .f32) (main_arg7 : FVec F S128 .f32) : IVec S_ 1 :=
  let main_v0 : FVec F S4x8192x4x128 .f32 := Host.absf main_arg2
  let main_cst : FVec F S_ .f32 := constant S_ .f32 0x7F800000#32
  let main_v1 : FVec F S4x8192x4x128 .f32 := broadcastInDim S4x8192x4x128 ![] bcast_S_S4x8192x4x128 main_cst
  let main_v2 : IVec S4x8192x4x128 1 := cmpf .olt main_v0 main_v1
  let main_c : IVec S_ 1 := constantI S_ 1 1#1
  let main_v3 : IVec S_ 1 := (fun x v => Host.reduce IntOp.andi x v reducesTo_S4x8192x4x128_S_d0_1_2_3 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_v13 main_v16
-- ==== Kernel.lean ====
abbrev S4x8192x4x2x64 : Shape := ⟨5, ![4, 8192, 4, 2, 64]⟩
abbrev S4x8192x4x128 : Shape := ⟨4, ![4, 8192, 4, 128]⟩
abbrev S64 : Shape := ⟨1, ![64]⟩
abbrev S128 : Shape := ⟨1, ![128]⟩
abbrev S4x32x256x512 : Shape := ⟨4, ![4, 32, 256, 512]⟩
abbrev S4x32x512x256 : Shape := ⟨4, ![4, 32, 512, 256]⟩
abbrev S4x8192x512 : Shape := ⟨3, ![4, 8192, 512]⟩
abbrev S1x64 : Shape := ⟨2, ![1, 64]⟩
abbrev S4x64 : Shape := ⟨2, ![4, 64]⟩
abbrev S128x1 : Shape := ⟨2, ![128, 1]⟩
abbrev S1x4x128x256 : Shape := ⟨4, ![1, 4, 128, 256]⟩
abbrev S1x8192x128 : Shape := ⟨3, ![1, 8192, 128]⟩
abbrev S1x32x128x256 : Shape := ⟨4, ![1, 32, 128, 256]⟩
abbrev S1x1024x128 : Shape := ⟨3, ![1, 1024, 128]⟩
abbrev S8x128x256 : Shape := ⟨3, ![8, 128, 256]⟩
abbrev S8x1024x256 : Shape := ⟨3, ![8, 1024, 256]⟩
abbrev S8x4x8x256 : Shape := ⟨4, ![8, 4, 8, 256]⟩
abbrev S256x256 : Shape := ⟨2, ![256, 256]⟩
abbrev S128x256 : Shape := ⟨2, ![128, 256]⟩
abbrev S1x1x128x256 : Shape := ⟨4, ![1, 1, 128, 256]⟩
abbrev S1x128x256 : Shape := ⟨3, ![1, 128, 256]⟩
abbrev S1x256 : Shape := ⟨2, ![1, 256]⟩
abbrev S1x256x128 : Shape := ⟨3, ![1, 256, 128]⟩
abbrev S256x128 : Shape := ⟨2, ![256, 128]⟩
abbrev S1x1024x256 : Shape := ⟨3, ![1, 1024, 256]⟩
abbrev S1024x256 : Shape := ⟨2, ![1024, 256]⟩
abbrev S4x8x8x256 : Shape := ⟨4, ![4, 8, 8, 256]⟩
abbrev S4x8x256 : Shape := ⟨3, ![4, 8, 256]⟩
abbrev S8x256 : Shape := ⟨2, ![8, 256]⟩
abbrev S1x4x8x256 : Shape := ⟨4, ![1, 4, 8, 256]⟩
abbrev S1x8x256 : Shape := ⟨3, ![1, 8, 256]⟩
abbrev S256 : Shape := ⟨1, ![256]⟩
abbrev S1 : Shape := ⟨1, ![1]⟩
abbrev S1x1 : Shape := ⟨2, ![1, 1]⟩

abbrev nBuf : Space → Nat
  | .hbm => 23
  | .vmem => 15
  | .smem => 0
  | _ => 0

abbrev bufTy : (tb : Table) → Fin (tcTables nBuf tb) → BufTy
  | .hbm, ⟨0, _⟩ => ⟨S4x8192x4x2x64, .f32⟩
  | .hbm, ⟨1, _⟩ => ⟨S4x8192x4x2x64, .f32⟩
  | .hbm, ⟨2, _⟩ => ⟨S4x8192x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S4x32x256x512, .f32⟩
  | .hbm, ⟨9, _⟩ => ⟨S4x32x512x256, .f32⟩
  | .hbm, ⟨10, _⟩ => ⟨S4x32x512x256, .bf16⟩
  | .hbm, ⟨11, _⟩ => ⟨S4x8192x512, .f32⟩
  | .hbm, ⟨12, _⟩ => ⟨S4x8192x512, .bf16⟩
  | .hbm, ⟨13, _⟩ => ⟨S4x32x256x512, .f32⟩
  | .hbm, ⟨14, _⟩ => ⟨S4x32x512x256, .f32⟩
  | .hbm, ⟨15, _⟩ => ⟨S4x32x512x256, .bf16⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S4x64, .f32⟩
  | .hbm, ⟨21, _⟩ => ⟨S128x1, .f32⟩
  | .hbm, ⟨22, _⟩ => ⟨S4x8192x512, .bf16⟩
  | .local _ .vmem, ⟨0, _⟩ => ⟨S4x64, .f32⟩
  | .local _ .vmem, ⟨1, _⟩ => ⟨S128x1, .f32⟩
  | .local _ .vmem, ⟨2, _⟩ => ⟨S1x4x128x256, .bf16⟩
  | .local _ .vmem, ⟨3, _⟩ => ⟨S1x4x128x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x32x128x256, .bf16⟩
  | .local _ .vmem, ⟨7, _⟩ => ⟨S1x32x128x256, .bf16⟩
  | .local _ .vmem, ⟨8, _⟩ => ⟨S1x1024x128, .bf16⟩
  | .local _ .vmem, ⟨9, _⟩ => ⟨S1x1024x128, .bf16⟩
  | .local _ .vmem, ⟨10, _⟩ => ⟨S8x128x256, .bf16⟩
  | .local _ .vmem, ⟨11, _⟩ => ⟨S8x1024x256, .f32⟩
  | .local _ .vmem, ⟨12, _⟩ => ⟨S8x4x8x256, .f32⟩
  | .local _ .vmem, ⟨13, _⟩ => ⟨S8x128x256, .f32⟩
  | .local _ .vmem, ⟨14, _⟩ => ⟨S256x256, .f32⟩
  | _, _ => ⟨S4x8192x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 8], ![false, false, false]⟩

def k0_mult1 : BitVec 32 :=
  let c0_i32 : BitVec 32 := 0#32
  c0_i32
def k0_mult2 : BitVec 32 :=
  let c256_i32 : BitVec 32 := 256#32
  c256_i32
def k0_mult3 : BitVec 32 :=
  let c512_i32 : BitVec 32 := 512#32
  c512_i32
def k0_mult4 : BitVec 32 :=
  let c768_i32 : BitVec 32 := 768#32
  c768_i32
@[reducible] def k0_t1_loop (i : grid0.Coords) : Scf.Loop 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_129 : BitVec 32 := 1#32
  ⟨c0_i32_128, v178, c1_i32_129⟩
def k0_mult5 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c0_i32_1159 : BitVec 32 := 0#32
  let v1414 : BitVec 32 := Scalar.addi v1411 c0_i32_1159
  let c256_i32_1160 : BitVec 32 := 256#32
  let v1415 : BitVec 32 := Scalar.muli v1414 c256_i32_1160
  v1415
def k0_off1 (i : grid0.Coords) (k0_t1 : Fin (k0_t1_loop i).trips) (c0_i32_1159 : BitVec 32) : Fin 3 → Nat :=
  let c0_1161 : Index := 0#32
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let v1414 : BitVec 32 := Scalar.addi v1411 c0_i32_1159
  let c256_i32_1160 : BitVec 32 := 256#32
  let v1415 : BitVec 32 := Scalar.muli v1414 c256_i32_1160
  let v1416 : BitVec 32 := v1415
  let v1417 : Index := Scalar.indexCast v1416
  let c0_1162 : Index := 0#32
  ![0, v1417.toNat, 0]
def k0_mult6 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c1_i32_1178 : BitVec 32 := 1#32
  let v1434 : BitVec 32 := Scalar.addi v1411 c1_i32_1178
  let c256_i32_1179 : BitVec 32 := 256#32
  let v1435 : BitVec 32 := Scalar.muli v1434 c256_i32_1179
  v1435
def k0_mult7 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c2_i32_1197 : BitVec 32 := 2#32
  let v1454 : BitVec 32 := Scalar.addi v1411 c2_i32_1197
  let c256_i32_1198 : BitVec 32 := 256#32
  let v1455 : BitVec 32 := Scalar.muli v1454 c256_i32_1198
  v1455
def k0_mult8 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c3_i32_1216 : BitVec 32 := 3#32
  let v1474 : BitVec 32 := Scalar.addi v1411 c3_i32_1216
  let c256_i32_1217 : BitVec 32 := 256#32
  let v1475 : BitVec 32 := Scalar.muli v1474 c256_i32_1217
  v1475
def k0_off2 (i : grid0.Coords) (k0_t1 : Fin (k0_t1_loop i).trips) (c0_i32_1294 : BitVec 32) : Fin 4 → Nat :=
  let c0_1295 : Index := 0#32
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let v1547 : BitVec 32 := Scalar.addi v1411 c0_i32_1294
  let v1548 : Index := Scalar.indexCast v1547
  let c0_1296 : Index := 0#32
  let c0_1297 : Index := 0#32
  ![0, v1548.toNat, 0, 0]
def k0_mult9 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c0_i32_1345 : BitVec 32 := 0#32
  let v1618 : BitVec 32 := Scalar.addi v1411 c0_i32_1345
  let c256_i32_1346 : BitVec 32 := 256#32
  let v1619 : BitVec 32 := Scalar.muli v1618 c256_i32_1346
  v1619
def k0_mult10 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c1_i32_1364 : BitVec 32 := 1#32
  let v1638 : BitVec 32 := Scalar.addi v1411 c1_i32_1364
  let c256_i32_1365 : BitVec 32 := 256#32
  let v1639 : BitVec 32 := Scalar.muli v1638 c256_i32_1365
  v1639
def k0_mult11 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c2_i32_1383 : BitVec 32 := 2#32
  let v1658 : BitVec 32 := Scalar.addi v1411 c2_i32_1383
  let c256_i32_1384 : BitVec 32 := 256#32
  let v1659 : BitVec 32 := Scalar.muli v1658 c256_i32_1384
  v1659
def k0_mult12 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c3_i32_1402 : BitVec 32 := 3#32
  let v1678 : BitVec 32 := Scalar.addi v1411 c3_i32_1402
  let c256_i32_1403 : BitVec 32 := 256#32
  let v1679 : BitVec 32 := Scalar.muli v1678 c256_i32_1403
  v1679
def k0_mult13 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c0_i32_1531 : BitVec 32 := 0#32
  let v1822 : BitVec 32 := Scalar.addi v1411 c0_i32_1531
  let c256_i32_1532 : BitVec 32 := 256#32
  let v1823 : BitVec 32 := Scalar.muli v1822 c256_i32_1532
  v1823
def k0_mult14 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c1_i32_1550 : BitVec 32 := 1#32
  let v1842 : BitVec 32 := Scalar.addi v1411 c1_i32_1550
  let c256_i32_1551 : BitVec 32 := 256#32
  let v1843 : BitVec 32 := Scalar.muli v1842 c256_i32_1551
  v1843
def k0_mult15 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c2_i32_1569 : BitVec 32 := 2#32
  let v1862 : BitVec 32 := Scalar.addi v1411 c2_i32_1569
  let c256_i32_1570 : BitVec 32 := 256#32
  let v1863 : BitVec 32 := Scalar.muli v1862 c256_i32_1570
  v1863
def k0_mult16 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c3_i32_1588 : BitVec 32 := 3#32
  let v1882 : BitVec 32 := Scalar.addi v1411 c3_i32_1588
  let c256_i32_1589 : BitVec 32 := 256#32
  let v1883 : BitVec 32 := Scalar.muli v1882 c256_i32_1589
  v1883
def k0_mult17 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c0_i32_1717 : BitVec 32 := 0#32
  let v2026 : BitVec 32 := Scalar.addi v1411 c0_i32_1717
  let c256_i32_1718 : BitVec 32 := 256#32
  let v2027 : BitVec 32 := Scalar.muli v2026 c256_i32_1718
  v2027
def k0_mult18 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c1_i32_1736 : BitVec 32 := 1#32
  let v2046 : BitVec 32 := Scalar.addi v1411 c1_i32_1736
  let c256_i32_1737 : BitVec 32 := 256#32
  let v2047 : BitVec 32 := Scalar.muli v2046 c256_i32_1737
  v2047
def k0_mult19 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c2_i32_1755 : BitVec 32 := 2#32
  let v2066 : BitVec 32 := Scalar.addi v1411 c2_i32_1755
  let c256_i32_1756 : BitVec 32 := 256#32
  let v2067 : BitVec 32 := Scalar.muli v2066 c256_i32_1756
  v2067
def k0_mult20 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c3_i32_1774 : BitVec 32 := 3#32
  let v2086 : BitVec 32 := Scalar.addi v1411 c3_i32_1774
  let c256_i32_1775 : BitVec 32 := 256#32
  let v2087 : BitVec 32 := Scalar.muli v2086 c256_i32_1775
  v2087
def k0_mult21 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c0_i32_1903 : BitVec 32 := 0#32
  let v2230 : BitVec 32 := Scalar.addi v1411 c0_i32_1903
  let c256_i32_1904 : BitVec 32 := 256#32
  let v2231 : BitVec 32 := Scalar.muli v2230 c256_i32_1904
  v2231
def k0_mult22 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c1_i32_1922 : BitVec 32 := 1#32
  let v2250 : BitVec 32 := Scalar.addi v1411 c1_i32_1922
  let c256_i32_1923 : BitVec 32 := 256#32
  let v2251 : BitVec 32 := Scalar.muli v2250 c256_i32_1923
  v2251
def k0_mult23 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c2_i32_1941 : BitVec 32 := 2#32
  let v2270 : BitVec 32 := Scalar.addi v1411 c2_i32_1941
  let c256_i32_1942 : BitVec 32 := 256#32
  let v2271 : BitVec 32 := Scalar.muli v2270 c256_i32_1942
  v2271
def k0_mult24 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c3_i32_1960 : BitVec 32 := 3#32
  let v2290 : BitVec 32 := Scalar.addi v1411 c3_i32_1960
  let c256_i32_1961 : BitVec 32 := 256#32
  let v2291 : BitVec 32 := Scalar.muli v2290 c256_i32_1961
  v2291
def k0_mult25 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c0_i32_2089 : BitVec 32 := 0#32
  let v2434 : BitVec 32 := Scalar.addi v1411 c0_i32_2089
  let c256_i32_2090 : BitVec 32 := 256#32
  let v2435 : BitVec 32 := Scalar.muli v2434 c256_i32_2090
  v2435
def k0_mult26 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c1_i32_2108 : BitVec 32 := 1#32
  let v2454 : BitVec 32 := Scalar.addi v1411 c1_i32_2108
  let c256_i32_2109 : BitVec 32 := 256#32
  let v2455 : BitVec 32 := Scalar.muli v2454 c256_i32_2109
  v2455
def k0_mult27 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c2_i32_2127 : BitVec 32 := 2#32
  let v2474 : BitVec 32 := Scalar.addi v1411 c2_i32_2127
  let c256_i32_2128 : BitVec 32 := 256#32
  let v2475 : BitVec 32 := Scalar.muli v2474 c256_i32_2128
  v2475
def k0_mult28 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c3_i32_2146 : BitVec 32 := 3#32
  let v2494 : BitVec 32 := Scalar.addi v1411 c3_i32_2146
  let c256_i32_2147 : BitVec 32 := 256#32
  let v2495 : BitVec 32 := Scalar.muli v2494 c256_i32_2147
  v2495
def k0_mult29 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c0_i32_2275 : BitVec 32 := 0#32
  let v2638 : BitVec 32 := Scalar.addi v1411 c0_i32_2275
  let c256_i32_2276 : BitVec 32 := 256#32
  let v2639 : BitVec 32 := Scalar.muli v2638 c256_i32_2276
  v2639
def k0_mult30 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c1_i32_2294 : BitVec 32 := 1#32
  let v2658 : BitVec 32 := Scalar.addi v1411 c1_i32_2294
  let c256_i32_2295 : BitVec 32 := 256#32
  let v2659 : BitVec 32 := Scalar.muli v2658 c256_i32_2295
  v2659
def k0_mult31 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c2_i32_2313 : BitVec 32 := 2#32
  let v2678 : BitVec 32 := Scalar.addi v1411 c2_i32_2313
  let c256_i32_2314 : BitVec 32 := 256#32
  let v2679 : BitVec 32 := Scalar.muli v2678 c256_i32_2314
  v2679
def k0_mult32 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c3_i32_2332 : BitVec 32 := 3#32
  let v2698 : BitVec 32 := Scalar.addi v1411 c3_i32_2332
  let c256_i32_2333 : BitVec 32 := 256#32
  let v2699 : BitVec 32 := Scalar.muli v2698 c256_i32_2333
  v2699
def k0_mult33 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c4_i32_2458 : BitVec 32 := 4#32
  let v2840 : BitVec 32 := Scalar.addi v1411 c4_i32_2458
  let c0_i32_2463 : BitVec 32 := 0#32
  let v2844 : BitVec 32 := Scalar.addi v2840 c0_i32_2463
  let c256_i32_2464 : BitVec 32 := 256#32
  let v2845 : BitVec 32 := Scalar.muli v2844 c256_i32_2464
  v2845
def k0_off3 (i : grid0.Coords) (k0_t1 : Fin (k0_t1_loop i).trips) (c0_i32_2463 : BitVec 32) : Fin 3 → Nat :=
  let c0_2465 : Index := 0#32
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c4_i32_2458 : BitVec 32 := 4#32
  let v2840 : BitVec 32 := Scalar.addi v1411 c4_i32_2458
  let v2844 : BitVec 32 := Scalar.addi v2840 c0_i32_2463
  let c256_i32_2464 : BitVec 32 := 256#32
  let v2845 : BitVec 32 := Scalar.muli v2844 c256_i32_2464
  let v2846 : BitVec 32 := v2845
  let v2847 : Index := Scalar.indexCast v2846
  let c0_2466 : Index := 0#32
  ![0, v2847.toNat, 0]
def k0_mult34 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c4_i32_2458 : BitVec 32 := 4#32
  let v2840 : BitVec 32 := Scalar.addi v1411 c4_i32_2458
  let c1_i32_2482 : BitVec 32 := 1#32
  let v2864 : BitVec 32 := Scalar.addi v2840 c1_i32_2482
  let c256_i32_2483 : BitVec 32 := 256#32
  let v2865 : BitVec 32 := Scalar.muli v2864 c256_i32_2483
  v2865
def k0_mult35 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c4_i32_2458 : BitVec 32 := 4#32
  let v2840 : BitVec 32 := Scalar.addi v1411 c4_i32_2458
  let c2_i32_2501 : BitVec 32 := 2#32
  let v2884 : BitVec 32 := Scalar.addi v2840 c2_i32_2501
  let c256_i32_2502 : BitVec 32 := 256#32
  let v2885 : BitVec 32 := Scalar.muli v2884 c256_i32_2502
  v2885
def k0_mult36 (i : grid0.Coords) (k0_t1 : Fin (k0_t1_loop i).trips) : BitVec 32 :=
  let c0_i32_128 : BitVec 32 := 0#32
  let c1_i32_129 : BitVec 32 := 1#32
  let arg14 : BitVec 32 := Scf.iv c0_i32_128 c1_i32_129 k0_t1
  let c4_i32_1155 : BitVec 32 := 4#32
  let v1411 : BitVec 32 := Scalar.muli arg14 c4_i32_1155
  let c4_i32_2458 : BitVec 32 := 4#32
  let v2840 : BitVec 32 := Scalar.addi v1411 c4_i32_2458
  let c3_i32_2520 : BitVec 32 := 3#32
  let v2904 : BitVec 32 := Scalar.addi v2840 c3_i32_2520
  let c256_i32_2521 : BitVec 32 := 256#32
  let v2905 : BitVec 32 := Scalar.muli v2904 c256_i32_2521
  v2905
@[reducible] def k0_t2_loop (i : grid0.Coords) : Scf.Loop 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let v175 : BitVec 32 := Scalar.addi c0_i32_128 v174
  let c1_i32_130 : BitVec 32 := 1#32
  ⟨v178, v175, c1_i32_130⟩
def k0_mult37 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c0_i32_1159 : BitVec 32 := 0#32
  let v1414 : BitVec 32 := Scalar.addi v1411 c0_i32_1159
  let c256_i32_1160 : BitVec 32 := 256#32
  let v1415 : BitVec 32 := Scalar.muli v1414 c256_i32_1160
  v1415
def k0_off4 (i : grid0.Coords) (k0_t2 : Fin (k0_t2_loop i).trips) (c0_i32_1159 : BitVec 32) : Fin 3 → Nat :=
  let c0_1161 : Index := 0#32
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let v1414 : BitVec 32 := Scalar.addi v1411 c0_i32_1159
  let c256_i32_1160 : BitVec 32 := 256#32
  let v1415 : BitVec 32 := Scalar.muli v1414 c256_i32_1160
  let v1416 : BitVec 32 := v1415
  let v1417 : Index := Scalar.indexCast v1416
  let c0_1162 : Index := 0#32
  ![0, v1417.toNat, 0]
def k0_mult38 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c1_i32_1178 : BitVec 32 := 1#32
  let v1434 : BitVec 32 := Scalar.addi v1411 c1_i32_1178
  let c256_i32_1179 : BitVec 32 := 256#32
  let v1435 : BitVec 32 := Scalar.muli v1434 c256_i32_1179
  v1435
def k0_mult39 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c2_i32_1197 : BitVec 32 := 2#32
  let v1454 : BitVec 32 := Scalar.addi v1411 c2_i32_1197
  let c256_i32_1198 : BitVec 32 := 256#32
  let v1455 : BitVec 32 := Scalar.muli v1454 c256_i32_1198
  v1455
def k0_mult40 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c3_i32_1216 : BitVec 32 := 3#32
  let v1474 : BitVec 32 := Scalar.addi v1411 c3_i32_1216
  let c256_i32_1217 : BitVec 32 := 256#32
  let v1475 : BitVec 32 := Scalar.muli v1474 c256_i32_1217
  v1475
def k0_off5 (i : grid0.Coords) (k0_t2 : Fin (k0_t2_loop i).trips) (c0_i32_1294 : BitVec 32) : Fin 4 → Nat :=
  let c0_1295 : Index := 0#32
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let v1547 : BitVec 32 := Scalar.addi v1411 c0_i32_1294
  let v1548 : Index := Scalar.indexCast v1547
  let c0_1296 : Index := 0#32
  let c0_1297 : Index := 0#32
  ![0, v1548.toNat, 0, 0]
def k0_mult41 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c0_i32_1345 : BitVec 32 := 0#32
  let v1618 : BitVec 32 := Scalar.addi v1411 c0_i32_1345
  let c256_i32_1346 : BitVec 32 := 256#32
  let v1619 : BitVec 32 := Scalar.muli v1618 c256_i32_1346
  v1619
def k0_mult42 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c1_i32_1364 : BitVec 32 := 1#32
  let v1638 : BitVec 32 := Scalar.addi v1411 c1_i32_1364
  let c256_i32_1365 : BitVec 32 := 256#32
  let v1639 : BitVec 32 := Scalar.muli v1638 c256_i32_1365
  v1639
def k0_mult43 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c2_i32_1383 : BitVec 32 := 2#32
  let v1658 : BitVec 32 := Scalar.addi v1411 c2_i32_1383
  let c256_i32_1384 : BitVec 32 := 256#32
  let v1659 : BitVec 32 := Scalar.muli v1658 c256_i32_1384
  v1659
def k0_mult44 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c3_i32_1402 : BitVec 32 := 3#32
  let v1678 : BitVec 32 := Scalar.addi v1411 c3_i32_1402
  let c256_i32_1403 : BitVec 32 := 256#32
  let v1679 : BitVec 32 := Scalar.muli v1678 c256_i32_1403
  v1679
def k0_mult45 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c0_i32_1531 : BitVec 32 := 0#32
  let v1822 : BitVec 32 := Scalar.addi v1411 c0_i32_1531
  let c256_i32_1532 : BitVec 32 := 256#32
  let v1823 : BitVec 32 := Scalar.muli v1822 c256_i32_1532
  v1823
def k0_mult46 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c1_i32_1550 : BitVec 32 := 1#32
  let v1842 : BitVec 32 := Scalar.addi v1411 c1_i32_1550
  let c256_i32_1551 : BitVec 32 := 256#32
  let v1843 : BitVec 32 := Scalar.muli v1842 c256_i32_1551
  v1843
def k0_mult47 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c2_i32_1569 : BitVec 32 := 2#32
  let v1862 : BitVec 32 := Scalar.addi v1411 c2_i32_1569
  let c256_i32_1570 : BitVec 32 := 256#32
  let v1863 : BitVec 32 := Scalar.muli v1862 c256_i32_1570
  v1863
def k0_mult48 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c3_i32_1588 : BitVec 32 := 3#32
  let v1882 : BitVec 32 := Scalar.addi v1411 c3_i32_1588
  let c256_i32_1589 : BitVec 32 := 256#32
  let v1883 : BitVec 32 := Scalar.muli v1882 c256_i32_1589
  v1883
def k0_mult49 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c0_i32_1717 : BitVec 32 := 0#32
  let v2026 : BitVec 32 := Scalar.addi v1411 c0_i32_1717
  let c256_i32_1718 : BitVec 32 := 256#32
  let v2027 : BitVec 32 := Scalar.muli v2026 c256_i32_1718
  v2027
def k0_mult50 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c1_i32_1736 : BitVec 32 := 1#32
  let v2046 : BitVec 32 := Scalar.addi v1411 c1_i32_1736
  let c256_i32_1737 : BitVec 32 := 256#32
  let v2047 : BitVec 32 := Scalar.muli v2046 c256_i32_1737
  v2047
def k0_mult51 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c2_i32_1755 : BitVec 32 := 2#32
  let v2066 : BitVec 32 := Scalar.addi v1411 c2_i32_1755
  let c256_i32_1756 : BitVec 32 := 256#32
  let v2067 : BitVec 32 := Scalar.muli v2066 c256_i32_1756
  v2067
def k0_mult52 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c3_i32_1774 : BitVec 32 := 3#32
  let v2086 : BitVec 32 := Scalar.addi v1411 c3_i32_1774
  let c256_i32_1775 : BitVec 32 := 256#32
  let v2087 : BitVec 32 := Scalar.muli v2086 c256_i32_1775
  v2087
def k0_mult53 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c0_i32_1903 : BitVec 32 := 0#32
  let v2230 : BitVec 32 := Scalar.addi v1411 c0_i32_1903
  let c256_i32_1904 : BitVec 32 := 256#32
  let v2231 : BitVec 32 := Scalar.muli v2230 c256_i32_1904
  v2231
def k0_mult54 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c1_i32_1922 : BitVec 32 := 1#32
  let v2250 : BitVec 32 := Scalar.addi v1411 c1_i32_1922
  let c256_i32_1923 : BitVec 32 := 256#32
  let v2251 : BitVec 32 := Scalar.muli v2250 c256_i32_1923
  v2251
def k0_mult55 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c2_i32_1941 : BitVec 32 := 2#32
  let v2270 : BitVec 32 := Scalar.addi v1411 c2_i32_1941
  let c256_i32_1942 : BitVec 32 := 256#32
  let v2271 : BitVec 32 := Scalar.muli v2270 c256_i32_1942
  v2271
def k0_mult56 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c3_i32_1960 : BitVec 32 := 3#32
  let v2290 : BitVec 32 := Scalar.addi v1411 c3_i32_1960
  let c256_i32_1961 : BitVec 32 := 256#32
  let v2291 : BitVec 32 := Scalar.muli v2290 c256_i32_1961
  v2291
def k0_mult57 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c0_i32_2089 : BitVec 32 := 0#32
  let v2434 : BitVec 32 := Scalar.addi v1411 c0_i32_2089
  let c256_i32_2090 : BitVec 32 := 256#32
  let v2435 : BitVec 32 := Scalar.muli v2434 c256_i32_2090
  v2435
def k0_mult58 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c1_i32_2108 : BitVec 32 := 1#32
  let v2454 : BitVec 32 := Scalar.addi v1411 c1_i32_2108
  let c256_i32_2109 : BitVec 32 := 256#32
  let v2455 : BitVec 32 := Scalar.muli v2454 c256_i32_2109
  v2455
def k0_mult59 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c2_i32_2127 : BitVec 32 := 2#32
  let v2474 : BitVec 32 := Scalar.addi v1411 c2_i32_2127
  let c256_i32_2128 : BitVec 32 := 256#32
  let v2475 : BitVec 32 := Scalar.muli v2474 c256_i32_2128
  v2475
def k0_mult60 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c3_i32_2146 : BitVec 32 := 3#32
  let v2494 : BitVec 32 := Scalar.addi v1411 c3_i32_2146
  let c256_i32_2147 : BitVec 32 := 256#32
  let v2495 : BitVec 32 := Scalar.muli v2494 c256_i32_2147
  v2495
def k0_mult61 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c0_i32_2275 : BitVec 32 := 0#32
  let v2638 : BitVec 32 := Scalar.addi v1411 c0_i32_2275
  let c256_i32_2276 : BitVec 32 := 256#32
  let v2639 : BitVec 32 := Scalar.muli v2638 c256_i32_2276
  v2639
def k0_mult62 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c1_i32_2294 : BitVec 32 := 1#32
  let v2658 : BitVec 32 := Scalar.addi v1411 c1_i32_2294
  let c256_i32_2295 : BitVec 32 := 256#32
  let v2659 : BitVec 32 := Scalar.muli v2658 c256_i32_2295
  v2659
def k0_mult63 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c2_i32_2313 : BitVec 32 := 2#32
  let v2678 : BitVec 32 := Scalar.addi v1411 c2_i32_2313
  let c256_i32_2314 : BitVec 32 := 256#32
  let v2679 : BitVec 32 := Scalar.muli v2678 c256_i32_2314
  v2679
def k0_mult64 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c3_i32_2332 : BitVec 32 := 3#32
  let v2698 : BitVec 32 := Scalar.addi v1411 c3_i32_2332
  let c256_i32_2333 : BitVec 32 := 256#32
  let v2699 : BitVec 32 := Scalar.muli v2698 c256_i32_2333
  v2699
def k0_mult65 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c4_i32_2458 : BitVec 32 := 4#32
  let v2840 : BitVec 32 := Scalar.addi v1411 c4_i32_2458
  let c0_i32_2463 : BitVec 32 := 0#32
  let v2844 : BitVec 32 := Scalar.addi v2840 c0_i32_2463
  let c256_i32_2464 : BitVec 32 := 256#32
  let v2845 : BitVec 32 := Scalar.muli v2844 c256_i32_2464
  v2845
def k0_off6 (i : grid0.Coords) (k0_t2 : Fin (k0_t2_loop i).trips) (c0_i32_2463 : BitVec 32) : Fin 3 → Nat :=
  let c0_2465 : Index := 0#32
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c4_i32_2458 : BitVec 32 := 4#32
  let v2840 : BitVec 32 := Scalar.addi v1411 c4_i32_2458
  let v2844 : BitVec 32 := Scalar.addi v2840 c0_i32_2463
  let c256_i32_2464 : BitVec 32 := 256#32
  let v2845 : BitVec 32 := Scalar.muli v2844 c256_i32_2464
  let v2846 : BitVec 32 := v2845
  let v2847 : Index := Scalar.indexCast v2846
  let c0_2466 : Index := 0#32
  ![0, v2847.toNat, 0]
def k0_mult66 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c4_i32_2458 : BitVec 32 := 4#32
  let v2840 : BitVec 32 := Scalar.addi v1411 c4_i32_2458
  let c1_i32_2482 : BitVec 32 := 1#32
  let v2864 : BitVec 32 := Scalar.addi v2840 c1_i32_2482
  let c256_i32_2483 : BitVec 32 := 256#32
  let v2865 : BitVec 32 := Scalar.muli v2864 c256_i32_2483
  v2865
def k0_mult67 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c4_i32_2458 : BitVec 32 := 4#32
  let v2840 : BitVec 32 := Scalar.addi v1411 c4_i32_2458
  let c2_i32_2501 : BitVec 32 := 2#32
  let v2884 : BitVec 32 := Scalar.addi v2840 c2_i32_2501
  let c256_i32_2502 : BitVec 32 := 256#32
  let v2885 : BitVec 32 := Scalar.muli v2884 c256_i32_2502
  v2885
def k0_mult68 (i : grid0.Coords) (k0_t2 : Fin (k0_t2_loop i).trips) : BitVec 32 :=
  let c0_i32_128 : BitVec 32 := 0#32
  let arg2 : BitVec 32 := BitVec.ofNat 32 (i 2).val
  let v174 : BitVec 32 := Scalar.subi arg2 c0_i32_128
  let c1_i32 : BitVec 32 := 1#32
  let v176 : BitVec 32 := Scalar.divsi v174 c1_i32
  let v177 : BitVec 32 := Scalar.muli v176 c1_i32
  let v178 : BitVec 32 := Scalar.addi c0_i32_128 v177
  let c1_i32_130 : BitVec 32 := 1#32
  let arg14 : BitVec 32 := Scf.iv v178 c1_i32_130 k0_t2
  let c4_i32_1155 : BitVec 32 := 4#32
  let v1411 : BitVec 32 := Scalar.muli arg14 c4_i32_1155
  let c4_i32_2458 : BitVec 32 := 4#32
  let v2840 : BitVec 32 := Scalar.addi v1411 c4_i32_2458
  let c3_i32_2520 : BitVec 32 := 3#32
  let v2904 : BitVec 32 := Scalar.addi v2840 c3_i32_2520
  let c256_i32_2521 : BitVec 32 := 256#32
  let v2905 : BitVec 32 := Scalar.muli v2904 c256_i32_2521
  v2905
def k0_mult69 (i : grid0.Coords) : BitVec 32 :=
  let arg2 : BitVec 32 := BitVec.ofNat 32 (i 2).val
  let c4_i32 : BitVec 32 := 4#32
  let v181 : BitVec 32 := Scalar.muli arg2 c4_i32
  let c0_i32_134 : BitVec 32 := 0#32
  let v184 : BitVec 32 := Scalar.addi v181 c0_i32_134
  let c256_i32_135 : BitVec 32 := 256#32
  let v185 : BitVec 32 := Scalar.muli v184 c256_i32_135
  v185
def k0_off7 (i : grid0.Coords) (c0_i32_134 : BitVec 32) : Fin 3 → Nat :=
  let c0_136 : Index := 0#32
  let arg2 : BitVec 32 := BitVec.ofNat 32 (i 2).val
  let c4_i32 : BitVec 32 := 4#32
  let v181 : BitVec 32 := Scalar.muli arg2 c4_i32
  let v184 : BitVec 32 := Scalar.addi v181 c0_i32_134
  let c256_i32_135 : BitVec 32 := 256#32
  let v185 : BitVec 32 := Scalar.muli v184 c256_i32_135
  let v186 : BitVec 32 := v185
  let v187 : Index := Scalar.indexCast v186
  let c0_137 : Index := 0#32
  ![0, v187.toNat, 0]
def k0_mult70 (i : grid0.Coords) : BitVec 32 :=
  let arg2 : BitVec 32 := BitVec.ofNat 32 (i 2).val
  let c4_i32 : BitVec 32 := 4#32
  let v181 : BitVec 32 := Scalar.muli arg2 c4_i32
  let c0_i32_158 : BitVec 32 := 0#32
  let v208 : BitVec 32 := Scalar.addi v181 c0_i32_158
  let c256_i32_159 : BitVec 32 := 256#32
  let v209 : BitVec 32 := Scalar.muli v208 c256_i32_159
  v209
def k0_off8 (i : grid0.Coords) (c0_i32_196 : BitVec 32) : Fin 4 → Nat :=
  let c0_197 : Index := 0#32
  let arg2 : BitVec 32 := BitVec.ofNat 32 (i 2).val
  let c4_i32 : BitVec 32 := 4#32
  let v181 : BitVec 32 := Scalar.muli arg2 c4_i32
  let v253 : BitVec 32 := Scalar.addi v181 c0_i32_196
  let v254 : Index := Scalar.indexCast v253
  let c0_198 : Index := 0#32
  let c0_199 : Index := 0#32
  ![0, v254.toNat, 0, 0]
def k0_mult71 (i : grid0.Coords) : BitVec 32 :=
  let arg2 : BitVec 32 := BitVec.ofNat 32 (i 2).val
  let c4_i32 : BitVec 32 := 4#32
  let v181 : BitVec 32 := Scalar.muli arg2 c4_i32
  let c0_i32_211 : BitVec 32 := 0#32
  let v273 : BitVec 32 := Scalar.addi v181 c0_i32_211
  let c256_i32_212 : BitVec 32 := 256#32
  let v274 : BitVec 32 := Scalar.muli v273 c256_i32_212
  v274
def k0_mult72 (i : grid0.Coords) : BitVec 32 :=
  let arg2 : BitVec 32 := BitVec.ofNat 32 (i 2).val
  let c4_i32 : BitVec 32 := 4#32
  let v181 : BitVec 32 := Scalar.muli arg2 c4_i32
  let c1_i32_229 : BitVec 32 := 1#32
  let v293 : BitVec 32 := Scalar.addi v181 c1_i32_229
  let c256_i32_230 : BitVec 32 := 256#32
  let v294 : BitVec 32 := Scalar.muli v293 c256_i32_230
  v294
def k0_mult73 (i : grid0.Coords) : BitVec 32 :=
  let arg2 : BitVec 32 := BitVec.ofNat 32 (i 2).val
  let c4_i32 : BitVec 32 := 4#32
  let v181 : BitVec 32 := Scalar.muli arg2 c4_i32
  let c0_i32_282 : BitVec 32 := 0#32
  let v358 : BitVec 32 := Scalar.addi v181 c0_i32_282
  let c256_i32_283 : BitVec 32 := 256#32
  let v359 : BitVec 32 := Scalar.muli v358 c256_i32_283
  v359
def k0_mult74 (i : grid0.Coords) : BitVec 32 :=
  let arg2 : BitVec 32 := BitVec.ofNat 32 (i 2).val
  let c4_i32 : BitVec 32 := 4#32
  let v181 : BitVec 32 := Scalar.muli arg2 c4_i32
  let c1_i32_300 : BitVec 32 := 1#32
  let v378 : BitVec 32 := Scalar.addi v181 c1_i32_300
  let c256_i32_301 : BitVec 32 := 256#32
  let v379 : BitVec 32 := Scalar.muli v378 c256_i32_301
  v379
def k0_mult75 (i : grid0.Coords) : BitVec 32 :=
  let arg2 : BitVec 32 := BitVec.ofNat 32 (i 2).val
  let c4_i32 : BitVec 32 := 4#32
  let v181 : BitVec 32 := Scalar.muli arg2 c4_i32
  let c0_i32_379 : BitVec 32 := 0#32
  let v470 : BitVec 32 := Scalar.addi v181 c0_i32_379
  let c256_i32_380 : BitVec 32 := 256#32
  let v471 : BitVec 32 := Scalar.muli v470 c256_i32_380
  v471
def k0_mult76 (i : grid0.Coords) : BitVec 32 :=
  let arg2 : BitVec 32 := BitVec.ofNat 32 (i 2).val
  let c4_i32 : BitVec 32 := 4#32
  let v181 : BitVec 32 := Scalar.muli arg2 c4_i32
  let c1_i32_398 : BitVec 32 := 1#32
  let v490 : BitVec 32 := Scalar.addi v181 c1_i32_398
  let c256_i32_399 : BitVec 32 := 256#32
  let v491 : BitVec 32 := Scalar.muli v490 c256_i32_399
  v491
def k0_mult77 (i : grid0.Coords) : BitVec 32 :=
  let arg2 : BitVec 32 := BitVec.ofNat 32 (i 2).val
  let c4_i32 : BitVec 32 := 4#32
  let v181 : BitVec 32 := Scalar.muli arg2 c4_i32
  let c2_i32_417 : BitVec 32 := 2#32
  let v510 : BitVec 32 := Scalar.addi v181 c2_i32_417
  let c256_i32_418 : BitVec 32 := 256#32
  let v511 : BitVec 32 := Scalar.muli v510 c256_i32_418
  v511
def k0_mult78 (i : grid0.Coords) : BitVec 32 :=
  let arg2 : BitVec 32 := BitVec.ofNat 32 (i 2).val
  let c4_i32 : BitVec 32 := 4#32
  let v181 : BitVec 32 := Scalar.muli arg2 c4_i32
  let c0_i32_496 : BitVec 32 := 0#32
  let v602 : BitVec 32 := Scalar.addi v181 c0_i32_496
  let c256_i32_497 : BitVec 32 := 256#32
  let v603 : BitVec 32 := Scalar.muli v602 c256_i32_497
  v603
def k0_mult79 (i : grid0.Coords) : BitVec 32 :=
  let arg2 : BitVec 32 := BitVec.ofNat 32 (i 2).val
  let c4_i32 : BitVec 32 := 4#32
  let v181 : BitVec 32 := Scalar.muli arg2 c4_i32
  let c1_i32_514 : BitVec 32 := 1#32
  let v622 : BitVec 32 := Scalar.addi v181 c1_i32_514
  let c256_i32_515 : BitVec 32 := 256#32
  let v623 : BitVec 32 := Scalar.muli v622 c256_i32_515
  v623
def k0_mult80 (i : grid0.Coords) : BitVec 32 :=
  let arg2 : BitVec 32 := BitVec.ofNat 32 (i 2).val
  let c4_i32 : BitVec 32 := 4#32
  let v181 : BitVec 32 := Scalar.muli arg2 c4_i32
  let c2_i32_533 : BitVec 32 := 2#32
  let v642 : BitVec 32 := Scalar.addi v181 c2_i32_533
  let c256_i32_534 : BitVec 32 := 256#32
  let v643 : BitVec 32 := Scalar.muli v642 c256_i32_534
  v643
def k0_mult81 (i : grid0.Coords) : BitVec 32 :=
  let arg2 : BitVec 32 := BitVec.ofNat 32 (i 2).val
  let c4_i32 : BitVec 32 := 4#32
  let v181 : BitVec 32 := Scalar.muli arg2 c4_i32
  let c0_i32_638 : BitVec 32 := 0#32
  let v761 : BitVec 32 := Scalar.addi v181 c0_i32_638
  let c256_i32_639 : BitVec 32 := 256#32
  let v762 : BitVec 32 := Scalar.muli v761 c256_i32_639
  v762
def k0_mult82 (i : grid0.Coords) : BitVec 32 :=
  let arg2 : BitVec 32 := BitVec.ofNat 32 (i 2).val
  let c4_i32 : BitVec 32 := 4#32
  let v181 : BitVec 32 := Scalar.muli arg2 c4_i32
  let c1_i32_656 : BitVec 32 := 1#32
  let v781 : BitVec 32 := Scalar.addi v181 c1_i32_656
  let c256_i32_657 : BitVec 32 := 256#32
  let v782 : BitVec 32 := Scalar.muli v781 c256_i32_657
  v782
def k0_mult83 (i : grid0.Coords) : BitVec 32 :=
  let arg2 : BitVec 32 := BitVec.ofNat 32 (i 2).val
  let c4_i32 : BitVec 32 := 4#32
  let v181 : BitVec 32 := Scalar.muli arg2 c4_i32
  let c2_i32_675 : BitVec 32 := 2#32
  let v801 : BitVec 32 := Scalar.addi v181 c2_i32_675
  let c256_i32_676 : BitVec 32 := 256#32
  let v802 : BitVec 32 := Scalar.muli v801 c256_i32_676
  v802
def k0_mult84 (i : grid0.Coords) : BitVec 32 :=
  let arg2 : BitVec 32 := BitVec.ofNat 32 (i 2).val
  let c4_i32 : BitVec 32 := 4#32
  let v181 : BitVec 32 := Scalar.muli arg2 c4_i32
  let c3_i32_694 : BitVec 32 := 3#32
  let v821 : BitVec 32 := Scalar.addi v181 c3_i32_694
  let c256_i32_695 : BitVec 32 := 256#32
  let v822 : BitVec 32 := Scalar.muli v821 c256_i32_695
  v822
def k0_mult85 (i : grid0.Coords) : BitVec 32 :=
  let arg2 : BitVec 32 := BitVec.ofNat 32 (i 2).val
  let c4_i32 : BitVec 32 := 4#32
  let v181 : BitVec 32 := Scalar.muli arg2 c4_i32
  let c0_i32_799 : BitVec 32 := 0#32
  let v940 : BitVec 32 := Scalar.addi v181 c0_i32_799
  let c256_i32_800 : BitVec 32 := 256#32
  let v941 : BitVec 32 := Scalar.muli v940 c256_i32_800
  v941
def k0_mult86 (i : grid0.Coords) : BitVec 32 :=
  let arg2 : BitVec 32 := BitVec.ofNat 32 (i 2).val
  let c4_i32 : BitVec 32 := 4#32
  let v181 : BitVec 32 := Scalar.muli arg2 c4_i32
  let c1_i32_817 : BitVec 32 := 1#32
  let v960 : BitVec 32 := Scalar.addi v181 c1_i32_817
  let c256_i32_818 : BitVec 32 := 256#32
  let v961 : BitVec 32 := Scalar.muli v960 c256_i32_818
  v961
def k0_mult87 (i : grid0.Coords) : BitVec 32 :=
  let arg2 : BitVec 32 := BitVec.ofNat 32 (i 2).val
  let c4_i32 : BitVec 32 := 4#32
  let v181 : BitVec 32 := Scalar.muli arg2 c4_i32
  let c2_i32_836 : BitVec 32 := 2#32
  let v980 : BitVec 32 := Scalar.addi v181 c2_i32_836
  let c256_i32_837 : BitVec 32 := 256#32
  let v981 : BitVec 32 := Scalar.muli v980 c256_i32_837
  v981
def k0_mult88 (i : grid0.Coords) : BitVec 32 :=
  let arg2 : BitVec 32 := BitVec.ofNat 32 (i 2).val
  let c4_i32 : BitVec 32 := 4#32
  let v181 : BitVec 32 := Scalar.muli arg2 c4_i32
  let c3_i32_855 : BitVec 32 := 3#32
  let v1000 : BitVec 32 := Scalar.addi v181 c3_i32_855
  let c256_i32_856 : BitVec 32 := 256#32
  let v1001 : BitVec 32 := Scalar.muli v1000 c256_i32_856
  v1001
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x4x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x32x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "half_mask" => some ⊥
  | "mask" => some ⊥
  | "qscale" => some (((8 * (Real.log 2))⁻¹ : ℝ) : EReal)
  | _ => none
-- ==== ReferenceIdeal.lean ====
abbrev S4x8192x4x2x64 : Shape := ⟨5, ![4, 8192, 4, 2, 64]⟩
abbrev S4x8192x4x128 : Shape := ⟨4, ![4, 8192, 4, 128]⟩
abbrev S64 : Shape := ⟨1, ![64]⟩
abbrev S128 : Shape := ⟨1, ![128]⟩
abbrev S_ : Shape := ⟨0, ![]⟩
abbrev S8192 : Shape := ⟨1, ![8192]⟩
abbrev S4x4x2x8192x8192 : Shape := ⟨5, ![4, 4, 2, 8192, 8192]⟩
abbrev S1x8192 : Shape := ⟨2, ![1, 8192]⟩
abbrev S8192x1 : Shape := ⟨2, ![8192, 1]⟩
abbrev S8192x8192 : Shape := ⟨2, ![8192, 8192]⟩
abbrev S4x4x2x8192 : Shape := ⟨4, ![4, 4, 2, 8192]⟩
abbrev S4x4x2x8192x1 : Shape := ⟨5, ![4, 4, 2, 8192, 1]⟩
abbrev S4x4x1x8192x8192 : Shape := ⟨5, ![4, 4, 1, 8192, 8192]⟩
abbrev S4x4x8192x8192 : Shape := ⟨4, ![4, 4, 8192, 8192]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S4x8192x512 : Shape := ⟨3, ![4, 8192, 512]⟩

abbrev nBuf : Space → Nat
  | .hbm => 78
  | .vmem => 0
  | .smem => 0
  | _ => 0

abbrev bufTy : (tb : Table) → Fin (tcTables nBuf tb) → BufTy
  | .hbm, ⟨0, _⟩ => ⟨S4x8192x4x2x64, .f32⟩
  | .hbm, ⟨1, _⟩ => ⟨S4x8192x4x2x64, .f32⟩
  | .hbm, ⟨2, _⟩ => ⟨S4x8192x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .i32⟩
  | .hbm, ⟨20, _⟩ => ⟨S4x4x2x8192x8192, .f32⟩
  | .hbm, ⟨21, _⟩ => ⟨S_, .f32⟩
  | .hbm, ⟨22, _⟩ => ⟨S4x4x2x8192x8192, .f32⟩
  | .hbm, ⟨23, _⟩ => ⟨S4x4x2x8192x8192, .f32⟩
  | .hbm, ⟨24, _⟩ => ⟨S1x8192, .i32⟩
  | .hbm, ⟨25, _⟩ => ⟨S8192x1, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S_, .f32⟩
  | .hbm, ⟨31, _⟩ => ⟨S4x4x2x8192x8192, .i1⟩
  | .hbm, ⟨32, _⟩ => ⟨S4x4x2x8192x8192, .f32⟩
  | .hbm, ⟨33, _⟩ => ⟨S4x4x2x8192x8192, .f32⟩
  | .hbm, ⟨34, _⟩ => ⟨S_, .f32⟩
  | .hbm, ⟨35, _⟩ => ⟨S4x4x2x8192, .f32⟩
  | .hbm, ⟨36, _⟩ => ⟨S_, .f32⟩
  | .hbm, ⟨37, _⟩ => ⟨S4x4x2x8192, .f32⟩
  | .hbm, ⟨38, _⟩ => ⟨S4x4x2x8192, .f32⟩
  | .hbm, ⟨39, _⟩ => ⟨S4x4x2x8192x1, .f32⟩
  | .hbm, ⟨40, _⟩ => ⟨S4x4x2x8192x8192, .f32⟩
  | .hbm, ⟨41, _⟩ => ⟨S4x4x2x8192x8192, .f32⟩
  | .hbm, ⟨42, _⟩ => ⟨S4x4x2x8192x8192, .f32⟩
  | .hbm, ⟨43, _⟩ => ⟨S_, .f32⟩
  | .hbm, ⟨44, _⟩ => ⟨S4x4x2x8192, .f32⟩
  | .hbm, ⟨45, _⟩ => ⟨S4x4x2x8192x1, .f32⟩
  | .hbm, ⟨46, _⟩ => ⟨S4x4x2x8192x8192, .f32⟩
  | .hbm, ⟨47, _⟩ => ⟨S4x4x2x8192x8192, .f32⟩
  | .hbm, ⟨48, _⟩ => ⟨S4x4x1x8192x8192, .f32⟩
  | .hbm, ⟨49, _⟩ => ⟨S4x4x8192x8192, .f32⟩
  | .hbm, ⟨50, _⟩ => ⟨S4x4x1x8192x8192, .f32⟩
  | .hbm, ⟨51, _⟩ => ⟨S4x4x8192x8192, .f32⟩
  | .hbm, ⟨52, _⟩ => ⟨S4x4x8192x8192, .f32⟩
  | .hbm, ⟨53, _⟩ => ⟨S4x4x8192x8192, .f32⟩
  | .hbm, ⟨54, _⟩ => ⟨S4x4x8192x8192, .f32⟩
  | .hbm, ⟨55, _⟩ => ⟨S4x4x128x8192, .f32⟩
  | .hbm, ⟨56, _⟩ => ⟨S4x8192x4x128, .f32⟩
  | .hbm, ⟨57, _⟩ => ⟨S4x8192x4x128, .f32⟩
  | .hbm, ⟨58, _⟩ => ⟨S_, .f32⟩
  | .hbm, ⟨59, _⟩ => ⟨S4x8192x4, .f32⟩
  | .hbm, ⟨60, _⟩ => ⟨S4x8192x4x1, .f32⟩
  | .hbm, ⟨61, _⟩ => ⟨S_, .f32⟩
  | .hbm, ⟨62, _⟩ => ⟨S4x8192x4x1, .f32⟩
  | .hbm, ⟨63, _⟩ => ⟨S4x8192x4x1, .f32⟩
  | .hbm, ⟨64, _⟩ => ⟨S_, .f32⟩
  | .hbm, ⟨65, _⟩ => ⟨S4x8192x4x1, .f32⟩
  | .hbm, ⟨66, _⟩ => ⟨S4x8192x4x1, .f32⟩
  | .hbm, ⟨67, _⟩ => ⟨S4x8192x4x1, .f32⟩
  | .hbm, ⟨68, _⟩ => ⟨S4x8192x4x128, .f32⟩
  | .hbm, ⟨69, _⟩ => ⟨S4x8192x4x128, .f32⟩
  | .hbm, ⟨70, _⟩ => ⟨S1x1x1x128, .f32⟩
  | .hbm, ⟨71, _⟩ => ⟨S4x8192x4x128, .f32⟩
  | .hbm, ⟨72, _⟩ => ⟨S4x8192x4x128, .f32⟩
  | .hbm, ⟨73, _⟩ => ⟨S_, .f32⟩
  | .hbm, ⟨74, _⟩ => ⟨S4x8192x4x128, .f32⟩
  | .hbm, ⟨75, _⟩ => ⟨S4x8192x4x128, .f32⟩
  | .hbm, ⟨76, _⟩ => ⟨S4x8192x512, .f32⟩
  | .hbm, ⟨77, _⟩ => ⟨S4x8192x512, .bf16⟩
  | _, _ => ⟨S4x8192x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x256 : Shape := ⟨3, ![4, 8192, 256]⟩
abbrev S4x8192x512 : Shape := ⟨3, ![4, 8192, 512]⟩
abbrev S4x6144 : Shape := ⟨2, ![4, 6144]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S4x6x1024 : Shape := ⟨3, ![4, 6, 1024]⟩
abbrev S1x1024 : Shape := ⟨2, ![1, 1024]⟩
abbrev S1x512x1024 : Shape := ⟨3, ![1, 512, 1024]⟩
abbrev S1x512x256 : Shape := ⟨3, ![1, 512, 256]⟩
abbrev S1x512x512 : Shape := ⟨3, ![1, 512, 512]⟩
abbrev S1x6x1024 : Shape := ⟨3, ![1, 6, 1024]⟩
abbrev S512x1024 : Shape := ⟨2, ![512, 1024]⟩
abbrev S6x1024 : Shape := ⟨2, ![6, 1024]⟩
abbrev S512x256 : Shape := ⟨2, ![512, 256]⟩
abbrev S256x1024 : Shape := ⟨2, ![256, 1024]⟩
abbrev S512x512 : Shape := ⟨2, ![512, 512]⟩
abbrev S512 : Shape := ⟨1, ![512]⟩
abbrev S512x1 : Shape := ⟨2, ![512, 1]⟩

abbrev nBuf : Space → Nat
  | .hbm => 20
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S4x8192x256, .f32⟩
  | .hbm, ⟨2, _⟩ => ⟨S4x8192x512, .f32⟩
  | .hbm, ⟨3, _⟩ => ⟨S4x8192x256, .f32⟩
  | .hbm, ⟨4, _⟩ => ⟨S4x6144, .f32⟩
  | .hbm, ⟨5, _⟩ => ⟨S1024, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S4x8192x256, .bf16⟩
  | .hbm, ⟨11, _⟩ => ⟨S4x8192x512, .bf16⟩
  | .hbm, ⟨12, _⟩ => ⟨S4x8192x256, .bf16⟩
  | .hbm, ⟨13, _⟩ => ⟨S4x6x1024, .f32⟩
  | .hbm, ⟨14, _⟩ => ⟨S1x1024, .f32⟩
  | .hbm, ⟨15, _⟩ => ⟨S1024x1024, .bf16⟩
  | .hbm, ⟨16, _⟩ => ⟨S1024x4096, .bf16⟩
  | .hbm, ⟨17, _⟩ => ⟨S4096x1024, .bf16⟩
  | .hbm, ⟨18, _⟩ => ⟨S1x1024, .f32⟩
  | .hbm, ⟨19, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .bf16⟩
  | .local _ .vmem, ⟨3, _⟩ => ⟨S1x512x256, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x256, .bf16⟩
  | .local _ .vmem, ⟨7, _⟩ => ⟨S1x512x256, .bf16⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1024x1024, .bf16⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S4x8192x1024 : Shape := ⟨3, ![4, 8192, 1024]⟩
abbrev S4x8192x256 : Shape := ⟨3, ![4, 8192, 256]⟩
abbrev S4x8192x512 : Shape := ⟨3, ![4, 8192, 512]⟩
abbrev S4x6144 : Shape := ⟨2, ![4, 6144]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩

abbrev nBuf : Space → Nat
  | .hbm => 70
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x256, .f32⟩
  | .hbm, ⟨2, _⟩ => ⟨S4x8192x512, .f32⟩
  | .hbm, ⟨3, _⟩ => ⟨S4x8192x256, .f32⟩
  | .hbm, ⟨4, _⟩ => ⟨S4x6144, .f32⟩
  | .hbm, ⟨5, _⟩ => ⟨S1024, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S4x1x6144, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1, .f32⟩
  | .hbm, ⟨33, _⟩ => ⟨S4x8192x1024, .f32⟩
  | .hbm, ⟨34, _⟩ => ⟨S4x8192x1024, .f32⟩
  | .hbm, ⟨35, _⟩ => ⟨S1x1x1024, .f32⟩
  | .hbm, ⟨36, _⟩ => ⟨S4x8192x1024, .f32⟩
  | .hbm, ⟨37, _⟩ => ⟨S4x8192x1024, .f32⟩
  | .hbm, ⟨38, _⟩ => ⟨S_, .f32⟩
  | .hbm, ⟨39, _⟩ => ⟨S4x1x1024, .f32⟩
  | .hbm, ⟨40, _⟩ => ⟨S4x1x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S4x8192x4096, .f32⟩
  | .hbm, ⟨46, _⟩ => ⟨S_, .f32⟩
  | .hbm, ⟨47, _⟩ => ⟨S4x8192x4096, .f32⟩
  | .hbm, ⟨48, _⟩ => ⟨S4x8192x4096, .f32⟩
  | .hbm, ⟨49, _⟩ => ⟨S4x8192x4096, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S_, .f32⟩
  | .hbm, ⟨56, _⟩ => ⟨S4x8192, .f32⟩
  | .hbm, ⟨57, _⟩ => ⟨S4x8192x1, .f32⟩
  | .hbm, ⟨58, _⟩ => ⟨S_, .f32⟩
  | .hbm, ⟨59, _⟩ => ⟨S4x8192x1, .f32⟩
  | .hbm, ⟨60, _⟩ => ⟨S4x8192x1, .f32⟩
  | .hbm, ⟨61, _⟩ => ⟨S_, .f32⟩
  | .hbm, ⟨62, _⟩ => ⟨S4x8192x1, .f32⟩
  | .hbm, ⟨63, _⟩ => ⟨S4x8192x1, .f32⟩
  | .hbm, ⟨64, _⟩ => ⟨S4x8192x1, .f32⟩
  | .hbm, ⟨65, _⟩ => ⟨S4x8192x1024, .f32⟩
  | .hbm, ⟨66, _⟩ => ⟨S4x8192x1024, .f32⟩
  | .hbm, ⟨67, _⟩ => ⟨S1x1x1024, .f32⟩
  | .hbm, ⟨68, _⟩ => ⟨S4x8192x1024, .f32⟩
  | .hbm, ⟨69, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_cst : Ref sig .tc := ⟨.hbm, 46, rfl⟩
abbrev main_call0_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x6144 : Shape := ⟨2, ![4, 6144]⟩
abbrev S1024 : Shape := ⟨1, ![1024]⟩
abbrev S1024x2560 : Shape := ⟨2, ![1024, 2560]⟩
abbrev S4x8x8192 : Shape := ⟨3, ![4, 8, 8192]⟩
abbrev S1024x256 : Shape := ⟨2, ![1024, 256]⟩
abbrev S2560x1024 : Shape := ⟨2, ![2560, 1024]⟩
abbrev S512x1024 : Shape := ⟨2, ![512, 1024]⟩
abbrev S256x1024 : Shape := ⟨2, ![256, 1024]⟩
abbrev S2304x1024 : Shape := ⟨2, ![2304, 1024]⟩
abbrev S4x6x1024 : Shape := ⟨3, ![4, 6, 1024]⟩
abbrev S1x1024 : Shape := ⟨2, ![1, 1024]⟩
abbrev S4x2x8192x128 : Shape := ⟨4, ![4, 2, 8192, 128]⟩
abbrev S4x32x512x256 : Shape := ⟨4, ![4, 32, 512, 256]⟩
abbrev S4x8192x512 : Shape := ⟨3, ![4, 8192, 512]⟩
abbrev S4x32x256x256 : Shape := ⟨4, ![4, 32, 256, 256]⟩
abbrev S4x8192x256 : Shape := ⟨3, ![4, 8192, 256]⟩
abbrev S1x512x1024 : Shape := ⟨3, ![1, 512, 1024]⟩
abbrev S1x6x1024 : Shape := ⟨3, ![1, 6, 1024]⟩
abbrev S1x8x512 : Shape := ⟨3, ![1, 8, 512]⟩
abbrev S1x2x512x128 : Shape := ⟨4, ![1, 2, 512, 128]⟩
abbrev S1x2x512x256 : Shape := ⟨4, ![1, 2, 512, 256]⟩
abbrev S1x512x512 : Shape := ⟨3, ![1, 512, 512]⟩
abbrev S1x2x256x256 : Shape := ⟨4, ![1, 2, 256, 256]⟩
abbrev S1x512x256 : Shape := ⟨3, ![1, 512, 256]⟩
abbrev S6x1024 : Shape := ⟨2, ![6, 1024]⟩
abbrev S512 : Shape := ⟨1, ![512]⟩
abbrev S512x1 : Shape := ⟨2, ![512, 1]⟩
abbrev S512x256 : Shape := ⟨2, ![512, 256]⟩
abbrev S512x128 : Shape := ⟨2, ![512, 128]⟩
abbrev S1x1x512x128 : Shape := ⟨4, ![1, 1, 512, 128]⟩
abbrev S2304x512 : Shape := ⟨2, ![2304, 512]⟩
abbrev S1536x512 : Shape := ⟨2, ![1536, 512]⟩
abbrev S24x64x512 : Shape := ⟨3, ![24, 64, 512]⟩
abbrev S8x512 : Shape := ⟨2, ![8, 512]⟩
abbrev S24x8x512 : Shape := ⟨3, ![24, 8, 512]⟩
abbrev S24x48x512 : Shape := ⟨3, ![24, 48, 512]⟩
abbrev S512x512 : Shape := ⟨2, ![512, 512]⟩
abbrev S256x512 : Shape := ⟨2, ![256, 512]⟩
abbrev S1x1x512x256 : Shape := ⟨4, ![1, 1, 512, 256]⟩
abbrev S256x256 : Shape := ⟨2, ![256, 256]⟩
abbrev S1x1x256x256 : Shape := ⟨4, ![1, 1, 256, 256]⟩

abbrev nBuf : Space → Nat
  | .hbm => 26
  | .vmem => 25
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1024, .f32⟩
  | .hbm, ⟨3, _⟩ => ⟨S1024x2560, .f32⟩
  | .hbm, ⟨4, _⟩ => ⟨S4x8x8192, .f32⟩
  | .hbm, ⟨5, _⟩ => ⟨S4x8x8192, .f32⟩
  | .hbm, ⟨6, _⟩ => ⟨S1024x256, .f32⟩
  | .hbm, ⟨7, _⟩ => ⟨S1024x256, .bf16⟩
  | .hbm, ⟨8, _⟩ => ⟨S2560x1024, .f32⟩
  | .hbm, ⟨9, _⟩ => ⟨S2560x1024, .bf16⟩
  | .hbm, ⟨10, _⟩ => ⟨S512x1024, .bf16⟩
  | .hbm, ⟨11, _⟩ => ⟨S512x1024, .bf16⟩
  | .hbm, ⟨12, _⟩ => ⟨S256x1024, .bf16⟩
  | .hbm, ⟨13, _⟩ => ⟨S256x1024, .bf16⟩
  | .hbm, ⟨14, _⟩ => ⟨S512x1024, .bf16⟩
  | .hbm, ⟨15, _⟩ => ⟨S256x1024, .bf16⟩
  | .hbm, ⟨16, _⟩ => ⟨S2304x1024, .bf16⟩
  | .hbm, ⟨17, _⟩ => ⟨S4x6x1024, .f32⟩
  | .hbm, ⟨18, _⟩ => ⟨S1x1024, .f32⟩
  | .hbm, ⟨19, _⟩ => ⟨S4x2x8192x128, .f32⟩
  | .hbm, ⟨20, _⟩ => ⟨S4x32x512x256, .bf16⟩
  | .hbm, ⟨21, _⟩ => ⟨S4x8192x512, .bf16⟩
  | .hbm, ⟨22, _⟩ => ⟨S4x32x512x256, .bf16⟩
  | .hbm, ⟨23, _⟩ => ⟨S4x32x256x256, .bf16⟩
  | .hbm, ⟨24, _⟩ => ⟨S4x8192x256, .bf16⟩
  | .hbm, ⟨25, _⟩ => ⟨S4x32x256x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x256, .bf16⟩
  | .local _ .vmem, ⟨6, _⟩ => ⟨S2304x1024, .bf16⟩
  | .local _ .vmem, ⟨7, _⟩ => ⟨S1x8x512, .f32⟩
  | .local _ .vmem, ⟨8, _⟩ => ⟨S1x8x512, .f32⟩
  | .local _ .vmem, ⟨9, _⟩ => ⟨S1x8x512, .f32⟩
  | .local _ .vmem, ⟨10, _⟩ => ⟨S1x8x512, .f32⟩
  | .local _ .vmem, ⟨11, _⟩ => ⟨S1x2x512x128, .f32⟩
  | .local _ .vmem, ⟨12, _⟩ => ⟨S1x2x512x128, .f32⟩
  | .local _ .vmem, ⟨13, _⟩ => ⟨S1x2x512x256, .bf16⟩
  | .local _ .vmem, ⟨14, _⟩ => ⟨S1x2x512x256, .bf16⟩
  | .local _ .vmem, ⟨15, _⟩ => ⟨S1x512x512, .bf16⟩
  | .local _ .vmem, ⟨16, _⟩ => ⟨S1x512x512, .bf16⟩
  | .local _ .vmem, ⟨17, _⟩ => ⟨S1x2x512x256, .bf16⟩
  | .local _ .vmem, ⟨18, _⟩ => ⟨S1x2x512x256, .bf16⟩
  | .local _ .vmem, ⟨19, _⟩ => ⟨S1x2x256x256, .bf16⟩
  | .local _ .vmem, ⟨20, _⟩ => ⟨S1x2x256x256, .bf16⟩
  | .local _ .vmem, ⟨21, _⟩ => ⟨S1x512x256, .bf16⟩
  | .local _ .vmem, ⟨22, _⟩ => ⟨S1x512x256, .bf16⟩
  | .local _ .vmem, ⟨23, _⟩ => ⟨S1x2x256x256, .bf16⟩
  | .local _ .vmem, ⟨24, _⟩ => ⟨S1x2x256x256, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev main_v13_4 : Ref sig .tc := ⟨.hbm, 23, rfl⟩
abbrev main_v13_5 : Ref sig .tc := ⟨.hbm, 24, rfl⟩
abbrev main_v13_6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2304x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S4x8192x1024 : Shape := ⟨3, ![4, 8192, 1024]⟩
abbrev S4x6144 : Shape := ⟨2, ![4, 6144]⟩
abbrev S1024 : Shape := ⟨1, ![1024]⟩
abbrev S1024x2560 : Shape := ⟨2, ![1024, 2560]⟩
abbrev S4x8x8192 : Shape := ⟨3, ![4, 8, 8192]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2560 : Shape := ⟨3, ![4, 8192, 2560]⟩
abbrev S4x8192x256 : Shape := ⟨3, ![4, 8192, 256]⟩
abbrev S4x8192x512 : Shape := ⟨3, ![4, 8192, 512]⟩
abbrev S4x8192x8 : Shape := ⟨3, ![4, 8192, 8]⟩
abbrev S4x8192x1x1x8 : Shape := ⟨5, ![4, 8192, 1, 1, 8]⟩
abbrev S4x8192x1x8 : Shape := ⟨4, ![4, 8192, 1, 8]⟩
abbrev S4x8192x4x2x64 : Shape := ⟨5, ![4, 8192, 4, 2, 64]⟩
abbrev S4x8192x4x2x8 : Shape := ⟨5, ![4, 8192, 4, 2, 8]⟩
abbrev S4x8192x4x2x48 : Shape := ⟨5, ![4, 8192, 4, 2, 48]⟩
abbrev S4x8192x4x64 : Shape := ⟨4, ![4, 8192, 4, 64]⟩
abbrev S4x8192x4x8 : Shape := ⟨4, ![4, 8192, 4, 8]⟩
abbrev S4x8192x4x48 : Shape := ⟨4, ![4, 8192, 4, 48]⟩
abbrev S4x8192x2x128 : Shape := ⟨4, ![4, 8192, 2, 128]⟩
abbrev S4x2x8192x128 : Shape := ⟨4, ![4, 2, 8192, 128]⟩
abbrev S4x32x256x512 : Shape := ⟨4, ![4, 32, 256, 512]⟩
abbrev S4x32x512x256 : Shape := ⟨4, ![4, 32, 512, 256]⟩
abbrev S4x32x256x256 : Shape := ⟨4, ![4, 32, 256, 256]⟩

abbrev nBuf : Space → Nat
  | .hbm => 128
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1024, .f32⟩
  | .hbm, ⟨3, _⟩ => ⟨S1024x2560, .f32⟩
  | .hbm, ⟨4, _⟩ => ⟨S4x8x8192, .f32⟩
  | .hbm, ⟨5, _⟩ => ⟨S4x8x8192, .f32⟩
  | .hbm, ⟨6, _⟩ => ⟨S4x1x6144, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x2560, .f32⟩
  | .hbm, ⟨37, _⟩ => ⟨S4x8192x256, .f32⟩
  | .hbm, ⟨38, _⟩ => ⟨S4x8192x512, .f32⟩
  | .hbm, ⟨39, _⟩ => ⟨S4x8192x512, .f32⟩
  | .hbm, ⟨40, _⟩ => ⟨S4x8192x512, .f32⟩
  | .hbm, ⟨41, _⟩ => ⟨S4x8192x256, .f32⟩
  | .hbm, ⟨42, _⟩ => ⟨S4x8192x256, .f32⟩
  | .hbm, ⟨43, _⟩ => ⟨S4x8192x256, .f32⟩
  | .hbm, ⟨44, _⟩ => ⟨S4x8192x8, .f32⟩
  | .hbm, ⟨45, _⟩ => ⟨S4x8192x8, .f32⟩
  | .hbm, ⟨46, _⟩ => ⟨S4x8192x1x1x8, .f32⟩
  | .hbm, ⟨47, _⟩ => ⟨S4x8192x1x1x8, .f32⟩
  | .hbm, ⟨48, _⟩ => ⟨S4x8192x1x8, .f32⟩
  | .hbm, ⟨49, _⟩ => ⟨S4x8192x1x8, .f32⟩
  | .hbm, ⟨50, _⟩ => ⟨S4x8192x4x2x64, .f32⟩
  | .hbm, ⟨51, _⟩ => ⟨S4x8192x4x2x8, .f32⟩
  | .hbm, ⟨52, _⟩ => ⟨S4x8192x4x2x8, .f32⟩
  | .hbm, ⟨53, _⟩ => ⟨S4x8192x4x2x8, .f32⟩
  | .hbm, ⟨54, _⟩ => ⟨S4x8192x4x2x8, .f32⟩
  | .hbm, ⟨55, _⟩ => ⟨S4x8192x4x2x8, .f32⟩
  | .hbm, ⟨56, _⟩ => ⟨S4x8192x4x2x8, .f32⟩
  | .hbm, ⟨57, _⟩ => ⟨S4x8192x4x2x8, .f32⟩
  | .hbm, ⟨58, _⟩ => ⟨S4x8192x4x2x8, .f32⟩
  | .hbm, ⟨59, _⟩ => ⟨S4x8192x4x2x8, .f32⟩
  | .hbm, ⟨60, _⟩ => ⟨S4x8192x4x2x8, .f32⟩
  | .hbm, ⟨61, _⟩ => ⟨S4x8192x4x2x8, .f32⟩
  | .hbm, ⟨62, _⟩ => ⟨S4x8192x4x2x8, .f32⟩
  | .hbm, ⟨63, _⟩ => ⟨S4x8192x4x2x48, .f32⟩
  | .hbm, ⟨64, _⟩ => ⟨S4x8192x4x2x64, .f32⟩
  | .hbm, ⟨65, _⟩ => ⟨S4x8192x4x2x64, .f32⟩
  | .hbm, ⟨66, _⟩ => ⟨S4x8192x4x2x8, .f32⟩
  | .hbm, ⟨67, _⟩ => ⟨S4x8192x4x2x8, .f32⟩
  | .hbm, ⟨68, _⟩ => ⟨S4x8192x4x2x8, .f32⟩
  | .hbm, ⟨69, _⟩ => ⟨S4x8192x4x2x8, .f32⟩
  | .hbm, ⟨70, _⟩ => ⟨S4x8192x4x2x8, .f32⟩
  | .hbm, ⟨71, _⟩ => ⟨S4x8192x4x2x8, .f32⟩
  | .hbm, ⟨72, _⟩ => ⟨S4x8192x4x2x8, .f32⟩
  | .hbm, ⟨73, _⟩ => ⟨S4x8192x4x2x8, .f32⟩
  | .hbm, ⟨74, _⟩ => ⟨S4x8192x4x2x8, .f32⟩
  | .hbm, ⟨75, _⟩ => ⟨S4x8192x4x2x8, .f32⟩
  | .hbm, ⟨76, _⟩ => ⟨S4x8192x4x2x8, .f32⟩
  | .hbm, ⟨77, _⟩ => ⟨S4x8192x4x2x8, .f32⟩
  | .hbm, ⟨78, _⟩ => ⟨S4x8192x4x2x48, .f32⟩
  | .hbm, ⟨79, _⟩ => ⟨S4x8192x4x2x64, .f32⟩
  | .hbm, ⟨80, _⟩ => ⟨S4x8192x4x64, .f32⟩
  | .hbm, ⟨81, _⟩ => ⟨S4x8192x4x8, .f32⟩
  | .hbm, ⟨82, _⟩ => ⟨S4x8192x4x8, .f32⟩
  | .hbm, ⟨83, _⟩ => ⟨S4x8192x4x8, .f32⟩
  | .hbm, ⟨84, _⟩ => ⟨S4x8192x4x8, .f32⟩
  | .hbm, ⟨85, _⟩ => ⟨S4x8192x4x8, .f32⟩
  | .hbm, ⟨86, _⟩ => ⟨S4x8192x4x8, .f32⟩
  | .hbm, ⟨87, _⟩ => ⟨S4x8192x4x8, .f32⟩
  | .hbm, ⟨88, _⟩ => ⟨S4x8192x4x8, .f32⟩
  | .hbm, ⟨89, _⟩ => ⟨S4x8192x4x8, .f32⟩
  | .hbm, ⟨90, _⟩ => ⟨S4x8192x4x8, .f32⟩
  | .hbm, ⟨91, _⟩ => ⟨S4x8192x4x8, .f32⟩
  | .hbm, ⟨92, _⟩ => ⟨S4x8192x4x8, .f32⟩
  | .hbm, ⟨93, _⟩ => ⟨S4x8192x4x48, .f32⟩
  | .hbm, ⟨94, _⟩ => ⟨S4x8192x4x64, .f32⟩
  | .hbm, ⟨95, _⟩ => ⟨S4x8192x4x64, .f32⟩
  | .hbm, ⟨96, _⟩ => ⟨S4x8192x4x8, .f32⟩
  | .hbm, ⟨97, _⟩ => ⟨S4x8192x4x8, .f32⟩
  | .hbm, ⟨98, _⟩ => ⟨S4x8192x4x8, .f32⟩
  | .hbm, ⟨99, _⟩ => ⟨S4x8192x4x8, .f32⟩
  | .hbm, ⟨100, _⟩ => ⟨S4x8192x4x8, .f32⟩
  | .hbm, ⟨101, _⟩ => ⟨S4x8192x4x8, .f32⟩
  | .hbm, ⟨102, _⟩ => ⟨S4x8192x4x8, .f32⟩
  | .hbm, ⟨103, _⟩ => ⟨S4x8192x4x8, .f32⟩
  | .hbm, ⟨104, _⟩ => ⟨S4x8192x4x8, .f32⟩
  | .hbm, ⟨105, _⟩ => ⟨S4x8192x4x8, .f32⟩
  | .hbm, ⟨106, _⟩ => ⟨S4x8192x4x8, .f32⟩
  | .hbm, ⟨107, _⟩ => ⟨S4x8192x4x8, .f32⟩
  | .hbm, ⟨108, _⟩ => ⟨S4x8192x4x48, .f32⟩
  | .hbm, ⟨109, _⟩ => ⟨S4x8192x4x64, .f32⟩
  | .hbm, ⟨110, _⟩ => ⟨S4x8192x2x128, .f32⟩
  | .hbm, ⟨111, _⟩ => ⟨S4x2x8192x128, .f32⟩
  | .hbm, ⟨112, _⟩ => ⟨S4x32x256x512, .f32⟩
  | .hbm, ⟨113, _⟩ => ⟨S4x32x512x256, .f32⟩
  | .hbm, ⟨114, _⟩ => ⟨S4x32x512x256, .bf16⟩
  | .hbm, ⟨115, _⟩ => ⟨S4x8192x512, .f32⟩
  | .hbm, ⟨116, _⟩ => ⟨S4x8192x512, .bf16⟩
  | .hbm, ⟨117, _⟩ => ⟨S4x32x256x512, .f32⟩
  | .hbm, ⟨118, _⟩ => ⟨S4x32x512x256, .f32⟩
  | .hbm, ⟨119, _⟩ => ⟨S4x32x512x256, .bf16⟩
  | .hbm, ⟨120, _⟩ => ⟨S4x32x256x256, .f32⟩
  | .hbm, ⟨121, _⟩ => ⟨S4x32x256x256, .f32⟩
  | .hbm, ⟨122, _⟩ => ⟨S4x32x256x256, .bf16⟩
  | .hbm, ⟨123, _⟩ => ⟨S4x8192x256, .f32⟩
  | .hbm, ⟨124, _⟩ => ⟨S4x8192x256, .bf16⟩
  | .hbm, ⟨125, _⟩ => ⟨S4x32x256x256, .f32⟩
  | .hbm, ⟨126, _⟩ => ⟨S4x32x256x256, .f32⟩
  | .hbm, ⟨127, _⟩ => ⟨S4x32x256x256, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩

abbrev nD : Nat := 1
abbrev τ : Topo := Topo.v7x

variable {F : FTy → Type} [FloatOps F]
-- ==== Kernel4.lean ====
abbrev S4x1024 : Shape := ⟨2, ![4, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x4x6144 : Shape := ⟨3, ![2, 4, 6144]⟩
abbrev S1x1024x1024 : Shape := ⟨3, ![1, 1024, 1024]⟩
abbrev S1x1x1024 : Shape := ⟨3, ![1, 1, 1024]⟩
abbrev S1x4x1024 : Shape := ⟨3, ![1, 4, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x4x6144, .f32⟩
  | .local _ .vmem, ⟨0, _⟩ => ⟨S4x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x4x1024, .f32⟩
  | .local _ .vmem, ⟨6, _⟩ => ⟨S1x4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x1024 : Shape := ⟨2, ![4, 1024]⟩
abbrev S2x1024x6144 : Shape := ⟨3, ![2, 1024, 6144]⟩
abbrev S2x6144 : Shape := ⟨2, ![2, 6144]⟩
abbrev S_ : Shape := ⟨0, ![]⟩
abbrev S2x6144x4 : Shape := ⟨3, ![2, 6144, 4]⟩
abbrev S2x4x6144 : Shape := ⟨3, ![2, 4, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S2x1024x6144, .f32⟩
  | .hbm, ⟨2, _⟩ => ⟨S2x6144, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S2x6144x4, .f32⟩
  | .hbm, ⟨13, _⟩ => ⟨S2x4x6144, .f32⟩
  | .hbm, ⟨14, _⟩ => ⟨S2x1x6144, .f32⟩
  | .hbm, ⟨15, _⟩ => ⟨S2x4x6144, .f32⟩
  | .hbm, ⟨16, _⟩ => ⟨S2x4x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel5.lean ====
abbrev S4x8192 : Shape := ⟨2, ![4, 8192]⟩
abbrev S8 : Shape := ⟨1, ![8]⟩
abbrev S_ : Shape := ⟨0, ![]⟩
abbrev S8x1 : Shape := ⟨2, ![8, 1]⟩
abbrev S4x1x8192 : Shape := ⟨3, ![4, 1, 8192]⟩
abbrev S4x8x8192 : Shape := ⟨3, ![4, 8, 8192]⟩
abbrev S1x1x8192 : Shape := ⟨3, ![1, 1, 8192]⟩
abbrev S1x8x8192 : Shape := ⟨3, ![1, 8, 8192]⟩
abbrev S1x8192 : Shape := ⟨2, ![1, 8192]⟩
abbrev S8x8192 : Shape := ⟨2, ![8, 8192]⟩

abbrev nBuf : Space → Nat
  | .hbm => 19
  | .vmem => 7
  | .smem => 0
  | _ => 0

abbrev bufTy : (tb : Table) → Fin (tcTables nBuf tb) → BufTy
  | .hbm, ⟨0, _⟩ => ⟨S4x8192, .i32⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8x1, .f32⟩
  | .hbm, ⟨16, _⟩ => ⟨S4x1x8192, .i32⟩
  | .hbm, ⟨17, _⟩ => ⟨S4x8x8192, .f32⟩
  | .hbm, ⟨18, _⟩ => ⟨S4x8x8192, .f32⟩
  | .local _ .vmem, ⟨0, _⟩ => ⟨S8x1, .f32⟩
  | .local _ .vmem, ⟨1, _⟩ => ⟨S1x1x8192, .i32⟩
  | .local _ .vmem, ⟨2, _⟩ => ⟨S1x1x8192, .i32⟩
  | .local _ .vmem, ⟨3, _⟩ => ⟨S1x8x8192, .f32⟩
  | .local _ .vmem, ⟨4, _⟩ => ⟨S1x8x8192, .f32⟩
  | .local _ .vmem, ⟨5, _⟩ => ⟨S1x8x8192, .f32⟩
  | .local _ .vmem, ⟨6, _⟩ => ⟨S1x8x8192, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4x8192 : Shape := ⟨2, ![4, 8192]⟩
abbrev S8 : Shape := ⟨1, ![8]⟩
abbrev S_ : Shape := ⟨0, ![]⟩
abbrev S4x8192x1 : Shape := ⟨3, ![4, 8192, 1]⟩
abbrev S1x1x8 : Shape := ⟨3, ![1, 1, 8]⟩
abbrev S4x8192x8 : Shape := ⟨3, ![4, 8192, 8]⟩
abbrev S4x8x8192 : Shape := ⟨3, ![4, 8, 8192]⟩

abbrev nBuf : Space → Nat
  | .hbm => 25
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S4x8192, .f32⟩
  | .hbm, ⟨16, _⟩ => ⟨S4x8192x1, .f32⟩
  | .hbm, ⟨17, _⟩ => ⟨S1x1x8, .f32⟩
  | .hbm, ⟨18, _⟩ => ⟨S4x8192x8, .f32⟩
  | .hbm, ⟨19, _⟩ => ⟨S4x8192x8, .f32⟩
  | .hbm, ⟨20, _⟩ => ⟨S4x8192x8, .f32⟩
  | .hbm, ⟨21, _⟩ => ⟨S4x8192x8, .f32⟩
  | .hbm, ⟨22, _⟩ => ⟨S4x8192x8, .f32⟩
  | .hbm, ⟨23, _⟩ => ⟨S4x8x8192, .f32⟩
  | .hbm, ⟨24, _⟩ => ⟨S4x8x8192, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Kernel6.lean ====
abbrev S4x8192x1024 : Shape := ⟨3, ![4, 8192, 1024]⟩
abbrev S4x8192x256 : Shape := ⟨3, ![4, 8192, 256]⟩
abbrev S4x8192x512 : Shape := ⟨3, ![4, 8192, 512]⟩
abbrev S4x6144 : Shape := ⟨2, ![4, 6144]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S4x6x1024 : Shape := ⟨3, ![4, 6, 1024]⟩
abbrev S1x1024 : Shape := ⟨2, ![1, 1024]⟩
abbrev S1x512x1024 : Shape := ⟨3, ![1, 512, 1024]⟩
abbrev S1x512x256 : Shape := ⟨3, ![1, 512, 256]⟩
abbrev S1x512x512 : Shape := ⟨3, ![1, 512, 512]⟩
abbrev S1x6x1024 : Shape := ⟨3, ![1, 6, 1024]⟩
abbrev S512x1024 : Shape := ⟨2, ![512, 1024]⟩
abbrev S6x1024 : Shape := ⟨2, ![6, 1024]⟩
abbrev S512x256 : Shape := ⟨2, ![512, 256]⟩
abbrev S256x1024 : Shape := ⟨2, ![256, 1024]⟩
abbrev S512x512 : Shape := ⟨2, ![512, 512]⟩
abbrev S512 : Shape := ⟨1, ![512]⟩
abbrev S512x1 : Shape := ⟨2, ![512, 1]⟩

abbrev nBuf : Space → Nat
  | .hbm => 20
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S4x8192x256, .f32⟩
  | .hbm, ⟨2, _⟩ => ⟨S4x8192x512, .f32⟩
  | .hbm, ⟨3, _⟩ => ⟨S4x8192x256, .f32⟩
  | .hbm, ⟨4, _⟩ => ⟨S4x6144, .f32⟩
  | .hbm, ⟨5, _⟩ => ⟨S1024, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S4x8192x256, .bf16⟩
  | .hbm, ⟨11, _⟩ => ⟨S4x8192x512, .bf16⟩
  | .hbm, ⟨12, _⟩ => ⟨S4x8192x256, .bf16⟩
  | .hbm, ⟨13, _⟩ => ⟨S4x6x1024, .f32⟩
  | .hbm, ⟨14, _⟩ => ⟨S1x1024, .f32⟩
  | .hbm, ⟨15, _⟩ => ⟨S1024x1024, .bf16⟩
  | .hbm, ⟨16, _⟩ => ⟨S1024x4096, .bf16⟩
  | .hbm, ⟨17, _⟩ => ⟨S4096x1024, .bf16⟩
  | .hbm, ⟨18, _⟩ => ⟨S1x1024, .f32⟩
  | .hbm, ⟨19, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .bf16⟩
  | .local _ .vmem, ⟨3, _⟩ => ⟨S1x512x256, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x256, .bf16⟩
  | .local _ .vmem, ⟨7, _⟩ => ⟨S1x512x256, .bf16⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1024x1024, .bf16⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference6Ideal.lean ====
abbrev S4x8192x1024 : Shape := ⟨3, ![4, 8192, 1024]⟩
abbrev S4x8192x256 : Shape := ⟨3, ![4, 8192, 256]⟩
abbrev S4x8192x512 : Shape := ⟨3, ![4, 8192, 512]⟩
abbrev S4x6144 : Shape := ⟨2, ![4, 6144]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩

abbrev nBuf : Space → Nat
  | .hbm => 54
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x256, .f32⟩
  | .hbm, ⟨2, _⟩ => ⟨S4x8192x512, .f32⟩
  | .hbm, ⟨3, _⟩ => ⟨S4x8192x256, .f32⟩
  | .hbm, ⟨4, _⟩ => ⟨S4x6144, .f32⟩
  | .hbm, ⟨5, _⟩ => ⟨S1024, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S4x1x6144, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1, .f32⟩
  | .hbm, ⟨33, _⟩ => ⟨S4x8192x1024, .f32⟩
  | .hbm, ⟨34, _⟩ => ⟨S4x8192x1024, .f32⟩
  | .hbm, ⟨35, _⟩ => ⟨S1x1x1024, .f32⟩
  | .hbm, ⟨36, _⟩ => ⟨S4x8192x1024, .f32⟩
  | .hbm, ⟨37, _⟩ => ⟨S4x8192x1024, .f32⟩
  | .hbm, ⟨38, _⟩ => ⟨S_, .f32⟩
  | .hbm, ⟨39, _⟩ => ⟨S4x1x1024, .f32⟩
  | .hbm, ⟨40, _⟩ => ⟨S4x1x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S4x8192x4096, .f32⟩
  | .hbm, ⟨46, _⟩ => ⟨S_, .f32⟩
  | .hbm, ⟨47, _⟩ => ⟨S4x8192x4096, .f32⟩
  | .hbm, ⟨48, _⟩ => ⟨S4x8192x4096, .f32⟩
  | .hbm, ⟨49, _⟩ => ⟨S4x8192x4096, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_cst : Ref sig .tc := ⟨.hbm, 46, rfl⟩
abbrev main_call0_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Proof.Clean.lean ====
/-
  The attention kernel's body over its stages. The printed body is one straight line of about five thousand
  operations around two loops; here it is a composition of a few stages, each with its chain (one of
  eight: four query blocks times two halves of the head) and its granule (256 keys) as parameters.
-/
module

public import proofs.«01_k».proof.Proof.Gen.KernelIdeal.Skeleton

@[expose] public section

noncomputable section

namespace Cert.KernelIdeal.Flash

open Idealize.ShloMosaic Idealize.SL.Sem Cert.KernelIdeal Facts₀ Facts

variable {F : FTy → Type} [FloatOps F] [Named F] [Facts]

-- programs of the kernel's core
local notation "ℙ" => Prog (TpuEff nD τ sig (Elt F) Λ₀ Proc.tc)

/-! ## Boxes -/

theorem inb_q (c : Fin 8) : ∀ a, (![c.val, 0, 0] : Fin 3 → ℕ) a + S1x128x256.size a ≤ S8x128x256.size a := by
  intro a; fin_cases c <;> fin_cases a <;> decide
theorem inb_s (c : Fin 8) : ∀ a, (![c.val, 0, 0] : Fin 3 → ℕ) a + S1x1024x256.size a ≤ S8x1024x256.size a := by
  intro a; fin_cases c <;> fin_cases a <;> decide
theorem inb_sw (w : Fin 4) : ∀ a, (![256 * w.val, 0] : Fin 2 → ℕ) a + S256x256.size a ≤ S1024x256.size a := by
  intro a; fin_cases w <;> fin_cases a <;> decide
theorem inb_mx (c : Fin 8) : ∀ a, (![c.val, 0, 0, 0] : Fin 4 → ℕ) a + S1x4x8x256.size a ≤ S8x4x8x256.size a := by
  intro a; fin_cases c <;> fin_cases a <;> decide
theorem inb_mxw (w : Fin 4) : ∀ a, (![w.val, 0, 0] : Fin 3 → ℕ) a + S1x8x256.size a ≤ S4x8x256.size a := by
  intro a; fin_cases w <;> fin_cases a <;> decide
theorem inb_k0 (w : Fin 4) : ∀ a, (![0, 256 * w.val, 0] : Fin 3 → ℕ) a + S1x256x128.size a ≤ S1x8192x128.size a := by
  intro a; fin_cases w <;> fin_cases a <;> decide
theorem inb_qt (b : Fin 4) : ∀ a, (![0, b.val, 0, 0] : Fin 4 → ℕ) a + S1x1x128x256.size a ≤ S1x4x128x256.size a := by
  intro a; fin_cases b <;> fin_cases a <;> decide
theorem inb_o (b : Fin 4) : ∀ a, (![0, 256 * b.val, 0] : Fin 3 → ℕ) a + S1x256x128.size a ≤ S1x1024x128.size a := by
  intro a; fin_cases b <;> fin_cases a <;> decide

/-- Chain `c` of the scaled queries and of the accumulator. -/
abbrev qBox (c : Fin 8) : Rect S8x128x256 := Rect.unit ![c.val, 0, 0] S1x128x256.size (inb_q c)
/-- Granule `w` of a chain's scores. -/
abbrev sBox (w : Fin 4) : Rect S1024x256 := Rect.unit ![256 * w.val, 0] S256x256.size (inb_sw w)
/-- Granule `w` of a chain's maxima. -/
abbrev mBox (w : Fin 4) : Rect S4x8x256 := Rect.unit ![w.val, 0, 0] S1x8x256.size (inb_mxw w)
/-- The whole causal bias. -/
abbrev tBox : Rect S256x256 := Rect.unit ![0, 0] S256x256.size inb_S256x256_S256x256_0_0

/-- Where the four granules of keys of one score stage lie. -/
structure KOff where
  off : Fin 4 → Fin 3 → ℕ
  inb : ∀ w a, off w a + S1x256x128.size a ≤ S1x8192x128.size a

/-- Where the four granules of values of one softmax stage lie. -/
structure VOff where
  off : Fin 4 → Fin 4 → ℕ
  inb : ∀ w a, off w a + S1x1x128x256.size a ≤ S1x32x128x256.size a

abbrev KOff.box (o : KOff) (w : Fin 4) : Rect S1x8192x128 := Rect.unit (o.off w) S1x256x128.size (o.inb w)
abbrev VOff.box (o : VOff) (w : Fin 4) : Rect S1x32x128x256 := Rect.unit (o.off w) S1x1x128x256.size (o.inb w)

/-! ## Values -/

/-- The maxima over keys 8 apart of one granule of scores. -/
def grpMax (s : FVec F S256x256 .f32) : FVec F S8x256 .f32 :=
  multiReduction .maximumf [0] S8x256
    (multiReduction .maximumf [1] S4x8x256 (shapeCast S4x8x8x256 s shapeCasts_S256x256_S4x8x8x256) 0xFF800000#32
      reduces_S4x8x8x256_S4x8x256 (.inl rfl) rfl) 0xFF800000#32 reduces_S4x8x256_S8x256 (.inl rfl) rfl

/-- The sums over keys 8 apart of one granule of weights. -/
def grpSum (p : FVec F S256x256 .f32) : FVec F S8x256 .f32 :=
  multiReduction .add [0] S8x256
    (multiReduction .add [1] S4x8x256 (shapeCast S4x8x8x256 p shapeCasts_S256x256_S4x8x8x256) 0x00000000#32
      reduces_S4x8x8x256_S4x8x256 (.inl rfl) rfl) 0x00000000#32 reduces_S4x8x256_S8x256 (.inl rfl) rfl

/-- The scores of a granule of keys against a chain's queries. -/
def scores (kb : Vec F S1x256x128 .bf16) (q : Vec F S1x128x256 .bf16) : FVec F S256x256 .f32 :=
  matmul dot_S256x128_S128x256_S256x256_1_0_0_1_n_n none
    (shapeCast S256x128 kb shapeCasts_S1x256x128_S256x128 : FVec F S256x128 .bf16)
    (shapeCast S128x256 q shapeCasts_S1x128x256_S128x256 : FVec F S128x256 .bf16)
    (constant S256x256 .f32 0x00000000#32)

/-- What is stored for a granule of scores. -/
def sPay (s : FVec F S256x256 .f32) : FVec F S256x256 .f32 := shapeCast S256x256 s shapeCasts_S256x256_S256x256
/-- What is stored for a granule's maxima. -/
def mPay (s : FVec F S256x256 .f32) : FVec F S1x8x256 .f32 := shapeCast S1x8x256 (grpMax s) shapeCasts_S8x256_S1x8x256

def max2 (x : FVec F S8x256 .f32) (v : Vec F S1x8x256 .f32) : FVec F S8x256 .f32 :=
  maximumf x (shapeCast S8x256 v shapeCasts_S1x8x256_S8x256 : FVec F S8x256 .f32)

def rowMax (x : FVec F S8x256 .f32) : FVec F S1x256 .f32 :=
  shapeCast S1x256 (multiReduction .maximumf [0] S256 x 0xFF800000#32 reduces_S8x256_S256 (.inl rfl) rfl) shapeCasts_S256_S1x256

/-- The new running maximum. -/
def mNew (m : FVec F S1x256 .f32) (seen : FVec F S8x256 .f32) : FVec F S1x256 .f32 := maximumf m (rowMax seen)

/-- What the weights' exponents are taken from: the running maximum, or the raw one where every key is masked. -/
def shift (m' : FVec F S1x256 .f32) (raw : FVec F S8x256 .f32) : FVec F S1x256 .f32 :=
  select (cmpf .ogt m' (broadcast S1x256 (Named.named κ "half_mask" 0xF0C9F2CA#32 : F .f32))) m' (rowMax raw)

def alpha (m m' : FVec F S1x256 .f32) : FVec F S1x256 .f32 := exp2 (subf m m')

/-- The weights of a granule. -/
def weights (s : Vec F S256x256 .f32) (sh : FVec F S1x256 .f32) : FVec F S256x256 .f32 :=
  exp2 (subf (s : FVec F S256x256 .f32) (broadcastTo S256x256 sh broadcasts_S1x256_S256x256))

/-- The weighted sum of a granule's values. -/
def pv (v : Vec F S1x1x128x256 .bf16) (p : FVec F S256x256 .f32) : FVec F S128x256 .f32 :=
  matmul dot_S128x256_S256x256_S128x256_1_0_0_1_n_n none
    (shapeCast S128x256 v shapeCasts_S1x1x128x256_S128x256 : FVec F S128x256 .bf16)
    (truncf .bf16 p bitsLt_bf16_f32) (constant S128x256 .f32 0x00000000#32)

/-- The new accumulator, as stored. -/
def accPay (al : FVec F S1x256 .f32) (acc : Vec F S1x128x256 .f32) (x : FVec F S128x256 .f32) : FVec F S1x128x256 .f32 :=
  shapeCast S1x128x256 (addf (mulf (broadcastTo S128x256 al broadcasts_S1x256_S128x256)
    (shapeCast S128x256 acc shapeCasts_S1x128x256_S128x256 : FVec F S128x256 .f32)) x) shapeCasts_S128x256_S1x128x256

/-- The new running sum. -/
def lNew (al l : FVec F S1x256 .f32) (s : FVec F S8x256 .f32) : FVec F S1x256 .f32 :=
  addf (mulf al l)
    (shapeCast S1x256 (multiReduction .add [0] S256 s 0x00000000#32 reduces_S8x256_S256 (.inl rfl) rfl) shapeCasts_S256_S1x256)

/-- The causal bias of a diagonal granule: zero where the key is not after the query, the mask elsewhere. -/
def tri : FVec F S256x256 .f32 :=
  shapeCast S256x256 (select (cmpi .sle (iota .tc S256x256 32 [0] iota_S256x256_d0_w32) (iota .tc S256x256 32 [1] iota_S256x256_d1_w32))
    (broadcast S256x256 (Scalar.ofBits .f32 0x00000000#32 : F .f32))
    (broadcast S256x256 (Named.named κ "mask" 0xF149F2CA#32 : F .f32)) : FVec F S256x256 .f32) shapeCasts_S256x256_S256x256

/-- A block of queries, scaled. -/
def scaled (q : Vec F S1x1x128x256 .bf16) : FVec F S128x256 .f32 :=
  mulf (extf .f32 (shapeCast S128x256 q shapeCasts_S1x1x128x256_S128x256 : FVec F S128x256 .bf16) bitsLt_bf16_f32)
    (broadcast S128x256 (Named.named κ "qscale" 0x3E38AA3B#32 : F .f32))

/-- The scaled queries with the other half of the head zeroed, as stored: the first half kept, … -/
def qLow (q : Vec F S1x1x128x256 .bf16) : FVec F S1x128x256 .bf16 :=
  shapeCast S1x128x256 (truncf .bf16 (select (cmpi .slt (iota .tc S128x256 32 [0] iota_S128x256_d0_w32) (broadcast S128x256 64#32)) (scaled q)
    (broadcast S128x256 (Scalar.ofBits .f32 0x00000000#32 : F .f32)) : FVec F S128x256 .f32) bitsLt_bf16_f32) shapeCasts_S128x256_S1x128x256
/-- … and the second. -/
def qHigh (q : Vec F S1x1x128x256 .bf16) : FVec F S1x128x256 .bf16 :=
  shapeCast S1x128x256 (truncf .bf16 (select (cmpi .sge (iota .tc S128x256 32 [0] iota_S128x256_d0_w32) (broadcast S128x256 64#32)) (scaled q)
    (broadcast S128x256 (Scalar.ofBits .f32 0x00000000#32 : F .f32)) : FVec F S128x256 .f32) bitsLt_bf16_f32) shapeCasts_S128x256_S1x128x256

/-- The accumulators' zeros, as stored. -/
def accZero : FVec F S8x128x256 .f32 :=
  shapeCast S8x128x256 (broadcast S8x128x256 (Scalar.ofBits .f32 0x00000000#32 : F .f32) : FVec F S8x128x256 .f32) shapeCasts_S8x128x256_S8x128x256

/-- The running maximum and sum before any key. -/
def m0 : FVec F S1x256 .f32 := broadcast S1x256 (Named.named κ "mask" 0xF149F2CA#32 : F .f32)
def l0 : FVec F S1x256 .f32 := broadcast S1x256 (Scalar.ofBits .f32 0x00000000#32 : F .f32)

/-- The second softmax's factor, from the four vectors it is made of. -/
def lam (x : Vec F S4x64 .f32) : FVec F S1x1 .f32 :=
  addf (subf
    (exp (shapeCast S1x1 (multiReduction .add [1] S1 (mulf
      (extractStridedSlice S1x64 ![0, 0] (shapeCast S4x64 x shapeCasts_S4x64_S4x64 : FVec F S4x64 .f32) slices_S4x64_o0_0_S1x64)
      (extractStridedSlice S1x64 ![1, 0] (shapeCast S4x64 x shapeCasts_S4x64_S4x64 : FVec F S4x64 .f32) slices_S4x64_o1_0_S1x64))
      0x00000000#32 reduces_S1x64_S1 (.inl rfl) rfl) shapeCasts_S1_S1x1 : FVec F S1x1 .f32))
    (exp (shapeCast S1x1 (multiReduction .add [1] S1 (mulf
      (extractStridedSlice S1x64 ![2, 0] (shapeCast S4x64 x shapeCasts_S4x64_S4x64 : FVec F S4x64 .f32) slices_S4x64_o2_0_S1x64)
      (extractStridedSlice S1x64 ![3, 0] (shapeCast S4x64 x shapeCasts_S4x64_S4x64 : FVec F S4x64 .f32) slices_S4x64_o3_0_S1x64))
      0x00000000#32 reduces_S1x64_S1 (.inl rfl) rfl) shapeCasts_S1_S1x1 : FVec F S1x1 .f32)))
    (broadcast S1x1 (Scalar.ofBits .f32 0x3E4CCCCD#32 : F .f32))

/-- One softmax's attended values. -/
def normed (acc : Vec F S1x128x256 .f32) (l : FVec F S1x256 .f32) : FVec F S128x256 .f32 :=
  divf (shapeCast S128x256 acc shapeCasts_S1x128x256_S128x256 : FVec F S128x256 .f32) (broadcastTo S128x256 l broadcasts_S1x256_S128x256)

/-- The difference of the two softmaxes' attended values. -/
def mixed (lm : FVec F S1x1 .f32) (a : Vec F S1x128x256 .f32) (l : FVec F S1x256 .f32) (b : Vec F S1x128x256 .f32) (k : FVec F S1x256 .f32) :
    FVec F S128x256 .f32 :=
  subf (normed a l) (mulf (broadcastTo S128x256 lm broadcasts_S1x1_S128x256) (normed b k))

/-- Its norm over the head, the gain and the layer's factor. -/
def headNorm (o : FVec F S128x256 .f32) (g : Vec F S128x1 .f32) : FVec F S128x256 .f32 :=
  mulf (mulf (mulf o (broadcastTo S128x256 (rsqrt (addf (divf
      (shapeCast S1x256 (multiReduction .add [0] S256 (mulf o o) 0x00000000#32 reduces_S128x256_S256 (.inl rfl) rfl) shapeCasts_S256_S1x256 : FVec F S1x256 .f32)
      (broadcast S1x256 (Scalar.ofBits .f32 0x43000000#32 : F .f32)))
      (broadcast S1x256 (Scalar.ofBits .f32 0x358637BD#32 : F .f32)))) broadcasts_S1x256_S128x256))
    (broadcastTo S128x256 (shapeCast S128x1 g shapeCasts_S128x1_S128x1 : FVec F S128x1 .f32) broadcasts_S128x1_S128x256))
    (broadcast S128x256 (Scalar.ofBits .f32 0x3F4CCCCD#32 : F .f32))

/-- A block of the result, as stored. -/
def oPay (lm : FVec F S1x1 .f32) (a : Vec F S1x128x256 .f32) (l : FVec F S1x256 .f32) (b : Vec F S1x128x256 .f32) (k : FVec F S1x256 .f32)
    (g : Vec F S128x1 .f32) : FVec F S1x256x128 .bf16 :=
  shapeCast S1x256x128 (truncf .bf16 (transpose S256x128 [1, 0] (headNorm (mixed lm a l b k) g) transposes_S128x256_p1_0_S256x128 : FVec F S256x128 .f32)
    bitsLt_bf16_f32) shapeCasts_S256x128_S1x256x128

/-! ## Stages -/

section Stages

variable (arg3 : Memref sig .tc .vmem S4x64 .f32) (arg4 : Memref sig .tc .vmem S128x1 .f32)
  (arg5 : Memref sig .tc .vmem S1x4x128x256 .bf16) (arg6 : Memref sig .tc .vmem S1x8192x128 .bf16)
  (arg7 : Memref sig .tc .vmem S1x32x128x256 .bf16) (arg8 : Memref sig .tc .vmem S1x1024x128 .bf16)
  (arg9 : Memref sig .tc .vmem S8x128x256 .bf16) (arg10 : Memref sig .tc .vmem S8x1024x256 .f32)
  (arg11 : Memref sig .tc .vmem S8x4x8x256 .f32) (arg12 : Memref sig .tc .vmem S8x128x256 .f32)
  (arg13 : Memref sig .tc .vmem S256x256 .f32)

/-- Chain `c` of the scores. -/
abbrev sRef (c : Fin 8) : Memref sig .tc .vmem S1024x256 .f32 :=
  (arg10.slice (Rect.unit (s := S8x1024x256) ![c.val, 0, 0] S1x1024x256.size (inb_s c)) (fun _ => rfl)).squeeze S1024x256
    squeezes_S1x1024x256_S1024x256
/-- Chain `c` of the maxima. -/
abbrev mRef (c : Fin 8) : Memref sig .tc .vmem S4x8x256 .f32 :=
  (arg11.slice (Rect.unit (s := S8x4x8x256) ![c.val, 0, 0, 0] S1x4x8x256.size (inb_mx c)) (fun _ => rfl)).squeeze S4x8x256
    squeezes_S1x4x8x256_S4x8x256

/-- A granule of scores and its maxima stored. -/
def put (c : Fin 8) (w : Fin 4) (s : FVec F S256x256 .f32) : ℙ PUnit := do
  let _x : Vec F S256x256 .f32 ← Prog.lift (.load (sRef arg10 c) (sBox w).toLoadRect (View.loadsAt_vmem h_S256x256))
  Prog.lift (.store (sRef arg10 c) (sBox w) (sPay s) Finset.univ (View.stores_vmem_bits_univ h_S256x256 rfl) (.inl rfl))
  let _y : Vec F S1x8x256 .f32 ← Prog.lift (.load (mRef arg11 c) (mBox w).toLoadRect (View.loadsAt_vmem h_S1x8x256))
  Prog.lift (.store (mRef arg11 c) (mBox w) (mPay s) Finset.univ (View.stores_vmem_bits_univ h_S1x8x256 rfl) (.inl rfl))

/-- A granule without bias. -/
def granule (c : Fin 8) (o : KOff) (q : Vec F S1x128x256 .bf16) (w : Fin 4) : ℙ PUnit := do
  let kb : Vec F S1x256x128 .bf16 ← Prog.lift (.load arg6 (o.box w).toLoadRect (View.loadsAt_vmem h_S1x256x128))
  put arg10 arg11 c w (scores kb q)

/-- A granule on the diagonal. -/
def granuleTri (c : Fin 8) (o : KOff) (q : Vec F S1x128x256 .bf16) (w : Fin 4) : ℙ PUnit := do
  let kb : Vec F S1x256x128 .bf16 ← Prog.lift (.load arg6 (o.box w).toLoadRect (View.loadsAt_vmem h_S1x256x128))
  let t : Vec F S256x256 .f32 ← Prog.lift (.load arg13 tBox.toLoadRect (View.loadsAt_vmem h_S256x256))
  put arg10 arg11 c w (addf (scores kb q) (t : FVec F S256x256 .f32))

def granules (c : Fin 8) (o : KOff) (q : Vec F S1x128x256 .bf16) : List (Fin 4) → ℙ PUnit
  | [] => pure ⟨⟩
  | w :: ws => do
    granule arg6 arg10 arg11 c o q w
    granules c o q ws

/-- The score stage of a chunk of four granules, all visible. -/
def scoreFull (c : Fin 8) (o : KOff) : ℙ PUnit := do
  let q : Vec F S1x128x256 .bf16 ← Prog.lift (.load arg9 (qBox c).toLoadRect (View.loadsAt_vmem h_S1x128x256))
  granules arg6 arg10 arg11 c o q [0, 1, 2, 3]

/-- The score stage of the diagonal: the granules `ws` all visible, then granule `d` under the bias. -/
def scoreDiag (c : Fin 8) (o : KOff) (ws : List (Fin 4)) (d : Fin 4) : ℙ PUnit := do
  let q : Vec F S1x128x256 .bf16 ← Prog.lift (.load arg9 (qBox c).toLoadRect (View.loadsAt_vmem h_S1x128x256))
  granules arg6 arg10 arg11 c o q ws
  granuleTri arg6 arg10 arg11 arg13 c o q d

/-- The maxima of the granules after the first, read twice each. -/
def maxes (c : Fin 8) : List (Fin 4) → FVec F S8x256 .f32 → FVec F S8x256 .f32 → ℙ (FVec F S8x256 .f32 × FVec F S8x256 .f32)
  | [], raw, seen => pure (raw, seen)
  | w :: ws, raw, seen => do
    let a : Vec F S1x8x256 .f32 ← Prog.lift (.load (mRef arg11 c) (mBox w).toLoadRect (View.loadsAt_vmem h_S1x8x256))
    let b : Vec F S1x8x256 .f32 ← Prog.lift (.load (mRef arg11 c) (mBox w).toLoadRect (View.loadsAt_vmem h_S1x8x256))
    maxes c ws (max2 raw a) (max2 seen b)

/-- The weights of the granules after the first, summed and against the values. -/
def sums (c : Fin 8) (o : VOff) (sh : FVec F S1x256 .f32) :
    List (Fin 4) → FVec F S8x256 .f32 → FVec F S128x256 .f32 → ℙ (FVec F S8x256 .f32 × FVec F S128x256 .f32)
  | [], l, x => pure (l, x)
  | w :: ws, l, x => do
    let s : Vec F S256x256 .f32 ← Prog.lift (.load (sRef arg10 c) (sBox w).toLoadRect (View.loadsAt_vmem h_S256x256))
    let v : Vec F S1x1x128x256 .bf16 ← Prog.lift (.load arg7 (o.box w).toLoadRect (View.loadsAt_vmem h_S1x1x128x256))
    sums c o sh ws (addf l (grpSum (weights s sh))) (addf x (pv v (weights s sh)))

/-- The softmax stage of the granules `0 :: ws`. -/
def softmax (c : Fin 8) (o : VOff) (ws : List (Fin 4)) (m l : FVec F S1x256 .f32) :
    ℙ (FVec F S1x256 .f32 × FVec F S1x256 .f32) := do
  let a : Vec F S1x8x256 .f32 ← Prog.lift (.load (mRef arg11 c) (mBox 0).toLoadRect (View.loadsAt_vmem h_S1x8x256))
  let r ← maxes arg11 c ws (shapeCast S8x256 a shapeCasts_S1x8x256_S8x256) (shapeCast S8x256 a shapeCasts_S1x8x256_S8x256)
  let s : Vec F S256x256 .f32 ← Prog.lift (.load (sRef arg10 c) (sBox 0).toLoadRect (View.loadsAt_vmem h_S256x256))
  let v : Vec F S1x1x128x256 .bf16 ← Prog.lift (.load arg7 (o.box 0).toLoadRect (View.loadsAt_vmem h_S1x1x128x256))
  let t ← sums arg7 arg10 c o (shift (mNew m r.2) r.1) ws (grpSum (weights s (shift (mNew m r.2) r.1)))
    (pv v (weights s (shift (mNew m r.2) r.1)))
  let acc : Vec F S1x128x256 .f32 ← Prog.lift (.load arg12 (qBox c).toLoadRect (View.loadsAt_vmem h_S1x128x256))
  let _acc : Vec F S1x128x256 .f32 ← Prog.lift (.load arg12 (qBox c).toLoadRect (View.loadsAt_vmem h_S1x128x256))
  Prog.lift (.store arg12 (qBox c) (accPay (alpha m (mNew m r.2)) acc t.2) Finset.univ (View.stores_vmem_bits_univ h_S1x128x256 rfl) (.inl rfl))
  pure (mNew m r.2, lNew (alpha m (mNew m r.2)) l t.1)

/-- What a trip carries: the running maxima and sums of the eight chains. -/
abbrev Carry (F : FTy → Type) [FloatOps F] : Type :=
  FVec F S1x256 .f32 × FVec F S1x256 .f32 × FVec F S1x256 .f32 × FVec F S1x256 .f32 × FVec F S1x256 .f32 × FVec F S1x256 .f32 ×
  FVec F S1x256 .f32 × FVec F S1x256 .f32 × FVec F S1x256 .f32 × FVec F S1x256 .f32 × FVec F S1x256 .f32 × FVec F S1x256 .f32 ×
  FVec F S1x256 .f32 × FVec F S1x256 .f32 × FVec F S1x256 .f32 × FVec F S1x256 .f32

/-- One chunk of keys, over all chains: the score stage of a chain runs before the softmax stage of the one before it, and
    chain 0's is that of the next chunk (`on`). -/
def chunk (o on : KOff) (ov : VOff) : Carry F → ℙ (Carry F)
  | (m0, l0, m1, l1, m2, l2, m3, l3, m4, l4, m5, l5, m6, l6, m7, l7) => do
    scoreFull arg6 arg9 arg10 arg11 1 o
    let r0 ← softmax arg7 arg10 arg11 arg12 0 ov [1, 2, 3] m0 l0
    scoreFull arg6 arg9 arg10 arg11 2 o
    let r1 ← softmax arg7 arg10 arg11 arg12 1 ov [1, 2, 3] m1 l1
    scoreFull arg6 arg9 arg10 arg11 3 o
    let r2 ← softmax arg7 arg10 arg11 arg12 2 ov [1, 2, 3] m2 l2
    scoreFull arg6 arg9 arg10 arg11 4 o
    let r3 ← softmax arg7 arg10 arg11 arg12 3 ov [1, 2, 3] m3 l3
    scoreFull arg6 arg9 arg10 arg11 5 o
    let r4 ← softmax arg7 arg10 arg11 arg12 4 ov [1, 2, 3] m4 l4
    scoreFull arg6 arg9 arg10 arg11 6 o
    let r5 ← softmax arg7 arg10 arg11 arg12 5 ov [1, 2, 3] m5 l5
    scoreFull arg6 arg9 arg10 arg11 7 o
    let r6 ← softmax arg7 arg10 arg11 arg12 6 ov [1, 2, 3] m6 l6
    scoreFull arg6 arg9 arg10 arg11 0 on
    let r7 ← softmax arg7 arg10 arg11 arg12 7 ov [1, 2, 3] m7 l7
    pure (r0.1, r0.2, r1.1, r1.2, r2.1, r2.2, r3.1, r3.2, r4.1, r4.2, r5.1, r5.2, r6.1, r6.2, r7.1, r7.2)

/-- The diagonal chunk: chain `c` sees the granules up to its query block's, that one under the bias. -/
def diag (o : KOff) (ov : VOff) : Carry F → ℙ (Carry F)
  | (m0, l0, m1, l1, m2, l2, m3, l3, m4, l4, m5, l5, m6, l6, m7, l7) => do
    scoreDiag arg6 arg9 arg10 arg11 arg13 0 o [] 0
    scoreDiag arg6 arg9 arg10 arg11 arg13 1 o [] 0
    let r0 ← softmax arg7 arg10 arg11 arg12 0 ov [] m0 l0
    scoreDiag arg6 arg9 arg10 arg11 arg13 2 o [0] 1
    let r1 ← softmax arg7 arg10 arg11 arg12 1 ov [] m1 l1
    scoreDiag arg6 arg9 arg10 arg11 arg13 3 o [0] 1
    let r2 ← softmax arg7 arg10 arg11 arg12 2 ov [1] m2 l2
    scoreDiag arg6 arg9 arg10 arg11 arg13 4 o [0, 1] 2
    let r3 ← softmax arg7 arg10 arg11 arg12 3 ov [1] m3 l3
    scoreDiag arg6 arg9 arg10 arg11 arg13 5 o [0, 1] 2
    let r4 ← softmax arg7 arg10 arg11 arg12 4 ov [1, 2] m4 l4
    scoreDiag arg6 arg9 arg10 arg11 arg13 6 o [0, 1, 2] 3
    let r5 ← softmax arg7 arg10 arg11 arg12 5 ov [1, 2] m5 l5
    scoreDiag arg6 arg9 arg10 arg11 arg13 7 o [0, 1, 2] 3
    let r6 ← softmax arg7 arg10 arg11 arg12 6 ov [1, 2, 3] m6 l6
    let r7 ← softmax arg7 arg10 arg11 arg12 7 ov [1, 2, 3] m7 l7
    pure (r0.1, r0.2, r1.1, r1.2, r2.1, r2.2, r3.1, r3.2, r4.1, r4.2, r5.1, r5.2, r6.1, r6.2, r7.1, r7.2)

section Start

variable (hx : ∀ c : Fin 8, (arg9.access (qBox c)).Stores Finset.univ)

/-- One block of queries: loaded, scaled, and stored once per half. -/
def startQ (b : Fin 4) (c d : Fin 8) : ℙ PUnit := do
  let q : Vec F S1x1x128x256 .bf16 ← Prog.lift (.load arg5 (Rect.unit (s := S1x4x128x256) ![0, b.val, 0, 0] S1x1x128x256.size (inb_qt b)).toLoadRect (View.loadsAt_vmem h_S1x1x128x256))
  let _x : Vec F S1x128x256 .bf16 ← Prog.lift (.load arg9 (qBox c).toLoadRect (View.loadsAt_vmem h_S1x128x256))
  Prog.lift (.store arg9 (qBox c) (qLow q) Finset.univ (hx c) (.inl rfl))
  let _y : Vec F S1x128x256 .bf16 ← Prog.lift (.load arg9 (qBox d).toLoadRect (View.loadsAt_vmem h_S1x128x256))
  Prog.lift (.store arg9 (qBox d) (qHigh q) Finset.univ (hx d) (.inl rfl))

/-- The bias, the queries and the accumulators' zeros. -/
def start : ℙ PUnit := do
  let _t : Vec F S256x256 .f32 ← Prog.lift (.load arg13 tBox.toLoadRect (View.loadsAt_vmem h_S256x256))
  Prog.lift (.store arg13 tBox tri Finset.univ (View.stores_vmem_bits_univ h_S256x256 rfl) (.inl rfl))
  startQ arg5 arg9 hx 0 0 1
  startQ arg5 arg9 hx 1 2 3
  startQ arg5 arg9 hx 2 4 5
  startQ arg5 arg9 hx 3 6 7
  let _a : Vec F S8x128x256 .f32 ← Prog.lift (.load arg12 (Rect.unit (s := S8x128x256) ![0, 0, 0] S8x128x256.size inb_S8x128x256_S8x128x256_0_0_0).toLoadRect (View.loadsAt_vmem h_S8x128x256))
  Prog.lift (.store arg12 (Rect.unit (s := S8x128x256) ![0, 0, 0] S8x128x256.size inb_S8x128x256_S8x128x256_0_0_0) accZero Finset.univ (View.stores_vmem_bits_univ h_S8x128x256 rfl) (.inl rfl))

end Start

section Finish

variable (hx : ∀ b : Fin 4, (arg8.access (Rect.unit (s := S1x1024x128) ![0, 256 * b.val, 0] S1x256x128.size (inb_o b))).Stores Finset.univ)

/-- One block of the result, from the chains `c` and `d`. -/
def finishQ (lm : FVec F S1x1 .f32) (b : Fin 4) (c d : Fin 8) (l k : FVec F S1x256 .f32) : ℙ PUnit := do
  let x : Vec F S1x128x256 .f32 ← Prog.lift (.load arg12 (qBox c).toLoadRect (View.loadsAt_vmem h_S1x128x256))
  let y : Vec F S1x128x256 .f32 ← Prog.lift (.load arg12 (qBox d).toLoadRect (View.loadsAt_vmem h_S1x128x256))
  let g : Vec F S128x1 .f32 ← Prog.lift (.load arg4 (Rect.unit (s := S128x1) ![0, 0] S128x1.size inb_S128x1_S128x1_0_0).toLoadRect (View.loadsAt_vmem h_S128x1))
  let _z : Vec F S1x256x128 .bf16 ← Prog.lift (.load arg8 (Rect.unit (s := S1x1024x128) ![0, 256 * b.val, 0] S1x256x128.size (inb_o b)).toLoadRect (View.loadsAt_vmem h_S1x256x128))
  Prog.lift (.store arg8 (Rect.unit (s := S1x1024x128) ![0, 256 * b.val, 0] S1x256x128.size (inb_o b)) (oPay lm x l y k g) Finset.univ (hx b) (.inl rfl))

/-- The result's four blocks. -/
def finish : Carry F → ℙ PUnit
  | (_, l0, _, l1, _, l2, _, l3, _, l4, _, l5, _, l6, _, l7) => do
    let x : Vec F S4x64 .f32 ← Prog.lift (.load arg3 (Rect.unit (s := S4x64) ![0, 0] S4x64.size inb_S4x64_S4x64_0_0).toLoadRect (View.loadsAt_vmem h_S4x64))
    finishQ arg4 arg8 arg12 hx (lam x) 0 0 1 l0 l1
    finishQ arg4 arg8 arg12 hx (lam x) 1 2 3 l2 l3
    finishQ arg4 arg8 arg12 hx (lam x) 2 4 5 l4 l5
    finishQ arg4 arg8 arg12 hx (lam x) 3 6 7 l6 l7

end Finish

end Stages

/-- The chunk's keys, … -/
def kOff1 (i : grid0.Coords) (t : Fin (k0_t1_loop i).trips) : KOff := ⟨fun w => k0_off1 i t (BitVec.ofNat 32 w.val), k0_off1_inb i t⟩
/-- the next chunk's keys, -/
def kOff3 (i : grid0.Coords) (t : Fin (k0_t1_loop i).trips) : KOff := ⟨fun w => k0_off3 i t (BitVec.ofNat 32 w.val), k0_off3_inb i t⟩
/-- the chunk's values, -/
def vOff2 (i : grid0.Coords) (t : Fin (k0_t1_loop i).trips) : VOff := ⟨fun w => k0_off2 i t (BitVec.ofNat 32 w.val), k0_off2_inb i t⟩
/-- the diagonal's keys -/
def kOff7 (i : grid0.Coords) : KOff := ⟨fun w => k0_off7 i (BitVec.ofNat 32 w.val), k0_off7_inb i⟩
/-- and values, -/
def vOff8 (i : grid0.Coords) : VOff := ⟨fun w => k0_off8 i (BitVec.ofNat 32 w.val), k0_off8_inb i⟩
/-- and the first chunk's keys. -/
def kOff0 : KOff := ⟨fun w => ![0, 256 * w.val, 0], inb_k0⟩

/-- The carry before any chunk. -/
def carry0 : Carry F := (m0, l0, m0, l0, m0, l0, m0, l0, m0, l0, m0, l0, m0, l0, m0, l0)

def kOff4 (i : grid0.Coords) (t : Fin (k0_t2_loop i).trips) : KOff := ⟨fun w => k0_off4 i t (BitVec.ofNat 32 w.val), k0_off4_inb i t⟩
def kOff6 (i : grid0.Coords) (t : Fin (k0_t2_loop i).trips) : KOff := ⟨fun w => k0_off6 i t (BitVec.ofNat 32 w.val), k0_off6_inb i t⟩
def vOff5 (i : grid0.Coords) (t : Fin (k0_t2_loop i).trips) : VOff := ⟨fun w => k0_off5 i t (BitVec.ofNat 32 w.val), k0_off5_inb i t⟩

/-- The kernel's body over its stages. -/
def body (i : grid0.Coords) (arg3 : Memref sig .tc .vmem S4x64 .f32) (arg4 : Memref sig .tc .vmem S128x1 .f32)
    (arg5 : Memref sig .tc .vmem S1x4x128x256 .bf16) (arg6 : Memref sig .tc .vmem S1x8192x128 .bf16)
    (arg7 : Memref sig .tc .vmem S1x32x128x256 .bf16) (arg8 : Memref sig .tc .vmem S1x1024x128 .bf16)
    (arg9 : Memref sig .tc .vmem S8x128x256 .bf16) (arg10 : Memref sig .tc .vmem S8x1024x256 .f32)
    (arg11 : Memref sig .tc .vmem S8x4x8x256 .f32) (arg12 : Memref sig .tc .vmem S8x128x256 .f32)
    (arg13 : Memref sig .tc .vmem S256x256 .f32)
    (h8 : ∀ b : Fin 4, (arg8.access (Rect.unit (s := S1x1024x128) ![0, 256 * b.val, 0] S1x256x128.size (inb_o b))).Stores Finset.univ)
    (h9 : ∀ c : Fin 8, (arg9.access (qBox c)).Stores Finset.univ) : ℙ PUnit := do
  start arg5 arg9 arg12 arg13 h9
  scoreFull arg6 arg9 arg10 arg11 0 kOff0
  let x ← Scf.Loop.for (k0_t1_loop i) (k0_t1_ok i) carry0 fun t => chunk arg6 arg7 arg9 arg10 arg11 arg12 (kOff1 i t) (kOff3 i t) (vOff2 i t)
  let y ← Scf.Loop.for (k0_t2_loop i) (k0_t2_ok i) x fun t => chunk arg6 arg7 arg9 arg10 arg11 arg12 (kOff4 i t) (kOff6 i t) (vOff5 i t)
  let z ← diag arg6 arg7 arg9 arg10 arg11 arg12 arg13 (kOff7 i) (vOff8 i) y
  finish arg3 arg4 arg8 arg12 h8 z

end Cert.KernelIdeal.Flash

end
-- ==== Proof.Hoare.lean ====
/-
  What the attention kernel's body reads and writes, by value: the scratch buffers as families of blocks (the scaled
  queries, scores and group maxima and accumulators of each chain, the causal bias) and the result's four blocks,
  and the judgement `Ev e p σ x σ'`: the program `p`, run from the blocks `σ`, returns `x` and leaves the blocks `σ'`.
-/
module

public import proofs.«01_k».proof.Proof.Clean
public import proofs.«01_k».proof.Proof.Gen.KernelIdeal.Frame
public import Idealize.ShloMosaic.Lib.ViewIndex

@[expose] public section

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F] [Named F] [Facts]

local notation "𝕄" => MT nD τ sig Unit (Elt F) ℕ (UR sig nD τ) ℕ
local notation "ℙ" => Prog (TpuEff nD τ sig (Elt F) Λ₀ Proc.tc)

/-! ## Blocks of one buffer -/

/-- A write through a box of one slice is not seen through a box of another that shares no element with it. -/
theorem read_write_slices {κ : Kind} {sp : Space} {s s₁ s₂ : Shape} {e : EltTy} {Val : EltTy → Type} (v : View sig κ sp s e) {r r' : Rect s}
    (h₁ : s₁.numel = r.shape.numel) (h₂ : s₂.numel = r'.shape.numel) (q : Rect s₁) (q' : Rect s₂) (f : v.ty.Contents Val)
    (w : q'.shape.Idx → Val e) (hd : Disjoint r.set r'.set) :
    (((v.slice r).reshape s₁ h₁).slice q).read Val ((((v.slice r').reshape s₂ h₂).slice q').write Val f w Finset.univ)
      = (((v.slice r).reshape s₁ h₁).slice q).read Val f :=
  View.read_congr fun i hi => View.write_of_not_mem _ _ _ fun hm => by
    have a := View.set_slice_subset _ _ hi
    have b := View.set_slice_subset _ _ hm
    rw [View.set_reshape] at a b
    have hh : Disjoint (v.slice r).set (v.slice r').set := View.disjoint_slice hd
    exact Finset.disjoint_left.mp hh a b

/-- The same through two boxes of one view. -/
theorem read_write_boxes {κ : Kind} {sp : Space} {s : Shape} {e : EltTy} {Val : EltTy → Type} (v : View sig κ sp s e) (r r' : Rect s)
    (f : v.ty.Contents Val) (w : r'.shape.Idx → Val e) (hd : Disjoint r.set r'.set) :
    (v.slice r).read Val ((v.slice r').write Val f w Finset.univ) = (v.slice r).read Val f :=
  View.read_slice_write_slice_of_disjoint r r' f w _ (View.disjoint_slice hd)

theorem disj_s {c d : Fin 8} (h : c ≠ d) :
    Disjoint (Rect.unit (s := S8x1024x256) ![c.val, 0, 0] S1x1024x256.size (inb_s c)).set
      (Rect.unit (s := S8x1024x256) ![d.val, 0, 0] S1x1024x256.size (inb_s d)).set :=
  Rect.unit_disjoint (0 : Fin 3) (show c.val + 1 ≤ d.val ∨ d.val + 1 ≤ c.val by have := Fin.val_ne_of_ne h; omega)
theorem disj_m {c d : Fin 8} (h : c ≠ d) :
    Disjoint (Rect.unit (s := S8x4x8x256) ![c.val, 0, 0, 0] S1x4x8x256.size (inb_mx c)).set
      (Rect.unit (s := S8x4x8x256) ![d.val, 0, 0, 0] S1x4x8x256.size (inb_mx d)).set :=
  Rect.unit_disjoint (0 : Fin 4) (show c.val + 1 ≤ d.val ∨ d.val + 1 ≤ c.val by have := Fin.val_ne_of_ne h; omega)
theorem disj_q {c d : Fin 8} (h : c ≠ d) : Disjoint (qBox c).set (qBox d).set :=
  Rect.unit_disjoint (0 : Fin 3) (show c.val + 1 ≤ d.val ∨ d.val + 1 ≤ c.val by have := Fin.val_ne_of_ne h; omega)
theorem disj_sw {w x : Fin 4} (h : w ≠ x) : Disjoint (sBox w).set (sBox x).set :=
  Rect.unit_disjoint (0 : Fin 2) (show 256 * w.val + 256 ≤ 256 * x.val ∨ 256 * x.val + 256 ≤ 256 * w.val by
    have := Fin.val_ne_of_ne h; omega)
theorem disj_mw {w x : Fin 4} (h : w ≠ x) : Disjoint (mBox w).set (mBox x).set :=
  Rect.unit_disjoint (0 : Fin 3) (show w.val + 1 ≤ x.val ∨ x.val + 1 ≤ w.val by have := Fin.val_ne_of_ne h; omega)

/-- Block `b` of the result. -/
abbrev oBox (b : Fin 4) : Rect S1x1024x128 := Rect.unit (s := S1x1024x128) ![0, 256 * b.val, 0] S1x256x128.size (inb_o b)
theorem disj_o {w x : Fin 4} (h : w ≠ x) : Disjoint (oBox w).set (oBox x).set :=
  Rect.unit_disjoint (1 : Fin 3) (show 256 * w.val + 256 ≤ 256 * x.val ∨ 256 * x.val + 256 ≤ 256 * w.val by
    have := Fin.val_ne_of_ne h; omega)

/-! ## The blocks -/

/-- The operands of the body: its memrefs, and what the inputs' buffers hold. -/
structure Env (F : FTy → Type) [FloatOps F] (t : Dev nD) where
  a3 : Memref sig .tc .vmem S4x64 .f32
  a4 : Memref sig .tc .vmem S128x1 .f32
  a5 : Memref sig .tc .vmem S1x4x128x256 .bf16
  a6 : Memref sig .tc .vmem S1x8192x128 .bf16
  a7 : Memref sig .tc .vmem S1x32x128x256 .bf16
  a8 : Memref sig .tc .vmem S1x1024x128 .bf16
  a9 : Memref sig .tc .vmem S8x128x256 .bf16
  a10 : Memref sig .tc .vmem S8x1024x256 .f32
  a11 : Memref sig .tc .vmem S8x4x8x256 .f32
  a12 : Memref sig .tc .vmem S8x128x256 .f32
  a13 : Memref sig .tc .vmem S256x256 .f32
  f3 : Buf (Elt F) (a3.view.loc (t : Thread nD τ))
  f4 : Buf (Elt F) (a4.view.loc (t : Thread nD τ))
  f5 : Buf (Elt F) (a5.view.loc (t : Thread nD τ))
  f6 : Buf (Elt F) (a6.view.loc (t : Thread nD τ))
  f7 : Buf (Elt F) (a7.view.loc (t : Thread nD τ))
  h8 : ∀ b : Fin 4, (a8.access (oBox b)).Stores Finset.univ
  h9 : ∀ c : Fin 8, (a9.access (qBox c)).Stores Finset.univ

/-- What the buffers the body writes hold, block by block. -/
structure St (F : FTy → Type) [FloatOps F] where
  Q : Fin 8 → Vec F S1x128x256 .bf16
  S : Fin 8 → Fin 4 → Vec F S256x256 .f32
  X : Fin 8 → Fin 4 → Vec F S1x8x256 .f32
  A : Fin 8 → Vec F S1x128x256 .f32
  T : Vec F S256x256 .f32
  O : Fin 4 → Vec F S1x256x128 .bf16

variable {t : Dev nD} (e : Env F t)

/-- What the inputs' blocks hold. -/
structure Blk (F : FTy → Type) [FloatOps F] where
  x3 : Vec F S4x64 .f32
  x4 : Vec F S128x1 .f32
  x5 : Vec F S1x4x128x256 .bf16
  x6 : Vec F S1x8192x128 .bf16
  x7 : Vec F S1x32x128x256 .bf16

variable (k : Blk F)

/-- A granule of keys, -/
abbrev Blk.kb (o : KOff) (w : Fin 4) : Vec F S1x256x128 .bf16 := View.ld k.x6 (o.box w)
/-- of values, -/
abbrev Blk.vb (o : VOff) (w : Fin 4) : Vec F S1x1x128x256 .bf16 := View.ld k.x7 (o.box w)
/-- a block of queries, -/
abbrev Blk.qb (b : Fin 4) : Vec F S1x1x128x256 .bf16 :=
  View.ld k.x5 (Rect.unit (s := S1x4x128x256) ![0, b.val, 0, 0] S1x1x128x256.size (inb_qt b))
/-- the four vectors of the second softmax's factor -/
abbrev Blk.lams : Vec F S4x64 .f32 := View.ld k.x3 (Rect.unit (s := S4x64) ![0, 0] S4x64.size inb_S4x64_S4x64_0_0)
/-- and the gain. -/
abbrev Blk.gain : Vec F S128x1 .f32 := View.ld k.x4 (Rect.unit (s := S128x1) ![0, 0] S128x1.size inb_S128x1_S128x1_0_0)

/-- The blocks of the body's operands. -/
def Env.blk : Blk F where
  x3 := e.a3.view.read (Elt F) e.f3
  x4 := e.a4.view.read (Elt F) e.f4
  x5 := e.a5.view.read (Elt F) e.f5
  x6 := e.a6.view.read (Elt F) e.f6
  x7 := e.a7.view.read (Elt F) e.f7

abbrev pts {s : Shape} {b : EltTy} (m : Memref sig .tc .vmem s b) (f : Buf (Elt F) (m.view.loc (t : Thread nD τ))) : sProp 𝕄 :=
  m.view.loc (t : Thread nD τ) ↦[m.view.set]{fullShare} f

def hasQ (m : Memref sig .tc .vmem S8x128x256 .bf16) (Q : Fin 8 → Vec F S1x128x256 .bf16) : sProp 𝕄 :=
  iprop(∃ f, ⌜∀ c, m.view.readAt (Elt F) (qBox c).toLoadRect f = Q c⌝ ∗ pts (t := t) m f)
def hasS (m : Memref sig .tc .vmem S8x1024x256 .f32) (S : Fin 8 → Fin 4 → Vec F S256x256 .f32) : sProp 𝕄 :=
  iprop(∃ f, ⌜∀ c w, (sRef m c).view.readAt (Elt F) (sBox w).toLoadRect f = S c w⌝ ∗ pts (t := t) m f)
def hasX (m : Memref sig .tc .vmem S8x4x8x256 .f32) (X : Fin 8 → Fin 4 → Vec F S1x8x256 .f32) : sProp 𝕄 :=
  iprop(∃ f, ⌜∀ c w, (mRef m c).view.readAt (Elt F) (mBox w).toLoadRect f = X c w⌝ ∗ pts (t := t) m f)
def hasA (m : Memref sig .tc .vmem S8x128x256 .f32) (A : Fin 8 → Vec F S1x128x256 .f32) : sProp 𝕄 :=
  iprop(∃ f, ⌜∀ c, m.view.readAt (Elt F) (qBox c).toLoadRect f = A c⌝ ∗ pts (t := t) m f)
def hasT (m : Memref sig .tc .vmem S256x256 .f32) (T : Vec F S256x256 .f32) : sProp 𝕄 :=
  iprop(∃ f, ⌜m.view.readAt (Elt F) tBox.toLoadRect f = T⌝ ∗ pts (t := t) m f)
def hasO (m : Memref sig .tc .vmem S1x1024x128 .bf16) (O : Fin 4 → Vec F S1x256x128 .bf16) : sProp 𝕄 :=
  iprop(∃ f, ⌜∀ b, m.view.readAt (Elt F) (oBox b).toLoadRect f = O b⌝ ∗ pts (t := t) m f)

/-- The inputs' buffers. -/
def inputs : sProp 𝕄 :=
  iprop(pts (t := t) e.a3 e.f3 ∗ pts (t := t) e.a4 e.f4 ∗ pts (t := t) e.a5 e.f5 ∗ pts (t := t) e.a6 e.f6 ∗ pts (t := t) e.a7 e.f7)

/-- All of them. -/
def holds (σ : St F) : sProp 𝕄 :=
  iprop(inputs e ∗ hasQ (t := t) e.a9 σ.Q ∗ hasS (t := t) e.a10 σ.S ∗ hasX (t := t) e.a11 σ.X ∗ hasA (t := t) e.a12 σ.A
    ∗ hasT (t := t) e.a13 σ.T ∗ hasO (t := t) e.a8 σ.O)

abbrev WP {α : Type} (t : Dev nD) (p : ℙ α) (Φ : α → sProp 𝕄) : sProp 𝕄 :=
  wp frame (wpE (defs₀ (F := F)) Variants.none (t : Thread nD τ) none) Set.univ p Φ

/-- From the blocks `σ`, the program returns `x` and leaves `σ'`. -/
def Ev {α : Type} (p : ℙ α) (σ : St F) (x : α) (σ' : St F) : Prop :=
  ∀ Φ : α → sProp 𝕄, (holds e σ' ⊢ Φ x) → holds e σ ⊢ WP t p Φ

variable {e}

theorem Ev.bind {α β : Type} {p : ℙ α} {k : α → ℙ β} {σ σ' σ'' : St F} {x : α} {y : β} (h : Ev e p σ x σ') (h' : Ev e (k x) σ' y σ'') :
    Ev e (p >>= k) σ y σ'' := fun Φ hΦ => by
  rw [WP, wp_bind]
  exact h _ (h' Φ hΦ)

theorem Ev.pure {α : Type} (x : α) (σ : St F) : Ev e (Pure.pure x : ℙ α) σ x σ := fun Φ hΦ => by
  rw [WP, wp_pure]
  exact hΦ.trans fupd_intro

theorem Ev.ret {α : Type} (x : α) (σ : St F) : Ev e (Prog.ret x : ℙ α) σ x σ := Ev.pure x σ

/-- A loop, by an invariant of the carried values and the blocks. -/
theorem Ev.loop {α : Type} (l : Scf.Loop 32) (hok : l.OK) (body : Fin l.trips → α → ℙ α) (I : ℕ → α → St F → Prop)
    (hb : ∀ (k : Fin l.trips) x σ, I k.val x σ → ∃ x' σ', Ev e (body k x) σ x' σ' ∧ I (k.val + 1) x' σ') {x : α} {σ : St F} (h : I 0 x σ) :
    ∃ x' σ', Ev e (Scf.Loop.for l hok x body) σ x' σ' ∧ I l.trips x' σ' := by
  have key : ∀ (d k : ℕ), l.trips - k = d → k ≤ l.trips → ∀ x σ, I k x σ →
      ∃ x' σ', Ev e (Scf.forFrom body ((List.finRange l.trips).drop k) x) σ x' σ' ∧ I l.trips x' σ' := by
    intro d
    induction d with
    | zero =>
      intro k hd hk x σ h
      obtain rfl : k = l.trips := by omega
      refine ⟨x, σ, ?_, h⟩
      rw [List.drop_of_length_le (by simp), Scf.forFrom_nil]
      exact Ev.ret x σ
    | succ d ih =>
      intro k hd hk x σ h
      have hlt : k < l.trips := by omega
      obtain ⟨x', σ', hE, hI⟩ := hb ⟨k, hlt⟩ x σ h
      obtain ⟨y, ρ, hE', hI'⟩ := ih (k + 1) (by omega) (by omega) x' σ' hI
      refine ⟨y, ρ, ?_, hI'⟩
      rw [List.drop_eq_getElem_cons (by simpa using hlt), List.getElem_finRange, Fin.cast_mk, Scf.forFrom_cons]
      exact hE.bind hE'
  obtain ⟨y, ρ, hE, hI⟩ := key _ 0 rfl (Nat.zero_le _) x σ h
  refine ⟨y, ρ, ?_, hI⟩
  rw [Scf.Loop.for, Scf.for_eq]
  simpa using hE

/-! ## Loads and stores -/

theorem take3 (σ : St F) : holds e σ ⊢ iprop(pts (t := t) e.a3 e.f3 ∗ (pts (t := t) e.a3 e.f3 -∗ holds e σ)) := by
  unfold holds inputs
  iintro ⟨⟨H3, H4, H5, H6, H7⟩, HQ, HS, HX, HA, HT, HO⟩
  isplitl [H3]; · iexact H3
  iintro H3
  isplitl [H3 H4 H5 H6 H7]
  · isplitl [H3]; · iexact H3
    isplitl [H4]; · iexact H4
    isplitl [H5]; · iexact H5
    isplitl [H6]; · iexact H6
    iexact H7
  isplitl [HQ]; · iexact HQ
  isplitl [HS]; · iexact HS
  isplitl [HX]; · iexact HX
  isplitl [HA]; · iexact HA
  isplitl [HT]; · iexact HT
  iexact HO
theorem take4 (σ : St F) : holds e σ ⊢ iprop(pts (t := t) e.a4 e.f4 ∗ (pts (t := t) e.a4 e.f4 -∗ holds e σ)) := by
  unfold holds inputs
  iintro ⟨⟨H3, H4, H5, H6, H7⟩, HQ, HS, HX, HA, HT, HO⟩
  isplitl [H4]; · iexact H4
  iintro H4
  isplitl [H3 H4 H5 H6 H7]
  · isplitl [H3]; · iexact H3
    isplitl [H4]; · iexact H4
    isplitl [H5]; · iexact H5
    isplitl [H6]; · iexact H6
    iexact H7
  isplitl [HQ]; · iexact HQ
  isplitl [HS]; · iexact HS
  isplitl [HX]; · iexact HX
  isplitl [HA]; · iexact HA
  isplitl [HT]; · iexact HT
  iexact HO
theorem take5 (σ : St F) : holds e σ ⊢ iprop(pts (t := t) e.a5 e.f5 ∗ (pts (t := t) e.a5 e.f5 -∗ holds e σ)) := by
  unfold holds inputs
  iintro ⟨⟨H3, H4, H5, H6, H7⟩, HQ, HS, HX, HA, HT, HO⟩
  isplitl [H5]; · iexact H5
  iintro H5
  isplitl [H3 H4 H5 H6 H7]
  · isplitl [H3]; · iexact H3
    isplitl [H4]; · iexact H4
    isplitl [H5]; · iexact H5
    isplitl [H6]; · iexact H6
    iexact H7
  isplitl [HQ]; · iexact HQ
  isplitl [HS]; · iexact HS
  isplitl [HX]; · iexact HX
  isplitl [HA]; · iexact HA
  isplitl [HT]; · iexact HT
  iexact HO
theorem take6 (σ : St F) : holds e σ ⊢ iprop(pts (t := t) e.a6 e.f6 ∗ (pts (t := t) e.a6 e.f6 -∗ holds e σ)) := by
  unfold holds inputs
  iintro ⟨⟨H3, H4, H5, H6, H7⟩, HQ, HS, HX, HA, HT, HO⟩
  isplitl [H6]; · iexact H6
  iintro H6
  isplitl [H3 H4 H5 H6 H7]
  · isplitl [H3]; · iexact H3
    isplitl [H4]; · iexact H4
    isplitl [H5]; · iexact H5
    isplitl [H6]; · iexact H6
    iexact H7
  isplitl [HQ]; · iexact HQ
  isplitl [HS]; · iexact HS
  isplitl [HX]; · iexact HX
  isplitl [HA]; · iexact HA
  isplitl [HT]; · iexact HT
  iexact HO
theorem take7 (σ : St F) : holds e σ ⊢ iprop(pts (t := t) e.a7 e.f7 ∗ (pts (t := t) e.a7 e.f7 -∗ holds e σ)) := by
  unfold holds inputs
  iintro ⟨⟨H3, H4, H5, H6, H7⟩, HQ, HS, HX, HA, HT, HO⟩
  isplitl [H7]; · iexact H7
  iintro H7
  isplitl [H3 H4 H5 H6 H7]
  · isplitl [H3]; · iexact H3
    isplitl [H4]; · iexact H4
    isplitl [H5]; · iexact H5
    isplitl [H6]; · iexact H6
    iexact H7
  isplitl [HQ]; · iexact HQ
  isplitl [HS]; · iexact HS
  isplitl [HX]; · iexact HX
  isplitl [HA]; · iexact HA
  isplitl [HT]; · iexact HT
  iexact HO
theorem takeQ (σ : St F) (N : Fin 8 → Vec F S1x128x256 .bf16) :
    holds e σ ⊢ iprop(hasQ (t := t) e.a9 σ.Q ∗ (hasQ (t := t) e.a9 N -∗ holds e { σ with Q := N })) := by
  unfold holds inputs
  iintro ⟨HI, HQ, HS, HX, HA, HT, HO⟩
  isplitl [HQ]; · iexact HQ
  iintro HQ
  isplitl [HI]; · iexact HI
  isplitl [HQ]; · iexact HQ
  isplitl [HS]; · iexact HS
  isplitl [HX]; · iexact HX
  isplitl [HA]; · iexact HA
  isplitl [HT]; · iexact HT
  iexact HO
theorem takeS (σ : St F) (N : Fin 8 → Fin 4 → Vec F S256x256 .f32) :
    holds e σ ⊢ iprop(hasS (t := t) e.a10 σ.S ∗ (hasS (t := t) e.a10 N -∗ holds e { σ with S := N })) := by
  unfold holds inputs
  iintro ⟨HI, HQ, HS, HX, HA, HT, HO⟩
  isplitl [HS]; · iexact HS
  iintro HS
  isplitl [HI]; · iexact HI
  isplitl [HQ]; · iexact HQ
  isplitl [HS]; · iexact HS
  isplitl [HX]; · iexact HX
  isplitl [HA]; · iexact HA
  isplitl [HT]; · iexact HT
  iexact HO
theorem takeX (σ : St F) (N : Fin 8 → Fin 4 → Vec F S1x8x256 .f32) :
    holds e σ ⊢ iprop(hasX (t := t) e.a11 σ.X ∗ (hasX (t := t) e.a11 N -∗ holds e { σ with X := N })) := by
  unfold holds inputs
  iintro ⟨HI, HQ, HS, HX, HA, HT, HO⟩
  isplitl [HX]; · iexact HX
  iintro HX
  isplitl [HI]; · iexact HI
  isplitl [HQ]; · iexact HQ
  isplitl [HS]; · iexact HS
  isplitl [HX]; · iexact HX
  isplitl [HA]; · iexact HA
  isplitl [HT]; · iexact HT
  iexact HO
theorem takeA (σ : St F) (N : Fin 8 → Vec F S1x128x256 .f32) :
    holds e σ ⊢ iprop(hasA (t := t) e.a12 σ.A ∗ (hasA (t := t) e.a12 N -∗ holds e { σ with A := N })) := by
  unfold holds inputs
  iintro ⟨HI, HQ, HS, HX, HA, HT, HO⟩
  isplitl [HA]; · iexact HA
  iintro HA
  isplitl [HI]; · iexact HI
  isplitl [HQ]; · iexact HQ
  isplitl [HS]; · iexact HS
  isplitl [HX]; · iexact HX
  isplitl [HA]; · iexact HA
  isplitl [HT]; · iexact HT
  iexact HO
theorem takeT (σ : St F) (N : Vec F S256x256 .f32) :
    holds e σ ⊢ iprop(hasT (t := t) e.a13 σ.T ∗ (hasT (t := t) e.a13 N -∗ holds e { σ with T := N })) := by
  unfold holds inputs
  iintro ⟨HI, HQ, HS, HX, HA, HT, HO⟩
  isplitl [HT]; · iexact HT
  iintro HT
  isplitl [HI]; · iexact HI
  isplitl [HQ]; · iexact HQ
  isplitl [HS]; · iexact HS
  isplitl [HX]; · iexact HX
  isplitl [HA]; · iexact HA
  isplitl [HT]; · iexact HT
  iexact HO
theorem takeO (σ : St F) (N : Fin 4 → Vec F S1x256x128 .bf16) :
    holds e σ ⊢ iprop(hasO (t := t) e.a8 σ.O ∗ (hasO (t := t) e.a8 N -∗ holds e { σ with O := N })) := by
  unfold holds inputs
  iintro ⟨HI, HQ, HS, HX, HA, HT, HO⟩
  isplitl [HO]; · iexact HO
  iintro HO
  isplitl [HI]; · iexact HI
  isplitl [HQ]; · iexact HQ
  isplitl [HS]; · iexact HS
  isplitl [HX]; · iexact HX
  isplitl [HA]; · iexact HA
  isplitl [HT]; · iexact HT
  iexact HO

/-- A load from one of the buffers. -/
theorem ev_load_of {s : Shape} {b : EltTy} {m : Memref sig .tc .vmem s b} {r : LoadRect s} {hl : m.view.LoadsAt r} {σ : St F}
    {T : Finset (Idx (m.view.loc (t : Thread nD τ)))} {φ : Buf (Elt F) (m.view.loc (t : Thread nD τ)) → Prop} {v : r.shape.Idx → Elt F b}
    (hS : m.view.setOn r.set ⊆ T) (hv : ∀ f, φ f → m.view.readAt (Elt F) r f = v)
    (hh : holds e σ ⊢ iprop((∃ f, ⌜φ f⌝ ∗ m.view.loc (t : Thread nD τ) ↦[T]{fullShare} f)
      ∗ ((∃ f, ⌜φ f⌝ ∗ m.view.loc (t : Thread nD τ) ↦[T]{fullShare} f) -∗ holds e σ))) :
    Ev e (Prog.lift (.load m r hl)) σ v σ := fun Φ hΦ => by
  refine hh.trans ?_
  unfold Prog.lift
  iintro ⟨⟨%f, %hf, Hm⟩, Hk⟩
  iapply (wp_load Variants.none (t : Thread nD τ) none Set.univ (m := m) hS) $$ Hm
  iintro Hm
  rw [hv f hf, wp_ret]
  imodintro
  ihave H := Hk $$ [Hm]
  · iexists f; isplitr; · ipureintro; exact hf
    iexact Hm
  iapply hΦ; iexact H

/-- A store into one of the buffers. -/
theorem ev_store_of {s : Shape} {b : EltTy} {m : Memref sig .tc .vmem s b} {r : Rect s} {w : r.shape.Idx → Elt F b}
    {hx : (m.access r).Stores Finset.univ} {hm : (Finset.univ : Finset r.shape.Idx) = Finset.univ ∨ ∀ a, r.stride a = 1} {σ σ' : St F}
    {T : Finset (Idx (m.view.loc (t : Thread nD τ)))} {φ φ' : Buf (Elt F) (m.view.loc (t : Thread nD τ)) → Prop}
    (hS : (m.access r).set ⊆ T) (hv : ∀ f, φ f → φ' ((m.access r).write (Elt F) f w Finset.univ))
    (hh : holds e σ ⊢ iprop((∃ f, ⌜φ f⌝ ∗ m.view.loc (t : Thread nD τ) ↦[T]{fullShare} f)
      ∗ ((∃ f, ⌜φ' f⌝ ∗ m.view.loc (t : Thread nD τ) ↦[T]{fullShare} f) -∗ holds e σ'))) :
    Ev e (Prog.lift (.store m r w Finset.univ hx hm)) σ ⟨⟩ σ' := fun Φ hΦ => by
  refine hh.trans ?_
  unfold Prog.lift
  iintro ⟨⟨%f, %hf, Hm⟩, Hk⟩
  iapply (wp_store Variants.none (t : Thread nD τ) none Set.univ (m := m) (r := r) (Mk := Finset.univ) hS) $$ Hm
  iintro Hm
  rw [wp_ret]
  imodintro
  ihave H := Hk $$ [Hm]
  · iexists _; isplitr; · ipureintro; exact hv f hf
    iexact Hm
  iapply hΦ; iexact H

end Cert.KernelIdeal.Flash

end
-- ==== Proof.Ops.lean ====
/-
  The body's loads and stores, one lemma for each buffer, in the judgement of Hoare.lean.
-/
module

public import proofs.«01_k».proof.Proof.Hoare

@[expose] public section

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F] [Named F] [Facts]

local notation "𝕄" => MT nD τ sig Unit (Elt F) ℕ (UR sig nD τ) ℕ
local notation "ℙ" => Prog (TpuEff nD τ sig (Elt F) Λ₀ Proc.tc)

variable {t : Dev nD} {e : Env F t} (σ : St F)

/-! ## Loads -/

theorem ofPts {m : ℙ PUnit} {ℓ : Loc nD τ sig} {T : Finset (Idx ℓ)} {f : Buf (Elt F) ℓ} {P : sProp 𝕄}
    (h : P ⊢ iprop((ℓ ↦[T]{fullShare} f) ∗ ((ℓ ↦[T]{fullShare} f) -∗ P))) :
    P ⊢ iprop((∃ g, ⌜g = f⌝ ∗ ℓ ↦[T]{fullShare} g) ∗ ((∃ g, ⌜g = f⌝ ∗ ℓ ↦[T]{fullShare} g) -∗ P)) := by
  refine h.trans ?_
  iintro ⟨H, Hk⟩
  isplitl [H]
  · iexists f; isplitr; · ipureintro; rfl
    iexact H
  iintro ⟨%g, %hg, H⟩
  subst hg
  iapply Hk; iexact H

theorem ev_load3 (r : LoadRect S4x64) (hl : e.a3.view.LoadsAt r) : Ev e (Prog.lift (.load e.a3 r hl)) σ (e.a3.view.readAt (Elt F) r e.f3) σ :=
  ev_load_of (View.setOn_subset_set _ _) (fun _ h => by subst h; rfl) (ofPts (m := .ret ⟨⟩) (take3 σ))
theorem ev_load4 (r : LoadRect S128x1) (hl : e.a4.view.LoadsAt r) : Ev e (Prog.lift (.load e.a4 r hl)) σ (e.a4.view.readAt (Elt F) r e.f4) σ :=
  ev_load_of (View.setOn_subset_set _ _) (fun _ h => by subst h; rfl) (ofPts (m := .ret ⟨⟩) (take4 σ))
theorem ev_load5 (r : LoadRect S1x4x128x256) (hl : e.a5.view.LoadsAt r) : Ev e (Prog.lift (.load e.a5 r hl)) σ (e.a5.view.readAt (Elt F) r e.f5) σ :=
  ev_load_of (View.setOn_subset_set _ _) (fun _ h => by subst h; rfl) (ofPts (m := .ret ⟨⟩) (take5 σ))
theorem ev_load6 (r : LoadRect S1x8192x128) (hl : e.a6.view.LoadsAt r) : Ev e (Prog.lift (.load e.a6 r hl)) σ (e.a6.view.readAt (Elt F) r e.f6) σ :=
  ev_load_of (View.setOn_subset_set _ _) (fun _ h => by subst h; rfl) (ofPts (m := .ret ⟨⟩) (take6 σ))
theorem ev_load7 (r : LoadRect S1x32x128x256) (hl : e.a7.view.LoadsAt r) : Ev e (Prog.lift (.load e.a7 r hl)) σ (e.a7.view.readAt (Elt F) r e.f7) σ :=
  ev_load_of (View.setOn_subset_set _ _) (fun _ h => by subst h; rfl) (ofPts (m := .ret ⟨⟩) (take7 σ))

theorem ev_loadQ (c : Fin 8) (hl : e.a9.view.LoadsAt (qBox c).toLoadRect) : Ev e (Prog.lift (.load e.a9 (qBox c).toLoadRect hl)) σ (σ.Q c) σ :=
  ev_load_of (View.setOn_subset_set _ _) (fun _ h => h c) (takeQ σ σ.Q)
theorem ev_loadA (c : Fin 8) (hl : e.a12.view.LoadsAt (qBox c).toLoadRect) : Ev e (Prog.lift (.load e.a12 (qBox c).toLoadRect hl)) σ (σ.A c) σ :=
  ev_load_of (View.setOn_subset_set _ _) (fun _ h => h c) (takeA σ σ.A)
theorem ev_loadT (hl : e.a13.view.LoadsAt tBox.toLoadRect) : Ev e (Prog.lift (.load e.a13 tBox.toLoadRect hl)) σ σ.T σ :=
  ev_load_of (View.setOn_subset_set _ _) (fun _ h => h) (takeT σ σ.T)
theorem ev_loadO (b : Fin 4) (hl : e.a8.view.LoadsAt (oBox b).toLoadRect) : Ev e (Prog.lift (.load e.a8 (oBox b).toLoadRect hl)) σ (σ.O b) σ :=
  ev_load_of (View.setOn_subset_set _ _) (fun _ h => h b) (takeO σ σ.O)

theorem set_sRef (m : Memref sig .tc .vmem S8x1024x256 .f32) (c : Fin 8) : (sRef m c).view.set ⊆ m.view.set := by
  have h := View.set_slice_subset m.view (Rect.unit (s := S8x1024x256) ![c.val, 0, 0] S1x1024x256.size (inb_s c))
  have h' : (sRef m c).view.set = (m.view.slice (Rect.unit (s := S8x1024x256) ![c.val, 0, 0] S1x1024x256.size (inb_s c))).set :=
    View.set_reshape _ _
  rw [h']; exact h
theorem set_mRef (m : Memref sig .tc .vmem S8x4x8x256 .f32) (c : Fin 8) : (mRef m c).view.set ⊆ m.view.set := by
  have h := View.set_slice_subset m.view (Rect.unit (s := S8x4x8x256) ![c.val, 0, 0, 0] S1x4x8x256.size (inb_mx c))
  have h' : (mRef m c).view.set = (m.view.slice (Rect.unit (s := S8x4x8x256) ![c.val, 0, 0, 0] S1x4x8x256.size (inb_mx c))).set :=
    View.set_reshape _ _
  rw [h']; exact h

theorem ev_loadS (c : Fin 8) (w : Fin 4) (hl : (sRef e.a10 c).view.LoadsAt (sBox w).toLoadRect) :
    Ev e (Prog.lift (.load (sRef e.a10 c) (sBox w).toLoadRect hl)) σ (σ.S c w) σ :=
  ev_load_of (m := sRef e.a10 c) (T := e.a10.view.set) (φ := fun f => ∀ c w, (sRef e.a10 c).view.readAt (Elt F) (sBox w).toLoadRect f = σ.S c w)
    ((View.setOn_subset_set _ _).trans (set_sRef _ _)) (fun _ h => h c w) (takeS σ σ.S)
theorem ev_loadX (c : Fin 8) (w : Fin 4) (hl : (mRef e.a11 c).view.LoadsAt (mBox w).toLoadRect) :
    Ev e (Prog.lift (.load (mRef e.a11 c) (mBox w).toLoadRect hl)) σ (σ.X c w) σ :=
  ev_load_of (m := mRef e.a11 c) (T := e.a11.view.set) (φ := fun f => ∀ c w, (mRef e.a11 c).view.readAt (Elt F) (mBox w).toLoadRect f = σ.X c w)
    ((View.setOn_subset_set _ _).trans (set_mRef _ _)) (fun _ h => h c w) (takeX σ σ.X)

/-! ## Stores -/

theorem ev_storeQ (c : Fin 8) (w : Vec F S1x128x256 .bf16) (hx : (e.a9.access (qBox c)).Stores Finset.univ) (hm) :
    Ev e (Prog.lift (.store e.a9 (qBox c) w Finset.univ hx hm)) σ ⟨⟩ { σ with Q := Function.update σ.Q c w } :=
  ev_store_of (View.set_slice_subset _ _) (fun f h d => by
    rcases eq_or_ne d c with rfl | hd
    · rw [Function.update_self]; exact View.read_write_univ (v := e.a9.access (qBox d)) f w
    · rw [Function.update_of_ne hd, ← h d]; exact read_write_boxes e.a9.view (qBox d) (qBox c) f w (disj_q hd)) (takeQ σ _)
theorem ev_storeA (c : Fin 8) (w : Vec F S1x128x256 .f32) (hx : (e.a12.access (qBox c)).Stores Finset.univ) (hm) :
    Ev e (Prog.lift (.store e.a12 (qBox c) w Finset.univ hx hm)) σ ⟨⟩ { σ with A := Function.update σ.A c w } :=
  ev_store_of (View.set_slice_subset _ _) (fun f h d => by
    rcases eq_or_ne d c with rfl | hd
    · rw [Function.update_self]; exact View.read_write_univ (v := e.a12.access (qBox d)) f w
    · rw [Function.update_of_ne hd, ← h d]; exact read_write_boxes e.a12.view (qBox d) (qBox c) f w (disj_q hd)) (takeA σ _)
theorem ev_storeO (c : Fin 4) (w : Vec F S1x256x128 .bf16) (hx : (e.a8.access (oBox c)).Stores Finset.univ) (hm) :
    Ev e (Prog.lift (.store e.a8 (oBox c) w Finset.univ hx hm)) σ ⟨⟩ { σ with O := Function.update σ.O c w } :=
  ev_store_of (View.set_slice_subset _ _) (fun f h d => by
    rcases eq_or_ne d c with rfl | hd
    · rw [Function.update_self]; exact View.read_write_univ (v := e.a8.access (oBox d)) f w
    · rw [Function.update_of_ne hd, ← h d]; exact read_write_boxes e.a8.view (oBox d) (oBox c) f w (disj_o hd)) (takeO σ _)
theorem ev_storeT (w : Vec F S256x256 .f32) (hx : (e.a13.access tBox).Stores Finset.univ) (hm) :
    Ev e (Prog.lift (.store e.a13 tBox w Finset.univ hx hm)) σ ⟨⟩ { σ with T := w } :=
  ev_store_of (View.set_slice_subset _ _) (fun f _ => View.read_write_univ (v := e.a13.access tBox) f w) (takeT σ _)

theorem ev_storeS (c : Fin 8) (w : Fin 4) (x : Vec F S256x256 .f32) (hx : ((sRef e.a10 c).access (sBox w)).Stores Finset.univ) (hm) :
    Ev e (Prog.lift (.store (sRef e.a10 c) (sBox w) x Finset.univ hx hm)) σ ⟨⟩ { σ with S := Function.update σ.S c (Function.update (σ.S c) w x) } :=
  ev_store_of (m := sRef e.a10 c) (T := e.a10.view.set)
    (φ := fun f => ∀ c w, (sRef e.a10 c).view.readAt (Elt F) (sBox w).toLoadRect f = σ.S c w)
    (φ' := fun f => ∀ d y, (sRef e.a10 d).view.readAt (Elt F) (sBox y).toLoadRect f = Function.update σ.S c (Function.update (σ.S c) w x) d y)
    ((View.set_slice_subset _ _).trans (set_sRef _ _)) (fun f h d y => by
    rcases eq_or_ne d c with rfl | hd
    · rw [Function.update_self]
      rcases eq_or_ne y w with rfl | hy
      · rw [Function.update_self]; exact View.read_write_univ (v := (sRef e.a10 d).access (sBox y)) f x
      · rw [Function.update_of_ne hy, ← h d y]; exact read_write_boxes (sRef e.a10 d).view (sBox y) (sBox w) f x (disj_sw hy)
    · rw [Function.update_of_ne hd, ← h d y]
      exact read_write_slices (Val := Elt F) (s₁ := S1024x256) (s₂ := S1024x256) e.a10.view (r := Rect.unit (s := S8x1024x256) ![d.val, 0, 0] S1x1024x256.size (inb_s d)) (r' := Rect.unit (s := S8x1024x256) ![c.val, 0, 0] S1x1024x256.size (inb_s c)) (Shape.Squeezes.numel_eq squeezes_S1x1024x256_S1024x256) (Shape.Squeezes.numel_eq squeezes_S1x1024x256_S1024x256) (sBox y) (sBox w) f x (disj_s hd)) (takeS σ _)
theorem ev_storeX (c : Fin 8) (w : Fin 4) (x : Vec F S1x8x256 .f32) (hx : ((mRef e.a11 c).access (mBox w)).Stores Finset.univ) (hm) :
    Ev e (Prog.lift (.store (mRef e.a11 c) (mBox w) x Finset.univ hx hm)) σ ⟨⟩ { σ with X := Function.update σ.X c (Function.update (σ.X c) w x) } :=
  ev_store_of (m := mRef e.a11 c) (T := e.a11.view.set)
    (φ := fun f => ∀ c w, (mRef e.a11 c).view.readAt (Elt F) (mBox w).toLoadRect f = σ.X c w)
    (φ' := fun f => ∀ d y, (mRef e.a11 d).view.readAt (Elt F) (mBox y).toLoadRect f = Function.update σ.X c (Function.update (σ.X c) w x) d y)
    ((View.set_slice_subset _ _).trans (set_mRef _ _)) (fun f h d y => by
    rcases eq_or_ne d c with rfl | hd
    · rw [Function.update_self]
      rcases eq_or_ne y w with rfl | hy
      · rw [Function.update_self]; exact View.read_write_univ (v := (mRef e.a11 d).access (mBox y)) f x
      · rw [Function.update_of_ne hy, ← h d y]; exact read_write_boxes (mRef e.a11 d).view (mBox y) (mBox w) f x (disj_mw hy)
    · rw [Function.update_of_ne hd, ← h d y]
      exact read_write_slices (Val := Elt F) (s₁ := S4x8x256) (s₂ := S4x8x256) e.a11.view (r := Rect.unit (s := S8x4x8x256) ![d.val, 0, 0, 0] S1x4x8x256.size (inb_mx d)) (r' := Rect.unit (s := S8x4x8x256) ![c.val, 0, 0, 0] S1x4x8x256.size (inb_mx c)) (Shape.Squeezes.numel_eq squeezes_S1x4x8x256_S4x8x256) (Shape.Squeezes.numel_eq squeezes_S1x4x8x256_S4x8x256) (mBox y) (mBox w) f x (disj_m hd)) (takeX σ _)

/-! ## The accumulators, whole -/

abbrev aBox : Rect S8x128x256 := Rect.unit (s := S8x128x256) ![0, 0, 0] S8x128x256.size inb_S8x128x256_S8x128x256_0_0_0

/-- A load of all the accumulators whose value nothing uses. -/
theorem ev_skipA {α : Type} (hl : e.a12.view.LoadsAt aBox.toLoadRect) {p : ℙ α} {x : α} {σ σ' : St F} (h : Ev e p σ x σ') :
    Ev e (Prog.lift (.load e.a12 aBox.toLoadRect hl) >>= fun _ => p) σ x σ' := fun Φ hΦ => by
  have h' := h Φ hΦ
  refine (takeA σ σ.A).trans ?_
  unfold hasA Prog.lift
  simp only [Prog.bind_op, Prog.bind_ret]
  iintro ⟨⟨%f, %hf, Hm⟩, Hk⟩
  iapply (wp_load Variants.none (t : Thread nD τ) none Set.univ (m := e.a12) (View.setOn_subset_set _ _)) $$ Hm
  iintro Hm
  ihave H := Hk $$ [Hm]
  · iexists f; isplitr; · ipureintro; exact hf
    iexact Hm
  iapply h'; iexact H

theorem ev_storeAll (w : Vec F S8x128x256 .f32) (hx : (e.a12.access aBox).Stores Finset.univ) (hm) :
    Ev e (Prog.lift (.store e.a12 aBox w Finset.univ hx hm)) σ ⟨⟩ { σ with A := fun c => View.ld w (qBox c) } :=
  ev_store_of (View.set_slice_subset _ _) (fun f _ c => funext fun x => by
    have hy : aBox.emb ((qBox c).emb x) = (qBox c).emb x := funext fun a => Fin.ext (by
      rw [Rect.emb_apply]; fin_cases a <;> simp [Rect.unit])
    have := View.read_slice_write_emb (v := e.a12.view) aBox f w (M := Finset.univ) (Finset.mem_univ ((qBox c).emb x))
    rw [hy] at this
    exact this) (takeA σ _)

end Cert.KernelIdeal.Flash

end
-- ==== Proof.Stages.lean ====
/-
  The stages' effect on the blocks: what each leaves, as a function of what it finds.
-/
module

public import proofs.«01_k».proof.Proof.Ops

@[expose] public section

noncomputable section

namespace Cert.KernelIdeal.Flash

open Idealize.ShloMosaic Idealize.ShloMosaic.TcCoe Idealize.ShloMosaic.Tactic
open Idealize.SL Idealize.SL.Sem
open Cert.KernelIdeal Facts₀ Facts

variable {F : FTy → Type} [FloatOps F] [Named F] [Facts]

local notation "ℙ" => Prog (TpuEff nD τ sig (Elt F) Λ₀ Proc.tc)

variable {t : Dev nD} {e : Env F t} (σ : St F)

/-! ## Scores -/

/-- The granules `ws` of chain `c` at the scores `s`. -/
def St.scored (c : Fin 8) (s : Fin 4 → FVec F S256x256 .f32) (ws : List (Fin 4)) : St F :=
  { σ with
    S := Function.update σ.S c fun w => if w ∈ ws then sPay (s w) else σ.S c w
    X := Function.update σ.X c fun w => if w ∈ ws then mPay (s w) else σ.X c w }

theorem scored_nil (c : Fin 8) (s : Fin 4 → FVec F S256x256 .f32) : σ.scored c s [] = σ := by
  simp [St.scored]

theorem scored_cons (c : Fin 8) (s : Fin 4 → FVec F S256x256 .f32) (ws vs : List (Fin 4)) :
    (σ.scored c s ws).scored c s vs = σ.scored c s (ws ++ vs) := by
  simp only [St.scored, Function.update_idem, Function.update_self, List.mem_append]
  refine congrArg₂ (fun S X => ({ σ with S := S, X := X } : St F)) (congrArg _ (funext fun w => ?_)) (congrArg _ (funext fun w => ?_)) <;>
    by_cases h : w ∈ ws <;> by_cases h' : w ∈ vs <;> simp [h, h']

theorem ev_put (c : Fin 8) (s : Fin 4 → FVec F S256x256 .f32) (w : Fin 4) :
    Ev e (put e.a10 e.a11 c w (s w)) σ ⟨⟩ (σ.scored c s [w]) := by
  have hσ : σ.scored c s [w] = { σ with
      S := Function.update σ.S c (Function.update (σ.S c) w (sPay (s w)))
      X := Function.update σ.X c (Function.update (σ.X c) w (mPay (s w))) } := by
    simp only [St.scored, List.mem_singleton]
    refine congrArg₂ (fun S X => ({ σ with S := S, X := X } : St F)) (congrArg _ (funext fun x => ?_)) (congrArg _ (funext fun x => ?_)) <;>
      by_cases hx : x = w
    · subst hx; simp
    · simp [hx]
    · subst hx; simp
    · simp [hx]
  rw [hσ]
  refine Ev.bind (ev_loadS σ c w _) ?_
  refine Ev.bind (ev_storeS σ c w (sPay (s w)) _ _) ?_
  refine Ev.bind (ev_loadX _ c w _) ?_
  exact ev_storeX _ c w (mPay (s w)) _ _

theorem ev_granule (c : Fin 8) (o : KOff) (q : Vec F S1x128x256 .bf16) (s : Fin 4 → FVec F S256x256 .f32) (w : Fin 4)
    (hs : s w = scores (e.blk.kb o w) q) : Ev e (granule e.a6 e.a10 e.a11 c o q w) σ ⟨⟩ (σ.scored c s [w]) :=
  Ev.bind (ev_load6 σ _ _) (by have h := ev_put (e := e) σ c s w; rw [hs] at h; exact h)

theorem ev_granuleTri (c : Fin 8) (o : KOff) (q : Vec F S1x128x256 .bf16) (s : Fin 4 → FVec F S256x256 .f32) (w : Fin 4)
    (hs : s w = addf (scores (e.blk.kb o w) q) (σ.T : FVec F S256x256 .f32)) :
    Ev e (granuleTri e.a6 e.a10 e.a11 e.a13 c o q w) σ ⟨⟩ (σ.scored c s [w]) :=
  Ev.bind (ev_load6 σ _ _) (Ev.bind (ev_loadT σ _) (by have h := ev_put (e := e) σ c s w; rw [hs] at h; exact h))

theorem ev_granules (c : Fin 8) (o : KOff) (q : Vec F S1x128x256 .bf16) (s : Fin 4 → FVec F S256x256 .f32) :
    ∀ (ws : List (Fin 4)) (σ : St F), (∀ w ∈ ws, s w = scores (e.blk.kb o w) q) →
      Ev e (granules e.a6 e.a10 e.a11 c o q ws) σ ⟨⟩ (σ.scored c s ws)
  | [], σ, _ => by rw [scored_nil]; exact Ev.pure _ _
  | w :: ws, σ, h => by
    have h1 := ev_granule (e := e) σ c o q s w (h w (by simp))
    have h2 := ev_granules c o q s ws (σ.scored c s [w]) fun x hx => h x (by simp [hx])
    rw [scored_cons] at h2
    exact Ev.bind h1 h2

/-- The scores of a chunk of keys against chain `c`'s queries. -/
def full (k : Blk F) (o : KOff) (q : Vec F S1x128x256 .bf16) (w : Fin 4) : FVec F S256x256 .f32 := scores (k.kb o w) q
/-- The same with granule `d` under the causal bias. -/
def edge (k : Blk F) (o : KOff) (q : Vec F S1x128x256 .bf16) (d w : Fin 4) : FVec F S256x256 .f32 :=
  if w = d then addf (scores (k.kb o w) q) tri else scores (k.kb o w) q

theorem ev_scoreFull (c : Fin 8) (o : KOff) :
    Ev e (scoreFull e.a6 e.a9 e.a10 e.a11 c o) σ ⟨⟩ (σ.scored c (full e.blk o (σ.Q c)) [0, 1, 2, 3]) :=
  Ev.bind (ev_loadQ σ c _) (ev_granules c o _ _ _ σ fun _ _ => rfl)

theorem ev_scoreDiag (c : Fin 8) (o : KOff) (ws : List (Fin 4)) (d : Fin 4) (hT : σ.T = tri) (hd : d ∉ ws) :
    Ev e (scoreDiag e.a6 e.a9 e.a10 e.a11 e.a13 c o ws d) σ ⟨⟩ (σ.scored c (edge e.blk o (σ.Q c) d) (ws ++ [d])) := by
  refine Ev.bind (ev_loadQ σ c _) (Ev.bind (ev_granules c o _ (edge e.blk o (σ.Q c) d) ws σ fun w hw => ?_) ?_)
  · exact if_neg (show ¬ w = d from fun h => hd (h ▸ hw))
  · rw [← scored_cons]
    refine ev_granuleTri _ c o _ _ d ?_
    simp only [edge, if_true]
    congr 1
    exact hT.symm

@[simp] theorem scored_Q (c : Fin 8) (s : Fin 4 → FVec F S256x256 .f32) (ws : List (Fin 4)) : (σ.scored c s ws).Q = σ.Q := rfl
@[simp] theorem scored_T (c : Fin 8) (s : Fin 4 → FVec F S256x256 .f32) (ws : List (Fin 4)) : (σ.scored c s ws).T = σ.T := rfl
@[simp] theorem scored_A (c : Fin 8) (s : Fin 4 → FVec F S256x256 .f32) (ws : List (Fin 4)) : (σ.scored c s ws).A = σ.A := rfl
@[simp] theorem scored_S (c d : Fin 8) (s : Fin 4 → FVec F S256x256 .f32) (ws : List (Fin 4)) (w : Fin 4) :
    (σ.scored c s ws).S d w = if d = c then if w ∈ ws then sPay (s w) else σ.S c w else σ.S d w := by
  by_cases h : d = c
  · subst h; simp [St.scored]
  · simp [St.scored, h]
@[simp] theorem scored_X (c d : Fin 8) (s : Fin 4 → FVec F S256x256 .f32) (ws : List (Fin 4)) (w : Fin 4) :
    (σ.scored c s ws).X d w = if d = c then if w ∈ ws then mPay (s w) else σ.X c w else σ.X d w := by
  by_cases h : d = c
  · subst h; simp [St.scored]
  · simp [St.scored, h]

/-! ## The softmax -/

/-- Chain `c`'s accumulator at `a`. -/
def St.summed (c : Fin 8) (a : Vec F S1x128x256 .f32) : St F := { σ with A := Function.update σ.A c a }

@[simp] theorem summed_Q (c : Fin 8) (a : Vec F S1x128x256 .f32) : (σ.summed c a).Q = σ.Q := rfl
@[simp] theorem summed_T (c : Fin 8) (a : Vec F S1x128x256 .f32) : (σ.summed c a).T = σ.T := rfl
@[simp] theorem summed_S (c : Fin 8) (a : Vec F S1x128x256 .f32) : (σ.summed c a).S = σ.S := rfl
@[simp] theorem summed_X (c : Fin 8) (a : Vec F S1x128x256 .f32) : (σ.summed c a).X = σ.X := rfl
@[simp] theorem summed_A (c d : Fin 8) (a : Vec F S1x128x256 .f32) : (σ.summed c a).A d = if d = c then a else σ.A d := by
  by_cases h : d = c
  · subst h; simp [St.summed]
  · simp [St.summed, h]

/-- One chain's running maximum, sum and weighted sum. -/
structure Run (F : FTy → Type) [FloatOps F] where
  m : FVec F S1x256 .f32
  l : FVec F S1x256 .f32
  acc : Vec F S1x128x256 .f32

/-- The maxima over the granules `0 :: ws`. -/
def seen (s : Fin 4 → FVec F S256x256 .f32) (ws : List (Fin 4)) : FVec F S8x256 .f32 :=
  ws.foldl (fun x w => max2 x (mPay (s w))) (shapeCast S8x256 (mPay (s 0) : Vec F S1x8x256 .f32) shapeCasts_S1x8x256_S8x256)

/-- The weights' sums and weighted sums over the granules `0 :: ws`. -/
def summed (s : Fin 4 → FVec F S256x256 .f32) (v : Fin 4 → Vec F S1x1x128x256 .bf16) (sh : FVec F S1x256 .f32) (ws : List (Fin 4)) :
    FVec F S8x256 .f32 × FVec F S128x256 .f32 :=
  ws.foldl (fun p w => (addf p.1 (grpSum (weights (sPay (s w)) sh)), addf p.2 (pv (v w) (weights (sPay (s w)) sh))))
    (grpSum (weights (sPay (s 0)) sh), pv (v 0) (weights (sPay (s 0)) sh))

/-- The chain after the granules `0 :: ws`. -/
def step (s : Fin 4 → FVec F S256x256 .f32) (v : Fin 4 → Vec F S1x1x128x256 .bf16) (ws : List (Fin 4)) (x : Run F) : Run F where
  m := mNew x.m (seen s ws)
  l := lNew (alpha x.m (mNew x.m (seen s ws))) x.l (summed s v (shift (mNew x.m (seen s ws)) (seen s ws)) ws).1
  acc := accPay (alpha x.m (mNew x.m (seen s ws))) x.acc (summed s v (shift (mNew x.m (seen s ws)) (seen s ws)) ws).2

theorem ev_maxes (c : Fin 8) (s : Fin 4 → FVec F S256x256 .f32) :
    ∀ (ws : List (Fin 4)) (x y : FVec F S8x256 .f32), (∀ w ∈ ws, σ.X c w = mPay (s w)) →
      Ev e (maxes e.a11 c ws x y) σ (ws.foldl (fun x w => max2 x (mPay (s w))) x, ws.foldl (fun x w => max2 x (mPay (s w))) y) σ
  | [], _, _, _ => Ev.pure _ _
  | w :: ws, x, y, h => by
    have hw := h w (by simp)
    refine Ev.bind (ev_loadX σ c w _) (Ev.bind (ev_loadX σ c w _) ?_)
    rw [hw]
    exact ev_maxes c s ws _ _ fun z hz => h z (by simp [hz])

theorem ev_sums (c : Fin 8) (o : VOff) (sh : FVec F S1x256 .f32) (s : Fin 4 → FVec F S256x256 .f32) :
    ∀ (ws : List (Fin 4)) (x : FVec F S8x256 .f32) (y : FVec F S128x256 .f32), (∀ w ∈ ws, σ.S c w = sPay (s w)) →
      Ev e (sums e.a7 e.a10 c o sh ws x y) σ
        (ws.foldl (fun p w => (addf p.1 (grpSum (weights (sPay (s w)) sh)), addf p.2 (pv (e.blk.vb o w) (weights (sPay (s w)) sh)))) (x, y)) σ
  | [], _, _, _ => Ev.pure _ _
  | w :: ws, x, y, h => by
    have hw := h w (by simp)
    refine Ev.bind (ev_loadS σ c w _) (Ev.bind (ev_load7 σ _ _) ?_)
    rw [hw]
    exact ev_sums c o sh s ws _ _ fun z hz => h z (by simp [hz])

theorem ev_softmax (c : Fin 8) (o : VOff) (ws : List (Fin 4)) (s : Fin 4 → FVec F S256x256 .f32) (x : Run F)
    (hS : ∀ w ∈ 0 :: ws, σ.S c w = sPay (s w)) (hX : ∀ w ∈ 0 :: ws, σ.X c w = mPay (s w)) (hA : σ.A c = x.acc) :
    Ev e (softmax e.a7 e.a10 e.a11 e.a12 c o ws x.m x.l) σ ((step s (e.blk.vb o) ws x).m, (step s (e.blk.vb o) ws x).l)
      (σ.summed c (step s (e.blk.vb o) ws x).acc) := by
  refine Ev.bind (ev_loadX σ c 0 _) ?_
  rw [hX 0 (by simp)]
  refine Ev.bind (ev_maxes σ c s ws _ _ fun z hz => hX z (by simp [hz])) ?_
  refine Ev.bind (ev_loadS σ c 0 _) ?_
  rw [hS 0 (by simp)]
  refine Ev.bind (ev_load7 σ _ _) ?_
  refine Ev.bind (ev_sums σ c o _ s ws _ _ fun z hz => hS z (by simp [hz])) ?_
  refine Ev.bind (ev_loadA σ c _) (Ev.bind (ev_loadA σ c _) ?_)
  rw [hA]
  exact Ev.bind (ev_storeA σ c _ _ _) (Ev.pure _ _)

/-! ## Before and after the chunks -/

theorem ev_startQ (b : Fin 4) (c d : Fin 8) :
    Ev e (startQ e.a5 e.a9 e.h9 b c d) σ ⟨⟩ { σ with Q := Function.update (Function.update σ.Q c (qLow (e.blk.qb b))) d (qHigh (e.blk.qb b)) } :=
  Ev.bind (ev_load5 σ _ _) (Ev.bind (ev_loadQ σ c _) (Ev.bind (ev_storeQ σ c _ _ _)
    (Ev.bind (ev_loadQ _ d _) (ev_storeQ _ d _ _ _))))

/-- The queries of the chains. -/
def queries (k : Blk F) (c : Fin 8) : Vec F S1x128x256 .bf16 :=
  if c.val % 2 = 0 then qLow (k.qb ⟨c.val / 2, by omega⟩) else qHigh (k.qb ⟨c.val / 2, by omega⟩)

theorem ev_start : Ev e (start e.a5 e.a9 e.a12 e.a13 e.h9) σ ⟨⟩ { σ with Q := queries e.blk, T := tri, A := fun c => View.ld accZero (qBox c) } := by
  have hq : queries e.blk = Function.update (Function.update (Function.update (Function.update (Function.update (Function.update
      (Function.update (Function.update σ.Q 0 (qLow (e.blk.qb 0))) 1 (qHigh (e.blk.qb 0))) 2 (qLow (e.blk.qb 1))) 3 (qHigh (e.blk.qb 1)))
      4 (qLow (e.blk.qb 2))) 5 (qHigh (e.blk.qb 2))) 6 (qLow (e.blk.qb 3))) 7 (qHigh (e.blk.qb 3)) := by
    funext c; fin_cases c <;> simp [queries, Function.update] <;> rfl
  rw [hq]
  exact Ev.bind (ev_loadT σ _) (Ev.bind (ev_storeT σ _ _ _) (Ev.bind (ev_startQ _ 0 0 1) (Ev.bind (ev_startQ _ 1 2 3)
    (Ev.bind (ev_startQ _ 2 4 5) (Ev.bind (ev_startQ _ 3 6 7) (ev_skipA _ (ev_storeAll _ _ _ _)))))))

theorem ev_finishQ (lm : FVec F S1x1 .f32) (b : Fin 4) (c d : Fin 8) (l k : FVec F S1x256 .f32) :
    Ev e (finishQ e.a4 e.a8 e.a12 e.h8 lm b c d l k) σ ⟨⟩
      { σ with O := Function.update σ.O b (oPay lm (σ.A c) l (σ.A d) k e.blk.gain) } :=
  Ev.bind (ev_loadA σ c _) (Ev.bind (ev_loadA σ d _) (Ev.bind (ev_load4 σ _ _) (Ev.bind (ev_loadO σ b _) (ev_storeO σ b _ _ _))))

/-- The eight chains' maxima and sums, as a trip carries them. -/
def carry (r : Fin 8 → Run F) : Carry F :=
  ((r 0).m, (r 0).l, (r 1).m, (r 1).l, (r 2).m, (r 2).l, (r 3).m, (r 3).l, (r 4).m, (r 4).l, (r 5).m, (r 5).l, (r 6).m, (r 6).l, (r 7).m, (r 7).l)

/-- A block of the result, from its two chains. -/
def outBlock (k : Blk F) (r : Fin 8 → Run F) (b : Fin 4) : Vec F S1x256x128 .bf16 :=
  oPay (lam k.lams) (r ⟨2 * b.val, by omega⟩).acc (r ⟨2 * b.val, by omega⟩).l (r ⟨2 * b.val + 1, by omega⟩).acc (r ⟨2 * b.val + 1, by omega⟩).l k.gain

theorem ev_finish (r : Fin 8 → Run F) (hA : ∀ c, σ.A c = (r c).acc) :
    Ev e (finish e.a3 e.a4 e.a8 e.a12 e.h8 (carry r)) σ ⟨⟩ { σ with O := outBlock e.blk r } := by
  have ho : outBlock e.blk r = Function.update (Function.update (Function.update (Function.update σ.O
      0 (oPay (lam e.blk.lams) (σ.A 0) (r 0).l (σ.A 1) (r 1).l e.blk.gain)) 1 (oPay (lam e.blk.lams) (σ.A 2) (r 2).l (σ.A 3) (r 3).l e.blk.gain))
      2 (oPay (lam e.blk.lams) (σ.A 4) (r 4).l (σ.A 5) (r 5).l e.blk.gain)) 3 (oPay (lam e.blk.lams) (σ.A 6) (r 6).l (σ.A 7) (r 7).l e.blk.gain) := by
    simp only [hA]
    funext b; fin_cases b <;> rfl
  rw [ho]
  exact Ev.bind (ev_load3 σ _ _) (Ev.bind (ev_finishQ _ _ 0 0 1 _ _) (Ev.bind (ev_finishQ _ _ 1 2 3 _ _)
    (Ev.bind (ev_finishQ _ _ 2 4 5 _ _) (ev_finishQ _ _ 3 6 7 _ _))))

/-! ## A chunk -/

theorem forall_w {p : Fin 4 → Prop} (h0 : p 0) (h1 : p 1) (h2 : p 2) (h3 : p 3) : ∀ w, p w := by
  intro w; fin_cases w <;> assumption

theorem ev_chunk (o on : KOff) (ov : VOff) (r : Fin 8 → Run F) (hA : ∀ c, σ.A c = (r c).acc)
    (h0 : ∀ w, σ.S 0 w = sPay (full e.blk o (σ.Q 0) w) ∧ σ.X 0 w = mPay (full e.blk o (σ.Q 0) w)) :
    ∃ σ', Ev e (chunk e.a6 e.a7 e.a9 e.a10 e.a11 e.a12 o on ov (carry r)) σ
        (carry fun c => step (full e.blk o (σ.Q c)) (e.blk.vb ov) [1, 2, 3] (r c)) σ'
      ∧ σ'.Q = σ.Q ∧ σ'.T = σ.T ∧ (∀ c, σ'.A c = (step (full e.blk o (σ.Q c)) (e.blk.vb ov) [1, 2, 3] (r c)).acc)
      ∧ ∀ w, σ'.S 0 w = sPay (full e.blk on (σ.Q 0) w) ∧ σ'.X 0 w = mPay (full e.blk on (σ.Q 0) w) := by
  have E : ∃ σ', σ' = ((((((((((((((((σ.scored 1 (full e.blk o (σ.Q 1)) [0, 1, 2, 3]).summed 0 (step (full e.blk o (σ.Q 0)) (e.blk.vb ov) [1, 2, 3] (r 0)).acc)
      |>.scored 2 (full e.blk o (σ.Q 2)) [0, 1, 2, 3]).summed 1 (step (full e.blk o (σ.Q 1)) (e.blk.vb ov) [1, 2, 3] (r 1)).acc)
      |>.scored 3 (full e.blk o (σ.Q 3)) [0, 1, 2, 3]).summed 2 (step (full e.blk o (σ.Q 2)) (e.blk.vb ov) [1, 2, 3] (r 2)).acc)
      |>.scored 4 (full e.blk o (σ.Q 4)) [0, 1, 2, 3]).summed 3 (step (full e.blk o (σ.Q 3)) (e.blk.vb ov) [1, 2, 3] (r 3)).acc)
      |>.scored 5 (full e.blk o (σ.Q 5)) [0, 1, 2, 3]).summed 4 (step (full e.blk o (σ.Q 4)) (e.blk.vb ov) [1, 2, 3] (r 4)).acc)
      |>.scored 6 (full e.blk o (σ.Q 6)) [0, 1, 2, 3]).summed 5 (step (full e.blk o (σ.Q 5)) (e.blk.vb ov) [1, 2, 3] (r 5)).acc)
      |>.scored 7 (full e.blk o (σ.Q 7)) [0, 1, 2, 3]).summed 6 (step (full e.blk o (σ.Q 6)) (e.blk.vb ov) [1, 2, 3] (r 6)).acc)
      |>.scored 0 (full e.blk on (σ.Q 0)) [0, 1, 2, 3]).summed 7 (step (full e.blk o (σ.Q 7)) (e.blk.vb ov) [1, 2, 3] (r 7)).acc) := ⟨_, rfl⟩
  obtain ⟨σ', hσ⟩ := E
  refine ⟨σ', ?_, by simp [hσ], by simp [hσ], ?_, ?_⟩
  · rw [hσ]
    refine Ev.bind (ev_scoreFull σ 1 o) ?_
    refine Ev.bind (ev_softmax _ 0 ov [1, 2, 3] (full e.blk o (σ.Q 0)) (r 0)
      (by simp [fun w => (h0 w).1]) (by simp [fun w => (h0 w).2]) (by simp [hA])) ?_
    refine Ev.bind (ev_scoreFull _ 2 o) ?_
    refine Ev.bind (ev_softmax _ 1 ov [1, 2, 3] (full e.blk o (σ.Q 1)) (r 1) (by simp) (by simp) (by simp [hA])) ?_
    refine Ev.bind (ev_scoreFull _ 3 o) ?_
    refine Ev.bind (ev_softmax _ 2 ov [1, 2, 3] (full e.blk o (σ.Q 2)) (r 2) (by simp) (by simp) (by simp [hA])) ?_
    refine Ev.bind (ev_scoreFull _ 4 o) ?_
    refine Ev.bind (ev_softmax _ 3 ov [1, 2, 3] (full e.blk o (σ.Q 3)) (r 3) (by simp) (by simp) (by simp [hA])) ?_
    refine Ev.bind (ev_scoreFull _ 5 o) ?_
    refine Ev.bind (ev_softmax _ 4 ov [1, 2, 3] (full e.blk o (σ.Q 4)) (r 4) (by simp) (by simp) (by simp [hA])) ?_
    refine Ev.bind (ev_scoreFull _ 6 o) ?_
    refine Ev.bind (ev_softmax _ 5 ov [1, 2, 3] (full e.blk o (σ.Q 5)) (r 5) (by simp) (by simp) (by simp [hA])) ?_
    refine Ev.bind (ev_scoreFull _ 7 o) ?_
    refine Ev.bind (ev_softmax _ 6 ov [1, 2, 3] (full e.blk o (σ.Q 6)) (r 6) (by simp) (by simp) (by simp [hA])) ?_
    refine Ev.bind (ev_scoreFull _ 0 on) ?_
    refine Ev.bind (ev_softmax _ 7 ov [1, 2, 3] (full e.blk o (σ.Q 7)) (r 7) (by simp) (by simp) (by simp [hA])) ?_
    exact Ev.pure _ _
  · intro c
    subst hσ
    fin_cases c <;> simp
  · subst hσ
    exact forall_w (by simp) (by simp) (by simp) (by simp)

/-- The granules chain `c` sees on the diagonal, but the first. -/
def below (c : Fin 8) : List (Fin 4) := [[], [], [1], [1], [1, 2], [1, 2], [1, 2, 3], [1, 2, 3]].get c
/-- The query block of chain `c`. -/
def blockOf (c : Fin 8) : Fin 4 := ⟨c.val / 2, by omega⟩

theorem ev_diag (o : KOff) (ov : VOff) (r : Fin 8 → Run F) (hA : ∀ c, σ.A c = (r c).acc) (hT : σ.T = tri) :
    ∃ σ', Ev e (diag e.a6 e.a7 e.a9 e.a10 e.a11 e.a12 e.a13 o ov (carry r)) σ
        (carry fun c => step (edge e.blk o (σ.Q c) (blockOf c)) (e.blk.vb ov) (below c) (r c)) σ'
      ∧ ∀ c, σ'.A c = (step (edge e.blk o (σ.Q c) (blockOf c)) (e.blk.vb ov) (below c) (r c)).acc := by
  have E : ∃ σ', σ' = ((((((((((((((((σ.scored 0 (edge e.blk o (σ.Q 0) 0) ([] ++ [0])).scored 1 (edge e.blk o (σ.Q 1) 0) ([] ++ [0])).summed 0 (step (edge e.blk o (σ.Q 0) 0) (e.blk.vb ov) [] (r 0)).acc)
      |>.scored 2 (edge e.blk o (σ.Q 2) 1) ([0] ++ [1])).summed 1 (step (edge e.blk o (σ.Q 1) 0) (e.blk.vb ov) [] (r 1)).acc)
      |>.scored 3 (edge e.blk o (σ.Q 3) 1) ([0] ++ [1])).summed 2 (step (edge e.blk o (σ.Q 2) 1) (e.blk.vb ov) [1] (r 2)).acc)
      |>.scored 4 (edge e.blk o (σ.Q 4) 2) ([0, 1] ++ [2])).summed 3 (step (edge e.blk o (σ.Q 3) 1) (e.blk.vb ov) [1] (r 3)).acc)
      |>.scored 5 (edge e.blk o (σ.Q 5) 2) ([0, 1] ++ [2])).summed 4 (step (edge e.blk o (σ.Q 4) 2) (e.blk.vb ov) [1, 2] (r 4)).acc)
      |>.scored 6 (edge e.blk o (σ.Q 6) 3) ([0, 1, 2] ++ [3])).summed 5 (step (edge e.blk o (σ.Q 5) 2) (e.blk.vb ov) [1, 2] (r 5)).acc)
      |>.scored 7 (edge e.blk o (σ.Q 7) 3) ([0, 1, 2] ++ [3])).summed 6 (step (edge e.blk o (σ.Q 6) 3) (e.blk.vb ov) [1, 2, 3] (r 6)).acc)
      |>.summed 7 (step (edge e.blk o (σ.Q 7) 3) (e.blk.vb ov) [1, 2, 3] (r 7)).acc) := ⟨_, rfl⟩
  obtain ⟨σ', hσ⟩ := E
  refine ⟨σ', ?_, ?_⟩
  · rw [hσ]
    refine Ev.bind (ev_scoreDiag σ 0 o [] 0 hT (by simp)) ?_
    refine Ev.bind (ev_scoreDiag _ 1 o [] 0 (by simpa using hT) (by simp)) ?_
    refine Ev.bind (ev_softmax _ 0 ov [] (edge e.blk o (σ.Q 0) 0) (r 0) (by simp) (by simp) (by simp [hA])) ?_
    refine Ev.bind (ev_scoreDiag _ 2 o [0] 1 (by simpa using hT) (by simp)) ?_
    refine Ev.bind (ev_softmax _ 1 ov [] (edge e.blk o (σ.Q 1) 0) (r 1) (by simp) (by simp) (by simp [hA])) ?_
    refine Ev.bind (ev_scoreDiag _ 3 o [0] 1 (by simpa using hT) (by simp)) ?_
    refine Ev.bind (ev_softmax _ 2 ov [1] (edge e.blk o (σ.Q 2) 1) (r 2) (by simp) (by simp) (by simp [hA])) ?_
    refine Ev.bind (ev_scoreDiag _ 4 o [0, 1] 2 (by simpa using hT) (by simp)) ?_
    refine Ev.bind (ev_softmax _ 3 ov [1] (edge e.blk o (σ.Q 3) 1) (r 3) (by simp) (by simp) (by simp [hA])) ?_
    refine Ev.bind (ev_scoreDiag _ 5 o [0, 1] 2 (by simpa using hT) (by simp)) ?_
    refine Ev.bind (ev_softmax _ 4 ov [1, 2] (edge e.blk o (σ.Q 4) 2) (r 4) (by simp) (by simp) (by simp [hA])) ?_
    refine Ev.bind (ev_scoreDiag _ 6 o [0, 1, 2] 3 (by simpa using hT) (by simp)) ?_
    refine Ev.bind (ev_softmax _ 5 ov [1, 2] (edge e.blk o (σ.Q 5) 2) (r 5) (by simp) (by simp) (by simp [hA])) ?_
    refine Ev.bind (ev_scoreDiag _ 7 o [0, 1, 2] 3 (by simpa using hT) (by simp)) ?_
    refine Ev.bind (ev_softmax _ 6 ov [1, 2, 3] (edge e.blk o (σ.Q 6) 3) (r 6) (by simp) (by simp) (by simp [hA])) ?_
    refine Ev.bind (ev_softmax _ 7 ov [1, 2, 3] (edge e.blk o (σ.Q 7) 3) (r 7) (by simp) (by simp) (by simp [hA])) ?_
    exact Ev.pure _ _
  · intro c
    subst hσ
    fin_cases c <;> simp <;> rfl

end Cert.KernelIdeal.Flash

end
-- ==== Proof.CleanEq.lean ====
/-
  The printed body is the composition of stages.
-/
module

public import proofs.«01_k».proof.Proof.Clean
public import Idealize.ShloMosaic.Lib.Pipeline.Regions

@[expose] public section

set_option maxRecDepth 100000

noncomputable section

namespace Cert.KernelIdeal.Flash

open Idealize.ShloMosaic Idealize.SL.Sem Cert.KernelIdeal Facts₀ Facts

variable {F : FTy → Type} [FloatOps F] [Named F] [Facts]

theorem stores_q {m : Memref sig .tc .vmem S8x128x256 .bf16} (h : m.IsWhole) (c : Fin 8) : (m.access (qBox c)).Stores Finset.univ := by
  fin_cases c
  · exact View.stores_vmem h_S1x128x256 (h.storeExact_slice rfl _ packedbf16_S8x128x256_S1x128x256_0_0_0) (fun _ => rfl)
  · exact View.stores_vmem h_S1x128x256 (h.storeExact_slice rfl _ packedbf16_S8x128x256_S1x128x256_1_0_0) (fun _ => rfl)
  · exact View.stores_vmem h_S1x128x256 (h.storeExact_slice rfl _ packedbf16_S8x128x256_S1x128x256_2_0_0) (fun _ => rfl)
  · exact View.stores_vmem h_S1x128x256 (h.storeExact_slice rfl _ packedbf16_S8x128x256_S1x128x256_3_0_0) (fun _ => rfl)
  · exact View.stores_vmem h_S1x128x256 (h.storeExact_slice rfl _ packedbf16_S8x128x256_S1x128x256_4_0_0) (fun _ => rfl)
  · exact View.stores_vmem h_S1x128x256 (h.storeExact_slice rfl _ packedbf16_S8x128x256_S1x128x256_5_0_0) (fun _ => rfl)
  · exact View.stores_vmem h_S1x128x256 (h.storeExact_slice rfl _ packedbf16_S8x128x256_S1x128x256_6_0_0) (fun _ => rfl)
  · exact View.stores_vmem h_S1x128x256 (h.storeExact_slice rfl _ packedbf16_S8x128x256_S1x128x256_7_0_0) (fun _ => rfl)

theorem stores_o {m : Memref sig .tc .vmem S1x1024x128 .bf16} (h : m.IsWhole) (b : Fin 4) :
    (m.access (Rect.unit (s := S1x1024x128) ![0, 256 * b.val, 0] S1x256x128.size (inb_o b))).Stores Finset.univ := by
  fin_cases b
  · exact View.stores_vmem h_S1x256x128 (h.storeExact_slice rfl _ packedbf16_S1x1024x128_S1x256x128_0_0_0) (fun _ => rfl)
  · exact View.stores_vmem h_S1x256x128 (h.storeExact_slice rfl _ packedbf16_S1x1024x128_S1x256x128_0_256_0) (fun _ => rfl)
  · exact View.stores_vmem h_S1x256x128 (h.storeExact_slice rfl _ packedbf16_S1x1024x128_S1x256x128_0_512_0) (fun _ => rfl)
  · exact View.stores_vmem h_S1x256x128 (h.storeExact_slice rfl _ packedbf16_S1x1024x128_S1x256x128_0_768_0) (fun _ => rfl)

local notation "ℙ" => Prog (TpuEff nD τ sig (Elt F) Λ₀ Proc.tc)

/-- What the printed body hands on after its loops. -/
abbrev Mid (F : FTy → Type) [FloatOps F] : Type :=
  Σ' (_ : FVec F S1x256 .f32) (_ : FVec F S1x256 .f32) (_ : FVec F S1x256 .f32) (_ : FVec F S1x256 .f32) (_ : FVec F S1x256 .f32) (_ : FVec F S1x256 .f32) (_ : FVec F S1x256 .f32) (_ : FVec F S1x256 .f32) (_ : FVec F S1x256 .f32) (_ : FVec F S1x256 .f32) (_ : FVec F S1x256 .f32) (_ : FVec F S1x256 .f32) (_ : FVec F S1x256 .f32) (_ : FVec F S1x256 .f32) (_ : FVec F S1x256 .f32) (_ : FVec F S1x256 .f32) (_ : BitVec 32) (_ : FVec F S128x256 .bf16), BitVec 32

/-- The first load after the loops, and what is handed on. -/
def handOn (i : grid0.Coords) (arg9 : Memref sig .tc .vmem S8x128x256 .bf16) (y : Carry F) : ℙ (Mid F) := do
  let q : Vec F S1x128x256 .bf16 ← Prog.lift (.load arg9 (qBox 0).toLoadRect (View.loadsAt_vmem h_S1x128x256))
  pure ⟨y.1, y.2.1, y.2.2.1, y.2.2.2.1, y.2.2.2.2.1, y.2.2.2.2.2.1, y.2.2.2.2.2.2.1, y.2.2.2.2.2.2.2.1, y.2.2.2.2.2.2.2.2.1, y.2.2.2.2.2.2.2.2.2.1, y.2.2.2.2.2.2.2.2.2.2.1, y.2.2.2.2.2.2.2.2.2.2.2.1, y.2.2.2.2.2.2.2.2.2.2.2.2.1, y.2.2.2.2.2.2.2.2.2.2.2.2.2.1, y.2.2.2.2.2.2.2.2.2.2.2.2.2.2.1, y.2.2.2.2.2.2.2.2.2.2.2.2.2.2.2, Scalar.muli (BitVec.ofNat 32 (i 2).val) 4#32, shapeCast S128x256 q shapeCasts_S1x128x256_S128x256, Scalar.addi (Scalar.muli (BitVec.ofNat 32 (i 2).val) 4#32) 0#32⟩

/-- The loops, and the first load after them. -/
def loops (i : grid0.Coords) (arg3 : Memref sig .tc .vmem S4x64 .f32) (arg4 : Memref sig .tc .vmem S128x1 .f32) (arg5 : Memref sig .tc .vmem S1x4x128x256 .bf16) (arg6 : Memref sig .tc .vmem S1x8192x128 .bf16) (arg7 : Memref sig .tc .vmem S1x32x128x256 .bf16) (arg8 : Memref sig .tc .vmem S1x1024x128 .bf16) (arg9 : Memref sig .tc .vmem S8x128x256 .bf16) (arg10 : Memref sig .tc .vmem S8x1024x256 .f32) (arg11 : Memref sig .tc .vmem S8x4x8x256 .f32) (arg12 : Memref sig .tc .vmem S8x128x256 .f32) (arg13 : Memref sig .tc .vmem S256x256 .f32) : ℙ (Mid F) := do
  let x ← Scf.Loop.for (k0_t1_loop i) (k0_t1_ok i) carry0 fun t => chunk arg6 arg7 arg9 arg10 arg11 arg12 (kOff1 i t) (kOff3 i t) (vOff2 i t)
  let y ← Scf.Loop.for (k0_t2_loop i) (k0_t2_ok i) x fun t => chunk arg6 arg7 arg9 arg10 arg11 arg12 (kOff4 i t) (kOff6 i t) (vOff5 i t)
  handOn i arg9 y

/-- What the printed body does after its loops, up to its last store, … -/
def rest  (i : grid0.Coords) (arg3 : Memref sig .tc .vmem S4x64 .f32) (harg3 : arg3.IsWhole) (arg4 : Memref sig .tc .vmem S128x1 .f32) (harg4 : arg4.IsWhole) (arg5 : Memref sig .tc .vmem S1x4x128x256 .bf16) (harg5 : arg5.IsWhole) (arg6 : Memref sig .tc .vmem S1x8192x128 .bf16) (harg6 : arg6.IsWhole) (arg7 : Memref sig .tc .vmem S1x32x128x256 .bf16) (harg7 : arg7.IsWhole) (arg8 : Memref sig .tc .vmem S1x1024x128 .bf16) (harg8 : arg8.IsWhole) (arg9 : Memref sig .tc .vmem S8x128x256 .bf16) (harg9 : arg9.IsWhole) (arg10 : Memref sig .tc .vmem S8x1024x256 .f32) (harg10 : arg10.IsWhole) (arg11 : Memref sig .tc .vmem S8x4x8x256 .f32) (harg11 : arg11.IsWhole) (arg12 : Memref sig .tc .vmem S8x128x256 .f32) (harg12 : arg12.IsWhole) (arg13 : Memref sig .tc .vmem S256x256 .f32) (harg13 : arg13.IsWhole) : Mid F → ℙ (FVec F S256x128 .bf16) := fun r => do
  let ⟨v180_0, v180_1, v180_2, v180_3, v180_4, v180_5, v180_6, v180_7, v180_8, v180_9, v180_10, v180_11, v180_12, v180_13, v180_14, v180_15, v181, v183, v184⟩ := r
  let v214 : FVec F S256x256 .f32 ← k0_part115 i arg3 harg3 arg4 harg4 arg5 harg5 arg6 harg6 arg7 harg7 arg8 harg8 arg9 harg9 arg10 harg10 arg11 harg11 arg12 harg12 arg13 harg13 v181 v183 v184
  let ⟨v241, v243⟩ : Σ' (v241 : FVec F S1x256 .f32), FVec F S1x256 .f32 ← k0_part116 i arg3 harg3 arg4 harg4 arg5 harg5 arg6 harg6 arg7 harg7 arg8 harg8 arg9 harg9 arg10 harg10 arg11 harg11 arg12 harg12 arg13 harg13 v180_0 v214
  let ⟨v270, v272, v278, cst_215⟩ : Σ' (v270 : FVec F S1x256 .f32) (v272 : FVec F S128x256 .bf16) (v278 : FVec F S256x128 .bf16), FVec F S256x256 .f32 ← k0_part117 i arg3 harg3 arg4 harg4 arg5 harg5 arg6 harg6 arg7 harg7 arg8 harg8 arg9 harg9 arg10 harg10 arg11 harg11 arg12 harg12 arg13 harg13 v180_1 v181 v241 v243
  let v308 : FVec F S4x8x256 .f32 ← k0_part118 i arg3 harg3 arg4 harg4 arg5 harg5 arg6 harg6 arg7 harg7 arg8 harg8 arg9 harg9 arg10 harg10 arg11 harg11 arg12 harg12 arg13 harg13 v181 v272 v278 cst_215
  let ⟨v328, v334, v337⟩ : Σ' (v328 : FVec F S1x256 .f32) (v334 : FVec F S256x256 .f32), FVec F S8x256 .f32 ← k0_part119 i arg3 harg3 arg4 harg4 arg5 harg5 arg6 harg6 arg7 harg7 arg8 harg8 arg9 harg9 arg10 harg10 arg11 harg11 arg12 harg12 arg13 harg13 v180_2 v181 v308
  let ⟨v355, v357, v372⟩ : Σ' (v355 : FVec F S1x256 .f32) (v357 : FVec F S128x256 .bf16), FVec F S8x256 .f32 ← k0_part120 i arg3 harg3 arg4 harg4 arg5 harg5 arg6 harg6 arg7 harg7 arg8 harg8 arg9 harg9 arg10 harg10 arg11 harg11 arg12 harg12 arg13 harg13 v180_3 v181 v328 v334 v337
  k0_part121 i arg3 harg3 arg4 harg4 arg5 harg5 arg6 harg6 arg7 harg7 arg8 harg8 arg9 harg9 arg10 harg10 arg11 harg11 arg12 harg12 arg13 harg13 v181 v357 v372
  let ⟨v421, v423, v429, v431⟩ : Σ' (v421 : FVec F S1x256 .f32) (v423 : FVec F S1x256 .f32) (v429 : FVec F S256x256 .f32), FVec F S4x8x256 .f32 ← k0_part122 i arg3 harg3 arg4 harg4 arg5 harg5 arg6 harg6 arg7 harg7 arg8 harg8 arg9 harg9 arg10 harg10 arg11 harg11 arg12 harg12 arg13 harg13 v180_4
  let ⟨v464, v466⟩ : Σ' (v464 : FVec F S1x256 .f32), FVec F S1x256 .f32 ← k0_part123 i arg3 harg3 arg4 harg4 arg5 harg5 arg6 harg6 arg7 harg7 arg8 harg8 arg9 harg9 arg10 harg10 arg11 harg11 arg12 harg12 arg13 harg13 v180_5 v181 v421 v423 v429 v431
  let ⟨v467, v469, v496⟩ : Σ' (v467 : FVec F S1x256 .f32) (v469 : FVec F S128x256 .bf16), FVec F S256x256 .f32 ← k0_part124 i arg3 harg3 arg4 harg4 arg5 harg5 arg6 harg6 arg7 harg7 arg8 harg8 arg9 harg9 arg10 harg10 arg11 harg11 arg12 harg12 arg13 harg13 v181 v464 v466
  let v526 : FVec F S8x256 .f32 ← k0_part125 i arg3 harg3 arg4 harg4 arg5 harg5 arg6 harg6 arg7 harg7 arg8 harg8 arg9 harg9 arg10 harg10 arg11 harg11 arg12 harg12 arg13 harg13 v181 v469 v496
  let ⟨v553, v554⟩ : Σ' (v553 : FVec F S1x256 .f32), FVec F S1x256 .f32 ← k0_part126 i arg3 harg3 arg4 harg4 arg5 harg5 arg6 harg6 arg7 harg7 arg8 harg8 arg9 harg9 arg10 harg10 arg11 harg11 arg12 harg12 arg13 harg13 v180_6 v526
  let ⟨v555, v580, v587⟩ : Σ' (v555 : FVec F S1x256 .f32) (v580 : FVec F S8x256 .f32), FVec F S128x256 .f32 ← k0_part127 i arg3 harg3 arg4 harg4 arg5 harg5 arg6 harg6 arg7 harg7 arg8 harg8 arg9 harg9 arg10 harg10 arg11 harg11 arg12 harg12 arg13 harg13 v181 v553 v554
  let ⟨v599, v601, v616, v619⟩ : Σ' (v599 : FVec F S1x256 .f32) (v601 : FVec F S128x256 .bf16) (v616 : FVec F S8x256 .f32), Vec F S1x8x256 .f32 ← k0_part128 i arg3 harg3 arg4 harg4 arg5 harg5 arg6 harg6 arg7 harg7 arg8 harg8 arg9 harg9 arg10 harg10 arg11 harg11 arg12 harg12 arg13 harg13 v180_7 v181 v555 v580 v587
  let v650 : FVec F S256x256 .f32 ← k0_part129 i arg3 harg3 arg4 harg4 arg5 harg5 arg6 harg6 arg7 harg7 arg8 harg8 arg9 harg9 arg10 harg10 arg11 harg11 arg12 harg12 arg13 harg13 v181 v601 v616 v619
  let ⟨v667, v672⟩ : Σ' (v667 : FVec F S8x256 .f32), FVec F S8x256 .f32 ← k0_part130 i arg3 harg3 arg4 harg4 arg5 harg5 arg6 harg6 arg7 harg7 arg8 harg8 arg9 harg9 arg10 harg10 arg11 harg11 arg12 harg12 arg13 harg13 v650
  let ⟨v695, v697, v703, v706, v707⟩ : Σ' (v695 : FVec F S1x256 .f32) (v697 : FVec F S1x256 .f32) (v703 : FVec F S256x256 .f32) (v706 : FVec F S8x256 .f32), BitVec 32 ← k0_part131 i arg3 harg3 arg4 harg4 arg5 harg5 arg6 harg6 arg7 harg7 arg8 harg8 arg9 harg9 arg10 harg10 arg11 harg11 arg12 harg12 arg13 harg13 v180_8 v181 v667 v672
  let ⟨v729, v735, v739⟩ : Σ' (v729 : FVec F S128x256 .f32) (v735 : FVec F S256x256 .f32), FVec F S8x256 .f32 ← k0_part132 i arg3 harg3 arg4 harg4 arg5 harg5 arg6 harg6 arg7 harg7 arg8 harg8 arg9 harg9 arg10 harg10 arg11 harg11 arg12 harg12 arg13 harg13 v181 v695 v703 v706 v707
  let ⟨v758, v760, v775⟩ : Σ' (v758 : FVec F S1x256 .f32) (v760 : FVec F S128x256 .bf16), FVec F S8x256 .f32 ← k0_part133 i arg3 harg3 arg4 harg4 arg5 harg5 arg6 harg6 arg7 harg7 arg8 harg8 arg9 harg9 arg10 harg10 arg11 harg11 arg12 harg12 arg13 harg13 v180_9 v181 v697 v729 v735 v739
  k0_part134 i arg3 harg3 arg4 harg4 arg5 harg5 arg6 harg6 arg7 harg7 arg8 harg8 arg9 harg9 arg10 harg10 arg11 harg11 arg12 harg12 arg13 harg13 v181 v760 v775
  let ⟨v829, v834⟩ : Σ' (v829 : FVec F S256x256 .f32), FVec F S256x256 .f32 ← k0_part135 i arg3 harg3 arg4 harg4 arg5 harg5 arg6 harg6 arg7 harg7 arg8 harg8 arg9 harg9 arg10 harg10 arg11 harg11 arg12 harg12 arg13 harg13 v181 v760
  let ⟨v851, v856⟩ : Σ' (v851 : FVec F S8x256 .f32), FVec F S8x256 .f32 ← k0_part136 i arg3 harg3 arg4 harg4 arg5 harg5 arg6 harg6 arg7 harg7 arg8 harg8 arg9 harg9 arg10 harg10 arg11 harg11 arg12 harg12 arg13 harg13 v829 v834
  let ⟨v874, v876, v885, v891⟩ : Σ' (v874 : FVec F S1x256 .f32) (v876 : FVec F S1x256 .f32) (v885 : FVec F S8x256 .f32), FVec F S128x256 .f32 ← k0_part137 i arg3 harg3 arg4 harg4 arg5 harg5 arg6 harg6 arg7 harg7 arg8 harg8 arg9 harg9 arg10 harg10 arg11 harg11 arg12 harg12 arg13 harg13 v180_10 v181 v851 v856
  let ⟨v918, v925, v926⟩ : Σ' (v918 : FVec F S8x256 .f32) (v925 : FVec F S128x256 .f32), Vec F S1x128x256 .f32 ← k0_part138 i arg3 harg3 arg4 harg4 arg5 harg5 arg6 harg6 arg7 harg7 arg8 harg8 arg9 harg9 arg10 harg10 arg11 harg11 arg12 harg12 arg13 harg13 v181 v874 v885 v891
  let ⟨v937, v939, v954⟩ : Σ' (v937 : FVec F S1x256 .f32) (v939 : FVec F S128x256 .bf16), FVec F S8x256 .f32 ← k0_part139 i arg3 harg3 arg4 harg4 arg5 harg5 arg6 harg6 arg7 harg7 arg8 harg8 arg9 harg9 arg10 harg10 arg11 harg11 arg12 harg12 arg13 harg13 v180_11 v181 v876 v918 v925 v926
  let v986 : FVec F S256x256 .f32 ← k0_part140 i arg3 harg3 arg4 harg4 arg5 harg5 arg6 harg6 arg7 harg7 arg8 harg8 arg9 harg9 arg10 harg10 arg11 harg11 arg12 harg12 arg13 harg13 v181 v939 v954
  let v1016 : FVec F S8x256 .f32 ← k0_part141 i arg3 harg3 arg4 harg4 arg5 harg5 arg6 harg6 arg7 harg7 arg8 harg8 arg9 harg9 arg10 harg10 arg11 harg11 arg12 harg12 arg13 harg13 v181 v939 v986
  let ⟨v1035, v1040⟩ : Σ' (v1035 : FVec F S8x256 .f32), FVec F S8x256 .f32 ← k0_part142 i arg3 harg3 arg4 harg4 arg5 harg5 arg6 harg6 arg7 harg7 arg8 harg8 arg9 harg9 arg10 harg10 arg11 harg11 arg12 harg12 arg13 harg13 v1016
  let ⟨v1063, v1065, v1071, v1073⟩ : Σ' (v1063 : FVec F S1x256 .f32) (v1065 : FVec F S1x256 .f32) (v1071 : FVec F S256x256 .f32), FVec F S4x8x256 .f32 ← k0_part143 i arg3 harg3 arg4 harg4 arg5 harg5 arg6 harg6 arg7 harg7 arg8 harg8 arg9 harg9 arg10 harg10 arg11 harg11 arg12 harg12 arg13 harg13 v180_12 v1035 v1040
  let ⟨v1097, v1103, v1107, v1108⟩ : Σ' (v1097 : FVec F S128x256 .f32) (v1103 : FVec F S256x256 .f32) (v1107 : FVec F S8x256 .f32), BitVec 32 ← k0_part144 i arg3 harg3 arg4 harg4 arg5 harg5 arg6 harg6 arg7 harg7 arg8 harg8 arg9 harg9 arg10 harg10 arg11 harg11 arg12 harg12 arg13 harg13 v181 v1063 v1071 v1073
  let v1143 : FVec F S1x256 .f32 ← k0_part145 i arg3 harg3 arg4 harg4 arg5 harg5 arg6 harg6 arg7 harg7 arg8 harg8 arg9 harg9 arg10 harg10 arg11 harg11 arg12 harg12 arg13 harg13 v180_13 v181 v1063 v1065 v1097 v1103 v1107 v1108
  let ⟨v1162, v1167⟩ : Σ' (v1162 : FVec F S8x256 .f32), FVec F S8x256 .f32 ← k0_part146 i arg3 harg3 arg4 harg4 arg5 harg5 arg6 harg6 arg7 harg7 arg8 harg8 arg9 harg9 arg10 harg10 arg11 harg11 arg12 harg12 arg13 harg13
  let ⟨v1185, v1187, v1196, v1200, v1201⟩ : Σ' (v1185 : FVec F S1x256 .f32) (v1187 : FVec F S1x256 .f32) (v1196 : FVec F S8x256 .f32) (v1200 : FVec F S128x256 .bf16), FVec F S256x256 .bf16 ← k0_part147 i arg3 harg3 arg4 harg4 arg5 harg5 arg6 harg6 arg7 harg7 arg8 harg8 arg9 harg9 arg10 harg10 arg11 harg11 arg12 harg12 arg13 harg13 v180_14 v181 v1162 v1167
  let ⟨v1229, v1236⟩ : Σ' (v1229 : FVec F S8x256 .f32), FVec F S128x256 .f32 ← k0_part148 i arg3 harg3 arg4 harg4 arg5 harg5 arg6 harg6 arg7 harg7 arg8 harg8 arg9 harg9 arg10 harg10 arg11 harg11 arg12 harg12 arg13 harg13 v181 v1185 v1196 v1200 v1201
  let ⟨v1265, v1267, v1273⟩ : Σ' (v1265 : FVec F S1x256 .f32) (v1267 : FVec F S4x64 .f32), FVec F S1x1 .f32 ← k0_part149 i arg3 harg3 arg4 harg4 arg5 harg5 arg6 harg6 arg7 harg7 arg8 harg8 arg9 harg9 arg10 harg10 arg11 harg11 arg12 harg12 arg13 harg13 v180_15 v181 v1185 v1187 v1229 v1236
  let v1282 : FVec F S1x1 .f32 ← k0_part150 i arg3 harg3 arg4 harg4 arg5 harg5 arg6 harg6 arg7 harg7 arg8 harg8 arg9 harg9 arg10 harg10 arg11 harg11 arg12 harg12 arg13 harg13 v270 v355 v1267 v1273
  let ⟨v1350, v1352, v1353⟩ : Σ' (v1350 : FVec F S128x256 .f32) (v1352 : FVec F S128x256 .f32), FVec F S128x256 .f32 ← k0_part151 i arg3 harg3 arg4 harg4 arg5 harg5 arg6 harg6 arg7 harg7 arg8 harg8 arg9 harg9 arg10 harg10 arg11 harg11 arg12 harg12 arg13 harg13 v467 v599 v758 v937 v1282
  let ⟨v1389, v1394, cst_1148⟩ : Σ' (v1389 : FVec F S128x256 .f32) (v1394 : FVec F S1x256 .f32), F .f32 ← k0_part152 i arg3 harg3 arg4 harg4 arg5 harg5 arg6 harg6 arg7 harg7 arg8 harg8 arg9 harg9 arg10 harg10 arg11 harg11 arg12 harg12 arg13 harg13 v1143 v1265 v1282 v1350 v1352 v1353
  have v1395 : FVec F S1x256 .f32 := broadcast S1x256 cst_1148
  have v1396 : FVec F S1x256 .f32 := addf v1394 v1395
  have v1397 : FVec F S1x256 .f32 := rsqrt v1396
  have v1398 : FVec F S128x256 .f32 := broadcastTo S128x256 v1397 broadcasts_S1x256_S128x256
  have v1399 : FVec F S128x256 .f32 := mulf v1389 v1398
  let c0_1149 : Index := 0#32
  let c0_1150 : Index := 0#32
  let v1400 : Vec F S128x1 .f32 ← Prog.lift (.load arg4 (Rect.unit (s := S128x1) ![0, 0] S128x1.size inb_S128x1_S128x1_0_0).toLoadRect (View.loadsAt_vmem h_S128x1))
  have v1401 : FVec F S128x1 .f32 := shapeCast S128x1 v1400 shapeCasts_S128x1_S128x1
  have v1402 : FVec F S128x256 .f32 := broadcastTo S128x256 v1401 broadcasts_S128x1_S128x256
  have v1403 : FVec F S128x256 .f32 := mulf v1399 v1402
  have cst_1151 : F .f32 := Scalar.ofBits .f32 0x3F4CCCCD#32
  have v1404 : FVec F S128x256 .f32 := broadcast S128x256 cst_1151
  have v1405 : FVec F S128x256 .f32 := mulf v1403 v1404
  have v1406 : FVec F S256x128 .f32 := transpose S256x128 [1, 0] v1405 transposes_S128x256_p1_0_S256x128
  have v1407 : FVec F S256x128 .bf16 := truncf .bf16 v1406 bitsLt_bf16_f32
  pure v1407
/-- … and that store. -/
def last  (i : grid0.Coords) (arg3 : Memref sig .tc .vmem S4x64 .f32) (harg3 : arg3.IsWhole) (arg4 : Memref sig .tc .vmem S128x1 .f32) (harg4 : arg4.IsWhole) (arg5 : Memref sig .tc .vmem S1x4x128x256 .bf16) (harg5 : arg5.IsWhole) (arg6 : Memref sig .tc .vmem S1x8192x128 .bf16) (harg6 : arg6.IsWhole) (arg7 : Memref sig .tc .vmem S1x32x128x256 .bf16) (harg7 : arg7.IsWhole) (arg8 : Memref sig .tc .vmem S1x1024x128 .bf16) (harg8 : arg8.IsWhole) (arg9 : Memref sig .tc .vmem S8x128x256 .bf16) (harg9 : arg9.IsWhole) (arg10 : Memref sig .tc .vmem S8x1024x256 .f32) (harg10 : arg10.IsWhole) (arg11 : Memref sig .tc .vmem S8x4x8x256 .f32) (harg11 : arg11.IsWhole) (arg12 : Memref sig .tc .vmem S8x128x256 .f32) (harg12 : arg12.IsWhole) (arg13 : Memref sig .tc .vmem S256x256 .f32) (harg13 : arg13.IsWhole) (v1407 : FVec F S256x128 .bf16) : ℙ PUnit := do
  let c0_1152 : Index := 0#32                                           -- %c0_1152 = arith.constant 0 : index
  let c768_1153 : Index := 768#32                                       -- %c768_1153 = arith.constant 768 : index
  let c0_1154 : Index := 0#32                                           -- %c0_1154 = arith.constant 0 : index
  let v1408 : Vec F S1x256x128 .bf16 ← Prog.lift (.load arg8 (Rect.unit (s := S1x1024x128) ![0, 768, 0] S1x256x128.size inb_S1x1024x128_S1x256x128_0_768_0).toLoadRect (View.loadsAt_vmem h_S1x256x128)) -- %1408 = vector.load %arg8[%c0_1152, %c768_1153, %c0_1154] : memref<1x1024x128xbf16, #tpu.memory_space<vmem>>, vector<1x256x128xbf16>  @ test_k:159
  have v1409 : FVec F S256x128 .bf16 := shapeCast S256x128 v1408 shapeCasts_S1x256x128_S256x128 -- %1409 = vector.shape_cast %1408 : vector<1x256x128xbf16> to vector<256x128xbf16>  @ test_k:159
  have v1410 : FVec F S1x256x128 .bf16 := shapeCast S1x256x128 v1407 shapeCasts_S256x128_S1x256x128 -- %1410 = vector.shape_cast %1407 : vector<256x128xbf16> to vector<1x256x128xbf16>  @ test_k:159
  Prog.lift (.store arg8 (Rect.unit (s := S1x1024x128) ![0, 768, 0] S1x256x128.size inb_S1x1024x128_S1x256x128_0_768_0) v1410 Finset.univ (View.stores_vmem h_S1x256x128 (harg8.storeExact_slice rfl _ packedbf16_S1x1024x128_S1x256x128_0_768_0) (fun _ => rfl)) (.inl rfl)) -- tpu.vector_store %arg8[%c0_1152, %c768_1153, %c0_1154], %1410 {strides = array<i32>} : memref<1x1024x128xbf16, #tpu.memory_space<vmem>>, vector<1x256x128xbf16>,  @ test_k:159
  pure ⟨⟩                                                               -- func.return
theorem split_eq  (i : grid0.Coords) (arg3 : Memref sig .tc .vmem S4x64 .f32) (harg3 : arg3.IsWhole) (arg4 : Memref sig .tc .vmem S128x1 .f32) (harg4 : arg4.IsWhole) (arg5 : Memref sig .tc .vmem S1x4x128x256 .bf16) (harg5 : arg5.IsWhole) (arg6 : Memref sig .tc .vmem S1x8192x128 .bf16) (harg6 : arg6.IsWhole) (arg7 : Memref sig .tc .vmem S1x32x128x256 .bf16) (harg7 : arg7.IsWhole) (arg8 : Memref sig .tc .vmem S1x1024x128 .bf16) (harg8 : arg8.IsWhole) (arg9 : Memref sig .tc .vmem S8x128x256 .bf16) (harg9 : arg9.IsWhole) (arg10 : Memref sig .tc .vmem S8x1024x256 .f32) (harg10 : arg10.IsWhole) (arg11 : Memref sig .tc .vmem S8x4x8x256 .f32) (harg11 : arg11.IsWhole) (arg12 : Memref sig .tc .vmem S8x128x256 .f32) (harg12 : arg12.IsWhole) (arg13 : Memref sig .tc .vmem S256x256 .f32) (harg13 : arg13.IsWhole) :
    cc0_diff_attention (F := F) i arg3 harg3 arg4 harg4 arg5 harg5 arg6 harg6 arg7 harg7 arg8 harg8 arg9 harg9 arg10 harg10 arg11 harg11 arg12 harg12 arg13 harg13
      = ((do
          start arg5 arg9 arg12 arg13 (stores_q harg9)
          scoreFull arg6 arg9 arg10 arg11 0 kOff0
          loops i arg3 arg4 arg5 arg6 arg7 arg8 arg9 arg10 arg11 arg12 arg13 >>= rest i arg3 harg3 arg4 harg4 arg5 harg5 arg6 harg6 arg7 harg7 arg8 harg8 arg9 harg9 arg10 harg10 arg11 harg11 arg12 harg12 arg13 harg13 : ℙ (FVec F S256x128 .bf16)) >>= last i arg3 harg3 arg4 harg4 arg5 harg5 arg6 harg6 arg7 harg7 arg8 harg8 arg9 harg9 arg10 harg10 arg11 harg11 arg12 harg12 arg13 harg13 : ℙ PUnit) := by
  chain_rfl

theorem tail_eq  (i : grid0.Coords) (arg3 : Memref sig .tc .vmem S4x64 .f32) (harg3 : arg3.IsWhole) (arg4 : Memref sig .tc .vmem S128x1 .f32) (harg4 : arg4.IsWhole) (arg5 : Memref sig .tc .vmem S1x4x128x256 .bf16) (harg5 : arg5.IsWhole) (arg6 : Memref sig .tc .vmem S1x8192x128 .bf16) (harg6 : arg6.IsWhole) (arg7 : Memref sig .tc .vmem S1x32x128x256 .bf16) (harg7 : arg7.IsWhole) (arg8 : Memref sig .tc .vmem S1x1024x128 .bf16) (harg8 : arg8.IsWhole) (arg9 : Memref sig .tc .vmem S8x128x256 .bf16) (harg9 : arg9.IsWhole) (arg10 : Memref sig .tc .vmem S8x1024x256 .f32) (harg10 : arg10.IsWhole) (arg11 : Memref sig .tc .vmem S8x4x8x256 .f32) (harg11 : arg11.IsWhole) (arg12 : Memref sig .tc .vmem S8x128x256 .f32) (harg12 : arg12.IsWhole) (arg13 : Memref sig .tc .vmem S256x256 .f32) (harg13 : arg13.IsWhole) (y : Carry F) :
    (handOn i arg9 y >>= fun r => rest i arg3 harg3 arg4 harg4 arg5 harg5 arg6 harg6 arg7 harg7 arg8 harg8 arg9 harg9 arg10 harg10 arg11 harg11 arg12 harg12 arg13 harg13 r >>= last i arg3 harg3 arg4 harg4 arg5 harg5 arg6 harg6 arg7 harg7 arg8 harg8 arg9 harg9 arg10 harg10 arg11 harg11 arg12 harg12 arg13 harg13 : ℙ PUnit)
      = (diag arg6 arg7 arg9 arg10 arg11 arg12 arg13 (kOff7 i) (vOff8 i) y >>= finish arg3 arg4 arg8 arg12 (stores_o harg8) : ℙ PUnit) := by
  chain_rfl

/-- The printed body over its stages. -/
theorem body_eq  (i : grid0.Coords) (arg3 : Memref sig .tc .vmem S4x64 .f32) (harg3 : arg3.IsWhole) (arg4 : Memref sig .tc .vmem S128x1 .f32) (harg4 : arg4.IsWhole) (arg5 : Memref sig .tc .vmem S1x4x128x256 .bf16) (harg5 : arg5.IsWhole) (arg6 : Memref sig .tc .vmem S1x8192x128 .bf16) (harg6 : arg6.IsWhole) (arg7 : Memref sig .tc .vmem S1x32x128x256 .bf16) (harg7 : arg7.IsWhole) (arg8 : Memref sig .tc .vmem S1x1024x128 .bf16) (harg8 : arg8.IsWhole) (arg9 : Memref sig .tc .vmem S8x128x256 .bf16) (harg9 : arg9.IsWhole) (arg10 : Memref sig .tc .vmem S8x1024x256 .f32) (harg10 : arg10.IsWhole) (arg11 : Memref sig .tc .vmem S8x4x8x256 .f32) (harg11 : arg11.IsWhole) (arg12 : Memref sig .tc .vmem S8x128x256 .f32) (harg12 : arg12.IsWhole) (arg13 : Memref sig .tc .vmem S256x256 .f32) (harg13 : arg13.IsWhole) :
    cc0_diff_attention (F := F) i arg3 harg3 arg4 harg4 arg5 harg5 arg6 harg6 arg7 harg7 arg8 harg8 arg9 harg9 arg10 harg10 arg11 harg11 arg12 harg12 arg13 harg13
      = body i arg3 arg4 arg5 arg6 arg7 arg8 arg9 arg10 arg11 arg12 arg13 (stores_o harg8) (stores_q harg9) := by
  rw [split_eq]
  simp only [loops, body, bind_assoc]
  simp only [tail_eq]

end Cert.KernelIdeal.Flash

end
-- ==== Proof.Whole.lean ====
/-
  The whole body: the chunks before the diagonal by the loop's invariant, then the diagonal and the result.
-/
module

public import proofs.«01_k».proof.Proof.Stages
public import proofs.«01_k».proof.Proof.CleanEq
public import Idealize.ShloMosaic.Lib.LoopRemainder

@[expose] public section

noncomputable section

namespace Cert.KernelIdeal.Flash

open Idealize.ShloMosaic Idealize.ShloMosaic.TcCoe Idealize.ShloMosaic.Tactic
open Idealize.SL Idealize.SL.Sem
open Cert.KernelIdeal Facts₀ Facts

variable {F : FTy → Type} [FloatOps F] [Named F] [Facts]

local notation "ℙ" => Prog (TpuEff nD τ sig (Elt F) Λ₀ Proc.tc)

variable {t : Dev nD} {e : Env F t} (σ : St F)

theorem inb_kAt (n : Fin 8) (w : Fin 4) : ∀ a, (![0, 256 * (4 * n.val + w.val), 0] : Fin 3 → ℕ) a + S1x256x128.size a ≤ S1x8192x128.size a := by
  intro a; fin_cases a
  · exact le_refl 1
  · show 256 * (4 * n.val + w.val) + 256 ≤ 8192
    omega
  · exact le_refl 128
theorem inb_vAt (n : Fin 8) (w : Fin 4) : ∀ a, (![0, 4 * n.val + w.val, 0, 0] : Fin 4 → ℕ) a + S1x1x128x256.size a ≤ S1x32x128x256.size a := by
  intro a; fin_cases a
  · exact le_refl 1
  · show 4 * n.val + w.val + 1 ≤ 32
    omega
  · exact le_refl 128
  · exact le_refl 256

/-- Chunk `n` of the keys -/
def kAt (n : Fin 8) : KOff := ⟨fun w => ![0, 256 * (4 * n.val + w.val), 0], inb_kAt n⟩
/-- and of the values. -/
def vAt (n : Fin 8) : VOff := ⟨fun w => ![0, 4 * n.val + w.val, 0, 0], inb_vAt n⟩

theorem kOff_ext {o o' : KOff} (h : ∀ w, o.off w = o'.off w) : o = o' := by
  obtain ⟨f, hf⟩ := o; obtain ⟨g, hg⟩ := o'
  obtain rfl : f = g := funext h
  rfl
theorem vOff_ext {o o' : VOff} (h : ∀ w, o.off w = o'.off w) : o = o' := by
  obtain ⟨f, hf⟩ := o; obtain ⟨g, hg⟩ := o'
  obtain rfl : f = g := funext h
  rfl

theorem trips_eq (i : grid0.Coords) : (k0_t1_loop i).trips = (i 2).val := by
  have h : ∀ x : Fin 8, Scf.trips (0#32) (Scalar.addi 0#32 (Scalar.muli (Scalar.divsi (Scalar.subi (BitVec.ofNat 32 x.val) 0#32) 1#32) 1#32)) 1#32 = x.val := by
    decide
  exact h (i 2)

theorem kOff0_eq : kOff0 = kAt 0 := kOff_ext fun w => by
  fin_cases w <;> rfl

theorem kOff1_eq (i : grid0.Coords) (k : Fin (k0_t1_loop i).trips) (n : Fin 8) (h : n.val = k.val) : kOff1 i k = kAt n := kOff_ext fun w => by
  have hd : ∀ (n : Fin 8) (w : Fin 4), (Scalar.indexCast (Scalar.muli (Scalar.addi (Scalar.muli (Scf.iv (0#32) 1#32 n.val) 4#32) (BitVec.ofNat 32 w.val)) 256#32) : Index).toNat
      = 256 * (4 * n.val + w.val) := by decide
  have := hd n w
  rw [h] at this
  simp only [kOff1, kAt, k0_off1, this, h]

theorem kOff3_eq (i : grid0.Coords) (k : Fin (k0_t1_loop i).trips) (n : Fin 8) (h : n.val = k.val + 1) : kOff3 i k = kAt n := kOff_ext fun w => by
  have hd : ∀ (n : Fin 7) (w : Fin 4), (Scalar.indexCast (Scalar.muli (Scalar.addi (Scalar.addi (Scalar.muli (Scf.iv (0#32) 1#32 n.val) 4#32) 4#32) (BitVec.ofNat 32 w.val)) 256#32) : Index).toNat
      = 256 * (4 * (n.val + 1) + w.val) := by decide
  have := hd ⟨k.val, by omega⟩ w
  simp only [kOff3, kAt, k0_off3, this, h]

theorem vOff2_eq (i : grid0.Coords) (k : Fin (k0_t1_loop i).trips) (n : Fin 8) (h : n.val = k.val) : vOff2 i k = vAt n := vOff_ext fun w => by
  have hd : ∀ (n : Fin 8) (w : Fin 4), (Scalar.indexCast (Scalar.addi (Scalar.muli (Scf.iv (0#32) 1#32 n.val) 4#32) (BitVec.ofNat 32 w.val)) : Index).toNat
      = 4 * n.val + w.val := by decide
  have := hd n w
  rw [h] at this
  simp only [vOff2, vAt, k0_off2, this, h]

theorem kOff7_eq (i : grid0.Coords) : kOff7 i = kAt (i 2) := kOff_ext fun w => by
  have hd : ∀ (n : Fin 8) (w : Fin 4), (Scalar.indexCast (Scalar.muli (Scalar.addi (Scalar.muli (BitVec.ofNat 32 n.val) 4#32) (BitVec.ofNat 32 w.val)) 256#32) : Index).toNat
      = 256 * (4 * n.val + w.val) := by decide
  have := hd (i 2) w
  simp only [kOff7, kAt, k0_off7, this]

theorem vOff8_eq (i : grid0.Coords) : vOff8 i = vAt (i 2) := vOff_ext fun w => by
  have hd : ∀ (n : Fin 8) (w : Fin 4), (Scalar.indexCast (Scalar.addi (Scalar.muli (BitVec.ofNat 32 n.val) 4#32) (BitVec.ofNat 32 w.val)) : Index).toNat
      = 4 * n.val + w.val := by decide
  have := hd (i 2) w
  simp only [vOff8, vAt, k0_off8, this]

/-- Chain `c` after `n` chunks. -/
def runs (k : Blk F) (c : Fin 8) : ℕ → Run F
  | 0 => ⟨m0, l0, View.ld accZero (qBox c)⟩
  | n + 1 => step (full k (kAt (Fin.ofNat 8 n)) (queries k c)) (k.vb (vAt (Fin.ofNat 8 n))) [1, 2, 3] (runs k c n)

/-- Chain `c` of query tile `g` at the end. -/
def final (k : Blk F) (g : Fin 8) (c : Fin 8) : Run F :=
  step (edge k (kAt g) (queries k c) (blockOf c)) (k.vb (vAt g)) (below c) (runs k c g.val)

theorem ev_body (i : grid0.Coords) :
    ∃ σ', Ev e (body i e.a3 e.a4 e.a5 e.a6 e.a7 e.a8 e.a9 e.a10 e.a11 e.a12 e.a13 e.h8 e.h9) σ ⟨⟩ σ' ∧ σ'.O = outBlock e.blk (final e.blk (i 2)) := by
  have hloop := Ev.loop (e := e) (k0_t1_loop i) (k0_t1_ok i)
    (fun k => chunk e.a6 e.a7 e.a9 e.a10 e.a11 e.a12 (kOff1 i k) (kOff3 i k) (vOff2 i k))
    (fun k x σ => x = carry (fun c => runs e.blk c k) ∧ σ.Q = queries e.blk ∧ σ.T = tri ∧ (∀ c, σ.A c = (runs e.blk c k).acc)
      ∧ ∀ w, σ.S 0 w = sPay (full e.blk (kAt (Fin.ofNat 8 k)) (queries e.blk 0) w) ∧ σ.X 0 w = mPay (full e.blk (kAt (Fin.ofNat 8 k)) (queries e.blk 0) w))
    (fun k x σ ⟨hx, hQ, hT, hA, hS⟩ => by
      have hk : k.val < 7 := by
        have := lt_of_lt_of_eq k.isLt (trips_eq i)
        have h8 : (i 2).val < 8 := (i 2).isLt
        omega
      have e1 : (Fin.ofNat 8 k.val).val = k.val := Nat.mod_eq_of_lt (by omega)
      have e2 : (Fin.ofNat 8 (k.val + 1)).val = k.val + 1 := Nat.mod_eq_of_lt (by omega)
      rw [kOff1_eq i k _ e1, kOff3_eq i k _ e2, vOff2_eq i k _ e1, hx]
      obtain ⟨σ', hE, hQ', hT', hA', hS'⟩ := ev_chunk (e := e) σ (kAt (Fin.ofNat 8 k.val)) (kAt (Fin.ofNat 8 (k.val + 1))) (vAt (Fin.ofNat 8 k.val))
        (fun c => runs e.blk c k) hA (by rw [hQ]; exact hS)
      rw [hQ] at hE hA' hS'
      exact ⟨_, σ', hE, rfl, hQ'.trans hQ, hT'.trans hT, hA', hS'⟩)
    (x := carry0) (σ := { σ with Q := queries e.blk, T := tri, A := fun c => View.ld accZero (qBox c) } |>.scored 0 (full e.blk (kAt 0) (queries e.blk 0)) [0, 1, 2, 3])
    ⟨rfl, rfl, rfl, fun _ => rfl, forall_w (by simp) (by simp) (by simp) (by simp)⟩
  obtain ⟨x, σ₁, hE₁, hx, hQ, hT, hA, -⟩ := hloop
  rw [trips_eq] at hA hx
  subst hx
  obtain ⟨σ₂, hE₂, hA₂⟩ := ev_diag (e := e) σ₁ (kOff7 i) (vOff8 i) (fun c => runs e.blk c (i 2).val) hA hT
  rw [hQ, kOff7_eq, vOff8_eq] at hA₂
  refine ⟨{ σ₂ with O := outBlock e.blk (final e.blk (i 2)) }, ?_, rfl⟩
  refine Ev.bind (ev_start σ) ?_
  refine Ev.bind (ev_scoreFull _ 0 kOff0) ?_
  rw [kOff0_eq]
  refine Ev.bind hE₁ ?_
  have hrem : (Scf.Loop.for (k0_t2_loop i) (k0_t2_ok i) (carry fun c => runs e.blk c (i 2).val) fun k =>
      chunk e.a6 e.a7 e.a9 e.a10 e.a11 e.a12 (kOff4 i k) (kOff6 i k) (vOff5 i k) : ℙ (Carry F)) = .ret (carry fun c => runs e.blk c (i 2).val) :=
    Scf.for_rem_eq _ _ _ _ _
  rw [hrem]
  refine Ev.bind (Ev.ret _ _) ?_
  refine Ev.bind hE₂ ?_
  rw [hQ, kOff7_eq, vOff8_eq]
  exact ev_finish σ₂ _ hA₂

end Cert.KernelIdeal.Flash

end
-- ==== Proof.Tile.lean ====
/-
  The body's triple over the pipeline's buffers, and the run of the whole program: at every grid point the body leaves
  in the result's buffer the tile computed from the inputs' blocks.
-/
module

public import proofs.«01_k».proof.Proof.Whole
public import proofs.«01_k».proof.Proof.Gen.KernelIdeal.Frame
public import Idealize.ShloMosaic.Lib.Claim

@[expose] public section

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The tile -/

/-- The index of element `y` of the tile within its block of 256 queries. -/
def inBlock (y : S1x1024x128.Idx) : S1x256x128.Idx := fun a => ⟨(![0, (y 1).val % 256, (y 2).val] : Fin 3 → ℕ) a, by
  fin_cases a
  · exact Nat.zero_lt_one
  · exact Nat.mod_lt _ (Nat.zero_lt_succ 255)
  · exact (y 2).isLt⟩

/-- The block of element `y`. -/
def blockIx (y : S1x1024x128.Idx) : Fin 4 := ⟨(y 1).val / 256, by have h : (y 1).val < 1024 := (y 1).isLt; omega⟩

/-- The tile `g` of the result. -/
def tileOf (k : Blk F) (g : Fin 8) : Vec F S1x1024x128 .bf16 := fun y => outBlock k (final k g) (blockIx y) (inBlock y)

theorem emb_inBlock (y : S1x1024x128.Idx) : (oBox (blockIx y)).emb (inBlock y) = y := by
  funext a
  refine Fin.ext ?_
  rw [Rect.emb_apply]
  fin_cases a
  · show 0 + 1 * 0 = (y 0).val
    have h : (y 0).val < 1 := (y 0).isLt
    omega
  · show 256 * ((y 1).val / 256) + 1 * ((y 1).val % 256) = (y 1).val
    omega
  · show 0 + 1 * (y 2).val = (y 2).val
    omega

/-- Some contents of a buffer. -/
abbrev any {s : Shape} {b : EltTy} {c : Dev nD} (m : Memref sig .tc .vmem s b) : sProp 𝕄 := iprop(∃ f, pts (t := c) m f)

theorem sound_kernel (c : Dev nD) (i : grid0.Coords)
    (arg3 : Memref sig .tc .vmem S4x64 .f32) (harg3 : arg3.IsWhole) (arg4 : Memref sig .tc .vmem S128x1 .f32) (harg4 : arg4.IsWhole)
    (arg5 : Memref sig .tc .vmem S1x4x128x256 .bf16) (harg5 : arg5.IsWhole) (arg6 : Memref sig .tc .vmem S1x8192x128 .bf16) (harg6 : arg6.IsWhole)
    (arg7 : Memref sig .tc .vmem S1x32x128x256 .bf16) (harg7 : arg7.IsWhole) (arg8 : Memref sig .tc .vmem S1x1024x128 .bf16) (harg8 : arg8.IsWhole)
    (arg9 : Memref sig .tc .vmem S8x128x256 .bf16) (harg9 : arg9.IsWhole) (arg10 : Memref sig .tc .vmem S8x1024x256 .f32) (harg10 : arg10.IsWhole)
    (arg11 : Memref sig .tc .vmem S8x4x8x256 .f32) (harg11 : arg11.IsWhole) (arg12 : Memref sig .tc .vmem S8x128x256 .f32) (harg12 : arg12.IsWhole)
    (arg13 : Memref sig .tc .vmem S256x256 .f32) (harg13 : arg13.IsWhole)
    (x3 : Vec F S4x64 .f32) (x4 : Vec F S128x1 .f32) (x5 : Vec F S1x4x128x256 .bf16) (x6 : Vec F S1x8192x128 .bf16)
    (x7 : Vec F S1x32x128x256 .bf16) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ (∃ d, owns (c : Thread nD τ) arg8 fullShare d)
        ∗ any (c := c) arg9 ∗ any (c := c) arg10 ∗ any (c := c) arg11 ∗ any (c := c) arg12 ∗ any (c := c) arg13
        ∗ (iprop(owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (tileOf ⟨x3, x4, x5, x6, x7⟩ (i 2))
            ∗ any (c := c) arg9 ∗ any (c := c) arg10 ∗ any (c := c) arg11 ∗ any (c := c) arg12 ∗ any (c := c) arg13) -∗ K ⟨⟩))
      ⊢ wp frame (wpE (defs₀ (F := F)) Variants.none c none) Set.univ
          (cc0_diff_attention i arg3 harg3 arg4 harg4 arg5 harg5 arg6 harg6 arg7 harg7 arg8 harg8 arg9 harg9 arg10 harg10 arg11 harg11
            arg12 harg12 arg13 harg13) K := by
  rw [body_eq]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩,
    ⟨%f9, H9⟩, ⟨%f10, H10⟩, ⟨%f11, H11⟩, ⟨%f12, H12⟩, ⟨%f13, H13⟩, Hk⟩
  subst hf3 hf4 hf5 hf6 hf7
  let e : Env F c := ⟨arg3, arg4, arg5, arg6, arg7, arg8, arg9, arg10, arg11, arg12, arg13, f3, f4, f5, f6, f7, stores_o harg8, stores_q harg9⟩
  let σ : St F := ⟨fun d => arg9.view.readAt (Elt F) (qBox d).toLoadRect f9, fun d w => (sRef arg10 d).view.readAt (Elt F) (sBox w).toLoadRect f10,
    fun d w => (mRef arg11 d).view.readAt (Elt F) (mBox w).toLoadRect f11, fun d => arg12.view.readAt (Elt F) (qBox d).toLoadRect f12,
    arg13.view.readAt (Elt F) tBox.toLoadRect f13, fun b => arg8.view.readAt (Elt F) (oBox b).toLoadRect f8⟩
  obtain ⟨σ', hE, hO⟩ := ev_body (e := e) σ i
  have hw := hE (fun _ => holds e σ') .rfl
  ihave Hh : holds e σ $$ [H3 H4 H5 H6 H7 H8 H9 H10 H11 H12 H13]
  · unfold holds inputs hasQ hasS hasX hasA hasT hasO
    isplitl [H3 H4 H5 H6 H7]
    · isplitl [H3]; · iexact H3
      isplitl [H4]; · iexact H4
      isplitl [H5]; · iexact H5
      isplitl [H6]; · iexact H6
      iexact H7
    isplitl [H9]
    · iexists f9; isplitr; · ipureintro; exact fun _ => rfl
      iexact H9
    isplitl [H10]
    · iexists f10; isplitr; · ipureintro; exact fun _ _ => rfl
      iexact H10
    isplitl [H11]
    · iexists f11; isplitr; · ipureintro; exact fun _ _ => rfl
      iexact H11
    isplitl [H12]
    · iexists f12; isplitr; · ipureintro; exact fun _ => rfl
      iexact H12
    isplitl [H13]
    · iexists f13; isplitr; · ipureintro; rfl
      iexact H13
    iexists f8; isplitr; · ipureintro; exact fun _ => rfl
    iexact H8
  iapply (wp_wand_r frame (wpE (defs₀ (F := F)) Variants.none (c : Thread nD τ) none) (Q := fun _ => holds e σ'))
  isplitl [Hh]
  · iapply hw; iexact Hh
  iintro %a Hh
  unfold holds inputs hasQ hasS hasX hasA hasT hasO
  icases Hh with ⟨⟨H3, H4, H5, H6, H7⟩, ⟨%g9, -, H9⟩, ⟨%g10, -, H10⟩, ⟨%g11, -, H11⟩, ⟨%g12, -, H12⟩, ⟨%g13, -, H13⟩, ⟨%g8, %hg8, H8⟩⟩
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists g8; isplitr
    · ipureintro
      funext y
      have h := congrFun ((hg8 (blockIx y)).trans (congrFun hO (blockIx y))) (inBlock y)
      have h' : arg8.view.readAt (Elt F) (oBox (blockIx y)).toLoadRect g8 (inBlock y)
          = arg8.view.read (Elt F) g8 ((oBox (blockIx y)).emb (inBlock y)) := rfl
      rw [emb_inBlock] at h'
      exact h'.symm.trans h
    iexact H8
  isplitl [H9]; · iexists g9; iexact H9
  isplitl [H10]; · iexists g10; iexact H10
  isplitl [H11]; · iexists g11; iexact H11
  isplitl [H12]; · iexists g12; iexact H12
  iexists g13; iexact H13

/-! ## The pipeline's proof data -/

variable (m : (ℓ : Loc nD τ sig) → Buf (Elt F) ℓ) (ρ : Dev nD → PrngReg)

/-- The inputs' blocks at point `t`. -/
def blkAt (c : Dev nD) (t : Fin cfg0.N) : Blk F := ⟨iblk m c 0 t, iblk m c 1 t, iblk m c 2 t, iblk m c 3 t, iblk m c 4 t⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileOf (blkAt m c t) (grid0.coords t 2)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = tileOf (blkAt m c t) (grid0.coords t 2) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem phi_eq (c : Dev nD) (t : Fin (cfg0.N + 1)) : (dats m 0 c).Φ t
    = iprop((any (c := c) (Memref.whole cc0_scratch0) ∗ any (c := c) (Memref.whole cc0_scratch1) ∗ any (c := c) (Memref.whole cc0_scratch2)
      ∗ any (c := c) (Memref.whole cc0_scratch3) ∗ any (c := c) (Memref.whole cc0_scratch4)) ∗ ∃ r, prngReg c r) := by
  show Pipeline.ΦA spec0 c = _
  unfold Pipeline.ΦA
  rw [scopedRest0_eq]
  simp only [any, pts, Memref.view_whole, View.set_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [phi_eq, phi_eq, show (dats m 0 c).owesAt () t.succ = (dats m 0 c).owesAt () t.castSucc from rfl,
    after0_0, after0_1, after0_2, after0_3, after0_4, after0_5]
  iintro ⟨⟨⟨S0, S1, S2, S3, S4⟩, Hr⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  isplitl [S2]; · iexact S2
  isplitl [S3]; · iexact S3
  isplitl [S4]; · iexact S4
  iintro ⟨H0, H1, H2, H3, H4, H5, S0, S1, S2, S3, S4⟩
  isplitl [S0 S1 S2 S3 S4 Hr]
  · isplitl [S0 S1 S2 S3 S4]
    · isplitl [S0]; · iexact S0
      isplitl [S1]; · iexact S1
      isplitl [S2]; · iexact S2
      isplitl [S3]; · iexact S3
      iexact S4
    iexact Hr
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution terminates, with the result's array at the tiles and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Flash

end
-- ==== Proof.Frames.lean ====
/- The frames of the four programs, and the three constants the exact program names. -/
module

public import proofs.«01_k».proof.Defs
public import proofs.«01_k».proof.Proof.Tile
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

/-- The precondition's own shape facts. -/
theorem preFacts : Cert.Pre_finite_v_and_lambdas.Facts where
  bcast_S_S4x8192x4x128 := by decide
  reducesTo_S4x8192x4x128_S_d0_1_2_3 := by decide
  h_S_ := by decide
  bcast_S_S64 := by decide
  reducesTo_S64_S_d0 := by decide

/-- Over words a named constant is the word the program spells: with this reading the named program is the plain one. -/
local instance plain : Named Bits where
  named _ _ {φ} bits := Scalar.ofBits φ bits

/-- The two programs have one table of bodies. -/
theorem defs₀_eq : Cert.Kernel.defs₀ (F := Bits) = Cert.KernelIdeal.defs₀ (F := Bits) := by
  unfold Cert.Kernel.defs₀ Cert.KernelIdeal.defs₀
  congr 1
  funext f x
  match f, x with
  | 0, (t, s) => exact rfl
  | ⟨_ + 1, h⟩, _ => exact absurd h (Nat.not_lt.2 (Nat.le_add_left _ _))

theorem defs_eq : Cert.Kernel.defs (F := Bits) = Cert.KernelIdeal.defs (F := Bits) := by
  unfold Cert.Kernel.defs Cert.KernelIdeal.defs
  rw [defs₀_eq]
  rfl

theorem frame_kernel : Cert.quiescent_Kernel (hKernel := Cert.Kernel.Gen.facts) := fun m ρ _ => by
  rw [defs_eq]
  exact Cert.KernelIdeal.Flash.frame (F := Bits) m ρ

theorem frame_kernelIdeal : Cert.quiescent_KernelIdeal (hKernelIdeal := Cert.KernelIdeal.Gen.facts) := fun m ρ _ =>
  Cert.KernelIdeal.Flash.frame (F := Ideal) m ρ

theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩) (Cert.ReferenceIdeal.Value.run (F := Ideal) m ρ)

theorem preserved : Cert.preserves_Kernel_KernelIdeal :=
  ⟨IdealRules.named_const.statement Cert.KernelIdeal.κ "mask" .f32 0xF149F2CA#32 ⊥ rfl,
   IdealRules.named_const.statement Cert.KernelIdeal.κ "qscale" .f32 0x3E38AA3B#32 _ rfl,
   IdealRules.named_const.statement Cert.KernelIdeal.κ "half_mask" .f32 0xF0C9F2CA#32 ⊥ rfl⟩

end Cert.Proof

end
-- ==== Proof.Math.lean ====
/-
  The arithmetic of the attention over extended reals: weights in base two against weights in base e, a running maximum and
  sum carried over pieces of the keys, and the norm of a head.
-/
module

public import Idealize.ShloMosaic.PureOps.Ideal
public import Mathlib.Data.EReal.Operations
public import Mathlib.Data.EReal.Inv

@[expose] public section

noncomputable section

namespace Cert.Flash

open Idealize.ShloMosaic

/-! ## Weights -/

/-- The weight of a score under a maximum. -/
def wt (s m : EReal) : EReal := Ideal.exp2 (s - m)

theorem exp2_nonneg (x : EReal) : 0 ≤ Ideal.exp2 x := by
  induction x with
  | bot => exact le_refl _
  | top => exact le_top
  | coe r => exact EReal.coe_nonneg.2 (Real.rpow_nonneg (by norm_num) r)

/-- Under a maximum that is no less the weight is a real in the unit interval. -/
theorem wt_real {s m : EReal} (h : s ≤ m) : ∃ r : ℝ, 0 ≤ r ∧ wt s m = (r : EReal) := by
  unfold wt
  induction m with
  | bot => obtain rfl := le_bot_iff.1 h; exact ⟨0, le_refl _, rfl⟩
  | top => exact ⟨0, le_refl _, by rw [EReal.sub_top]; rfl⟩
  | coe b =>
    induction s with
    | bot => exact ⟨0, le_refl _, by rw [EReal.bot_sub]; rfl⟩
    | top => exact absurd h (by simp)
    | coe a => exact ⟨Real.rpow 2 (a - b), Real.rpow_nonneg (by norm_num) _, by rw [← EReal.coe_sub]; rfl⟩

/-- A masked score weighs nothing. -/
theorem wt_bot (m : EReal) : wt ⊥ m = 0 := by unfold wt; rw [EReal.bot_sub]; rfl

/-- Rescaling: the weight under an old maximum times the old maximum's own weight is the weight under the new one. -/
theorem wt_mul {s m m' : EReal} (h : s ≤ m) (h' : m ≤ m') : wt m m' * wt s m = wt s m' := by
  induction m' with
  | bot =>
    obtain rfl := le_bot_iff.1 h'
    obtain rfl := le_bot_iff.1 h
    rw [wt_bot, zero_mul]
  | top =>
    have : ∀ x : EReal, wt x ⊤ = 0 := fun x => by unfold wt; rw [EReal.sub_top]; rfl
    rw [this, this, zero_mul]
  | coe c =>
    induction m with
    | bot => obtain rfl := le_bot_iff.1 h; rw [wt_bot, zero_mul]
    | top => exact absurd h' (by simp)
    | coe b =>
      induction s with
      | bot => rw [wt_bot, wt_bot, mul_zero]
      | top => exact absurd h (by simp)
      | coe a =>
        unfold wt
        rw [← EReal.coe_sub, ← EReal.coe_sub, ← EReal.coe_sub]
        show ((Real.rpow 2 (b - c) : ℝ) : EReal) * ((Real.rpow 2 (a - b) : ℝ) : EReal) = ((Real.rpow 2 (a - c) : ℝ) : EReal)
        rw [← EReal.coe_mul]
        congr 1
        show (2 : ℝ) ^ (b - c) * (2 : ℝ) ^ (a - b) = (2 : ℝ) ^ (a - c)
        rw [← Real.rpow_add (by norm_num)]
        congr 1; ring

/-- A nonnegative real factor distributes over a sum of extended reals. -/
theorem mul_sum_of_real {ι : Type*} (S : Finset ι) (f : ι → EReal) {r : ℝ} (hr : 0 ≤ r) :
    (r : EReal) * ∑ i ∈ S, f i = ∑ i ∈ S, (r : EReal) * f i := by
  classical
  induction S using Finset.induction_on with
  | empty => simp
  | insert a S ha ih =>
    rw [Finset.sum_insert ha, Finset.sum_insert ha, EReal.left_distrib_of_nonneg_of_ne_top (EReal.coe_nonneg.2 hr) (EReal.coe_ne_top r), ih]

/-! ## The running maximum and sums -/

/-- The greatest of the first `n` scores, -/
def sup (s : ℕ → EReal) (n : ℕ) : EReal := (Finset.range n).sup s
/-- their weights against `v`. -/
def wsum (s v : ℕ → EReal) (n : ℕ) : EReal := ∑ j ∈ Finset.range n, v j * wt (s j) (sup s n)

theorem le_sup {s : ℕ → EReal} {n j : ℕ} (h : j < n) : s j ≤ sup s n := Finset.le_sup (f := s) (Finset.mem_range.2 h)

theorem sup_add (s : ℕ → EReal) (n k : ℕ) : sup s (n + k) = max (sup s n) (sup (fun j => s (n + j)) k) := by
  apply le_antisymm
  · refine Finset.sup_le fun j hj => ?_
    rcases Nat.lt_or_ge j n with h | h
    · exact le_max_of_le_left (le_sup h)
    · obtain ⟨i, rfl⟩ := Nat.exists_eq_add_of_le h
      exact le_max_of_le_right (le_sup (s := fun j => s (n + j)) (by have := Finset.mem_range.1 hj; omega))
  · refine max_le (Finset.sup_le fun j hj => le_sup ?_) (Finset.sup_le fun j hj => le_sup (s := s) ?_)
    · have := Finset.mem_range.1 hj; omega
    · have := Finset.mem_range.1 hj; omega

/-- A piece of the keys added to the weighted sum. -/
theorem wsum_add (s v : ℕ → EReal) (n k : ℕ) :
    wsum s v (n + k) = wt (sup s n) (sup s (n + k)) * wsum s v n + ∑ j ∈ Finset.range k, v (n + j) * wt (s (n + j)) (sup s (n + k)) := by
  unfold wsum
  rw [Finset.sum_range_add]
  congr 1
  have hle : sup s n ≤ sup s (n + k) := by rw [sup_add]; exact le_max_left _ _
  obtain ⟨r, hr, e⟩ := wt_real hle
  rw [e, mul_sum_of_real _ _ hr]
  refine Finset.sum_congr rfl fun j hj => ?_
  rw [← wt_mul (le_sup (Finset.mem_range.1 hj)) hle, e]
  rw [← mul_assoc, ← mul_assoc, mul_comm (v j)]

/-- Masked keys at the end change nothing: the maximum -/
theorem sup_tail {s : ℕ → EReal} {n N : ℕ} (h : n ≤ N) (hs : ∀ j, n ≤ j → s j = ⊥) : sup s N = sup s n := by
  apply le_antisymm
  · refine Finset.sup_le fun j hj => ?_
    rcases Nat.lt_or_ge j n with h' | h'
    · exact le_sup h'
    · rw [hs j h']; exact bot_le
  · exact Finset.sup_le fun j hj => le_sup (by have := Finset.mem_range.1 hj; omega)

/-- and the weighted sum. -/
theorem wsum_tail {s v : ℕ → EReal} {n N : ℕ} (h : n ≤ N) (hs : ∀ j, n ≤ j → s j = ⊥) : wsum s v N = wsum s v n := by
  unfold wsum
  obtain ⟨k, rfl⟩ := Nat.exists_eq_add_of_le h
  rw [Finset.sum_range_add, sup_tail h hs]
  refine (congrArg _ (Finset.sum_eq_zero fun j _ => ?_)).trans (add_zero _)
  rw [hs (n + j) (Nat.le_add_right _ _), wt_bot, mul_zero]

/-! ## Base e -/

/-- The logarithm of two, by which scores in base e exceed those in base two. -/
def ln2 : ℝ := Real.log 2

theorem ln2_pos : 0 < ln2 := Real.log_pos (by norm_num)

theorem exp_ln2 (x : EReal) : Ideal.exp ((ln2 : EReal) * x) = Ideal.exp2 x := by
  induction x with
  | bot => rw [EReal.coe_mul_bot_of_pos ln2_pos]; rfl
  | top => rw [EReal.coe_mul_top_of_pos ln2_pos]; rfl
  | coe r =>
    rw [← EReal.coe_mul]
    show ((Real.exp (ln2 * r) : ℝ) : EReal) = ((Real.rpow 2 r : ℝ) : EReal)
    congr 1
    exact (Real.rpow_def_of_pos (by norm_num) r).symm

/-- A weight in base e. -/
theorem exp_wt (s m : EReal) : Ideal.exp ((ln2 : EReal) * s - (ln2 : EReal) * m) = wt s m := by
  unfold wt
  rw [← exp_ln2, sub_eq_add_neg, sub_eq_add_neg, EReal.left_distrib_of_nonneg_of_ne_top (EReal.coe_nonneg.2 ln2_pos.le) (EReal.coe_ne_top _), mul_neg]

theorem ln2_mono {a b : EReal} (h : a ≤ b) : (ln2 : EReal) * a ≤ (ln2 : EReal) * b :=
  mul_le_mul_of_nonneg_left h (EReal.coe_nonneg.2 ln2_pos.le)

/-! ## The difference of two softmaxes -/

/-- Zero or an infinity. -/
def Flat (x : EReal) : Prop := x = 0 ∨ x = ⊤ ∨ x = ⊥

theorem Flat.add {x y : EReal} (hx : Flat x) (hy : Flat y) : Flat (x + y) := by
  rcases hx with rfl | rfl | rfl <;> rcases hy with rfl | rfl | rfl <;> simp [Flat]

theorem Flat.sum {ι : Type*} (S : Finset ι) (f : ι → EReal) (h : ∀ i, Flat (f i)) : Flat (∑ i ∈ S, f i) := by
  classical
  induction S using Finset.induction_on with
  | empty => exact .inl (by simp)
  | insert a S ha ih => rw [Finset.sum_insert ha]; exact (h a).add ih

theorem Flat.mul_real {x : EReal} (hx : Flat x) (r : ℝ) : Flat ((r : EReal) * x) := by
  rcases hx with rfl | rfl | rfl
  · exact .inl (mul_zero _)
  · rcases lt_trichotomy r 0 with h | rfl | h
    · exact .inr (.inr (EReal.coe_mul_top_of_neg h))
    · exact .inl (by simp)
    · exact .inr (.inl (EReal.coe_mul_top_of_pos h))
  · rcases lt_trichotomy r 0 with h | rfl | h
    · exact .inr (.inl (EReal.coe_mul_bot_of_neg h))
    · exact .inl (by simp)
    · exact .inr (.inr (EReal.coe_mul_bot_of_pos h))

theorem div_real {a b : ℝ} (h : b ≠ 0) : Ideal.div (a : EReal) (b : EReal) = ((a / b : ℝ) : EReal) := by
  unfold Ideal.div
  rw [if_neg (by exact_mod_cast h), ← EReal.coe_inv, ← EReal.coe_mul, div_eq_mul_inv]

theorem div_zero_zero : Ideal.div 0 0 = ⊥ := by
  unfold Ideal.div
  rw [if_pos rfl, if_neg (lt_irrefl _)]

theorem sum_coe {ι : Type*} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- The two orders of normalising: each softmax's attended values over its sum and then the difference, against the difference of
    the two softmaxes and then the values. They agree, or both are zeros and infinities throughout: where a sum of weights is zero. -/
theorem attend {D : Type*} (N : ℕ) (e f : ℕ → ℝ) (he : ∀ j, 0 ≤ e j) (hf : ∀ j, 0 ≤ f j) (v : ℕ → D → ℝ) (lam : ℝ)
    (K R : D → EReal)
    (hK : ∀ d, K d = Ideal.div (∑ j ∈ Finset.range N, (v j d : EReal) * (e j : EReal)) (∑ j ∈ Finset.range N, (e j : EReal))
      - (lam : EReal) * Ideal.div (∑ j ∈ Finset.range N, (v j d : EReal) * (f j : EReal)) (∑ j ∈ Finset.range N, (f j : EReal)))
    (hR : ∀ d, R d = ∑ j ∈ Finset.range N, (v j d : EReal) * (Ideal.div (e j) (∑ j ∈ Finset.range N, (e j : EReal))
      - (lam : EReal) * Ideal.div (f j) (∑ j ∈ Finset.range N, (f j : EReal)))) :
    (∀ d, K d = R d) ∨ ((∀ d, Flat (K d)) ∧ ∀ d, Flat (R d)) := by
  have hflat : ∀ x : EReal, Flat x → ((∀ d, R d = ∑ j ∈ Finset.range N, (v j d : EReal) * x) → ∀ d, Flat (R d)) := fun x hx h d => by
    rw [h d]; exact Flat.sum _ _ fun j => hx.mul_real _
  simp only [← EReal.coe_mul, sum_coe] at hK hR
  have hz : ∀ g : ℕ → ℝ, (∀ j, 0 ≤ g j) → ∑ j ∈ Finset.range N, g j = 0 → ∀ j ∈ Finset.range N, g j = 0 := fun g hg h =>
    (Finset.sum_eq_zero_iff_of_nonneg fun j _ => hg j).1 h
  have hzv : ∀ g : ℕ → ℝ, (∀ j, 0 ≤ g j) → ∑ j ∈ Finset.range N, g j = 0 → ∀ d, ∑ j ∈ Finset.range N, v j d * g j = 0 := fun g hg h d =>
    Finset.sum_eq_zero fun j hj => by rw [hz g hg h j hj, mul_zero]
  by_cases hE : ∑ j ∈ Finset.range N, e j = 0
  · right
    have hKb : ∀ d, K d = ⊥ := fun d => by
      rw [hK d, hE, hzv e he hE d, EReal.coe_zero, div_zero_zero, EReal.bot_sub]
    have hRb : ∀ d, R d = ∑ j ∈ Finset.range N, (v j d : EReal) * ⊥ := fun d => by
      rw [hR d]
      refine Finset.sum_congr rfl fun j hj => ?_
      rw [hE, hz e he hE j hj, EReal.coe_zero, div_zero_zero, EReal.bot_sub]
    exact ⟨fun d => .inr (.inr (hKb d)), hflat ⊥ (.inr (.inr rfl)) hRb⟩
  by_cases hF : ∑ j ∈ Finset.range N, f j = 0
  · by_cases hl : lam = 0
    · left
      intro d
      rw [hK d, hR d, hl, EReal.coe_zero, zero_mul, sub_zero, div_real hE, Finset.sum_div, ← sum_coe]
      refine Finset.sum_congr rfl fun j hj => ?_
      rw [zero_mul, sub_zero, div_real hE, ← EReal.coe_mul, mul_div_assoc]
    · right
      have hlb : (lam : EReal) * ⊥ = ⊥ ∨ (lam : EReal) * ⊥ = ⊤ := by
        rcases lt_or_gt_of_ne hl with h | h
        · exact .inr (EReal.coe_mul_bot_of_neg h)
        · exact .inl (EReal.coe_mul_bot_of_pos h)
      have hx : ∃ x : EReal, Flat x ∧ ∀ r : ℝ, (r : EReal) - (lam : EReal) * ⊥ = x := by
        rcases hlb with h | h
        · exact ⟨⊤, .inr (.inl rfl), fun r => by rw [h]; exact EReal.coe_sub_bot r⟩
        · exact ⟨⊥, .inr (.inr rfl), fun r => by rw [h]; exact EReal.sub_top _⟩
      obtain ⟨x, hx, hr⟩ := hx
      refine ⟨fun d => ?_, hflat x hx fun d => ?_⟩
      · rw [hK d, hF, hzv f hf hF d, EReal.coe_zero, div_zero_zero, div_real hE, hr]; exact hx
      · rw [hR d]
        refine Finset.sum_congr rfl fun j hj => ?_
        rw [hF, hz f hf hF j hj, EReal.coe_zero, div_zero_zero, div_real hE, hr]
  · left
    intro d
    rw [hK d, hR d, div_real hE, div_real hF, ← EReal.coe_mul, ← EReal.coe_sub]
    have : ∀ j, (v j d : EReal) * (Ideal.div (e j) ((∑ j ∈ Finset.range N, e j : ℝ) : EReal) - (lam : EReal) * Ideal.div (f j) ((∑ j ∈ Finset.range N, f j : ℝ) : EReal))
        = ((v j d * (e j / (∑ j ∈ Finset.range N, e j) - lam * (f j / (∑ j ∈ Finset.range N, f j))) : ℝ) : EReal) := fun j => by
      rw [div_real hE, div_real hF, ← EReal.coe_mul, ← EReal.coe_sub, ← EReal.coe_mul]
    simp only [this, sum_coe]
    congr 1
    rw [Finset.sum_div, Finset.sum_div, Finset.mul_sum, ← Finset.sum_sub_distrib]
    refine Finset.sum_congr rfl fun j _ => ?_
    ring

/-! ## The norm of a head -/

/-- A head's values over their root mean square. -/
def norm {n : ℕ} (c e : EReal) (o : Fin n → EReal) (d : Fin n) : EReal :=
  o d * Ideal.rsqrt (Ideal.div (∑ k, o k * o k) c + e)

theorem sum_sq_top {n : ℕ} (o : Fin n → EReal) (d : Fin n) (h : o d * o d = ⊤) (h' : ∀ k, 0 ≤ o k * o k) : ∑ k, o k * o k = ⊤ := by
  apply top_le_iff.1
  rw [← h]
  exact Finset.single_le_sum (f := fun k => o k * o k) (fun k _ => h' k) (Finset.mem_univ d)

/-- A head of zeros and infinities has norm zero. -/
theorem norm_flat {n : ℕ} {c e : ℝ} (hc : 0 < c) (o : Fin n → EReal) (ho : ∀ d, Flat (o d)) (d : Fin n) : norm (c : EReal) (e : EReal) o d = 0 := by
  unfold norm
  by_cases h : ∀ k, o k = 0
  · rw [h d, zero_mul]
  · push Not at h
    obtain ⟨k, hk⟩ := h
    have hsq : o k * o k = ⊤ := by
      rcases ho k with h | h | h
      · exact absurd h hk
      · rw [h]; exact EReal.top_mul_top
      · rw [h]; exact EReal.bot_mul_bot
    have h0 : ∀ k, 0 ≤ o k * o k := fun k => by
      rcases ho k with h | h | h <;> rw [h] <;> simp
    rw [sum_sq_top o k hsq h0]
    have : Ideal.div ⊤ (c : EReal) = ⊤ := by
      unfold Ideal.div
      rw [if_neg (by exact_mod_cast hc.ne'), ← EReal.coe_inv, EReal.top_mul_coe_of_pos (inv_pos.2 hc)]
    rw [this, EReal.top_add_coe]
    exact mul_zero _

end Cert.Flash

end
-- ==== Proof.Rows.lean ====
/-
  The kernel's stages at an index, over extended reals: each chain's maximum, sum and weighted sums after a chunk
  of keys are those of the keys so far.
-/
module

public import proofs.«01_k».proof.Proof.Whole
public import proofs.«01_k».proof.Proof.Math
public import Idealize.ShloMosaic.Lib.Pointwise

@[expose] public section

noncomputable section

namespace Cert.KernelIdeal.Flash

open Idealize.ShloMosaic Cert.KernelIdeal Cert.Flash Facts₀ Facts

variable [Facts]

/-! ## Constants -/

theorem mask_eq : (Named.named κ "mask" 0xF149F2CA#32 : Ideal .f32) = ⊥ := by simp [Named.named, κ]
theorem halfMask_eq : (Named.named κ "half_mask" 0xF0C9F2CA#32 : Ideal .f32) = ⊥ := by simp [Named.named, κ]
theorem qscale_eq : (Named.named κ "qscale" 0x3E38AA3B#32 : Ideal .f32) = (((8 * Real.log 2)⁻¹ : ℝ) : EReal) := by simp [Named.named, κ]
theorem negInf_eq : Ideal.ofBits .f32 0xFF800000#32 = ⊥ := by simp [Ideal.ofBits, Ideal.ieee]

/-! ## Stages -/

theorem scores_apply (kb : Vec Ideal S1x256x128 .bf16) (q : Vec Ideal S1x128x256 .bf16) (r x : Fin 256) :
    scores (F := Ideal) kb q (ix2 r x) = ∑ j : Fin 128, kb (ix3 0 r j) * q (ix3 0 j x) := by
  pointwise [scores]

theorem pv_apply (v : Vec Ideal S1x1x128x256 .bf16) (p : FVec Ideal S256x256 .f32) (d : Fin 128) (x : Fin 256) :
    pv (F := Ideal) v p (ix2 d x) = ∑ r : Fin 256, v (ix4 0 0 d r) * p (ix2 r x) := by
  pointwise [pv]

theorem weights_apply (s : Vec Ideal S256x256 .f32) (sh : FVec Ideal S1x256 .f32) (r x : Fin 256) :
    weights (F := Ideal) s sh (ix2 r x) = wt (s (ix2 r x)) (sh (ix2 0 x)) := by
  pointwise [weights]
  rfl

theorem lNew_apply (al l : FVec Ideal S1x256 .f32) (s : FVec Ideal S8x256 .f32) (x : Fin 256) :
    lNew (F := Ideal) al l s (ix2 0 x) = al (ix2 0 x) * l (ix2 0 x) + ∑ a : Fin 8, s (ix2 a x) := by
  pointwise [lNew]

theorem accPay_apply (al : FVec Ideal S1x256 .f32) (acc : Vec Ideal S1x128x256 .f32) (y : FVec Ideal S128x256 .f32) (d : Fin 128) (x : Fin 256) :
    accPay (F := Ideal) al acc y (ix3 0 d x) = al (ix2 0 x) * acc (ix3 0 d x) + y (ix2 d x) := by
  pointwise [accPay]

theorem tri_apply (r x : Fin 256) : tri (F := Ideal) (ix2 r x) = if r.val ≤ x.val then 0 else ⊥ := by
  pointwise [tri]
  rw [mask_eq]
  have h : IntOp.cmpi .sle (BitVec.ofNat 32 r.val) (BitVec.ofNat 32 x.val) = if r.val ≤ x.val then 1#1 else 0#1 := by
    simp only [IntOp.cmpi]
    have hr := r.isLt
    have hx := x.isLt
    have h1 : (BitVec.ofNat 32 r.val).toInt = r.val := by rw [BitVec.toInt_ofNat']; simp [Int.bmod]; omega
    have h2 : (BitVec.ofNat 32 x.val).toInt = x.val := by rw [BitVec.toInt_ofNat']; simp [Int.bmod]; omega
    rw [BitVec.sle, h1, h2]
    by_cases hh : r.val ≤ x.val
    · rw [if_pos hh, decide_eq_true (by exact_mod_cast hh)]; rfl
    · rw [if_neg hh, decide_eq_false (by exact_mod_cast hh)]; rfl
  rw [h]
  by_cases hh : r.val ≤ x.val <;> simp [hh, Scalar.select]

theorem below_apply (j : Fin 128) : IntOp.cmpi .slt (BitVec.ofNat 32 j.val) 64#32 = if j.val < 64 then 1#1 else 0#1 := by
  revert j; decide
theorem above_apply (j : Fin 128) : IntOp.cmpi .sge (BitVec.ofNat 32 j.val) 64#32 = if j.val < 64 then 0#1 else 1#1 := by
  revert j; decide

theorem qLow_apply (q : Vec Ideal S1x1x128x256 .bf16) (j : Fin 128) (x : Fin 256) :
    qLow (F := Ideal) q (ix3 0 j x) = if j.val < 64 then q (ix4 0 0 j x) * (((8 * Real.log 2)⁻¹ : ℝ) : EReal) else 0 := by
  pointwise [qLow, scaled]
  rw [below_apply, qscale_eq]
  by_cases h : j.val < 64 <;> simp [h, Scalar.select]

theorem qHigh_apply (q : Vec Ideal S1x1x128x256 .bf16) (j : Fin 128) (x : Fin 256) :
    qHigh (F := Ideal) q (ix3 0 j x) = if j.val < 64 then 0 else q (ix4 0 0 j x) * (((8 * Real.log 2)⁻¹ : ℝ) : EReal) := by
  pointwise [qHigh, scaled]
  rw [above_apply, qscale_eq]
  by_cases h : j.val < 64 <;> simp [h, Scalar.select]

theorem shift_apply (m' : FVec Ideal S1x256 .f32) (raw : FVec Ideal S8x256 .f32) (x : Fin 256)
    (h : rowMax (F := Ideal) raw (ix2 0 x) ≤ m' (ix2 0 x)) : shift (F := Ideal) m' raw (ix2 0 x) = m' (ix2 0 x) := by
  pointwise [shift]
  rw [halfMask_eq]
  split
  · rfl
  · next hb =>
    have hb' : m' (ix2 0 x) = ⊥ := not_bot_lt_iff.1 hb
    rw [hb'] at h ⊢
    exact le_bot_iff.1 h

theorem alpha_apply (m m' : FVec Ideal S1x256 .f32) (x : Fin 256) : alpha (F := Ideal) m m' (ix2 0 x) = wt (m (ix2 0 x)) (m' (ix2 0 x)) := rfl

theorem mNew_apply (m : FVec Ideal S1x256 .f32) (s : FVec Ideal S8x256 .f32) (x : Fin 256) :
    mNew (F := Ideal) m s (ix2 0 x) = max (m (ix2 0 x)) (rowMax (F := Ideal) s (ix2 0 x)) := by
  pointwise [mNew]

theorem m0_apply (x : Fin 256) : m0 (F := Ideal) (ix2 0 x) = ⊥ := mask_eq
theorem l0_apply (x : Fin 256) : l0 (F := Ideal) (ix2 0 x) = 0 := by pointwise [l0]
theorem accZero_apply (c : Fin 8) (d : Fin 128) (x : Fin 256) : (View.ld (accZero (F := Ideal)) (qBox c) : Vec Ideal S1x128x256 .f32) (ix3 0 d x) = 0 := by
  pointwise [accZero]

theorem lam_apply (v : Vec Ideal S4x64 .f32) : lam (F := Ideal) v (ix2 0 0) =
    Ideal.exp (∑ i, v (ix2 0 i) * v (ix2 1 i)) - Ideal.exp (∑ i, v (ix2 2 i) * v (ix2 3 i)) + Ideal.ofBits .f32 0x3E4CCCCD#32 := by
  pointwise [lam]

/-- One head's difference of attended values. -/
def diff (lm : EReal) (a : Fin 128 → EReal) (l : EReal) (b : Fin 128 → EReal) (k : EReal) (d : Fin 128) : EReal :=
  Ideal.div (a d) l - lm * Ideal.div (b d) k

theorem oPay_apply (lm : FVec Ideal S1x1 .f32) (a : Vec Ideal S1x128x256 .f32) (l : FVec Ideal S1x256 .f32) (b : Vec Ideal S1x128x256 .f32) (k : FVec Ideal S1x256 .f32)
    (g : Vec Ideal S128x1 .f32) (d : Fin 128) (x : Fin 256) : oPay (F := Ideal) lm a l b k g (ix3 0 x d) =
      norm (Ideal.ofBits .f32 0x43000000#32) (Ideal.ofBits .f32 0x358637BD#32)
        (diff (lm (ix2 0 0)) (fun d => a (ix3 0 d x)) (l (ix2 0 x)) (fun d => b (ix3 0 d x)) (k (ix2 0 x))) d * g (ix2 d 0) * Ideal.ofBits .f32 0x3F4CCCCD#32 := by
  pointwise [oPay, headNorm, mixed, normed]
  rfl

/-! ## A granule -/

/-- A granule's largest score in column `x`. -/
def top (s : FVec Ideal S256x256 .f32) (x : Fin 256) : EReal := Finset.univ.sup fun r : Fin 256 => s (ix2 r x)

theorem rowMax_apply (s : FVec Ideal S8x256 .f32) (x : Fin 256) :
    rowMax (F := Ideal) s (ix2 0 x) = Finset.univ.sup fun a : Fin 8 => s (ix2 a x) := by
  pointwise [rowMax]
  rw [negInf_eq]
  rfl

/-- A row of a granule, by the three parts its sums are taken over. -/
def parts : Fin 8 × Fin 4 × Fin 8 ≃ Fin 256 where
  toFun p := ⟨p.2.1.val * 64 + p.2.2.val * 8 + p.1.val, by omega⟩
  invFun r := (⟨r.val % 8, by omega⟩, ⟨r.val / 64, by omega⟩, ⟨r.val % 64 / 8, by omega⟩)
  left_inv p := by
    obtain ⟨a, i, j⟩ := p
    refine Prod.ext (Fin.ext ?_) (Prod.ext (Fin.ext ?_) (Fin.ext ?_)) <;> simp only [] <;> omega
  right_inv r := Fin.ext (by simp only []; omega)

theorem sup_parts (f : Fin 256 → EReal) :
    (Finset.univ.sup fun a : Fin 8 => Finset.univ.sup fun i : Fin 4 => Finset.univ.sup fun j : Fin 8 => f (parts (a, i, j))) = Finset.univ.sup f := by
  refine le_antisymm ?_ ?_
  · exact Finset.sup_le fun a _ => Finset.sup_le fun i _ => Finset.sup_le fun j _ => Finset.le_sup (Finset.mem_univ _)
  · refine Finset.sup_le fun r _ => ?_
    obtain ⟨⟨a, i, j⟩, rfl⟩ := parts.surjective r
    refine le_trans (Finset.le_sup (f := fun j : Fin 8 => f (parts (a, i, j))) (Finset.mem_univ j)) ?_
    refine le_trans (Finset.le_sup (f := fun i : Fin 4 => Finset.univ.sup fun j : Fin 8 => f (parts (a, i, j))) (Finset.mem_univ i)) ?_
    exact Finset.le_sup (f := fun a : Fin 8 => Finset.univ.sup fun i : Fin 4 => Finset.univ.sup fun j : Fin 8 => f (parts (a, i, j))) (Finset.mem_univ a)

theorem rowMax_grpMax (s : FVec Ideal S256x256 .f32) (x : Fin 256) : rowMax (F := Ideal) (grpMax s) (ix2 0 x) = top s x := by
  rw [rowMax_apply, top, ← sup_parts]
  have h : ∀ a : Fin 8, grpMax (F := Ideal) s (ix2 a x) =
      Finset.univ.sup fun i : Fin 4 => Finset.univ.sup fun j : Fin 8 => s (ix2 (parts (a, i, j)) x) := by
    intro a
    pointwise [grpMax]
    rw [negInf_eq]
    rfl
  simp only [h]

theorem sum_grpSum (p : FVec Ideal S256x256 .f32) (x : Fin 256) :
    (∑ a : Fin 8, grpSum (F := Ideal) p (ix2 a x)) = ∑ r : Fin 256, p (ix2 r x) := by
  have h : ∀ a : Fin 8, grpSum (F := Ideal) p (ix2 a x) = ∑ i : Fin 4, ∑ j : Fin 8, p (ix2 (parts (a, i, j)) x) := by
    intro a
    pointwise [grpSum]
    rfl
  simp only [h]
  rw [← Equiv.sum_comp parts, Fintype.sum_prod_type]
  exact Finset.sum_congr rfl fun a _ => (Fintype.sum_prod_type fun q : Fin 4 × Fin 8 => p (ix2 (parts (a, q)) x)).symm

/-! ## A chunk -/

theorem rowMax_max2 (y : FVec Ideal S8x256 .f32) (s : FVec Ideal S256x256 .f32) (x : Fin 256) :
    rowMax (F := Ideal) (max2 y (mPay s)) (ix2 0 x) = max (rowMax (F := Ideal) y (ix2 0 x)) (top s x) := by
  rw [← rowMax_grpMax, rowMax_apply, rowMax_apply, rowMax_apply]
  have h : ∀ a : Fin 8, max2 (F := Ideal) y (mPay s) (ix2 a x) = y (ix2 a x) ⊔ grpMax (F := Ideal) s (ix2 a x) := by
    intro a
    pointwise [max2, mPay]
  simp only [h]
  exact Finset.sup_sup

theorem rowMax_foldl (s : Fin 4 → FVec Ideal S256x256 .f32) (x : Fin 256) : ∀ (ws : List (Fin 4)) (y : FVec Ideal S8x256 .f32),
    rowMax (F := Ideal) (ws.foldl (fun x w => max2 x (mPay (s w))) y) (ix2 0 x) =
      ws.foldl (fun t w => max t (top (s w) x)) (rowMax (F := Ideal) y (ix2 0 x))
  | [], _ => rfl
  | w :: ws, y => by
    rw [List.foldl_cons, List.foldl_cons, rowMax_foldl s x ws, rowMax_max2]

theorem rowMax_seen (s : Fin 4 → FVec Ideal S256x256 .f32) (x : Fin 256) (ws : List (Fin 4)) :
    rowMax (F := Ideal) (seen s ws) (ix2 0 x) = ws.foldl (fun t w => max t (top (s w) x)) (top (s 0) x) := by
  rw [seen, rowMax_foldl, ← rowMax_grpMax]
  have h : ∀ a : Fin 8, (shapeCast S8x256 (mPay (F := Ideal) (s 0) : Vec Ideal S1x8x256 .f32) shapeCasts_S1x8x256_S8x256 : FVec Ideal S8x256 .f32) (ix2 a x)
      = grpMax (F := Ideal) (s 0) (ix2 a x) := by
    intro a
    pointwise [mPay]
  have h' : rowMax (F := Ideal) (shapeCast S8x256 (mPay (F := Ideal) (s 0) : Vec Ideal S1x8x256 .f32) shapeCasts_S1x8x256_S8x256 : FVec Ideal S8x256 .f32) (ix2 0 x)
      = rowMax (F := Ideal) (grpMax (s 0)) (ix2 0 x) := by
    rw [rowMax_apply, rowMax_apply]
    simp only [h]
  exact congrArg (fun t => ws.foldl (fun t w => max t (top (s w) x)) t) h'

variable (s : Fin 4 → FVec Ideal S256x256 .f32) (v : Fin 4 → Vec Ideal S1x1x128x256 .bf16) (sh : FVec Ideal S1x256 .f32) (x : Fin 256)

/-- The sum of a granule's weights in column `x`, -/
def tot (w : Fin 4) : EReal := ∑ r : Fin 256, wt (s w (ix2 r x)) (sh (ix2 0 x))
/-- and against feature `d` of the values. -/
def totV (d : Fin 128) (w : Fin 4) : EReal := ∑ r : Fin 256, v w (ix4 0 0 d r) * wt (s w (ix2 r x)) (sh (ix2 0 x))

theorem sPay_eq (t : FVec Ideal S256x256 .f32) : sPay (F := Ideal) t = t := by
  exact shapeCast_self _ _

theorem grpSum_weights (w : Fin 4) : (∑ a : Fin 8, grpSum (F := Ideal) (weights (sPay (s w)) sh) (ix2 a x)) = tot s sh x w := by
  rw [sum_grpSum, sPay_eq]
  exact Finset.sum_congr rfl fun r _ => weights_apply _ _ _ _

theorem pv_weights (d : Fin 128) (w : Fin 4) : pv (F := Ideal) (v w) (weights (sPay (s w)) sh) (ix2 d x) = totV s v sh x d w := by
  rw [pv_apply, sPay_eq]
  exact Finset.sum_congr rfl fun r _ => by rw [weights_apply]

theorem summed_foldl (d : Fin 128) : ∀ (ws : List (Fin 4)) (p : FVec Ideal S8x256 .f32 × FVec Ideal S128x256 .f32),
    (∑ a : Fin 8, (ws.foldl (fun p w => (addf p.1 (grpSum (weights (sPay (s w)) sh)), addf p.2 (pv (v w) (weights (sPay (s w)) sh)))) p).1 (ix2 a x))
        = ws.foldl (fun t w => t + tot s sh x w) (∑ a : Fin 8, p.1 (ix2 a x))
      ∧ (ws.foldl (fun p w => (addf p.1 (grpSum (weights (sPay (s w)) sh)), addf p.2 (pv (v w) (weights (sPay (s w)) sh)))) p).2 (ix2 d x)
        = ws.foldl (fun t w => t + totV s v sh x d w) (p.2 (ix2 d x))
  | [], _ => ⟨rfl, rfl⟩
  | w :: ws, p => by
    have h := summed_foldl d ws (addf p.1 (grpSum (weights (sPay (s w)) sh)), addf p.2 (pv (v w) (weights (sPay (s w)) sh)))
    rw [List.foldl_cons, List.foldl_cons, List.foldl_cons]
    refine ⟨h.1.trans ?_, h.2.trans ?_⟩
    · congr 1
      rw [← grpSum_weights, ← Finset.sum_add_distrib]
      rfl
    · congr 1
      rw [← pv_weights]
      rfl

theorem summed_apply (d : Fin 128) (ws : List (Fin 4)) :
    (∑ a : Fin 8, (summed s v sh ws).1 (ix2 a x)) = ws.foldl (fun t w => t + tot s sh x w) (tot s sh x 0)
      ∧ (summed s v sh ws).2 (ix2 d x) = ws.foldl (fun t w => t + totV s v sh x d w) (totV s v sh x d 0) := by
  have h := summed_foldl s v sh x d ws (grpSum (weights (sPay (s 0)) sh), pv (v 0) (weights (sPay (s 0)) sh))
  rw [show (∑ a : Fin 8, (grpSum (F := Ideal) (weights (sPay (s 0)) sh), pv (F := Ideal) (v 0) (weights (sPay (s 0)) sh)).1 (ix2 a x)) = tot s sh x 0
      from grpSum_weights s sh x 0,
    show (grpSum (F := Ideal) (weights (sPay (s 0)) sh), pv (F := Ideal) (v 0) (weights (sPay (s 0)) sh)).2 (ix2 d x) = totV s v sh x d 0
      from pv_weights s v sh x d 0] at h
  exact h

/-- The granules up to the one numbered `b`, the first left out. -/
def upTo (b : Fin 4) : List (Fin 4) := [[], [1], [1, 2], [1, 2, 3]].get b

theorem foldl_upTo (op : EReal → EReal → EReal) (A : ℕ → EReal) (t : Fin 4 → EReal) (b : Fin 4) (h0 : A 1 = t 0)
    (h : ∀ w ≤ b, 0 < w.val → A (w.val + 1) = op (A w.val) (t w)) : (upTo b).foldl (fun y w => op y (t w)) (t 0) = A (b.val + 1) := by
  fin_cases b
  · exact h0.symm
  · have h1 : A 2 = op (A 1) (t 1) := h 1 (by decide) (by decide)
    show op (t 0) (t 1) = A 2
    rw [h1, h0]
  · have h1 : A 2 = op (A 1) (t 1) := h 1 (by decide) (by decide)
    have h2 : A 3 = op (A 2) (t 2) := h 2 (by decide) (by decide)
    show op (op (t 0) (t 1)) (t 2) = A 3
    rw [h2, h1, h0]
  · have h1 : A 2 = op (A 1) (t 1) := h 1 (by decide) (by decide)
    have h2 : A 3 = op (A 2) (t 2) := h 2 (by decide) (by decide)
    have h3 : A 4 = op (A 3) (t 3) := h 3 (by decide) (by decide)
    show op (op (op (t 0) (t 1)) (t 2)) (t 3) = A 4
    rw [h3, h2, h1, h0]

theorem sup_fin (f : ℕ → EReal) (n : ℕ) : Cert.Flash.sup f n = Finset.univ.sup fun r : Fin n => f r.val := by
  refine le_antisymm ?_ ?_
  · refine Finset.sup_le fun j hj => ?_
    exact Finset.le_sup (f := fun r : Fin n => f r.val) (Finset.mem_univ ⟨j, Finset.mem_range.1 hj⟩)
  · exact Finset.sup_le fun r _ => le_sup r.isLt

/-- Chain state `r` is, in column `x`, the one after `n` of the scores `S` with values `v`. -/
def Inv (S : ℕ → EReal) (v : Fin 128 → ℕ → EReal) (x : Fin 256) (r : Run Ideal) (n : ℕ) : Prop :=
  r.m (ix2 0 x) = Cert.Flash.sup S n ∧ r.l (ix2 0 x) = wsum S (fun _ => 1) n ∧ ∀ d, r.acc (ix3 0 d x) = wsum S (v d) n

theorem Inv.step {S : ℕ → EReal} {v : Fin 128 → ℕ → EReal} {x : Fin 256} {r : Run Ideal} {n : ℕ} (h : Inv S v x r n)
    (s : Fin 4 → FVec Ideal S256x256 .f32) (u : Fin 4 → Vec Ideal S1x1x128x256 .bf16) (b : Fin 4)
    (hs : ∀ w ≤ b, ∀ i : Fin 256, s w (ix2 i x) = S (n + (256 * w.val + i.val)))
    (hv : ∀ w ≤ b, ∀ d, ∀ i : Fin 256, u w (ix4 0 0 d i) = v d (n + (256 * w.val + i.val))) :
    Inv S v x (Flash.step s u (upTo b) r) (n + 256 * (b.val + 1)) := by
  obtain ⟨hm, hl, ha⟩ := h
  have hz : (0 : Fin 4) ≤ b := Fin.zero_le _
  have hseen : rowMax (F := Ideal) (seen s (upTo b)) (ix2 0 x) = Cert.Flash.sup (fun j => S (n + j)) (256 * (b.val + 1)) := by
    rw [rowMax_seen]
    refine foldl_upTo max (fun k => Cert.Flash.sup (fun j => S (n + j)) (256 * k)) (fun w => top (s w) x) b ?_ fun w hw _ => ?_
    · show Cert.Flash.sup (fun j => S (n + j)) 256 = _
      rw [sup_fin, top]
      exact congrArg _ (funext fun i => by rw [hs 0 hz]; simp)
    · show Cert.Flash.sup (fun j => S (n + j)) (256 * (w.val + 1)) = _
      rw [Nat.mul_add, sup_add, sup_fin _ (256 * 1), top]
      exact congrArg _ (congrArg _ (funext fun i => (hs w hw i).symm))
  have hm' : mNew (F := Ideal) r.m (seen s (upTo b)) (ix2 0 x) = Cert.Flash.sup S (n + 256 * (b.val + 1)) := by
    rw [mNew_apply, hm, hseen, sup_add]
  have hsh : shift (F := Ideal) (mNew (F := Ideal) r.m (seen s (upTo b))) (seen s (upTo b)) (ix2 0 x) = Cert.Flash.sup S (n + 256 * (b.val + 1)) := by
    rw [shift_apply, hm']
    rw [mNew_apply]
    exact le_max_right _ _
  refine ⟨hm', ?_, fun d => ?_⟩
  · show lNew (F := Ideal) _ _ _ (ix2 0 x) = _
    rw [lNew_apply, alpha_apply, hm', hm, hl, (summed_apply s u _ x 0 (upTo b)).1, wsum_add]
    congr 1
    refine foldl_upTo (· + ·) (fun k => ∑ j ∈ Finset.range (256 * k), 1 * wt (S (n + j)) (Cert.Flash.sup S (n + 256 * (b.val + 1)))) _ b ?_ fun w hw _ => ?_
    · show ∑ j ∈ Finset.range 256, _ = _
      rw [Finset.sum_range, tot, hsh]
      exact Finset.sum_congr rfl fun i _ => by rw [hs 0 hz, one_mul]; simp
    · show ∑ j ∈ Finset.range (256 * (w.val + 1)), _ = _
      rw [Nat.mul_add, Finset.sum_range_add, Finset.sum_range (n := 256 * 1), tot, hsh]
      exact congrArg _ (Finset.sum_congr rfl fun i _ => by rw [hs w hw, one_mul])
  · show accPay (F := Ideal) _ _ _ (ix3 0 d x) = _
    rw [accPay_apply, alpha_apply, hm', hm, ha, (summed_apply s u _ x d (upTo b)).2, wsum_add]
    congr 1
    refine foldl_upTo (· + ·) (fun k => ∑ j ∈ Finset.range (256 * k), v d (n + j) * wt (S (n + j)) (Cert.Flash.sup S (n + 256 * (b.val + 1)))) _ b ?_ fun w hw _ => ?_
    · show ∑ j ∈ Finset.range 256, _ = _
      rw [Finset.sum_range, totV, hsh]
      exact Finset.sum_congr rfl fun i _ => by rw [hs 0 hz, hv 0 hz]; simp
    · show ∑ j ∈ Finset.range (256 * (w.val + 1)), _ = _
      rw [Nat.mul_add, Finset.sum_range_add, Finset.sum_range (n := 256 * 1), totV, hsh]
      exact congrArg _ (Finset.sum_congr rfl fun i _ => by rw [hs w hw, hv w hw])

/-! ## All the keys -/

variable (k : Blk Ideal)

/-- Column `x` of chain `c` against key `j`: the score, in base-two units. -/
def kscore (c : Fin 8) (x : Fin 256) (j : ℕ) : EReal :=
  if h : j < 8192 then ∑ i : Fin 64, k.x6 (ix3 0 ⟨j, h⟩ ⟨64 * (c.val % 2) + i.val, by omega⟩) *
    (k.x5 (ix4 0 (blockOf c) ⟨64 * (c.val % 2) + i.val, by omega⟩ x) * (((8 * Real.log 2)⁻¹ : ℝ) : EReal))
  else ⊥

/-- The same with keys after the query masked. -/
def mscore (g : Fin 8) (c : Fin 8) (x : Fin 256) (j : ℕ) : EReal :=
  if j ≤ 1024 * g.val + 256 * (blockOf c).val + x.val then kscore k c x j else ⊥

/-- Feature `d` of value `j`. -/
def value (d : Fin 128) (j : ℕ) : EReal := if h : j < 8192 then k.x7 (ix4 0 ⟨j / 256, by omega⟩ d ⟨j % 256, by omega⟩) else 0

theorem scores_queries (c : Fin 8) (x : Fin 256) (n : Fin 8) (w : Fin 4) (i : Fin 256) :
    scores (F := Ideal) (k.kb (kAt n) w) (queries k c) (ix2 i x) = kscore k c x (1024 * n.val + (256 * w.val + i.val)) := by
  have hj : 1024 * n.val + (256 * w.val + i.val) < 8192 := by omega
  rw [scores_apply, kscore, dif_pos hj]
  have hkb : ∀ j : Fin 128, k.kb (kAt n) w (ix3 0 i j) = k.x6 (ix3 0 ⟨1024 * n.val + (256 * w.val + i.val), hj⟩ j) := by
    intro j
    refine congrArg k.x6 (funext fun a => Fin.ext ?_)
    simp only [Rect.emb_apply]
    fin_cases a <;> simp [kAt] <;> omega
  have hqb : ∀ j : Fin 128, k.qb (blockOf c) (ix4 0 0 j x) = k.x5 (ix4 0 (blockOf c) j x) := by
    intro j
    refine congrArg k.x5 (funext fun a => Fin.ext ?_)
    simp only [Rect.emb_apply]
    fin_cases a <;> simp
  simp only [hkb]
  have hsplit : ∀ f : Fin 128 → EReal, ∑ j, f j = (∑ i : Fin 64, f ⟨i.val, by omega⟩) + ∑ i : Fin 64, f ⟨64 + i.val, by omega⟩ :=
    fun f => Fin.sum_univ_add (a := 64) (b := 64) f
  rw [hsplit]
  rcases Nat.mod_two_eq_zero_or_one c.val with hc | hc
  · have hq : queries k c = qLow (k.qb (blockOf c)) := if_pos hc
    rw [hq]
    have hz : ∀ i : Fin 64, ¬ (64 + i.val < 64) := fun i => by omega
    simp only [qLow_apply, hqb, hz, if_false, mul_zero, Finset.sum_const_zero, add_zero, hc]
    refine Finset.sum_congr rfl fun i _ => ?_
    rw [if_pos i.isLt]
    simp
  · have hq : queries k c = qHigh (k.qb (blockOf c)) := if_neg (by omega)
    rw [hq]
    have hz : ∀ i : Fin 64, ¬ (64 + i.val < 64) := fun i => by omega
    simp only [qHigh_apply, hqb, hz, if_false, hc]
    rw [Finset.sum_eq_zero (fun i _ => by rw [if_pos i.isLt, mul_zero]), zero_add]

theorem vb_apply (d : Fin 128) (n : Fin 8) (w : Fin 4) (i : Fin 256) :
    k.vb (vAt n) w (ix4 0 0 d i) = value k d (1024 * n.val + (256 * w.val + i.val)) := by
  have hj : 1024 * n.val + (256 * w.val + i.val) < 8192 := by omega
  rw [value, dif_pos hj]
  refine congrArg k.x7 (funext fun a => Fin.ext ?_)
  simp only [Rect.emb_apply]
  fin_cases a <;> simp [vAt] <;> omega

theorem runs_inv (g c : Fin 8) (x : Fin 256) : ∀ n ≤ g.val, Inv (mscore k g c x) (value k) x (runs k c n) (1024 * n) := by
  intro n
  induction n with
  | zero =>
    intro _
    refine ⟨m0_apply x, l0_apply x, fun d => accZero_apply c d x⟩
  | succ n ih =>
    intro hn
    have hg := g.isLt
    have h := (ih (by omega)).step (full k (kAt (Fin.ofNat 8 n)) (queries k c)) (k.vb (vAt (Fin.ofNat 8 n))) 3
      (fun w _ i => by
        have hf : (Fin.ofNat 8 n).val = n := Nat.mod_eq_of_lt (by omega)
        rw [full, scores_queries, hf, mscore, if_pos (by omega)])
      (fun w _ d i => by
        have hf : (Fin.ofNat 8 n).val = n := Nat.mod_eq_of_lt (by omega)
        rw [vb_apply, hf])
    exact h

theorem final_inv (g c : Fin 8) (x : Fin 256) : Inv (mscore k g c x) (value k) x (final k g c) (1024 * g.val + 256 * ((blockOf c).val + 1)) := by
  have hb : below c = upTo (blockOf c) := by fin_cases c <;> rfl
  rw [final, hb]
  refine (runs_inv k g c x g.val le_rfl).step _ _ _ (fun w hw i => ?_) (fun w hw d i => vb_apply k d g w i)
  have hw' : w.val ≤ (blockOf c).val := hw
  rw [edge]
  split
  · next h =>
    show scores (F := Ideal) _ _ (ix2 i x) + tri (F := Ideal) (ix2 i x) = _
    rw [scores_queries, tri_apply, mscore, h]
    by_cases hi : i.val ≤ x.val
    · rw [if_pos hi, if_pos (by omega), add_zero]
    · rw [if_neg hi, if_neg (by omega), EReal.add_bot]
  · next h =>
    have hlt : w.val < (blockOf c).val := lt_of_le_of_ne hw' fun e => h (Fin.ext e)
    rw [scores_queries, mscore, if_pos (by omega)]

theorem final_l (g c : Fin 8) (x : Fin 256) : (final k g c).l (ix2 0 x) = wsum (mscore k g c x) (fun _ => 1) 8192 := by
  have hb := (blockOf c).isLt
  rw [(final_inv k g c x).2.1]
  exact (wsum_tail (by omega) fun j hj => if_neg (by omega)).symm

theorem final_acc (g c : Fin 8) (x : Fin 256) (d : Fin 128) : (final k g c).acc (ix3 0 d x) = wsum (mscore k g c x) (value k d) 8192 := by
  have hb := (blockOf c).isLt
  rw [(final_inv k g c x).2.2 d]
  exact (wsum_tail (by omega) fun j hj => if_neg (by omega)).symm

end Cert.KernelIdeal.Flash

end
-- ==== Proof.Arrays.lean ====
/-
  The blocks of the kernel's operands and the array of its result, in terms of the arguments.
-/
module

public import proofs.«01_k».proof.Proof.Tile
public import proofs.«01_k».proof.Proof.Rows
public import Idealize.ShloMosaic.Lib.Pipeline.ValueKit

@[expose] public section

set_option maxRecDepth 16384

noncomputable section

namespace Cert.KernelIdeal.Flash

open Idealize.ShloMosaic Idealize.ShloMosaic.TcCoe Cert.KernelIdeal Cert.KernelIdeal.Gen Cert.Flash

variable (m : (ℓ : Loc nD τ sig) → Buf (Elt Ideal) ℓ) (c : Dev nD) (t : Fin cfg0.N)

/-! ## Where the blocks lie -/

theorem index_facts : ∀ t : Fin grid0.N,
    win0_0.index t = ![0, 0] ∧ win0_1.index t = ![0, 0]
    ∧ win0_2.index t = ![(grid0.coords t 0).val, (grid0.coords t 2).val, (grid0.coords t 1).val, 0]
    ∧ win0_3.index t = ![(grid0.coords t 0).val, 0, (grid0.coords t 1).val]
    ∧ win0_4.index t = ![(grid0.coords t 0).val, 0, (grid0.coords t 1).val, 0]
    ∧ win0_5.index t = ![(grid0.coords t 0).val, (grid0.coords t 2).val, (grid0.coords t 1).val] := by decide +kernel

/-! ## The arrays the kernel finds -/

theorem V_q (b : Fin 4) (s : Fin 8192) (h : Fin 4) (p : Fin 2) (d : Fin 64)
    (r : Fin 32) (x : Fin 256) (i : Fin 512) (hr : r.val = s.val / 256) (hx : x.val = s.val % 256)
    (hi : i.val = 128 * h.val + (64 * p.val + d.val)) :
    V m c main_v2 (ix4 b r i x) = m ((c.tc : Thread nD τ).loc main_arg0) (ix5 b s h p d) := by
  entry_read
  pointwise
  refine congrArg (m (c.tc.loc main_arg0)) (congr (congr (congr (congrArg (ix5 b) ?_) ?_) ?_) ?_) <;>
    exact Fin.ext (by simp only; omega)

theorem V_k (b : Fin 4) (s : Fin 8192) (h : Fin 4) (p : Fin 2) (d : Fin 64)
    (i : Fin 512) (hi : i.val = 128 * h.val + (64 * p.val + d.val)) :
    V m c main_v4 (ix3 b s i) = m ((c.tc : Thread nD τ).loc main_arg1) (ix5 b s h p d) := by
  entry_read
  pointwise
  refine congrArg (m (c.tc.loc main_arg1)) (congr (congr (congrArg (ix5 b s) ?_) ?_) ?_) <;>
    exact Fin.ext (by simp only; omega)

theorem V_v (b : Fin 4) (s : Fin 8192) (h : Fin 4) (d : Fin 128)
    (r : Fin 32) (x : Fin 256) (i : Fin 512) (hr : r.val = s.val / 256) (hx : x.val = s.val % 256)
    (hi : i.val = 128 * h.val + d.val) :
    V m c main_v7 (ix4 b r i x) = m ((c.tc : Thread nD τ).loc main_arg2) (ix4 b s h d) := by
  entry_read
  pointwise
  refine congrArg (m (c.tc.loc main_arg2)) (congr (congr (congrArg (ix4 b) ?_) ?_) ?_) <;>
    exact Fin.ext (by simp only; omega)

theorem V_gain (d : Fin 128) :
    V m c main_v13 (ix2 d 0) = m ((c.tc : Thread nD τ).loc main_arg7) (ix1 d) := by
  entry_read
  pointwise

theorem V_lams : V m c main_v12 = concatenate S4x64 0
    [⟨S1x64, broadcastInDim S1x64 ![1] bcast_S64_S1x64_1 (m ((c.tc : Thread nD τ).loc main_arg3))⟩,
     ⟨S1x64, broadcastInDim S1x64 ![1] bcast_S64_S1x64_1 (m ((c.tc : Thread nD τ).loc main_arg4))⟩,
     ⟨S1x64, broadcastInDim S1x64 ![1] bcast_S64_S1x64_1 (m ((c.tc : Thread nD τ).loc main_arg5))⟩,
     ⟨S1x64, broadcastInDim S1x64 ![1] bcast_S64_S1x64_1 (m ((c.tc : Thread nD τ).loc main_arg6))⟩] concatenates_S1x64_S1x64_S1x64_S1x64_S4x64_d0 := by
  simp only [V, hostOps0]
  after_results_simp
  rfl

/-! ## The blocks -/

theorem blk_q (b h : Fin 4) (g : Fin 8) (hb : (grid0.coords t 0).val = b.val) (hh : (grid0.coords t 1).val = h.val) (hg : (grid0.coords t 2).val = g.val)
    (q : Fin 4) (x : Fin 256) (p : Fin 2) (d : Fin 64) (i : Fin 128) (hi : i.val = 64 * p.val + d.val)
    (s : Fin 8192) (hs : s.val = 1024 * g.val + 256 * q.val + x.val) :
    (blkAt m c t).x5 (ix4 0 q i x) = m ((c.tc : Thread nD τ).loc main_arg0) (ix5 b s h p d) := by
  rw [← V_q m c b s h p d ⟨4 * g.val + q.val, by omega⟩ x ⟨128 * h.val + i.val, by omega⟩ (by simp only; omega) (by omega) (by simp only; omega)]
  obtain ⟨e0, e1, e2, e3, e4, e5⟩ := index_facts t
  show iblk m c 2 t (ix4 0 q i x) = _
  blk_ext [iblk, e2, hb, hh, hg]

theorem blk_k (b h : Fin 4) (hb : (grid0.coords t 0).val = b.val) (hh : (grid0.coords t 1).val = h.val)
    (s : Fin 8192) (p : Fin 2) (d : Fin 64) (i : Fin 128) (hi : i.val = 64 * p.val + d.val) :
    (blkAt m c t).x6 (ix3 0 s i) = m ((c.tc : Thread nD τ).loc main_arg1) (ix5 b s h p d) := by
  rw [← V_k m c b s h p d ⟨128 * h.val + i.val, by omega⟩ (by simp only; omega)]
  obtain ⟨e0, e1, e2, e3, e4, e5⟩ := index_facts t
  show iblk m c 3 t (ix3 0 s i) = _
  blk_ext [iblk, e3, hb, hh]

theorem blk_v (b h : Fin 4) (hb : (grid0.coords t 0).val = b.val) (hh : (grid0.coords t 1).val = h.val)
    (s : Fin 8192) (d : Fin 128) (r : Fin 32) (x : Fin 256) (hr : r.val = s.val / 256) (hx : x.val = s.val % 256) :
    (blkAt m c t).x7 (ix4 0 r d x) = m ((c.tc : Thread nD τ).loc main_arg2) (ix4 b s h d) := by
  rw [← V_v m c b s h d r x ⟨128 * h.val + d.val, by omega⟩ hr hx rfl]
  obtain ⟨e0, e1, e2, e3, e4, e5⟩ := index_facts t
  show iblk m c 4 t (ix4 0 r d x) = _
  blk_ext [iblk, e4, hb, hh]

theorem blk_gain (d : Fin 128) :
    (blkAt m c t).gain (ix2 d 0) = m ((c.tc : Thread nD τ).loc main_arg7) (ix1 d) := by
  rw [← V_gain m c d, Blk.gain, View.ld_unit_lit _ _ (by decide)]
  obtain ⟨e0, e1, e2, e3, e4, e5⟩ := index_facts t
  show iblk m c 1 t (ix2 d 0) = _
  blk_ext [iblk, e1]

theorem blk_lams (n : Fin 4) (i : Fin 64) :
    (blkAt m c t).lams (ix2 n i) = V m c main_v12 (ix2 n i) := by
  rw [Blk.lams, View.ld_unit_lit _ _ (by decide)]
  obtain ⟨e0, e1, e2, e3, e4, e5⟩ := index_facts t
  show iblk m c 0 t (ix2 n i) = _
  blk_ext [iblk, e0]

theorem row_apply (a : Vec Ideal S64 .f32) (x : S1x64.Idx) (i : Fin 64) (h : (x 1).val = i.val) :
    broadcastInDim S1x64 ![1] bcast_S64_S1x64_1 a x = a (ix1 i) := by
  have e : x = ix2 0 i := by
    funext b
    fin_cases b
    · exact Fin.ext (by have h : (x 0).val < 1 := (x 0).isLt; show (x 0).val = 0; omega)
    · exact Fin.ext h
  subst e
  pointwise

theorem blk_lam0 (i : Fin 64) : (blkAt m c t).lams (ix2 0 i) = m ((c.tc : Thread nD τ).loc main_arg3) (ix1 i) := by
  rw [blk_lams, V_lams]
  concat_tiles x h
  · exact row_apply _ x i h1
  · exact absurd (show (0 : ℕ) = 1 from h) (by decide)
  · exact absurd (show (0 : ℕ) = 2 from h) (by decide)
  · exact absurd (show (0 : ℕ) = 3 from h) (by decide)

theorem blk_lam1 (i : Fin 64) : (blkAt m c t).lams (ix2 1 i) = m ((c.tc : Thread nD τ).loc main_arg4) (ix1 i) := by
  rw [blk_lams, V_lams]
  concat_tiles x h
  · exact absurd (show (1 : ℕ) = 0 from h) (by decide)
  · exact row_apply _ x i h1
  · exact absurd (show (1 : ℕ) = 2 from h) (by decide)
  · exact absurd (show (1 : ℕ) = 3 from h) (by decide)

theorem blk_lam2 (i : Fin 64) : (blkAt m c t).lams (ix2 2 i) = m ((c.tc : Thread nD τ).loc main_arg5) (ix1 i) := by
  rw [blk_lams, V_lams]
  concat_tiles x h
  · exact absurd (show (2 : ℕ) = 0 from h) (by decide)
  · exact absurd (show (2 : ℕ) = 1 from h) (by decide)
  · exact row_apply _ x i h1
  · exact absurd (show (2 : ℕ) = 3 from h) (by decide)

theorem blk_lam3 (i : Fin 64) : (blkAt m c t).lams (ix2 3 i) = m ((c.tc : Thread nD τ).loc main_arg6) (ix1 i) := by
  rw [blk_lams, V_lams]
  concat_tiles x h
  · exact absurd (show (3 : ℕ) = 0 from h) (by decide)
  · exact absurd (show (3 : ℕ) = 1 from h) (by decide)
  · exact absurd (show (3 : ℕ) = 2 from h) (by decide)
  · exact row_apply _ x i h1

/-! ## The result -/

/-- The result: at row `s` and column `128 h + d` of a batch, what the tile of the grid point
`(batch, h, s / 1024)` holds there. -/
def out (o : Fin 4 → Fin 8192 → Fin 4 → Fin 128 → EReal) : Buf (Elt Ideal) ((c.tc : Thread nD τ).loc main_v14) :=
  fun z => o (z 0) (z 1) ⟨(z 2).val / 128, by have := (z 2).isLt; change _ < 512 at this; omega⟩ ⟨(z 2).val % 128, by omega⟩

theorem arr_eq (o : Fin 4 → Fin 8192 → Fin 4 → Fin 128 → EReal)
    (ho : ∀ (t : Fin cfg0.N) (x : Fin 1024) (d : Fin 128) (s : Fin 8192),
      s.val = 1024 * (grid0.coords t 2).val + x.val →
      tileOf (blkAt m c t) (grid0.coords t 2) (ix3 0 x d) = o (grid0.coords t 0) s (grid0.coords t 1) d) :
    (dats m 0 c).arrAt 5 (cfgs 0).N = out c o := by
  refine (dats m 0 c).arrAt_eq_of_covers 5 _ (by decide +kernel) fun t hf y => ?_
  obtain ⟨e0, e1, e2, e3, e4, e5⟩ := index_facts t
  blk_simp
  rw [after0_5]
  idx_bounds y
  have h0 := (grid0.coords t 2).isLt
  have ey : y = ix3 0 (y 1) (y 2) := by
    funext a
    fin_cases a
    · exact Fin.ext (by have h : (y 0).val < 1 := (y 0).isLt; show (y 0).val = 0; omega)
    · rfl
    · rfl
  have hs : 1024 * (grid0.coords t 2).val + (y 1).val < 8192 := by
    change (grid0.coords t 2).val < 8 at h0
    have h : (y 1).val < 1024 := (y 1).isLt
    omega
  refine (congrArg (tileOf (blkAt m c t) (grid0.coords t 2)) ey).trans ((ho t (y 1) (y 2) ⟨_, hs⟩ rfl).trans ?_)
  unfold out
  refine congr (congr (congr (congrArg o ?_) ?_) ?_) ?_ <;> refine Fin.ext ?_ <;> blk_simp [e5] <;> dsimp only <;> omega

end Cert.KernelIdeal.Flash

end
-- ==== Proof.RefValue.lean ====
/-
  The reference's result at an index, over extended reals.
-/
module

public import proofs.«01_k».proof.Proof.Gen.ReferenceIdeal.Run
public import proofs.«01_k».proof.Proof.Math
public import Idealize.ShloMosaic.Lib.Pointwise

@[expose] public section

noncomputable section

namespace Cert.ReferenceIdeal.Value

open Cert.ReferenceIdeal Cert.ReferenceIdeal.Gen Idealize.ShloMosaic Idealize.ShloMosaic.TcCoe Cert.Flash

variable {F : FTy → Type} [FloatOps F]

/-! ## Stages -/

/-- The masked scores. -/
def scores (q k : FVec F S4x8192x4x2x64 .f32) : FVec F S4x4x2x8192x8192 .f32 :=
  select (broadcastInDim S4x4x2x8192x8192 ![3, 4] bcast_S8192x8192_S4x4x2x8192x8192_3_4
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    (mulf (Host.dotGeneral dot_S4x8192x4x2x64_S4x8192x4x2x64_S4x4x2x8192x8192_4_4_1_1_023_023 none q k)
      (broadcastInDim S4x4x2x8192x8192 ![] bcast_S_S4x4x2x8192x8192 (constant S_ .f32 0x3E000000#32)))
    (broadcastInDim S4x4x2x8192x8192 ![] bcast_S_S4x4x2x8192x8192 (id (constant S_ .f32 0xFF800000#32)))

/-- A row's value, for all the keys of the row. -/
def keep (m : FVec F S4x4x2x8192 .f32) : FVec F S4x4x2x8192x8192 .f32 :=
  broadcastInDim S4x4x2x8192x8192 ![0, 1, 2, 3, 4] bcast_S4x4x2x8192x1_S4x4x2x8192x8192_0_1_2_3_4
    (broadcastInDim S4x4x2x8192x1 ![0, 1, 2, 3] bcast_S4x4x2x8192_S4x4x2x8192x1_0_1_2_3 m)

def rowMax (s : FVec F S4x4x2x8192x8192 .f32) : FVec F S4x4x2x8192 .f32 :=
  maximumf (broadcastInDim S4x4x2x8192 ![] bcast_S_S4x4x2x8192 (constant S_ .f32 0xFF800000#32))
    (Host.reduce FloatOps.maximumf s (constant S_ .f32 0xFF800000#32) reducesTo_S4x4x2x8192x8192_S4x4x2x8192_d4 h_S_)

def expo (s : FVec F S4x4x2x8192x8192 .f32) : FVec F S4x4x2x8192x8192 .f32 := Host.exp (subf s (keep (rowMax s)))

def rowSum (e : FVec F S4x4x2x8192x8192 .f32) : FVec F S4x4x2x8192 .f32 :=
  Host.reduceAdd e (constant S_ .f32 0x00000000#32) reducesTo_S4x4x2x8192x8192_S4x4x2x8192_d4 h_S_

def prob (s : FVec F S4x4x2x8192x8192 .f32) : FVec F S4x4x2x8192x8192 .f32 := Host.divf (expo s) (keep (rowSum (expo s)))

/-- The second softmax's factor. -/
def lam (a b c d : FVec F S64 .f32) : FVec F S_ .f32 :=
  addf (subf (Host.exp (Host.reduceAdd (mulf a b) (constant S_ .f32 0x00000000#32) reducesTo_S64_S_d0 h_S_))
    (Host.exp (Host.reduceAdd (mulf c d) (constant S_ .f32 0x00000000#32) reducesTo_S64_S_d0 h_S_))) (constant S_ .f32 0x3E4CCCCD#32)

/-- The difference of the two softmaxes. -/
def both (lm : FVec F S_ .f32) (p : FVec F S4x4x2x8192x8192 .f32) : FVec F S4x4x8192x8192 .f32 :=
  subf (shapeCast _ (extractStridedSlice S4x4x1x8192x8192 ![0, 0, 0, 0, 0] p slices_S4x4x2x8192x8192_S4x4x1x8192x8192_0_0_0_0_0) shapeCasts_S4x4x1x8192x8192_S4x4x8192x8192)
    (mulf (broadcastInDim S4x4x8192x8192 ![] bcast_S_S4x4x8192x8192 lm)
      (shapeCast _ (extractStridedSlice S4x4x1x8192x8192 ![0, 0, 1, 0, 0] p slices_S4x4x2x8192x8192_S4x4x1x8192x8192_0_0_1_0_0) shapeCasts_S4x4x1x8192x8192_S4x4x8192x8192))

/-- The attended values. -/
def attended (v : FVec F S4x8192x4x128 .f32) (a : FVec F S4x4x8192x8192 .f32) : FVec F S4x8192x4x128 .f32 :=
  transpose S4x8192x4x128 [0, 3, 1, 2] (Host.dotGeneral dot_S4x8192x4x128_S4x4x8192x8192_S4x4x128x8192_1_3_3_2_02_01 none v a)
    transposes_S4x4x128x8192_S4x8192x4x128_0_3_1_2

/-- The norm over each head, the gain and the layer's factor. -/
def headNorm (o : FVec F S4x8192x4x128 .f32) (g : FVec F S128 .f32) : FVec F S4x8192x4x128 .f32 :=
  mulf (mulf (mulf o (broadcastInDim S4x8192x4x128 ![0, 1, 2, 3] bcast_S4x8192x4x1_S4x8192x4x128_0_1_2_3
      (Host.rsqrt (addf (Host.divf
        (broadcastInDim S4x8192x4x1 ![0, 1, 2] bcast_S4x8192x4_S4x8192x4x1_0_1_2
          (Host.reduceAdd (mulf o o) (constant S_ .f32 0x00000000#32) reducesTo_S4x8192x4x128_S4x8192x4_d3 h_S_))
        (broadcastInDim S4x8192x4x1 ![] bcast_S_S4x8192x4x1 (constant S_ .f32 0x43000000#32)))
        (broadcastInDim S4x8192x4x1 ![] bcast_S_S4x8192x4x1 (constant S_ .f32 0x358637BD#32))))))
    (broadcastInDim S4x8192x4x128 ![0, 1, 2, 3] bcast_S1x1x1x128_S4x8192x4x128_0_1_2_3 (broadcastInDim S1x1x1x128 ![3] bcast_S128_S1x1x1x128_3 g)))
    (broadcastInDim S4x8192x4x128 ![] bcast_S_S4x8192x4x128 (constant S_ .f32 0x3F4CCCCD#32))

set_option maxRecDepth 8192 in
theorem res_eq (m : (ℓ : Loc nD τ sig) → Buf (Elt F) ℓ) (c : Dev nD) : res_out0 m c =
    truncf .bf16 (shapeCast _ (headNorm (attended (m ((c.tc : Thread nD τ).loc main_arg2))
      (both (lam (m ((c.tc : Thread nD τ).loc main_arg3)) (m ((c.tc : Thread nD τ).loc main_arg4)) (m ((c.tc : Thread nD τ).loc main_arg5)) (m ((c.tc : Thread nD τ).loc main_arg6)))
        (prob (scores (m ((c.tc : Thread nD τ).loc main_arg0)) (m ((c.tc : Thread nD τ).loc main_arg1))))))
      (m ((c.tc : Thread nD τ).loc main_arg7))) shapeCasts_S4x8192x4x128_S4x8192x512) bitsLt_bf16_f32 := by
  unfold res_out0 res_main_v54
  rfl

/-! ## At an index -/

theorem negInf_eq : Ideal.ofBits .f32 0xFF800000#32 = ⊥ := by simp [Ideal.ofBits, Ideal.ieee]

theorem fold_max {n : ℕ} (f : Fin n → EReal) : Finset.univ.fold max ⊥ f = Finset.univ.sup f := rfl

theorem reduceMax_apply {n : ℕ} (s : FVec Ideal ⟨5, ![4, 4, 2, n, n]⟩ .f32) (init : FVec Ideal S_ .f32)
    (h' : (⟨5, ![4, 4, 2, n, n]⟩ : Shape).ReducesTo [4] ⟨4, ![4, 4, 2, n]⟩) (hu : 0 < S_.numel) (b h : Fin 4) (p : Fin 2) (i : Fin n) :
    Host.reduce FloatOps.maximumf s init h' hu (ix4 b h p i) =
      (Finset.univ : Finset (Fin n)).fold max (init (Shape.Idx.first hu)) fun j => s (ix5 b h p i j) := by
  have hr : (⟨5, ![4, 4, 2, n, n]⟩ : Shape).Reduces [4] ⟨4, ![4, 4, 2, n]⟩ := ⟨h'.1, Nat.zero_lt_succ 3, h'.2⟩
  rw [Host.reduce_eq_fold_single FloatOps.maximumf s init h' hr hu]
  have hl : ∀ j : Fin n, hr.lift (ix4 b h p i) j = ix5 b h p i j := by
    intro j
    funext a
    fin_cases a <;> rfl
  exact congrArg (fun f => (Finset.univ : Finset (Fin n)).fold max (init (Shape.Idx.first hu)) f) (funext fun j => congrArg s (hl j))

theorem causal_apply (i j : Fin 8192) : IntOp.cmpi .sle (BitVec.ofNat 32 j.val) (BitVec.ofNat 32 i.val) = if j.val ≤ i.val then 1#1 else 0#1 := by
  simp only [IntOp.cmpi]
  have h1 : (BitVec.ofNat 32 j.val).toInt = j.val := by rw [BitVec.toInt_ofNat']; simp [Int.bmod]; omega
  have h2 : (BitVec.ofNat 32 i.val).toInt = i.val := by rw [BitVec.toInt_ofNat']; simp [Int.bmod]; omega
  rw [BitVec.sle, h1, h2]
  by_cases hh : j.val ≤ i.val
  · rw [if_pos hh, decide_eq_true (by exact_mod_cast hh)]; rfl
  · rw [if_neg hh, decide_eq_false (by exact_mod_cast hh)]; rfl

theorem mask_apply (b h : Fin 4) (p : Fin 2) (i j : Fin 8192) :
    broadcastInDim S4x4x2x8192x8192 ![3, 4] bcast_S8192x8192_S4x4x2x8192x8192_3_4
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))) (ix5 b h p i j)
      = if j.val ≤ i.val then 1#1 else 0#1 := by
  rw [← causal_apply]
  pointwise

theorem dot_apply (q k : FVec Ideal S4x8192x4x2x64 .f32) (b h : Fin 4) (p : Fin 2) (i j : Fin 8192) :
    Host.dotGeneral (F := Ideal) dot_S4x8192x4x2x64_S4x8192x4x2x64_S4x4x2x8192x8192_4_4_1_1_023_023 none q k (ix5 b h p i j)
      = ∑ d, q (ix5 b i h p d) * k (ix5 b j h p d) := by
  pointwise

theorem scores_apply (q k : FVec Ideal S4x8192x4x2x64 .f32) (b h : Fin 4) (p : Fin 2) (i j : Fin 8192) :
    scores (F := Ideal) q k (ix5 b h p i j) = if j.val ≤ i.val then (∑ d, q (ix5 b i h p d) * k (ix5 b j h p d)) * Ideal.ofBits .f32 0x3E000000#32 else ⊥ := by
  have hs : scores (F := Ideal) q k (ix5 b h p i j) = Scalar.select (broadcastInDim S4x4x2x8192x8192 ![3, 4] bcast_S8192x8192_S4x4x2x8192x8192_3_4
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))) (ix5 b h p i j))
      (Host.dotGeneral (F := Ideal) dot_S4x8192x4x2x64_S4x8192x4x2x64_S4x4x2x8192x8192_4_4_1_1_023_023 none q k (ix5 b h p i j) * Ideal.ofBits .f32 0x3E000000#32)
      (Ideal.ofBits .f32 0xFF800000#32) := rfl
  rw [hs, mask_apply, dot_apply, negInf_eq]
  by_cases hh : j.val ≤ i.val
  · rw [if_pos hh, if_pos hh]; rfl
  · rw [if_neg hh, if_neg hh]; rfl

theorem reduceMax_scores (s : FVec Ideal S4x4x2x8192x8192 .f32) (b h : Fin 4) (p : Fin 2) (i : Fin 8192) :
    Host.reduce FloatOps.maximumf s (constant S_ .f32 0xFF800000#32) reducesTo_S4x4x2x8192x8192_S4x4x2x8192_d4 h_S_ (ix4 b h p i) =
      (Finset.univ : Finset (Fin 8192)).fold max ((constant S_ .f32 0xFF800000#32 : FVec Ideal S_ .f32) (Shape.Idx.first h_S_)) fun j => s (ix5 b h p i j) :=
  reduceMax_apply (n := 8192) s (constant S_ .f32 0xFF800000#32) reducesTo_S4x4x2x8192x8192_S4x4x2x8192_d4 h_S_ b h p i

theorem rowMax_reduce (s : FVec Ideal S4x4x2x8192x8192 .f32) (b h : Fin 4) (p : Fin 2) (i : Fin 8192) :
    rowMax (F := Ideal) s (ix4 b h p i) = max (Ideal.ofBits .f32 0xFF800000#32)
      (Host.reduce FloatOps.maximumf s (constant S_ .f32 0xFF800000#32) reducesTo_S4x4x2x8192x8192_S4x4x2x8192_d4 h_S_ (ix4 b h p i)) := by
  rw [rowMax, maximumf]
  rfl

theorem first_negInf : (constant S_ .f32 0xFF800000#32 : FVec Ideal S_ .f32) (Shape.Idx.first h_S_) = ⊥ := negInf_eq

theorem rowMax_apply (s : FVec Ideal S4x4x2x8192x8192 .f32) (b h : Fin 4) (p : Fin 2) (i : Fin 8192) :
    rowMax (F := Ideal) s (ix4 b h p i) = Finset.univ.sup fun j : Fin 8192 => s (ix5 b h p i j) := by
  rw [rowMax_reduce, reduceMax_scores, first_negInf, negInf_eq, fold_max]
  exact max_eq_right bot_le

theorem keep_apply (s : FVec Ideal S4x4x2x8192 .f32) (b h : Fin 4) (p : Fin 2) (i j : Fin 8192) :
    keep (F := Ideal) s (ix5 b h p i j) = s (ix4 b h p i) := by
  pointwise [keep]

theorem expo_apply (s : FVec Ideal S4x4x2x8192x8192 .f32) (b h : Fin 4) (p : Fin 2) (i j : Fin 8192) :
    expo (F := Ideal) s (ix5 b h p i j) = Ideal.exp (s (ix5 b h p i j) - rowMax (F := Ideal) s (ix4 b h p i)) := by
  rw [← keep_apply (rowMax s) b h p i j]
  rfl

theorem prob_apply (s : FVec Ideal S4x4x2x8192x8192 .f32) (b h : Fin 4) (p : Fin 2) (i j : Fin 8192) :
    prob (F := Ideal) s (ix5 b h p i j) = Ideal.div (expo (F := Ideal) s (ix5 b h p i j)) (∑ n, expo (F := Ideal) s (ix5 b h p i n)) := by
  pointwise [prob, keep, rowSum]

theorem lam_apply (x y z w : FVec Ideal S64 .f32) : lam (F := Ideal) x y z w ix0 =
    Ideal.exp (∑ i, x (ix1 i) * y (ix1 i)) - Ideal.exp (∑ i, z (ix1 i) * w (ix1 i)) + Ideal.ofBits .f32 0x3E4CCCCD#32 := by
  pointwise [lam]

theorem both_apply (lm : FVec Ideal S_ .f32) (p : FVec Ideal S4x4x2x8192x8192 .f32) (b h : Fin 4) (i j : Fin 8192) :
    both (F := Ideal) lm p (ix4 b h i j) = p (ix5 b h 0 i j) - lm ix0 * p (ix5 b h 1 i j) := by
  pointwise [both]

theorem attended_apply (v : FVec Ideal S4x8192x4x128 .f32) (a : FVec Ideal S4x4x8192x8192 .f32) (b h : Fin 4) (i : Fin 8192) (d : Fin 128) :
    attended (F := Ideal) v a (ix4 b i h d) = ∑ j, v (ix4 b j h d) * a (ix4 b h i j) := by
  pointwise [attended]

theorem headNorm_apply (o : FVec Ideal S4x8192x4x128 .f32) (g : FVec Ideal S128 .f32) (b h : Fin 4) (i : Fin 8192) (d : Fin 128) :
    headNorm (F := Ideal) o g (ix4 b i h d) =
      norm (Ideal.ofBits .f32 0x43000000#32) (Ideal.ofBits .f32 0x358637BD#32) (fun d => o (ix4 b i h d)) d * g (ix1 d) * Ideal.ofBits .f32 0x3F4CCCCD#32 := by
  pointwise [headNorm]
  rfl

theorem out_apply (o : FVec Ideal S4x8192x4x128 .f32) (b h : Fin 4) (i : Fin 8192) (d : Fin 128) :
    (truncf .bf16 (shapeCast S4x8192x512 o shapeCasts_S4x8192x4x128_S4x8192x512) bitsLt_bf16_f32 : FVec Ideal S4x8192x512 .bf16) (ix3 b i ⟨128 * h.val + d.val, by omega⟩)
      = o (ix4 b i h d) := by
  pointwise

end Cert.ReferenceIdeal.Value

end
-- ==== Proof.Row.lean ====
/-
  One row of one head: the two streams of weights under running maxima in base two, normalised after the sums, give the
  norm that the softmaxes in base e, combined before the sums, give.
-/
module

public import proofs.«01_k».proof.Proof.Math

@[expose] public section

noncomputable section

namespace Cert.Flash

open Idealize.ShloMosaic

/-- The maximum of the reference's scores. -/
theorem sup_scores {N : ℕ} (s : ℕ → EReal) (y : Fin N → EReal) (hy : ∀ j : Fin N, y j = (ln2 : EReal) * s j) :
    Finset.univ.sup y = (ln2 : EReal) * sup s N := by
  have hbot : (ln2 : EReal) * ⊥ = ⊥ := EReal.coe_mul_bot_of_pos ln2_pos
  have hm := Finset.comp_sup_eq_sup_comp_of_is_total (s := Finset.range N) (f := s) (fun x : EReal => (ln2 : EReal) * x)
    (fun a b h => ln2_mono h) hbot
  unfold sup
  rw [hm]
  refine le_antisymm (Finset.sup_le fun j _ => ?_) (Finset.sup_le fun j hj => ?_)
  · rw [hy j]
    exact Finset.le_sup (f := (fun x : EReal => (ln2 : EReal) * x) ∘ s) (Finset.mem_range.2 j.isLt)
  · show (ln2 : EReal) * s j ≤ _
    rw [← hy ⟨j, Finset.mem_range.1 hj⟩]
    exact Finset.le_sup (f := y) (Finset.mem_univ _)

/-- The weights as reals. -/
def weight (s : ℕ → EReal) (N j : ℕ) : ℝ := (wt (s j) (sup s N)).toReal

theorem weight_nonneg (s : ℕ → EReal) (N j : ℕ) : 0 ≤ weight s N j := EReal.toReal_nonneg (exp2_nonneg _)

theorem weight_eq (s : ℕ → EReal) {N j : ℕ} (h : j < N) : wt (s j) (sup s N) = (weight s N j : EReal) := by
  obtain ⟨r, _, hr⟩ := wt_real (le_sup (s := s) h)
  unfold weight
  rw [hr, EReal.toReal_coe]

theorem wsum_eq (s : ℕ → EReal) (N : ℕ) (v : ℕ → EReal) (w : ℕ → ℝ) (hv : ∀ j < N, v j = (w j : EReal)) :
    wsum s v N = ∑ j ∈ Finset.range N, (w j : EReal) * (weight s N j : EReal) :=
  Finset.sum_congr rfl fun j hj => by rw [hv j (Finset.mem_range.1 hj), weight_eq s (Finset.mem_range.1 hj)]

theorem wsum_one (s : ℕ → EReal) (N : ℕ) : wsum s (fun _ => 1) N = ∑ j ∈ Finset.range N, (weight s N j : EReal) :=
  Finset.sum_congr rfl fun j hj => by rw [one_mul, weight_eq s (Finset.mem_range.1 hj)]

theorem exp_eq {N : ℕ} (s : ℕ → EReal) (y : Fin N → EReal) (hy : ∀ j : Fin N, y j = (ln2 : EReal) * s j) (j : Fin N) :
    Ideal.exp (y j - Finset.univ.sup y) = (weight s N j : EReal) := by
  rw [sup_scores s y hy, hy j, exp_wt, weight_eq s j.isLt]

/-- A score with its scale on the queries, in base two, against the score scaled after the sum, in base e. -/
theorem score_eq {n : ℕ} (A B : Fin n → EReal) :
    (∑ i, A i * B i) * ((1 / 8 : ℝ) : EReal) = (ln2 : EReal) * ∑ i, B i * (A i * (((8 * Real.log 2)⁻¹ : ℝ) : EReal)) := by
  rw [mul_comm, mul_sum_of_real _ _ (by norm_num), mul_sum_of_real _ _ ln2_pos.le]
  refine Finset.sum_congr rfl fun i _ => ?_
  have h : ((1 / 8 : ℝ) : EReal) = (ln2 : EReal) * (((8 * Real.log 2)⁻¹ : ℝ) : EReal) := by
    rw [← EReal.coe_mul]
    congr 1
    have := ln2_pos.ne'
    unfold ln2 at *
    field_simp
  rw [h]
  ac_rfl

/-- The norms of the two rows agree. -/
theorem row_norm {n N : ℕ} (s s' : ℕ → EReal) (y y' : Fin N → EReal) (hy : ∀ j : Fin N, y j = (ln2 : EReal) * s j)
    (hy' : ∀ j : Fin N, y' j = (ln2 : EReal) * s' j) (v : Fin n → ℕ → EReal) (w : ℕ → Fin n → ℝ)
    (hv : ∀ d, ∀ j < N, v d j = (w j d : EReal)) (lam c e : ℝ) (hc : 0 < c) (K R : Fin n → EReal)
    (hK : ∀ d, K d = Ideal.div (wsum s (v d) N) (wsum s (fun _ => 1) N)
      - (lam : EReal) * Ideal.div (wsum s' (v d) N) (wsum s' (fun _ => 1) N))
    (hR : ∀ d, R d = ∑ j : Fin N, (w j d : EReal) *
      (Ideal.div (Ideal.exp (y j - Finset.univ.sup y)) (∑ i, Ideal.exp (y i - Finset.univ.sup y))
        - (lam : EReal) * Ideal.div (Ideal.exp (y' j - Finset.univ.sup y')) (∑ i, Ideal.exp (y' i - Finset.univ.sup y')))) (d : Fin n) :
    norm (c : EReal) (e : EReal) K d = norm (c : EReal) (e : EReal) R d := by
  rcases attend N (weight s N) (weight s' N) (weight_nonneg s N) (weight_nonneg s' N) w lam K R
    (fun d => by
      rw [hK d, wsum_eq s N (v d) (fun j => w j d) (hv d), wsum_eq s' N (v d) (fun j => w j d) (hv d), wsum_one, wsum_one])
    (fun d => by
      rw [hR d, Finset.sum_range]
      refine Finset.sum_congr rfl fun j _ => ?_
      rw [exp_eq s y hy, exp_eq s' y' hy', Finset.sum_range, Finset.sum_range]
      simp only [exp_eq s y hy, exp_eq s' y' hy']) with h | ⟨h, h'⟩
  · rw [funext h]
  · rw [norm_flat hc K h, norm_flat hc R h']

end Cert.Flash

end
-- ==== Proof.Finite.lean ====
/-
  What the precondition says: every value and every entry of the four vectors of lambda is a real.
-/
module

public import proofs.«01_k».proof.Defs
public import Idealize.ShloMosaic.Lib.Pointwise
public import Idealize.ShloMosaic.Lib.ReduceAll

@[expose] public section

noncomputable section

namespace Cert.Pre_finite_v_and_lambdas

open Idealize.ShloMosaic

variable [Facts]
open Facts

theorem top_eq : Ideal.ofBits .f32 0x7F800000#32 = ⊤ := by simp [Ideal.ofBits, Ideal.ieee]

/-- An extended real whose absolute value is below `⊤` is a real. -/
theorem real_of_abs (x : EReal) (h : Ideal.cmp .olt (max x (-x)) (Ideal.ofBits .f32 0x7F800000#32) = 1#1) :
    ∃ r : ℝ, x = (r : EReal) := by
  rw [top_eq] at h
  induction x with
  | bot => exact absurd h (by simp [Ideal.cmp])
  | top => exact absurd h (by simp [Ideal.cmp])
  | coe r => exact ⟨r, rfl⟩

theorem real_of_vec (a : FVec Ideal S64 .f32)
    (h : Host.reduce IntOp.andi (cmpf .olt (Host.absf a) (broadcastInDim S64 ![] bcast_S_S64 (constant S_ .f32 0x7F800000#32)))
      (constantI S_ 1 1#1) reducesTo_S64_S_d0 h_S_ ix0 = 1#1) (i : S64.Idx) : ∃ r : ℝ, a i = (r : EReal) :=
  real_of_abs _ (Host.reduce_andi_all _ _ _ _ ix0 h i)

theorem real_of_fn (q k : FVec Ideal S4x8192x4x2x64 .f32) (v : FVec Ideal S4x8192x4x128 .f32) (a b c d : FVec Ideal S64 .f32) (g : FVec Ideal S128 .f32)
    (h : fn (F := Ideal) q k v a b c d g = fun _ => 1#1) : (∀ i, ∃ r : ℝ, v i = (r : EReal)) ∧ (∀ i, ∃ r : ℝ, a i = (r : EReal)) ∧ (∀ i, ∃ r : ℝ, b i = (r : EReal))
      ∧ (∀ i, ∃ r : ℝ, c i = (r : EReal)) ∧ ∀ i, ∃ r : ℝ, d i = (r : EReal) := by
  have h0 := congrFun h ix0
  simp only [fn, fn_part1] at h0
  obtain ⟨h0, hd⟩ := IntOp.andi_eq_one.1 h0
  obtain ⟨h0, hc⟩ := IntOp.andi_eq_one.1 h0
  obtain ⟨h0, hb⟩ := IntOp.andi_eq_one.1 h0
  obtain ⟨hv, ha⟩ := IntOp.andi_eq_one.1 h0
  exact ⟨fun i => real_of_abs _ (Host.reduce_andi_all _ _ _ _ ix0 hv i), real_of_vec a ha, real_of_vec b hb, real_of_vec c hc, real_of_vec d hd⟩

end Cert.Pre_finite_v_and_lambdas

end
-- ==== Proof.Value.lean ====
/-
  The value claim: over extended reals the kernel's result is the reference's.
-/
module

public import proofs.«01_k».proof.Proof.Arrays
public import proofs.«01_k».proof.Proof.RefValue
public import proofs.«01_k».proof.Proof.Row
public import proofs.«01_k».proof.Proof.Finite
public import proofs.«01_k».proof.Proof.Frames

@[expose] public section

set_option maxRecDepth 16384

noncomputable section

namespace Cert.KernelIdeal.Flash

open Idealize.ShloMosaic Idealize.ShloMosaic.TcCoe Cert.KernelIdeal Cert.KernelIdeal.Gen Cert.Flash

/-! ## Constants -/

theorem head_size : Ideal.ofBits .f32 0x43000000#32 = ((128 : ℝ) : EReal) := by
  simp [Ideal.ofBits, Ideal.ieee, -EReal.coe_mul]; norm_num

theorem scale_eq : Ideal.ofBits .f32 0x3E000000#32 = ((1 / 8 : ℝ) : EReal) := by
  simp [Ideal.ofBits, Ideal.ieee, -EReal.coe_mul]; norm_num

theorem eps_real : ∃ e : ℝ, Ideal.ofBits .f32 0x358637BD#32 = (e : EReal) := by
  simp [Ideal.ofBits, Ideal.ieee, -EReal.coe_mul]

theorem init_real : ∃ e : ℝ, Ideal.ofBits .f32 0x3E4CCCCD#32 = (e : EReal) := by
  simp [Ideal.ofBits, Ideal.ieee, -EReal.coe_mul]

/-! ## The kernel's tile -/

theorem tile_apply (k : Blk Ideal) (g : Fin 8) (b : Fin 4) (x : Fin 256) (X : Fin 1024) (hX : X.val = 256 * b.val + x.val) (d : Fin 128) :
    tileOf k g (ix3 0 X d) =
      norm (Ideal.ofBits .f32 0x43000000#32) (Ideal.ofBits .f32 0x358637BD#32)
        (fun d => Ideal.div (wsum (mscore k g ⟨2 * b.val, by omega⟩ x) (value k d) 8192) (wsum (mscore k g ⟨2 * b.val, by omega⟩ x) (fun _ => 1) 8192)
          - lam (F := Ideal) k.lams (ix2 0 0) *
            Ideal.div (wsum (mscore k g ⟨2 * b.val + 1, by omega⟩ x) (value k d) 8192) (wsum (mscore k g ⟨2 * b.val + 1, by omega⟩ x) (fun _ => 1) 8192)) d
        * k.gain (ix2 d 0) * Ideal.ofBits .f32 0x3F4CCCCD#32 := by
  have e1 : blockIx (ix3 0 X d) = b := Fin.ext (by show X.val / 256 = b.val; omega)
  have e2 : inBlock (ix3 0 X d) = ix3 0 x d := by
    funext a
    fin_cases a
    · rfl
    · exact Fin.ext (by show X.val % 256 = x.val; omega)
    · rfl
  rw [tileOf, e1, e2, outBlock, oPay_apply]
  simp only [final_l, final_acc]
  rfl

/-! ## One element -/

section

variable (m : (ℓ : Loc nD τ sig) → Buf (Elt Ideal) ℓ) (c : Dev nD) (t : Fin cfg0.N)

/-- The reference's scores of a row are the chain's, in base e. -/
theorem scores_tie (b h : Fin 4) (g : Fin 8) (hb : (grid0.coords t 0).val = b.val) (hh : (grid0.coords t 1).val = h.val) (hg : (grid0.coords t 2).val = g.val)
    (n : Fin 8) (x : Fin 256) (s : Fin 8192) (hs : s.val = 1024 * g.val + 256 * (blockOf n).val + x.val) (p : Fin 2) (hp : n.val % 2 = p.val) (j : Fin 8192) :
    Cert.ReferenceIdeal.Value.scores (F := Ideal) (m ((c.tc : Thread nD τ).loc main_arg0)) (m ((c.tc : Thread nD τ).loc main_arg1)) (ix5 b h p s j)
      = (ln2 : EReal) * mscore (blkAt m c t) g n x j.val := by
  rw [Cert.ReferenceIdeal.Value.scores_apply, mscore, scale_eq]
  by_cases hj : j.val ≤ s.val
  · rw [if_pos hj, if_pos (by rw [← hs]; exact hj), kscore, dif_pos j.isLt, score_eq]
    refine congrArg (fun z : EReal => (ln2 : EReal) * z) (Finset.sum_congr rfl fun i _ => ?_)
    rw [blk_q m c t b h g hb hh hg (blockOf n) x p i _ (by simp only; rw [hp]) s hs,
      blk_k m c t b h hb hh j p i _ (by simp only; rw [hp])]
  · rw [if_neg hj, if_neg (by rw [← hs]; exact hj), EReal.coe_mul_bot_of_pos ln2_pos]

theorem value_tie (b h : Fin 4) (hb : (grid0.coords t 0).val = b.val) (hh : (grid0.coords t 1).val = h.val) (d : Fin 128) (j : Fin 8192) :
    value (blkAt m c t) d j.val = m ((c.tc : Thread nD τ).loc main_arg2) (ix4 b j h d) := by
  rw [value, dif_pos j.isLt, blk_v m c t b h hb hh j d _ _ rfl rfl]

theorem lam_tie : lam (F := Ideal) (blkAt m c t).lams (ix2 0 0) =
    Cert.ReferenceIdeal.Value.lam (F := Ideal) (m ((c.tc : Thread nD τ).loc main_arg3)) (m ((c.tc : Thread nD τ).loc main_arg4))
      (m ((c.tc : Thread nD τ).loc main_arg5)) (m ((c.tc : Thread nD τ).loc main_arg6)) ix0 := by
  rw [Cert.ReferenceIdeal.Value.lam_apply, lam_apply]
  simp only [blk_lam0, blk_lam1, blk_lam2, blk_lam3]

end

/-- Of reals lambda is a real. -/
theorem lam_real (x y z w : FVec Ideal Cert.ReferenceIdeal.S64 .f32) (hx : ∀ i, ∃ r : ℝ, x i = (r : EReal)) (hy : ∀ i, ∃ r : ℝ, y i = (r : EReal))
    (hz : ∀ i, ∃ r : ℝ, z i = (r : EReal)) (hw : ∀ i, ∃ r : ℝ, w i = (r : EReal)) :
    ∃ r : ℝ, Cert.ReferenceIdeal.Value.lam (F := Ideal) x y z w ix0 = (r : EReal) := by
  rw [Cert.ReferenceIdeal.Value.lam_apply]
  choose x' hx using hx
  choose y' hy using hy
  choose z' hz using hz
  choose w' hw using hw
  obtain ⟨e, he⟩ := init_real
  simp only [hx, hy, hz, hw, he, ← EReal.coe_mul, sum_coe]
  exact ⟨_, rfl⟩

section

variable (m : (ℓ : Loc nD τ sig) → Buf (Elt Ideal) ℓ) (c : Dev nD)

/-- The reference's heads, of the kernel's arguments. -/
def heads : FVec Ideal Cert.ReferenceIdeal.S4x8192x4x128 .f32 :=
  Cert.ReferenceIdeal.Value.headNorm (F := Ideal) (Cert.ReferenceIdeal.Value.attended (m ((c.tc : Thread nD τ).loc main_arg2))
      (Cert.ReferenceIdeal.Value.both (Cert.ReferenceIdeal.Value.lam (m ((c.tc : Thread nD τ).loc main_arg3)) (m ((c.tc : Thread nD τ).loc main_arg4))
          (m ((c.tc : Thread nD τ).loc main_arg5)) (m ((c.tc : Thread nD τ).loc main_arg6)))
        (Cert.ReferenceIdeal.Value.prob (Cert.ReferenceIdeal.Value.scores (m ((c.tc : Thread nD τ).loc main_arg0)) (m ((c.tc : Thread nD τ).loc main_arg1))))))
      (m ((c.tc : Thread nD τ).loc main_arg7))

theorem tile_eq (hv : ∀ i, ∃ r : ℝ, (m ((c.tc : Thread nD τ).loc main_arg2) : FVec Ideal S4x8192x4x128 .f32) i = (r : EReal))
    (h3 : ∀ i, ∃ r : ℝ, (m ((c.tc : Thread nD τ).loc main_arg3) : FVec Ideal S64 .f32) i = (r : EReal))
    (h4 : ∀ i, ∃ r : ℝ, (m ((c.tc : Thread nD τ).loc main_arg4) : FVec Ideal S64 .f32) i = (r : EReal))
    (h5 : ∀ i, ∃ r : ℝ, (m ((c.tc : Thread nD τ).loc main_arg5) : FVec Ideal S64 .f32) i = (r : EReal))
    (h6 : ∀ i, ∃ r : ℝ, (m ((c.tc : Thread nD τ).loc main_arg6) : FVec Ideal S64 .f32) i = (r : EReal))
    (t : Fin cfg0.N) (b h : Fin 4) (g : Fin 8) (hb : (grid0.coords t 0).val = b.val) (hh : (grid0.coords t 1).val = h.val) (hg : (grid0.coords t 2).val = g.val)
    (X : Fin 1024) (s : Fin 8192) (hs : s.val = 1024 * g.val + X.val) (d : Fin 128) :
    tileOf (blkAt m c t) g (ix3 0 X d) = heads m c (ix4 b s h d) := by
  obtain ⟨r, hr⟩ := lam_real _ _ _ _ h3 h4 h5 h6
  obtain ⟨e, he⟩ := eps_real
  choose w hw using hv
  rw [tile_apply _ g ⟨X.val / 256, by omega⟩ ⟨X.val % 256, by omega⟩ X (by simp only; omega), heads, Cert.ReferenceIdeal.Value.headNorm_apply, blk_gain, lam_tie,
    hr, he, head_size]
  refine congrArg (fun z : EReal => z * _ * _) ?_
  refine row_norm (N := 8192) _ _
    (fun j => Cert.ReferenceIdeal.Value.scores (F := Ideal) (m ((c.tc : Thread nD τ).loc main_arg0)) (m ((c.tc : Thread nD τ).loc main_arg1)) (ix5 b h 0 s j))
    (fun j => Cert.ReferenceIdeal.Value.scores (F := Ideal) (m ((c.tc : Thread nD τ).loc main_arg0)) (m ((c.tc : Thread nD τ).loc main_arg1)) (ix5 b h 1 s j))
    (scores_tie m c t b h g hb hh hg ⟨2 * (X.val / 256), by omega⟩ ⟨X.val % 256, by omega⟩ s (by simp only [blockOf]; omega) 0 (by simp only [Fin.val_zero]; omega))
    (scores_tie m c t b h g hb hh hg ⟨2 * (X.val / 256) + 1, by omega⟩ ⟨X.val % 256, by omega⟩ s (by simp only [blockOf]; omega) 1 (by simp only [Fin.val_one]; omega))
    (value (blkAt m c t)) (fun j d => if hj : j < 8192 then w (ix4 b ⟨j, hj⟩ h d) else 0)
    (fun d j hj => by
      rw [dif_pos hj, ← hw]
      exact value_tie m c t b h hb hh d ⟨j, hj⟩)
    r 128 e (by norm_num) _ _ (fun d => rfl) (fun d => ?_) d
  rw [Cert.ReferenceIdeal.Value.attended_apply]
  refine Finset.sum_congr rfl fun j _ => ?_
  rw [dif_pos j.isLt, ← hw, Cert.ReferenceIdeal.Value.both_apply, hr]
  simp only [Cert.ReferenceIdeal.Value.prob_apply, Cert.ReferenceIdeal.Value.expo_apply, Cert.ReferenceIdeal.Value.rowMax_apply]

/-- The kernel's result array is the reference's heads side by side. -/
theorem result_eq (hv : ∀ i, ∃ r : ℝ, (m ((c.tc : Thread nD τ).loc main_arg2) : FVec Ideal S4x8192x4x128 .f32) i = (r : EReal))
    (h3 : ∀ i, ∃ r : ℝ, (m ((c.tc : Thread nD τ).loc main_arg3) : FVec Ideal S64 .f32) i = (r : EReal))
    (h4 : ∀ i, ∃ r : ℝ, (m ((c.tc : Thread nD τ).loc main_arg4) : FVec Ideal S64 .f32) i = (r : EReal))
    (h5 : ∀ i, ∃ r : ℝ, (m ((c.tc : Thread nD τ).loc main_arg5) : FVec Ideal S64 .f32) i = (r : EReal))
    (h6 : ∀ i, ∃ r : ℝ, (m ((c.tc : Thread nD τ).loc main_arg6) : FVec Ideal S64 .f32) i = (r : EReal)) :
    (dats m 0 c).arrAt 5 (cfgs 0).N = (truncf .bf16 (shapeCast Cert.ReferenceIdeal.S4x8192x512 (heads m c)
      Cert.ReferenceIdeal.Gen.facts.shapeCasts_S4x8192x4x128_S4x8192x512) Cert.ReferenceIdeal.Gen.facts.bitsLt_bf16_f32 :
        FVec Ideal Cert.ReferenceIdeal.S4x8192x512 .bf16) := by
  rw [arr_eq m c (fun b s h d => heads m c (ix4 b s h d)) fun t x d s hs =>
    tile_eq m c hv h3 h4 h5 h6 t (grid0.coords t 0) (grid0.coords t 1) (grid0.coords t 2) rfl rfl rfl x s hs d]
  funext z
  have hz : (z 2).val < 512 := (z 2).isLt
  have h := Cert.ReferenceIdeal.Value.out_apply (heads m c) (z 0) ⟨(z 2).val / 128, by omega⟩ (z 1) ⟨(z 2).val % 128, by omega⟩
  have ez : z = ix3 (z 0) (z 1) ⟨128 * ((z 2).val / 128) + (z 2).val % 128, by omega⟩ := by
    funext a
    fin_cases a
    · rfl
    · rfl
    · exact Fin.ext (by show (z 2).val = 128 * ((z 2).val / 128) + (z 2).val % 128; omega)
  exact (h.symm.trans (congrArg _ ez.symm))

end

end Cert.KernelIdeal.Flash

namespace Cert.Proof

open Idealize.ShloMosaic Idealize.ShloMosaic.TcCoe Idealize.SL.Sem Cert.KernelIdeal.Flash

theorem algebraic : Cert.algebraic_KernelIdeal_ReferenceIdeal_pre_finite_v_and_lambdas (hKernelIdeal := Cert.KernelIdeal.Gen.facts)
    (hReferenceIdeal := Cert.ReferenceIdeal.Gen.facts) (hPre_finite_v_and_lambdas := preFacts) := by
  intro m g m' g' hp hm
  refine ⟨fun c => (dats m 0 c).arrAt 5 (Cert.KernelIdeal.cfgs 0).N, ?_, ?_⟩
  · exact (θ_run Cert.KernelIdeal.defs _ _).mono (fun r h c => ⟨(h.1 c).1 5, h.2.1 c⟩) (θ_run_and (run_main (F := Ideal) m g) (frame (F := Ideal) m g))
  · refine (θ_run Cert.ReferenceIdeal.defs _ _).mono (fun r h c => ⟨(h c).1.trans ?_, (h c).2⟩) (Cert.ReferenceIdeal.Value.run (F := Ideal) m' g')
    letI := preFacts
    obtain ⟨hv, h3, h4, h5, h6⟩ := Cert.Pre_finite_v_and_lambdas.real_of_fn _ _ _ _ _ _ _ _ (hp c)
    obtain ⟨e0, e1, e2, e3, e4, e5, e6, e7⟩ := hm c
    refine (Cert.ReferenceIdeal.Value.res_eq (F := Ideal) m' c).trans ?_
    rw [e0, e1, e2, e3, e4, e5, e6, e7]
    exact (result_eq m c hv h3 h4 h5 h6).symm

end Cert.Proof

end
-- ==== Proof.MlpMath.lean ====
/-
  One row of the output projection with its MLP over extended reals, and its sums split over pieces.
-/
module

public import Idealize.ShloMosaic.Lib.Pointwise

@[expose] public section

noncomputable section

namespace Cert.Mlp

open Idealize.ShloMosaic

/-- A row over its root mean square (`c` its length, `e` added to the mean), times the gain. -/
def normed {n : ℕ} (c e : EReal) (x g : Fin n → EReal) (d : Fin n) : EReal :=
  x d * Ideal.rsqrt (Ideal.div (∑ k, x k * x k) c + e) * g d

/-- A squared rectified product. -/
def act {n : ℕ} (h : Fin n → EReal) (w : Fin n → EReal) : EReal := max (∑ k, h k * w k) 0 * max (∑ k, h k * w k) 0

/-- The squared-rectifier network on one row, at one feature of the result. -/
def mlp {n k : ℕ} (h : Fin n → EReal) (w1 : Fin n → Fin k → EReal) (w2 : Fin k → EReal) : EReal :=
  ∑ j, act h (fun i => w1 i j) * w2 j

/-- The normed and modulated row. -/
def modulated {n : ℕ} (c e one : EReal) (x g sh sc : Fin n → EReal) (d : Fin n) : EReal :=
  normed c e x g d * (one + sc d) + sh d

/-- The residual row after the three mixers' outputs, side by side, are projected and gated. -/
def mixed (x gate : Fin 1024 → EReal) (y1 : Fin 256 → EReal) (y2 : Fin 512 → EReal) (y3 : Fin 256 → EReal) (w : Fin 1024 → Fin 1024 → EReal) (d : Fin 1024) : EReal :=
  x d + gate d * ((∑ k : Fin 256, y1 k * w ⟨k.val, by omega⟩ d) + (∑ k : Fin 512, y2 k * w ⟨256 + k.val, by omega⟩ d)
    + ∑ k : Fin 256, y3 k * w ⟨768 + k.val, by omega⟩ d)

/-- The row of the result: the network on the normed and modulated row, gated and added, under the last norm. -/
def row (c e one : EReal) (md : Fin 6 → Fin 1024 → EReal) (g : Fin 1024 → EReal) (w1 : Fin 1024 → Fin 4096 → EReal) (w2 : Fin 4096 → Fin 1024 → EReal)
    (fg : Fin 1024 → EReal) (x : Fin 1024 → EReal) (d : Fin 1024) : EReal :=
  normed c e (fun d => x d + md 5 d * mlp (modulated c e one x g (md 3) (md 4)) w1 fun j => w2 j d) fg d

/-- The first layer's row: the network on the normed and modulated row, gated and added. -/
def row0 (c e one : EReal) (md : Fin 6 → Fin 1024 → EReal) (g : Fin 1024 → EReal) (w1 : Fin 1024 → Fin 4096 → EReal) (w2 : Fin 4096 → Fin 1024 → EReal)
    (x : Fin 1024 → EReal) (d : Fin 1024) : EReal :=
  x d + md 5 d * mlp (modulated c e one x g (md 3) (md 4)) w1 fun j => w2 j d

/-- A sum over 1024 is the sum over 256, then 512, then 256. -/
theorem sum_parts (f : Fin 1024 → EReal) :
    ∑ k, f k = (∑ k : Fin 256, f ⟨k.val, by omega⟩) + (∑ k : Fin 512, f ⟨256 + k.val, by omega⟩) + ∑ k : Fin 256, f ⟨768 + k.val, by omega⟩ := by
  have h1 := Fin.sum_univ_add (a := 768) (b := 256) f
  have h2 := Fin.sum_univ_add (a := 256) (b := 512) fun k => f (Fin.castAdd 256 k)
  exact h1.trans (congrArg (· + _) h2)

/-- A sum over 4096 is four sums over 1024. -/
theorem sum_chunks (f : Fin 4096 → EReal) :
    ∑ k, f k = (∑ k : Fin 1024, f ⟨k.val, by omega⟩) + (∑ k : Fin 1024, f ⟨1024 + k.val, by omega⟩)
      + (∑ k : Fin 1024, f ⟨2048 + k.val, by omega⟩) + ∑ k : Fin 1024, f ⟨3072 + k.val, by omega⟩ := by
  have h1 := Fin.sum_univ_add (a := 3072) (b := 1024) f
  have h2 := Fin.sum_univ_add (a := 2048) (b := 1024) fun k => f (Fin.castAdd 1024 k)
  have h3 := Fin.sum_univ_add (a := 1024) (b := 1024) fun k => f (Fin.castAdd 1024 (Fin.castAdd 1024 k))
  exact h1.trans (congrArg (· + _) (h2.trans (congrArg (· + _) h3)))

/-- The network taken over four chunks of its hidden features. -/
theorem mlp_chunks {n : ℕ} (h : Fin n → EReal) (w1 : Fin n → Fin 4096 → EReal) (w2 : Fin 4096 → EReal) :
    mlp h w1 w2 = mlp h (fun i (j : Fin 1024) => w1 i ⟨j.val, by omega⟩) (fun j => w2 ⟨j.val, by omega⟩)
      + mlp h (fun i (j : Fin 1024) => w1 i ⟨1024 + j.val, by omega⟩) (fun j => w2 ⟨1024 + j.val, by omega⟩)
      + mlp h (fun i (j : Fin 1024) => w1 i ⟨2048 + j.val, by omega⟩) (fun j => w2 ⟨2048 + j.val, by omega⟩)
      + mlp h (fun i (j : Fin 1024) => w1 i ⟨3072 + j.val, by omega⟩) (fun j => w2 ⟨3072 + j.val, by omega⟩) :=
  sum_chunks fun j => act h (fun i => w1 i j) * w2 j

end Cert.Mlp

end
-- ==== Proof.MlpRows.lean ====
/-
  The body of the output projection with its MLP, at an index, over extended reals.
-/
module

public import proofs.«01_k».proof.Proof.Gen.Kernel2Ideal.Value
public import proofs.«01_k».proof.Proof.MlpMath
public import Idealize.ShloMosaic.Lib.Pipeline.ValueKit

@[expose] public section

set_option maxRecDepth 16384

noncomputable section

namespace Cert.Kernel2Ideal.Mlp

open Idealize.ShloMosaic Idealize.ShloMosaic.TcCoe Cert.Kernel2Ideal Cert.Kernel2Ideal.Gen Cert.Mlp

/-! ## The payloads -/

theorem pay3_apply (v0 : Vec Ideal S1x512x1024 .f32) (v2 : Vec Ideal S1x6x1024 .f32) (v4 : Vec Ideal S1x512x256 .bf16) (v6 : Vec Ideal S256x1024 .bf16)
    (v9 : Vec Ideal S1x512x512 .bf16) (v11 : Vec Ideal S512x1024 .bf16) (v15 : Vec Ideal S1x512x256 .bf16) (v17 : Vec Ideal S256x1024 .bf16)
    (r : Fin 512) (d : Fin 1024) : k0_pay3 (F := Ideal) v0 v2 v4 v6 v9 v11 v15 v17 (ix2 r d) =
      v0 (ix3 0 r d) + v2 (ix3 0 2 d) * ((∑ k : Fin 256, v4 (ix3 0 r k) * v6 (ix2 k d)) + (∑ k : Fin 512, v9 (ix3 0 r k) * v11 (ix2 k d))
        + ∑ k : Fin 256, v15 (ix3 0 r k) * v17 (ix2 k d)) := by
  pointwise [k0_pay3, k0_pay2]

theorem pay5_apply (v0 : Vec Ideal S1x512x1024 .f32) (v2 : Vec Ideal S1x6x1024 .f32) (v4 : Vec Ideal S1x512x256 .bf16) (v6 : Vec Ideal S256x1024 .bf16)
    (v9 : Vec Ideal S1x512x512 .bf16) (v11 : Vec Ideal S512x1024 .bf16) (v15 : Vec Ideal S1x512x256 .bf16) (v17 : Vec Ideal S256x1024 .bf16)
    (r : Fin 512) : k0_pay5 (F := Ideal) v0 v2 v4 v6 v9 v11 v15 v17 (ix2 r 0) =
      ∑ k : Fin 1024, k0_pay3 (F := Ideal) v0 v2 v4 v6 v9 v11 v15 v17 (ix2 r k) * k0_pay3 (F := Ideal) v0 v2 v4 v6 v9 v11 v15 v17 (ix2 r k) := by
  unfold k0_pay5
  generalize k0_pay3 (F := Ideal) v0 v2 v4 v6 v9 v11 v15 v17 = x
  pointwise

theorem pay6_apply (v2 : Vec Ideal S1x6x1024 .f32) (x : FVec Ideal S512x1024 .f32) (g : Vec Ideal S1x1024 .f32) (s : FVec Ideal S512x1 .f32) (n : Ideal .f32)
    (r : Fin 512) (d : Fin 1024) (hs : s (ix2 r 0) = ∑ k : Fin 1024, x (ix2 r k) * x (ix2 r k)) :
    k0_pay6 (F := Ideal) (k0_pay2 v2) x (k0_pay4 g) s n (ix2 r d) =
      modulated n (Ideal.ofBits .f32 0x358637BD#32) (Ideal.ofBits .f32 0x3F800000#32) (fun k => x (ix2 r k)) (fun k => g (ix2 0 k))
        (fun k => v2 (ix3 0 3 k)) (fun k => v2 (ix3 0 4 k)) d := by
  unfold modulated normed
  rw [← hs]
  pointwise [k0_pay6, k0_pay2, k0_pay4]

theorem pay7_apply (v3 : FVec Ideal S6x1024 .f32) (v24 : FVec Ideal S512x1024 .f32) (v26 : FVec Ideal S1x1024 .f32) (v29 : FVec Ideal S512x1 .f32) (n : Ideal .f32)
    (v49 v56 v60 v67 : Vec Ideal S1024x1024 .bf16) (r : Fin 512) (d : Fin 1024) :
    k0_pay7 (F := Ideal) v3 v24 v26 v29 n v49 v56 v60 v67 (ix2 r d) =
      mlp (fun k => k0_pay6 (F := Ideal) v3 v24 v26 v29 n (ix2 r k)) (fun k j => v49 (ix2 k j)) (fun j => v56 (ix2 j d))
      + mlp (fun k => k0_pay6 (F := Ideal) v3 v24 v26 v29 n (ix2 r k)) (fun k j => v60 (ix2 k j)) (fun j => v67 (ix2 j d)) := by
  unfold k0_pay7 mlp act
  generalize k0_pay6 (F := Ideal) v3 v24 v26 v29 n = h
  pointwise

/-- The second half's residual row. -/
theorem pay8_apply (v2 : Vec Ideal S1x6x1024 .f32) (x : FVec Ideal S512x1024 .f32) (h : FVec Ideal S512x1024 .bf16) (a : FVec Ideal S512x1024 .f32)
    (v71 v78 v82 v89 : Vec Ideal S1024x1024 .bf16) (g : Vec Ideal S1x1024 .f32) (r : Fin 512) (d : Fin 1024) :
    k0_pay8 (F := Ideal) (k0_pay2 v2) x h a v71 v78 v82 v89 g (ix2 r d) =
      normed (Ideal.ofBits .f32 0x44800000#32) (Ideal.ofBits .f32 0x358637BD#32)
        (fun d => x (ix2 r d) + v2 (ix3 0 5 d) *
          (a (ix2 r d) + mlp (fun k => h (ix2 r k)) (fun k j => v71 (ix2 k j)) (fun j => v78 (ix2 j d))
            + mlp (fun k => h (ix2 r k)) (fun k j => v82 (ix2 k j)) (fun j => v89 (ix2 j d)))) (fun d => g (ix2 0 d)) d := by
  unfold normed mlp act
  pointwise [k0_pay8, k0_pay2]

end Cert.Kernel2Ideal.Mlp

end
-- ==== Proof.MlpArrays.lean ====
/-
  The blocks of the output projection's operands and the array of its result, in terms of the arguments.
-/
module

public import proofs.«01_k».proof.Proof.MlpRows

@[expose] public section

set_option maxRecDepth 16384

noncomputable section

namespace Cert.Kernel2Ideal.Mlp

open Idealize.ShloMosaic Idealize.ShloMosaic.TcCoe Cert.Kernel2Ideal Cert.Kernel2Ideal.Gen Cert.Mlp

/-! ## The pieces of a block -/

section

variable (x : Vec Ideal S1024x1024 .bf16) (w : Vec Ideal S1024x4096 .bf16) (v : Vec Ideal S4096x1024 .bf16)

theorem ld3 (k : Fin 256) (d : Fin 1024) : View.ld x r0_3 (ix2 k d) = x (ix2 ⟨k.val, by omega⟩ d) := by pointwise
theorem ld5 (k : Fin 512) (d : Fin 1024) : View.ld x r0_5 (ix2 k d) = x (ix2 ⟨256 + k.val, by omega⟩ d) := by pointwise
theorem ld6 (k : Fin 256) (d : Fin 1024) : View.ld x r0_6 (ix2 k d) = x (ix2 ⟨768 + k.val, by omega⟩ d) := by pointwise
theorem ld8 (k d : Fin 1024) : View.ld w r0_8 (ix2 k d) = w (ix2 k ⟨d.val, by omega⟩) := by pointwise
theorem ld10 (k d : Fin 1024) : View.ld w r0_10 (ix2 k d) = w (ix2 k ⟨1024 + d.val, by omega⟩) := by pointwise
theorem ld12 (k d : Fin 1024) : View.ld w r0_12 (ix2 k d) = w (ix2 k ⟨2048 + d.val, by omega⟩) := by pointwise
theorem ld14 (k d : Fin 1024) : View.ld w r0_14 (ix2 k d) = w (ix2 k ⟨3072 + d.val, by omega⟩) := by pointwise
theorem ld9 (k d : Fin 1024) : View.ld v r0_9 (ix2 k d) = v (ix2 ⟨k.val, by omega⟩ d) := by pointwise
theorem ld11 (k d : Fin 1024) : View.ld v r0_11 (ix2 k d) = v (ix2 ⟨1024 + k.val, by omega⟩ d) := by pointwise
theorem ld13 (k d : Fin 1024) : View.ld v r0_13 (ix2 k d) = v (ix2 ⟨2048 + k.val, by omega⟩ d) := by pointwise
theorem ld15 (k d : Fin 1024) : View.ld v r0_15 (ix2 k d) = v (ix2 ⟨3072 + k.val, by omega⟩ d) := by pointwise

end

theorem ld0 (x : Vec Ideal S1x512x1024 .f32) : View.ld x r0_0 = x := View.ld_unit_lit _ _ (by decide)
theorem ld1 (x : Vec Ideal S1x6x1024 .f32) : View.ld x r0_1 = x := View.ld_unit_lit _ _ (by decide)
theorem ld2 (x : Vec Ideal S1x512x256 .bf16) : View.ld x r0_2 = x := View.ld_unit_lit _ _ (by decide)
theorem ld4 (x : Vec Ideal S1x512x512 .bf16) : View.ld x r0_4 = x := View.ld_unit_lit _ _ (by decide)
theorem ld7 (x : Vec Ideal S1x1024 .f32) : View.ld x r0_7 = x := View.ld_unit_lit _ _ (by decide)

theorem pay1_apply (v : FVec Ideal S512x1024 .f32) (r : Fin 512) (d : Fin 1024) : k0_pay1 (F := Ideal) v (ix3 0 r d) = v (ix2 r d) := by
  pointwise [k0_pay1]

/-- The stored value, of blocks whose pieces are given. -/
theorem body_apply (x0 : Vec Ideal S1x512x1024 .f32) (x1 : Vec Ideal S1x512x256 .bf16) (x2 : Vec Ideal S1x512x512 .bf16) (x3 : Vec Ideal S1x512x256 .bf16)
    (x4 : Vec Ideal S1x6x1024 .f32) (x5 : Vec Ideal S1x1024 .f32) (x6 : Vec Ideal S1024x1024 .bf16) (x7 : Vec Ideal S1024x4096 .bf16)
    (x8 : Vec Ideal S4096x1024 .bf16) (x9 : Vec Ideal S1x1024 .f32)
    (o1 : Vec Ideal S256x1024 .bf16) (o2 : Vec Ideal S512x1024 .bf16) (o3 : Vec Ideal S256x1024 .bf16) (a1 a2 a3 a4 b1 b2 b3 b4 : Vec Ideal S1024x1024 .bf16)
    (ho1 : ∀ (k : Fin 256) (d : Fin 1024), o1 (ix2 k d) = x6 (ix2 ⟨k.val, by omega⟩ d))
    (ho2 : ∀ (k : Fin 512) (d : Fin 1024), o2 (ix2 k d) = x6 (ix2 ⟨256 + k.val, by omega⟩ d))
    (ho3 : ∀ (k : Fin 256) (d : Fin 1024), o3 (ix2 k d) = x6 (ix2 ⟨768 + k.val, by omega⟩ d))
    (ha1 : ∀ k d : Fin 1024, a1 (ix2 k d) = x7 (ix2 k ⟨d.val, by omega⟩))
    (ha2 : ∀ k d : Fin 1024, a2 (ix2 k d) = x7 (ix2 k ⟨1024 + d.val, by omega⟩))
    (ha3 : ∀ k d : Fin 1024, a3 (ix2 k d) = x7 (ix2 k ⟨2048 + d.val, by omega⟩))
    (ha4 : ∀ k d : Fin 1024, a4 (ix2 k d) = x7 (ix2 k ⟨3072 + d.val, by omega⟩))
    (hb1 : ∀ k d : Fin 1024, b1 (ix2 k d) = x8 (ix2 ⟨k.val, by omega⟩ d))
    (hb2 : ∀ k d : Fin 1024, b2 (ix2 k d) = x8 (ix2 ⟨1024 + k.val, by omega⟩ d))
    (hb3 : ∀ k d : Fin 1024, b3 (ix2 k d) = x8 (ix2 ⟨2048 + k.val, by omega⟩ d))
    (hb4 : ∀ k d : Fin 1024, b4 (ix2 k d) = x8 (ix2 ⟨3072 + k.val, by omega⟩ d))
    (r : Fin 512) (d : Fin 1024) :
    k0_pay8 (F := Ideal) (k0_pay2 x4) (k0_pay3 x0 x4 x1 o1 x2 o2 x3 o3)
      (k0_pay6 (k0_pay2 x4) (k0_pay3 x0 x4 x1 o1 x2 o2 x3 o3) (k0_pay4 x5) (k0_pay5 x0 x4 x1 o1 x2 o2 x3 o3) (Scalar.ofBits .f32 0x44800000#32))
      (k0_pay7 (k0_pay2 x4) (k0_pay3 x0 x4 x1 o1 x2 o2 x3 o3) (k0_pay4 x5) (k0_pay5 x0 x4 x1 o1 x2 o2 x3 o3) (Scalar.ofBits .f32 0x44800000#32) a1 b1 a2 b2)
      a3 b3 a4 b4 x9 (ix2 r d) =
      row (Ideal.ofBits .f32 0x44800000#32) (Ideal.ofBits .f32 0x358637BD#32) (Ideal.ofBits .f32 0x3F800000#32)
        (fun i k => x4 (ix3 0 i k)) (fun k => x5 (ix2 0 k)) (fun k j => x7 (ix2 k j)) (fun j k => x8 (ix2 j k)) (fun k => x9 (ix2 0 k))
        (mixed (fun k => x0 (ix3 0 r k)) (fun k => x4 (ix3 0 2 k)) (fun k => x1 (ix3 0 r k)) (fun k => x2 (ix3 0 r k)) (fun k => x3 (ix3 0 r k))
          fun k j => x6 (ix2 k j)) d := by
  rw [pay8_apply]
  unfold row
  refine congrArg (fun f => normed _ _ f _ d) (funext fun d => ?_)
  simp only [pay7_apply]
  have h6 := fun k => pay6_apply x4 (k0_pay3 (F := Ideal) x0 x4 x1 o1 x2 o2 x3 o3) x5 _
    (Scalar.ofBits .f32 0x44800000#32) r k (pay5_apply x0 x4 x1 o1 x2 o2 x3 o3 r)
  simp only [h6, pay3_apply, ho1, ho2, ho3, ha1, ha2, ha3, ha4, hb1, hb2, hb3, hb4]
  rw [mlp_chunks]
  rfl

/-- The body's result at an index of the block. -/
theorem out_apply (x0 : Vec Ideal S1x512x1024 .f32) (x1 : Vec Ideal S1x512x256 .bf16) (x2 : Vec Ideal S1x512x512 .bf16) (x3 : Vec Ideal S1x512x256 .bf16)
    (x4 : Vec Ideal S1x6x1024 .f32) (x5 : Vec Ideal S1x1024 .f32) (x6 : Vec Ideal S1024x1024 .bf16) (x7 : Vec Ideal S1024x4096 .bf16)
    (x8 : Vec Ideal S4096x1024 .bf16) (x9 : Vec Ideal S1x1024 .f32) (r : Fin 512) (d : Fin 1024) :
    out0_10 x0 x1 x2 x3 x4 x5 x6 x7 x8 x9 (ix3 0 r d) =
      row (Ideal.ofBits .f32 0x44800000#32) (Ideal.ofBits .f32 0x358637BD#32) (Ideal.ofBits .f32 0x3F800000#32)
        (fun i k => x4 (ix3 0 i k)) (fun k => x5 (ix2 0 k)) (fun k j => x7 (ix2 k j)) (fun j k => x8 (ix2 j k)) (fun k => x9 (ix2 0 k))
        (mixed (fun k => x0 (ix3 0 r k)) (fun k => x4 (ix3 0 2 k)) (fun k => x1 (ix3 0 r k)) (fun k => x2 (ix3 0 r k)) (fun k => x3 (ix3 0 r k))
          fun k j => x6 (ix2 k j)) d := by
  unfold_out out0_10
  rw [View.canon_cons_unit_lit (S := S1x512x1024) _ _ _ (by decide), pay1_apply]
  simp only [ld0, ld1, ld2, ld4, ld7]
  exact body_apply x0 x1 x2 x3 x4 x5 x6 x7 x8 x9 _ _ _ _ _ _ _ _ _ _ _ (ld3 x6) (ld5 x6) (ld6 x6) (ld8 x7) (ld10 x7) (ld12 x7) (ld14 x7)
    (ld9 x8) (ld11 x8) (ld13 x8) (ld15 x8) r d

/-! ## Where the blocks lie -/

theorem index_facts : ∀ t : Fin grid0.N,
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, 0, 0]
    ∧ win0_5.index t = ![0, 0] ∧ win0_6.index t = ![0, 0] ∧ win0_7.index t = ![0, 0] ∧ win0_8.index t = ![0, 0] ∧ win0_9.index t = ![0, 0]
    ∧ win0_10.index t = ![(grid0.coords t 0).val, (grid0.coords t 1).val, 0] := by decide +kernel

variable (m : (ℓ : Loc nD τ sig) → Buf (Elt Ideal) ℓ) (c : Dev nD) (t : Fin cfg0.N)

/-! ## The arrays the kernel finds -/

theorem V_x (b : Fin 4) (s : Fin 8192) (d : Fin 1024) : V m c main_arg0 (ix3 b s d) = m ((c.tc : Thread nD τ).loc main_arg0) (ix3 b s d) := by
  rw [V_main_arg0]

theorem V_y1 (b : Fin 4) (s : Fin 8192) (d : Fin 256) : V m c main_v0 (ix3 b s d) = m ((c.tc : Thread nD τ).loc main_arg1) (ix3 b s d) := by
  entry_read
  pointwise

theorem V_y2 (b : Fin 4) (s : Fin 8192) (d : Fin 512) : V m c main_v1 (ix3 b s d) = m ((c.tc : Thread nD τ).loc main_arg2) (ix3 b s d) := by
  entry_read
  pointwise

theorem V_y3 (b : Fin 4) (s : Fin 8192) (d : Fin 256) : V m c main_v2 (ix3 b s d) = m ((c.tc : Thread nD τ).loc main_arg3) (ix3 b s d) := by
  entry_read
  pointwise

theorem V_mod (b : Fin 4) (i : Fin 6) (d : Fin 1024) :
    V m c main_v3 (ix3 b i d) = m ((c.tc : Thread nD τ).loc main_arg4) (ix2 b ⟨1024 * i.val + d.val, by omega⟩) := by
  entry_read
  pointwise
  refine congrArg (m (c.tc.loc main_arg4)) (congrArg (ix2 b) ?_)
  exact Fin.ext (by simp only; omega)

theorem V_g (d : Fin 1024) : V m c main_v4 (ix2 0 d) = m ((c.tc : Thread nD τ).loc main_arg5) (ix1 d) := by
  entry_read
  pointwise

theorem V_wo (k d : Fin 1024) : V m c main_v5 (ix2 k d) = m ((c.tc : Thread nD τ).loc main_arg6) (ix2 k d) := by
  entry_read
  pointwise

theorem V_w1 (k : Fin 1024) (j : Fin 4096) : V m c main_v6 (ix2 k j) = m ((c.tc : Thread nD τ).loc main_arg7) (ix2 k j) := by
  entry_read
  pointwise

theorem V_w2 (j : Fin 4096) (d : Fin 1024) : V m c main_v7 (ix2 j d) = m ((c.tc : Thread nD τ).loc main_arg8) (ix2 j d) := by
  entry_read
  pointwise

theorem V_fg (d : Fin 1024) : V m c main_v8 (ix2 0 d) = m ((c.tc : Thread nD τ).loc main_arg9) (ix1 d) := by
  entry_read
  pointwise

/-! ## The blocks -/

theorem blk_x (b : Fin 4) (g : Fin 16) (hb : (grid0.coords t 0).val = b.val) (hg : (grid0.coords t 1).val = g.val)
    (r : Fin 512) (d : Fin 1024) (s : Fin 8192) (hs : s.val = 512 * g.val + r.val) :
    iblk m c 0 t (ix3 0 r d) = m ((c.tc : Thread nD τ).loc main_arg0) (ix3 b s d) := by
  rw [← V_x m c b s d]
  obtain ⟨e0, e1, e2, e3, e4, e5, e6, e7, e8, e9, e10⟩ := index_facts t
  blk_ext [iblk, e0, hb, hg]

theorem blk_y1 (b : Fin 4) (g : Fin 16) (hb : (grid0.coords t 0).val = b.val) (hg : (grid0.coords t 1).val = g.val)
    (r : Fin 512) (d : Fin 256) (s : Fin 8192) (hs : s.val = 512 * g.val + r.val) :
    iblk m c 1 t (ix3 0 r d) = m ((c.tc : Thread nD τ).loc main_arg1) (ix3 b s d) := by
  rw [← V_y1 m c b s d]
  obtain ⟨e0, e1, e2, e3, e4, e5, e6, e7, e8, e9, e10⟩ := index_facts t
  blk_ext [iblk, e1, hb, hg]

theorem blk_y2 (b : Fin 4) (g : Fin 16) (hb : (grid0.coords t 0).val = b.val) (hg : (grid0.coords t 1).val = g.val)
    (r : Fin 512) (d : Fin 512) (s : Fin 8192) (hs : s.val = 512 * g.val + r.val) :
    iblk m c 2 t (ix3 0 r d) = m ((c.tc : Thread nD τ).loc main_arg2) (ix3 b s d) := by
  rw [← V_y2 m c b s d]
  obtain ⟨e0, e1, e2, e3, e4, e5, e6, e7, e8, e9, e10⟩ := index_facts t
  blk_ext [iblk, e2, hb, hg]

theorem blk_y3 (b : Fin 4) (g : Fin 16) (hb : (grid0.coords t 0).val = b.val) (hg : (grid0.coords t 1).val = g.val)
    (r : Fin 512) (d : Fin 256) (s : Fin 8192) (hs : s.val = 512 * g.val + r.val) :
    iblk m c 3 t (ix3 0 r d) = m ((c.tc : Thread nD τ).loc main_arg3) (ix3 b s d) := by
  rw [← V_y3 m c b s d]
  obtain ⟨e0, e1, e2, e3, e4, e5, e6, e7, e8, e9, e10⟩ := index_facts t
  blk_ext [iblk, e3, hb, hg]

theorem blk_mod (b : Fin 4) (hb : (grid0.coords t 0).val = b.val) (i : Fin 6) (d : Fin 1024) :
    iblk m c 4 t (ix3 0 i d) = m ((c.tc : Thread nD τ).loc main_arg4) (ix2 b ⟨1024 * i.val + d.val, by omega⟩) := by
  rw [← V_mod m c b i d]
  obtain ⟨e0, e1, e2, e3, e4, e5, e6, e7, e8, e9, e10⟩ := index_facts t
  blk_ext [iblk, e4, hb]

theorem blk_g (d : Fin 1024) : iblk m c 5 t (ix2 0 d) = m ((c.tc : Thread nD τ).loc main_arg5) (ix1 d) := by
  rw [← V_g m c d]
  obtain ⟨e0, e1, e2, e3, e4, e5, e6, e7, e8, e9, e10⟩ := index_facts t
  blk_ext [iblk, e5]

theorem blk_wo (k d : Fin 1024) : iblk m c 6 t (ix2 k d) = m ((c.tc : Thread nD τ).loc main_arg6) (ix2 k d) := by
  rw [← V_wo m c k d]
  obtain ⟨e0, e1, e2, e3, e4, e5, e6, e7, e8, e9, e10⟩ := index_facts t
  blk_ext [iblk, e6]

theorem blk_w1 (k : Fin 1024) (j : Fin 4096) : iblk m c 7 t (ix2 k j) = m ((c.tc : Thread nD τ).loc main_arg7) (ix2 k j) := by
  rw [← V_w1 m c k j]
  obtain ⟨e0, e1, e2, e3, e4, e5, e6, e7, e8, e9, e10⟩ := index_facts t
  blk_ext [iblk, e7]

theorem blk_w2 (j : Fin 4096) (d : Fin 1024) : iblk m c 8 t (ix2 j d) = m ((c.tc : Thread nD τ).loc main_arg8) (ix2 j d) := by
  rw [← V_w2 m c j d]
  obtain ⟨e0, e1, e2, e3, e4, e5, e6, e7, e8, e9, e10⟩ := index_facts t
  blk_ext [iblk, e8]

theorem blk_fg (d : Fin 1024) : iblk m c 9 t (ix2 0 d) = m ((c.tc : Thread nD τ).loc main_arg9) (ix1 d) := by
  rw [← V_fg m c d]
  obtain ⟨e0, e1, e2, e3, e4, e5, e6, e7, e8, e9, e10⟩ := index_facts t
  blk_ext [iblk, e9]

/-! ## The result -/

/-- The result row of a token, of the arguments. -/
def rowOf (b : Fin 4) (s : Fin 8192) (d : Fin 1024) : EReal :=
  row (Ideal.ofBits .f32 0x44800000#32) (Ideal.ofBits .f32 0x358637BD#32) (Ideal.ofBits .f32 0x3F800000#32)
    (fun i k => (m ((c.tc : Thread nD τ).loc main_arg4) : FVec Ideal S4x6144 .f32) (ix2 b ⟨1024 * i.val + k.val, by omega⟩))
    (fun k => (m ((c.tc : Thread nD τ).loc main_arg5) : FVec Ideal S1024 .f32) (ix1 k))
    (fun k j => (m ((c.tc : Thread nD τ).loc main_arg7) : FVec Ideal S1024x4096 .f32) (ix2 k j))
    (fun j k => (m ((c.tc : Thread nD τ).loc main_arg8) : FVec Ideal S4096x1024 .f32) (ix2 j k))
    (fun k => (m ((c.tc : Thread nD τ).loc main_arg9) : FVec Ideal S1024 .f32) (ix1 k))
    (mixed (fun k => (m ((c.tc : Thread nD τ).loc main_arg0) : FVec Ideal S4x8192x1024 .f32) (ix3 b s k))
      (fun k => (m ((c.tc : Thread nD τ).loc main_arg4) : FVec Ideal S4x6144 .f32) (ix2 b ⟨2048 + k.val, by omega⟩))
      (fun k => (m ((c.tc : Thread nD τ).loc main_arg1) : FVec Ideal S4x8192x256 .f32) (ix3 b s k))
      (fun k => (m ((c.tc : Thread nD τ).loc main_arg2) : FVec Ideal S4x8192x512 .f32) (ix3 b s k))
      (fun k => (m ((c.tc : Thread nD τ).loc main_arg3) : FVec Ideal S4x8192x256 .f32) (ix3 b s k))
      fun k j => (m ((c.tc : Thread nD τ).loc main_arg6) : FVec Ideal S1024x1024 .f32) (ix2 k j)) d

theorem blk_out (b : Fin 4) (g : Fin 16) (hb : (grid0.coords t 0).val = b.val) (hg : (grid0.coords t 1).val = g.val)
    (r : Fin 512) (d : Fin 1024) (s : Fin 8192) (hs : s.val = 512 * g.val + r.val) :
    out0_10 (iblk m c 0 t) (iblk m c 1 t) (iblk m c 2 t) (iblk m c 3 t) (iblk m c 4 t) (iblk m c 5 t) (iblk m c 6 t) (iblk m c 7 t) (iblk m c 8 t) (iblk m c 9 t) (ix3 0 r d)
      = rowOf m c b s d := by
  refine (out_apply _ _ _ _ _ _ _ _ _ _ r d).trans ?_
  unfold rowOf
  congr 1
  · funext i k; exact blk_mod m c t b hb i k
  · funext k; exact blk_g m c t k
  · funext k j; exact blk_w1 m c t k j
  · funext j k; exact blk_w2 m c t j k
  · funext k; exact blk_fg m c t k
  · congr 1
    · funext k; exact blk_x m c t b g hb hg r k s hs
    · funext k; exact blk_mod m c t b hb 2 k
    · funext k; exact blk_y1 m c t b g hb hg r k s hs
    · funext k; exact blk_y2 m c t b g hb hg r k s hs
    · funext k; exact blk_y3 m c t b g hb hg r k s hs
    · funext k j; exact blk_wo m c t k j

theorem arr_eq : (dats m 0 c).arrAt 10 (cfgs 0).N = fun z : S4x8192x1024.Idx => rowOf m c (z 0) (z 1) (z 2) := by
  refine (dats m 0 c).arrAt_eq_of_covers 10 _ (by decide +kernel) fun t hf y => ?_
  obtain ⟨e0, e1, e2, e3, e4, e5, e6, e7, e8, e9, e10⟩ := index_facts t
  blk_simp
  rw [after0_10]
  idx_bounds y
  have h0 := (grid0.coords t 1).isLt
  have ey : y = ix3 0 (y 1) (y 2) := by
    funext a
    fin_cases a
    · exact Fin.ext (by have h : (y 0).val < 1 := (y 0).isLt; show (y 0).val = 0; omega)
    · rfl
    · rfl
  have hs : 512 * (grid0.coords t 1).val + (y 1).val < 8192 := by
    change (grid0.coords t 1).val < 16 at h0
    have h : (y 1).val < 512 := (y 1).isLt
    omega
  refine (congrArg (out0_10 _ _ _ _ _ _ _ _ _ _) ey).trans ((blk_out m c t (grid0.coords t 0) (grid0.coords t 1) rfl rfl (y 1) (y 2) ⟨_, hs⟩ rfl).trans ?_)
  refine congr (congr (congrArg (rowOf m c) ?_) ?_) ?_ <;> refine Fin.ext ?_ <;> blk_simp [e10] <;> dsimp only <;> omega

end Cert.Kernel2Ideal.Mlp

end
-- ==== Proof.MlpRef.lean ====
/-
  The result of the output projection's reference at an index, over extended reals.
-/
module

public import proofs.«01_k».proof.Proof.Gen.Reference2Ideal.Run
public import proofs.«01_k».proof.Proof.MlpMath
public import Idealize.ShloMosaic.Lib.Pipeline.ValueKit

@[expose] public section

noncomputable section

namespace Cert.Reference2Ideal.Value

open Cert.Reference2Ideal Cert.Reference2Ideal.Gen Idealize.ShloMosaic Idealize.ShloMosaic.TcCoe Cert.Mlp

variable {F : FTy → Type} [FloatOps F]

/-! ## Stages -/

/-- The modulation, for all the tokens of a sequence. -/
def tokens (md : FVec F S4x6144 .f32) : FVec F S4x1x6144 .f32 := broadcastInDim S4x1x6144 ![0, 2] bcast_S4x6144_S4x1x6144_0_2 md

def gate1 (md : FVec F S4x6144 .f32) : FVec F S4x1x1024 .f32 := extractStridedSlice S4x1x1024 ![0, 0, 2048] (tokens md) slices_S4x1x6144_S4x1x1024_0_0_2048
def shift (md : FVec F S4x6144 .f32) : FVec F S4x1x1024 .f32 := extractStridedSlice S4x1x1024 ![0, 0, 3072] (tokens md) slices_S4x1x6144_S4x1x1024_0_0_3072
def scale (md : FVec F S4x6144 .f32) : FVec F S4x1x1024 .f32 := extractStridedSlice S4x1x1024 ![0, 0, 4096] (tokens md) slices_S4x1x6144_S4x1x1024_0_0_4096
def gate2 (md : FVec F S4x6144 .f32) : FVec F S4x1x1024 .f32 := extractStridedSlice S4x1x1024 ![0, 0, 5120] (tokens md) slices_S4x1x6144_S4x1x1024_0_0_5120

def spread (v : FVec F S4x1x1024 .f32) : FVec F S4x8192x1024 .f32 := broadcastInDim S4x8192x1024 ![0, 1, 2] bcast_S4x1x1024_S4x8192x1024_0_1_2 v

/-- The mixers' outputs side by side. -/
def mix (y1 : FVec F S4x8192x256 .f32) (y2 : FVec F S4x8192x512 .f32) (y3 : FVec F S4x8192x256 .f32) : FVec F S4x8192x1024 .f32 :=
  concatenate S4x8192x1024 2 [⟨S4x8192x256, y1⟩, ⟨S4x8192x512, y2⟩, ⟨S4x8192x256, y3⟩] concatenates_S4x8192x256_S4x8192x512_S4x8192x256_S4x8192x1024_d2

/-- The projection gated and added. -/
def residual (x : FVec F S4x8192x1024 .f32) (md : FVec F S4x6144 .f32) (y : FVec F S4x8192x1024 .f32) (w : FVec F S1024x1024 .f32) : FVec F S4x8192x1024 .f32 :=
  addf x (mulf (spread (gate1 md)) (Host.dotGeneral dot_S4x8192x1024_S1024x1024_S4x8192x1024_2_0_01_1_n_n none y w))

/-- The root-mean-square norm with its gain. -/
def norm (x : FVec F S4x8192x1024 .f32) (g : FVec F S1024 .f32) : FVec F S4x8192x1024 .f32 :=
  mulf (mulf x (broadcastInDim S4x8192x1024 ![0, 1, 2] bcast_S4x8192x1_S4x8192x1024_0_1_2
      (Host.rsqrt (addf (Host.divf
        (broadcastInDim S4x8192x1 ![0, 1] bcast_S4x8192_S4x8192x1_0_1 (Host.reduceAdd (mulf x x) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

def modulate (x : FVec F S4x8192x1024 .f32) (md : FVec F S4x6144 .f32) : FVec F S4x8192x1024 .f32 :=
  addf (mulf x (spread (addf (broadcastInDim S4x1x1024 ![] bcast_S_S4x1x1024 (constant S_ .f32 0x3F800000#32)) (scale md)))) (spread (shift md))

def rect (h : FVec F S4x8192x1024 .f32) (w1 : FVec F S1024x4096 .f32) : FVec F S4x8192x4096 .f32 :=
  maximumf (Host.dotGeneral dot_S4x8192x1024_S1024x4096_S4x8192x4096_2_0_01_1_n_n none h w1)
    (broadcastInDim S4x8192x4096 ![] bcast_S_S4x8192x4096 (constant S_ .f32 0x00000000#32))

def network (h : FVec F S4x8192x1024 .f32) (w1 : FVec F S1024x4096 .f32) (w2 : FVec F S4096x1024 .f32) : FVec F S4x8192x1024 .f32 :=
  Host.dotGeneral dot_S4x8192x4096_S4096x1024_S4x8192x1024_2_0_01_1_n_n none (mulf (rect h w1) (rect h w1)) w2

/-- The second half of the layer. -/
def rest (x : FVec F S4x8192x1024 .f32) (md : FVec F S4x6144 .f32) (g : FVec F S1024 .f32) (w1 : FVec F S1024x4096 .f32) (w2 : FVec F S4096x1024 .f32)
    (fg : FVec F S1024 .f32) : FVec F S4x8192x1024 .f32 :=
  norm (addf x (mulf (spread (gate2 md)) (network (modulate (norm x g) md) w1 w2))) fg

set_option maxRecDepth 8192 in
theorem res_eq (m : (ℓ : Loc nD τ sig) → Buf (Elt F) ℓ) (c : Dev nD) : res_out0 m c =
    rest (residual (m ((c.tc : Thread nD τ).loc main_arg0)) (m ((c.tc : Thread nD τ).loc main_arg4))
      (mix (m ((c.tc : Thread nD τ).loc main_arg1)) (m ((c.tc : Thread nD τ).loc main_arg2)) (m ((c.tc : Thread nD τ).loc main_arg3)))
      (m ((c.tc : Thread nD τ).loc main_arg6)))
      (m ((c.tc : Thread nD τ).loc main_arg4)) (m ((c.tc : Thread nD τ).loc main_arg5)) (m ((c.tc : Thread nD τ).loc main_arg7))
      (m ((c.tc : Thread nD τ).loc main_arg8)) (m ((c.tc : Thread nD τ).loc main_arg9)) := by
  unfold res_out0 res_main_v50
  rfl

/-! ## At an index -/

section

variable (b : Fin 4) (s : Fin 8192)

theorem gate1_apply (md : FVec Ideal S4x6144 .f32) (d : Fin 1024) : spread (F := Ideal) (gate1 md) (ix3 b s d) = md (ix2 b ⟨2048 + d.val, by omega⟩) := by
  pointwise [spread, gate1, tokens]

theorem shift_apply (md : FVec Ideal S4x6144 .f32) (d : Fin 1024) : spread (F := Ideal) (shift md) (ix3 b s d) = md (ix2 b ⟨3072 + d.val, by omega⟩) := by
  pointwise [spread, shift, tokens]

theorem gate2_apply (md : FVec Ideal S4x6144 .f32) (d : Fin 1024) : spread (F := Ideal) (gate2 md) (ix3 b s d) = md (ix2 b ⟨5120 + d.val, by omega⟩) := by
  pointwise [spread, gate2, tokens]

theorem scale_apply (md : FVec Ideal S4x6144 .f32) (d : Fin 1024) :
    spread (F := Ideal) (addf (broadcastInDim S4x1x1024 ![] bcast_S_S4x1x1024 (constant S_ .f32 0x3F800000#32)) (scale md)) (ix3 b s d)
      = Ideal.ofBits .f32 0x3F800000#32 + md (ix2 b ⟨4096 + d.val, by omega⟩) := by
  pointwise [spread, scale, tokens]

theorem mix1 (y1 : FVec Ideal S4x8192x256 .f32) (y2 : FVec Ideal S4x8192x512 .f32) (y3 : FVec Ideal S4x8192x256 .f32) (k : Fin 256) :
    mix (F := Ideal) y1 y2 y3 (ix3 b s ⟨k.val, by omega⟩) = y1 (ix3 b s k) := by
  pointwise [mix]

theorem mix2 (y1 : FVec Ideal S4x8192x256 .f32) (y2 : FVec Ideal S4x8192x512 .f32) (y3 : FVec Ideal S4x8192x256 .f32) (k : Fin 512) :
    mix (F := Ideal) y1 y2 y3 (ix3 b s ⟨256 + k.val, by omega⟩) = y2 (ix3 b s k) := by
  pointwise [mix]

theorem mix3 (y1 : FVec Ideal S4x8192x256 .f32) (y2 : FVec Ideal S4x8192x512 .f32) (y3 : FVec Ideal S4x8192x256 .f32) (k : Fin 256) :
    mix (F := Ideal) y1 y2 y3 (ix3 b s ⟨768 + k.val, by omega⟩) = y3 (ix3 b s k) := by
  pointwise [mix]
  rw [dif_neg (by omega), dif_neg (by omega)]
  exact congrArg y3 (congrArg (ix3 b s) (Fin.ext (by simp only; omega)))

theorem residual_apply (x : FVec Ideal S4x8192x1024 .f32) (md : FVec Ideal S4x6144 .f32) (y1 : FVec Ideal S4x8192x256 .f32) (y2 : FVec Ideal S4x8192x512 .f32)
    (y3 : FVec Ideal S4x8192x256 .f32) (w : FVec Ideal S1024x1024 .f32) (d : Fin 1024) :
    residual (F := Ideal) x md (mix y1 y2 y3) w (ix3 b s d) =
      mixed (fun k => x (ix3 b s k)) (fun k => md (ix2 b ⟨2048 + k.val, by omega⟩)) (fun k => y1 (ix3 b s k)) (fun k => y2 (ix3 b s k)) (fun k => y3 (ix3 b s k))
        (fun k j => w (ix2 k j)) d := by
  have e : residual (F := Ideal) x md (mix y1 y2 y3) w (ix3 b s d)
      = x (ix3 b s d) + md (ix2 b ⟨2048 + d.val, by omega⟩) * ∑ k : Fin 1024, mix (F := Ideal) y1 y2 y3 (ix3 b s k) * w (ix2 k d) := by
    rw [← gate1_apply b s md d]
    unfold residual
    generalize mix (F := Ideal) y1 y2 y3 = y
    generalize spread (F := Ideal) (gate1 md) = z
    pointwise
  rw [e, sum_parts]
  simp only [mix1, mix2, mix3]
  rfl

theorem norm_apply (x : FVec Ideal S4x8192x1024 .f32) (g : FVec Ideal S1024 .f32) (d : Fin 1024) :
    norm (F := Ideal) x g (ix3 b s d) =
      normed (Ideal.ofBits .f32 0x44800000#32) (Ideal.ofBits .f32 0x358637BD#32) (fun k => x (ix3 b s k)) (fun k => g (ix1 k)) d := by
  pointwise [norm]
  rfl

theorem modulate_apply (x : FVec Ideal S4x8192x1024 .f32) (md : FVec Ideal S4x6144 .f32) (d : Fin 1024) :
    modulate (F := Ideal) x md (ix3 b s d) =
      x (ix3 b s d) * (Ideal.ofBits .f32 0x3F800000#32 + md (ix2 b ⟨4096 + d.val, by omega⟩)) + md (ix2 b ⟨3072 + d.val, by omega⟩) := by
  rw [← scale_apply b s md d, ← shift_apply b s md d]
  rfl

theorem rect_apply (h : FVec Ideal S4x8192x1024 .f32) (w1 : FVec Ideal S1024x4096 .f32) (j : Fin 4096) :
    rect (F := Ideal) h w1 (ix3 b s j) = max (∑ k : Fin 1024, h (ix3 b s k) * w1 (ix2 k j)) 0 := by
  pointwise [rect]

theorem network_apply (h : FVec Ideal S4x8192x1024 .f32) (w1 : FVec Ideal S1024x4096 .f32) (w2 : FVec Ideal S4096x1024 .f32) (d : Fin 1024) :
    network (F := Ideal) h w1 w2 (ix3 b s d) = mlp (fun k => h (ix3 b s k)) (fun k j => w1 (ix2 k j)) (fun j => w2 (ix2 j d)) := by
  unfold network mlp act
  simp only [← rect_apply b s h w1]
  generalize rect (F := Ideal) h w1 = a
  pointwise

theorem rest_apply (x : FVec Ideal S4x8192x1024 .f32) (md : FVec Ideal S4x6144 .f32) (g : FVec Ideal S1024 .f32) (w1 : FVec Ideal S1024x4096 .f32)
    (w2 : FVec Ideal S4096x1024 .f32) (fg : FVec Ideal S1024 .f32) (d : Fin 1024) :
    rest (F := Ideal) x md g w1 w2 fg (ix3 b s d) =
      row (Ideal.ofBits .f32 0x44800000#32) (Ideal.ofBits .f32 0x358637BD#32) (Ideal.ofBits .f32 0x3F800000#32)
        (fun i k => md (ix2 b ⟨1024 * i.val + k.val, by omega⟩)) (fun k => g (ix1 k)) (fun k j => w1 (ix2 k j)) (fun j k => w2 (ix2 j k)) (fun k => fg (ix1 k))
        (fun k => x (ix3 b s k)) d := by
  unfold rest row
  rw [norm_apply]
  refine congrArg (fun f => normed _ _ f _ d) (funext fun d => ?_)
  have e : addf (F := Ideal) x (mulf (spread (gate2 md)) (network (modulate (norm x g) md) w1 w2)) (ix3 b s d)
      = x (ix3 b s d) + spread (F := Ideal) (gate2 md) (ix3 b s d) * network (F := Ideal) (modulate (norm x g) md) w1 w2 (ix3 b s d) := rfl
  rw [e, gate2_apply, network_apply]
  simp only [modulate_apply, norm_apply]
  rfl

end

end Cert.Reference2Ideal.Value

end
-- ==== Proof.MlpValue.lean ====
/-
  The claims of the output projection with its MLP.
-/
module

public import proofs.«01_k».proof.Defs
public import proofs.«01_k».proof.Proof.MlpArrays
public import proofs.«01_k».proof.Proof.MlpRef
public import proofs.«01_k».proof.Proof.Gen.Kernel2
public import proofs.«01_k».proof.Proof.Gen.Reference2Ideal

@[expose] public section

set_option maxRecDepth 16384

noncomputable section

namespace Cert.Proof

open Idealize.ShloMosaic Idealize.ShloMosaic.TcCoe Idealize.SL.Sem Cert.Kernel2Ideal.Gen

/-- The two programs have one table of bodies. -/
theorem defs₀_eq2 : Cert.Kernel2.defs₀ (F := Bits) = Cert.Kernel2Ideal.defs₀ (F := Bits) := by
  unfold Cert.Kernel2.defs₀ Cert.Kernel2Ideal.defs₀
  congr 1
  funext f x
  match f, x with
  | 0, (t, s) => exact rfl
  | ⟨_ + 1, h⟩, _ => exact absurd h (Nat.not_lt.2 (Nat.le_add_left _ _))

theorem defs_eq2 : Cert.Kernel2.defs (F := Bits) = Cert.Kernel2Ideal.defs (F := Bits) := by
  unfold Cert.Kernel2.defs Cert.Kernel2Ideal.defs
  rw [defs₀_eq2]
  rfl

theorem frame_kernel2 : Cert.quiescent_Kernel2 (hKernel2 := Cert.Kernel2.Gen.facts) := fun m ρ _ => by
  rw [defs_eq2]
  exact Cert.Kernel2Ideal.Gen.frame (F := Bits) m ρ

theorem frame_kernel2Ideal : Cert.quiescent_Kernel2Ideal (hKernel2Ideal := Cert.Kernel2Ideal.Gen.facts) := fun m ρ _ =>
  Cert.Kernel2Ideal.Gen.frame (F := Ideal) m ρ

theorem frame_reference2Ideal : Cert.quiescent_Reference2Ideal (hReference2Ideal := Cert.Reference2Ideal.Gen.facts) := fun m ρ _ =>
  (θ_run Cert.Reference2Ideal.defs _ _).mono (fun r h => ⟨fun c => (h c).2, sem_eq_zero_of_no_sems rfl r.2⟩) (Cert.Reference2Ideal.Value.run (F := Ideal) m ρ)

theorem algebraic2 : Cert.algebraic_Kernel2Ideal_Reference2Ideal (hKernel2Ideal := Cert.Kernel2Ideal.Gen.facts)
    (hReference2Ideal := Cert.Reference2Ideal.Gen.facts) := by
  intro m g m' g' _ hm
  refine ⟨fun c => (dats m 0 c).arrAt 10 (Cert.Kernel2Ideal.cfgs 0).N, Cert.Kernel2Ideal.Value.run_blocks (F := Ideal) m g, ?_⟩
  refine (θ_run Cert.Reference2Ideal.defs _ _).mono (fun r h c => ⟨(h c).1.trans ?_, (h c).2⟩) (Cert.Reference2Ideal.Value.run (F := Ideal) m' g')
  obtain ⟨e0, e1, e2, e3, e4, e5, e6, e7, e8, e9⟩ := hm c
  refine (Cert.Reference2Ideal.Value.res_eq (F := Ideal) m' c).trans ?_
  rw [e0, e1, e2, e3, e4, e5, e6, e7, e8, e9]
  refine Eq.trans ?_ (Cert.Kernel2Ideal.Mlp.arr_eq m c).symm
  funext z
  have ez : z = ix3 (z 0) (z 1) (z 2) := by
    funext a
    fin_cases a <;> rfl
  refine (congrArg (Cert.Reference2Ideal.Value.rest (F := Ideal) _ _ _ _ _ _) ez).trans ((Cert.Reference2Ideal.Value.rest_apply (z 0) (z 1) _ _ _ _ _ _ (z 2)).trans ?_)
  exact congrFun (congrArg (Cert.Mlp.row _ _ _ _ _ _ _ _) (funext fun k => Cert.Reference2Ideal.Value.residual_apply (z 0) (z 1) _ _ _ _ _ _ k)) (z 2)

end Cert.Proof

end
-- ==== Proof.ProjMath.lean ====
/-
  The projection of one normed and modulated row, and the rotation of its heads, over extended reals.
-/
module

public import proofs.«01_k».proof.Proof.MlpMath

@[expose] public section

noncomputable section

namespace Cert.Proj

open Idealize.ShloMosaic Cert.Mlp

/-- One head's features with the first sixteen rotated in pairs eight apart. -/
def rope (f : Fin 64 → EReal) (cs sn : Fin 8 → EReal) (e : Fin 64) : EReal :=
  if h : e.val < 8 then f e * cs ⟨e.val, h⟩ - f ⟨8 + e.val, by omega⟩ * sn ⟨e.val, h⟩
  else if h' : e.val < 16 then f e * cs ⟨e.val - 8, by omega⟩ + f ⟨e.val - 8, by omega⟩ * sn ⟨e.val - 8, by omega⟩
  else f e

/-- The same at a feature of many heads side by side. -/
def ropeAt {n : ℕ} (hn : n % 64 = 0) (f : Fin n → EReal) (cs sn : Fin 8 → EReal) (j : Fin n) : EReal :=
  rope (fun e => f ⟨64 * (j.val / 64) + e.val, by omega⟩) cs sn ⟨j.val % 64, by omega⟩

/-- What is rotated in the three parts of every head is `ropeAt`. -/
theorem eq_ropeAt {n : ℕ} (hn : n % 64 = 0) (f g : Fin n → EReal) (cs sn : Fin 8 → EReal)
    (h1 : ∀ (p : Fin (n / 64)) (e : Fin 8), g ⟨64 * p.val + e.val, by omega⟩ = f ⟨64 * p.val + e.val, by omega⟩ * cs e - f ⟨64 * p.val + (8 + e.val), by omega⟩ * sn e)
    (h2 : ∀ (p : Fin (n / 64)) (e : Fin 8), g ⟨64 * p.val + (8 + e.val), by omega⟩ = f ⟨64 * p.val + (8 + e.val), by omega⟩ * cs e + f ⟨64 * p.val + e.val, by omega⟩ * sn e)
    (h3 : ∀ (p : Fin (n / 64)) (e : Fin 48), g ⟨64 * p.val + (16 + e.val), by omega⟩ = f ⟨64 * p.val + (16 + e.val), by omega⟩) (j : Fin n) :
    g j = ropeAt hn f cs sn j := by
  have hp : j.val / 64 < n / 64 := by omega
  unfold ropeAt rope
  split
  case isTrue h =>
    have := h1 ⟨j.val / 64, hp⟩ ⟨j.val % 64, h⟩
    rw [← this]
    exact congrArg g (Fin.ext (by simp only; omega))
  case isFalse h =>
    simp only at h
    split
    case isTrue h' =>
      simp only at h'
      refine (congrArg g (Fin.ext ?_)).trans ((h2 ⟨j.val / 64, hp⟩ ⟨j.val % 64 - 8, by omega⟩).trans ?_)
      · simp only; omega
      · have e1 : (⟨64 * (j.val / 64) + (8 + (j.val % 64 - 8)), by omega⟩ : Fin n) = ⟨64 * (j.val / 64) + j.val % 64, by omega⟩ :=
          Fin.ext (by simp only; omega)
        simp only [e1]
    case isFalse h' =>
      simp only at h'
      refine (congrArg g (Fin.ext ?_)).trans ((h3 ⟨j.val / 64, hp⟩ ⟨j.val % 64 - 16, by omega⟩).trans (congrArg f (Fin.ext ?_)))
      · simp only; omega
      · simp only; omega

/-- Rotation at a feature reads its own head alone. -/
theorem ropeAt_congr {n k : ℕ} (hn : n % 64 = 0) (hk : k % 64 = 0) (f : Fin n → EReal) (g : Fin k → EReal) (cs sn : Fin 8 → EReal) (i : Fin n) (j : Fin k)
    (hm : i.val % 64 = j.val % 64)
    (h : ∀ e : Fin 64, f ⟨64 * (i.val / 64) + e.val, by omega⟩ = g ⟨64 * (j.val / 64) + e.val, by omega⟩) :
    ropeAt hn f cs sn i = ropeAt hk g cs sn j := by
  unfold ropeAt
  have e1 : (⟨i.val % 64, by omega⟩ : Fin 64) = ⟨j.val % 64, by omega⟩ := Fin.ext hm
  rw [e1, funext h]

/-- A feature of the projected row. -/
def feature (c e one : EReal) (x g sh sc : Fin 1024 → EReal) (w : Fin 1024 → EReal) : EReal :=
  ∑ k, modulated c e one x g sh sc k * w k

end Cert.Proj

end
-- ==== Proof.ProjRows.lean ====
/-
  The body of the projection, at an index, over extended reals.
-/
module

public import proofs.«01_k».proof.Proof.Gen.Kernel3Ideal.Value
public import proofs.«01_k».proof.Proof.ProjMath
public import Idealize.ShloMosaic.Lib.Pipeline.ValueKit

@[expose] public section

set_option maxRecDepth 16384

noncomputable section

namespace Cert.Kernel3Ideal.Proj

open Idealize.ShloMosaic Idealize.ShloMosaic.TcCoe Cert.Kernel3Ideal Cert.Kernel3Ideal.Gen Cert.Mlp Cert.Proj

/-! ## The payloads -/

theorem pay4_apply (x : Vec Ideal S1x512x1024 .f32) (md : Vec Ideal S1x6x1024 .f32) (g : Vec Ideal S1x1024 .f32) (r : Fin 512) (k : Fin 1024) :
    k0_pay4 (F := Ideal) x md g (ix2 r k) =
      modulated (Ideal.ofBits .f32 0x44800000#32) (Ideal.ofBits .f32 0x358637BD#32) (Ideal.ofBits .f32 0x3F800000#32)
        (fun k => x (ix3 0 r k)) (fun k => g (ix2 0 k)) (fun k => md (ix3 0 0 k)) (fun k => md (ix3 0 1 k)) k := by
  unfold modulated normed
  pointwise [k0_pay4]

theorem pay5_apply (x : Vec Ideal S1x512x1024 .f32) (md : Vec Ideal S1x6x1024 .f32) (g : Vec Ideal S1x1024 .f32) (w : Vec Ideal S1024x256 .bf16)
    (r : Fin 512) (j : Fin 256) : k0_pay5 (F := Ideal) x md g w (ix2 r j) = ∑ k : Fin 1024, k0_pay4 (F := Ideal) x md g (ix2 r k) * w (ix2 k j) := by
  unfold k0_pay5
  generalize k0_pay4 (F := Ideal) x md g = h
  pointwise

theorem pay9_apply (h : FVec Ideal S512x1024 .bf16) (w : Vec Ideal S2304x1024 .bf16) (j : Fin 2304) (r : Fin 512) :
    k0_pay9 (F := Ideal) h w (ix2 j r) = ∑ k : Fin 1024, h (ix2 r k) * w (ix2 j k) := by
  have e : k0_pay9 (F := Ideal) h w (ix2 j r) = ∑ k : Fin 1024, w (ix2 j k) * h (ix2 r k) := by pointwise [k0_pay9]
  rw [e]
  exact Finset.sum_congr rfl fun k _ => mul_comm _ _

section

variable (h : FVec Ideal S512x1024 .bf16) (w : Vec Ideal S2304x1024 .bf16) (cs sn : Vec Ideal S1x8x512 .f32) (r : Fin 512)

theorem pay10_1 (p : Fin 24) (e : Fin 8) : k0_pay10 (F := Ideal) h w cs sn (ix2 ⟨64 * p.val + e.val, by omega⟩ r) =
    k0_pay9 (F := Ideal) h w (ix2 ⟨64 * p.val + e.val, by omega⟩ r) * cs (ix3 0 e r)
      - k0_pay9 (F := Ideal) h w (ix2 ⟨64 * p.val + (8 + e.val), by omega⟩ r) * sn (ix3 0 e r) := by
  unfold k0_pay10
  generalize k0_pay9 (F := Ideal) h w = y
  pointwise
  have e1 : (64 * p.val + e.val) % 64 = e.val := by omega
  refine (dif_pos (by omega)).trans ?_
  simp only [e1, Nat.mul_comm p.val 64]

theorem pay10_2 (p : Fin 24) (e : Fin 8) : k0_pay10 (F := Ideal) h w cs sn (ix2 ⟨64 * p.val + (8 + e.val), by omega⟩ r) =
    k0_pay9 (F := Ideal) h w (ix2 ⟨64 * p.val + (8 + e.val), by omega⟩ r) * cs (ix3 0 e r)
      + k0_pay9 (F := Ideal) h w (ix2 ⟨64 * p.val + e.val, by omega⟩ r) * sn (ix3 0 e r) := by
  unfold k0_pay10
  generalize k0_pay9 (F := Ideal) h w = y
  pointwise
  have e1 : (64 * p.val + (8 + e.val)) % 64 - 8 = e.val := by omega
  refine (dif_neg (by omega)).trans ((dif_pos (by omega)).trans ?_)
  simp only [e1, Nat.mul_comm p.val 64]

theorem pay10_3 (p : Fin 24) (e : Fin 48) : k0_pay10 (F := Ideal) h w cs sn (ix2 ⟨64 * p.val + (16 + e.val), by omega⟩ r) =
    k0_pay9 (F := Ideal) h w (ix2 ⟨64 * p.val + (16 + e.val), by omega⟩ r) := by
  unfold k0_pay10
  generalize k0_pay9 (F := Ideal) h w = y
  pointwise
  have e1 : (64 * p.val + (16 + e.val)) % 64 - 8 - 8 = e.val := by omega
  refine (dif_neg (by omega)).trans ((dif_neg (by omega)).trans ?_)
  simp only [e1, Nat.mul_comm p.val 64]

theorem pay10_apply (j : Fin 1536) : k0_pay10 (F := Ideal) h w cs sn (ix2 j r) =
    ropeAt (n := 1536) rfl (fun i => k0_pay9 (F := Ideal) h w (ix2 ⟨i.val, by omega⟩ r)) (fun e => cs (ix3 0 e r)) (fun e => sn (ix3 0 e r)) j :=
  eq_ropeAt (n := 1536) rfl (fun i => k0_pay9 (F := Ideal) h w (ix2 ⟨i.val, by omega⟩ r)) (fun i => k0_pay10 (F := Ideal) h w cs sn (ix2 i r)) _ _
    (pay10_1 h w cs sn r) (pay10_2 h w cs sn r) (pay10_3 h w cs sn r) j

end

/-! ## The stored pieces -/

theorem pay6_apply (x : Vec Ideal S1x512x1024 .f32) (md : Vec Ideal S1x6x1024 .f32) (g : Vec Ideal S1x1024 .f32) (w : Vec Ideal S1024x256 .bf16)
    (r : Fin 512) (j : Fin 128) : k0_pay6 (F := Ideal) x md g w (ix4 0 0 r j) = k0_pay5 (F := Ideal) x md g w (ix2 r ⟨j.val, by omega⟩) := by
  unfold k0_pay6
  generalize k0_pay5 (F := Ideal) x md g w = y
  pointwise

theorem pay8_apply (x : Vec Ideal S1x512x1024 .f32) (md : Vec Ideal S1x6x1024 .f32) (g : Vec Ideal S1x1024 .f32) (w : Vec Ideal S1024x256 .bf16)
    (r : Fin 512) (j : Fin 128) : k0_pay8 (F := Ideal) (k0_pay7 x md g w) (ix4 0 0 r j) = k0_pay5 (F := Ideal) x md g w (ix2 r ⟨128 + j.val, by omega⟩) := by
  unfold k0_pay8 k0_pay7
  generalize k0_pay5 (F := Ideal) x md g w = y
  pointwise

section

variable (h : FVec Ideal S512x1024 .bf16) (w : Vec Ideal S2304x1024 .bf16) (cs sn : Vec Ideal S1x8x512 .f32)

theorem pay11_apply (q r : Fin 512) : k0_pay11 (F := Ideal) h w cs sn (ix2 q r)
    = k0_pay10 (F := Ideal) h w cs sn (ix2 ⟨q.val, by omega⟩ r) := by
  unfold k0_pay11
  generalize k0_pay10 (F := Ideal) h w cs sn = y
  pointwise

theorem pay13_apply (q : Fin 256) (r : Fin 512) : k0_pay13 (F := Ideal) h w cs sn (ix2 q r)
    = k0_pay10 (F := Ideal) h w cs sn (ix2 ⟨1024 + q.val, by omega⟩ r) := by
  unfold k0_pay13
  generalize k0_pay10 (F := Ideal) h w cs sn = y
  pointwise

theorem pay12_apply (r q : Fin 512) : k0_pay12 (F := Ideal) h w cs sn (ix3 0 r q) = k0_pay10 (F := Ideal) h w cs sn (ix2 ⟨512 + q.val, by omega⟩ r) := by
  unfold k0_pay12
  generalize k0_pay10 (F := Ideal) h w cs sn = y
  pointwise

theorem pay15_apply (r : Fin 512) (q : Fin 256) : k0_pay15 (F := Ideal) (k0_pay14 h w cs sn) (ix3 0 r q)
    = k0_pay10 (F := Ideal) h w cs sn (ix2 ⟨1280 + q.val, by omega⟩ r) := by
  unfold k0_pay15 k0_pay14
  generalize k0_pay10 (F := Ideal) h w cs sn = y
  pointwise

end

theorem pay18_apply (y : FVec Ideal S512x512 .bf16) (q : Fin 512) (r : Fin 256) : k0_pay18 (F := Ideal) y (ix4 0 0 q r) = y (ix2 q ⟨r.val, by omega⟩) := by
  pointwise [k0_pay18]

theorem pay22_apply (y : FVec Ideal S512x512 .bf16) (q : Fin 512) (r : Fin 256) : k0_pay22 (F := Ideal) y (ix4 0 0 q r) = y (ix2 q ⟨256 + r.val, by omega⟩) := by
  pointwise [k0_pay22]

theorem pay20_apply (y : FVec Ideal S256x512 .bf16) (q r : Fin 256) : k0_pay20 (F := Ideal) y (ix4 0 0 q r) = y (ix2 q ⟨r.val, by omega⟩) := by
  pointwise [k0_pay20]

theorem pay2_apply (y : FVec Ideal S256x512 .bf16) (q r : Fin 256) : k0_pay2 (F := Ideal) y (ix4 0 0 q r) = y (ix2 q ⟨256 + r.val, by omega⟩) := by
  pointwise [k0_pay2]

theorem pay19_apply (y : FVec Ideal S2304x512 .f32) (q : Fin 512) (r : Fin 256) :
    k0_pay19 (F := Ideal) y (ix4 0 0 q r) = y (ix2 ⟨1536 + q.val, by omega⟩ ⟨r.val, by omega⟩) := by
  pointwise [k0_pay19, k0_pay16]

theorem pay1_apply (y : FVec Ideal S2304x512 .f32) (q : Fin 512) (r : Fin 256) :
    k0_pay1 (F := Ideal) (k0_pay23 y) (ix4 0 0 q r) = y (ix2 ⟨1536 + q.val, by omega⟩ ⟨256 + r.val, by omega⟩) := by
  pointwise [k0_pay1, k0_pay23, k0_pay16]

theorem pay21_apply (y : FVec Ideal S2304x512 .f32) (q r : Fin 256) :
    k0_pay21 (F := Ideal) y (ix4 0 0 q r) = y (ix2 ⟨2048 + q.val, by omega⟩ ⟨r.val, by omega⟩) := by
  pointwise [k0_pay21, k0_pay17]

theorem pay3_apply (y : FVec Ideal S2304x512 .f32) (q r : Fin 256) :
    k0_pay3 (F := Ideal) (k0_pay17 y) (ix4 0 0 q r) = y (ix2 ⟨2048 + q.val, by omega⟩ ⟨256 + r.val, by omega⟩) := by
  pointwise [k0_pay3, k0_pay17]

end Cert.Kernel3Ideal.Proj

end
-- ==== Proof.ProjBlocks.lean ====
/-
  The blocks of the projection's operands, in terms of the arguments.
-/
module

public import proofs.«01_k».proof.Proof.ProjRows

@[expose] public section

set_option maxRecDepth 16384

noncomputable section

namespace Cert.Kernel3Ideal.Proj

open Idealize.ShloMosaic Idealize.ShloMosaic.TcCoe Cert.Kernel3Ideal Cert.Kernel3Ideal.Gen Cert.Mlp Cert.Proj

/-! ## Where the blocks lie -/

theorem index_facts : ∀ t : Fin grid0.N,
    win0_0.index t = ![(grid0.coords t 0).val, (grid0.coords t 1).val, 0]
    ∧ win0_1.index t = ![(grid0.coords t 0).val, 0, 0]
    ∧ win0_2.index t = ![0, 0] ∧ win0_3.index t = ![0, 0] ∧ win0_4.index t = ![0, 0]
    ∧ win0_5.index t = ![(grid0.coords t 0).val, 0, (grid0.coords t 1).val]
    ∧ win0_6.index t = ![(grid0.coords t 0).val, 0, (grid0.coords t 1).val]
    ∧ win0_7.index t = ![(grid0.coords t 0).val, 0, (grid0.coords t 1).val, 0]
    ∧ win0_8.index t = ![(grid0.coords t 0).val, (grid0.coords t 1).val, 0, 0]
    ∧ win0_9.index t = ![(grid0.coords t 0).val, (grid0.coords t 1).val, 0]
    ∧ win0_10.index t = ![(grid0.coords t 0).val, (grid0.coords t 1).val, 0, 0]
    ∧ win0_11.index t = ![(grid0.coords t 0).val, (grid0.coords t 1).val, 0, 0]
    ∧ win0_12.index t = ![(grid0.coords t 0).val, (grid0.coords t 1).val, 0]
    ∧ win0_13.index t = ![(grid0.coords t 0).val, (grid0.coords t 1).val, 0, 0] := by decide +kernel

variable (m : (ℓ : Loc nD τ sig) → Buf (Elt Ideal) ℓ) (c : Dev nD) (t : Fin cfg0.N)

/-! ## The arrays the kernel finds -/

theorem V_x (b : Fin 4) (s : Fin 8192) (d : Fin 1024) : V m c main_arg0 (ix3 b s d) = m ((c.tc : Thread nD τ).loc main_arg0) (ix3 b s d) := by
  rw [V_main_arg0]

theorem V_cos (b : Fin 4) (e : Fin 8) (s : Fin 8192) : V m c main_arg4 (ix3 b e s) = m ((c.tc : Thread nD τ).loc main_arg4) (ix3 b e s) := by
  rw [V_main_arg4]

theorem V_sin (b : Fin 4) (e : Fin 8) (s : Fin 8192) : V m c main_arg5 (ix3 b e s) = m ((c.tc : Thread nD τ).loc main_arg5) (ix3 b e s) := by
  rw [V_main_arg5]

theorem V_mod (b : Fin 4) (i : Fin 6) (d : Fin 1024) :
    V m c main_v11 (ix3 b i d) = m ((c.tc : Thread nD τ).loc main_arg1) (ix2 b ⟨1024 * i.val + d.val, by omega⟩) := by
  entry_read
  pointwise
  refine congrArg (m (c.tc.loc main_arg1)) (congrArg (ix2 b) ?_)
  exact Fin.ext (by simp only; omega)

theorem V_g (d : Fin 1024) : V m c main_v12 (ix2 0 d) = m ((c.tc : Thread nD τ).loc main_arg2) (ix1 d) := by
  entry_read
  pointwise

theorem V_wu (k : Fin 1024) (j : Fin 256) : V m c main_v1 (ix2 k j) = m ((c.tc : Thread nD τ).loc main_arg3) (ix2 k ⟨j.val, by omega⟩) := by
  entry_read
  pointwise

/-- The column of the projection's weights a row of the joined weights is. -/
def src (i : Fin 2304) : Fin 2560 :=
  ⟨if i.val < 1024 then i.val + 256 else if i.val < 1536 then i.val + 768 else if i.val < 2048 then i.val - 256 else i.val + 256, by split_ifs <;> omega⟩

/-- The weights turned over. -/
def turned (w : FVec Ideal S1024x2560 .f32) : FVec Ideal S2560x1024 .bf16 :=
  truncf .bf16 (transpose S2560x1024 [1, 0] w transposes_S1024x2560_S2560x1024_1_0) bitsLt_bf16_f32

/-- The joined weights. -/
def joined (w : FVec Ideal S2560x1024 .bf16) : FVec Ideal S2304x1024 .bf16 :=
  concatenate S2304x1024 0 [⟨S512x1024, extractStridedSlice S512x1024 ![256, 0] w slices_S2560x1024_S512x1024_256_0⟩,
    ⟨S512x1024, extractStridedSlice S512x1024 ![768, 0] w slices_S2560x1024_S512x1024_768_0⟩,
    ⟨S256x1024, extractStridedSlice S256x1024 ![1792, 0] w slices_S2560x1024_S256x1024_1792_0⟩,
    ⟨S256x1024, extractStridedSlice S256x1024 ![2048, 0] w slices_S2560x1024_S256x1024_2048_0⟩,
    ⟨S512x1024, extractStridedSlice S512x1024 ![1280, 0] w slices_S2560x1024_S512x1024_1280_0⟩,
    ⟨S256x1024, extractStridedSlice S256x1024 ![2304, 0] w slices_S2560x1024_S256x1024_2304_0⟩]
    concatenates_S512x1024_S512x1024_S256x1024_S256x1024_S512x1024_S256x1024_S2304x1024_d0

theorem V_joined : V m c main_v10 = joined (turned (m ((c.tc : Thread nD τ).loc main_arg3))) := by
  simp only [V, hostOps0]
  after_results_simp
  rfl

theorem turned_apply (w : FVec Ideal S1024x2560 .f32) (j : Fin 2560) (k : Fin 1024) : turned w (ix2 j k) = w (ix2 k j) := by
  pointwise [turned]

theorem joined_apply (w : FVec Ideal S2560x1024 .bf16) (i : Fin 2304) (k : Fin 1024) : joined w (ix2 i k) = w (ix2 (src i) k) := by
  pointwise [joined]
  split
  case isTrue h1 => exact congrArg w (congrArg (ix2 · k) (Fin.ext (by simp only [src]; rw [if_pos (by omega)]; omega)))
  case isFalse h1 =>
  split
  case isTrue h2 => exact congrArg w (congrArg (ix2 · k) (Fin.ext (by simp only [src]; rw [if_pos (by omega)]; omega)))
  case isFalse h2 =>
  split
  case isTrue h3 => exact congrArg w (congrArg (ix2 · k) (Fin.ext (by simp only [src]; rw [if_neg (by omega), if_pos (by omega)]; omega)))
  case isFalse h3 =>
  split
  case isTrue h4 => exact congrArg w (congrArg (ix2 · k) (Fin.ext (by simp only [src]; rw [if_neg (by omega), if_pos (by omega)]; omega)))
  case isFalse h4 =>
  split
  case isTrue h5 => exact congrArg w (congrArg (ix2 · k) (Fin.ext (by simp only [src]; rw [if_neg (by omega), if_neg (by omega), if_pos (by omega)]; omega)))
  case isFalse h5 => exact congrArg w (congrArg (ix2 · k) (Fin.ext (by simp only [src]; rw [if_neg (by omega), if_neg (by omega), if_neg (by omega)]; omega)))

theorem V_wt (i : Fin 2304) (k : Fin 1024) : V m c main_v10 (ix2 i k) = m ((c.tc : Thread nD τ).loc main_arg3) (ix2 k (src i)) := by
  rw [V_joined, joined_apply, turned_apply]

/-! ## The blocks -/

theorem blk_x (b : Fin 4) (g : Fin 16) (hb : (grid0.coords t 0).val = b.val) (hg : (grid0.coords t 1).val = g.val)
    (r : Fin 512) (d : Fin 1024) (s : Fin 8192) (hs : s.val = 512 * g.val + r.val) :
    iblk m c 0 t (ix3 0 r d) = m ((c.tc : Thread nD τ).loc main_arg0) (ix3 b s d) := by
  rw [← V_x m c b s d]
  obtain ⟨e0, e1, e2, e3, e4, e5, e6, -⟩ := index_facts t
  blk_ext [iblk, e0, hb, hg]

theorem blk_mod (b : Fin 4) (hb : (grid0.coords t 0).val = b.val) (i : Fin 6) (d : Fin 1024) :
    iblk m c 1 t (ix3 0 i d) = m ((c.tc : Thread nD τ).loc main_arg1) (ix2 b ⟨1024 * i.val + d.val, by omega⟩) := by
  rw [← V_mod m c b i d]
  obtain ⟨e0, e1, e2, e3, e4, e5, e6, -⟩ := index_facts t
  blk_ext [iblk, e1, hb]

theorem blk_g (d : Fin 1024) : iblk m c 2 t (ix2 0 d) = m ((c.tc : Thread nD τ).loc main_arg2) (ix1 d) := by
  rw [← V_g m c d]
  obtain ⟨e0, e1, e2, e3, e4, e5, e6, -⟩ := index_facts t
  blk_ext [iblk, e2]

theorem blk_wu (k : Fin 1024) (j : Fin 256) : iblk m c 3 t (ix2 k j) = m ((c.tc : Thread nD τ).loc main_arg3) (ix2 k ⟨j.val, by omega⟩) := by
  rw [← V_wu m c k j]
  obtain ⟨e0, e1, e2, e3, e4, e5, e6, -⟩ := index_facts t
  blk_ext [iblk, e3]

theorem blk_wt (i : Fin 2304) (k : Fin 1024) : iblk m c 4 t (ix2 i k) = m ((c.tc : Thread nD τ).loc main_arg3) (ix2 k (src i)) := by
  rw [← V_wt m c i k]
  obtain ⟨e0, e1, e2, e3, e4, e5, e6, -⟩ := index_facts t
  blk_ext [iblk, e4]

theorem blk_cos (b : Fin 4) (g : Fin 16) (hb : (grid0.coords t 0).val = b.val) (hg : (grid0.coords t 1).val = g.val)
    (r : Fin 512) (e : Fin 8) (s : Fin 8192) (hs : s.val = 512 * g.val + r.val) :
    iblk m c 5 t (ix3 0 e r) = m ((c.tc : Thread nD τ).loc main_arg4) (ix3 b e s) := by
  rw [← V_cos m c b e s]
  obtain ⟨e0, e1, e2, e3, e4, e5, e6, -⟩ := index_facts t
  blk_ext [iblk, e5, hb, hg]

theorem blk_sin (b : Fin 4) (g : Fin 16) (hb : (grid0.coords t 0).val = b.val) (hg : (grid0.coords t 1).val = g.val)
    (r : Fin 512) (e : Fin 8) (s : Fin 8192) (hs : s.val = 512 * g.val + r.val) :
    iblk m c 6 t (ix3 0 e r) = m ((c.tc : Thread nD τ).loc main_arg5) (ix3 b e s) := by
  rw [← V_sin m c b e s]
  obtain ⟨e0, e1, e2, e3, e4, e5, e6, -⟩ := index_facts t
  blk_ext [iblk, e6, hb, hg]

/-! ## A row -/

/-- Feature `j` of a token. -/
def colOf (b : Fin 4) (s : Fin 8192) (j : Fin 2560) : EReal :=
  feature (Ideal.ofBits .f32 0x44800000#32) (Ideal.ofBits .f32 0x358637BD#32) (Ideal.ofBits .f32 0x3F800000#32)
    (fun k => (m ((c.tc : Thread nD τ).loc main_arg0) : FVec Ideal S4x8192x1024 .f32) (ix3 b s k))
    (fun k => (m ((c.tc : Thread nD τ).loc main_arg2) : FVec Ideal S1024 .f32) (ix1 k))
    (fun k => (m ((c.tc : Thread nD τ).loc main_arg1) : FVec Ideal S4x6144 .f32) (ix2 b ⟨k.val, by omega⟩))
    (fun k => (m ((c.tc : Thread nD τ).loc main_arg1) : FVec Ideal S4x6144 .f32) (ix2 b ⟨1024 + k.val, by omega⟩))
    (fun k => (m ((c.tc : Thread nD τ).loc main_arg3) : FVec Ideal S1024x2560 .f32) (ix2 k j))

/-- Feature `j` of a token with its head rotated. -/
def rotOf (b : Fin 4) (s : Fin 8192) (j : Fin 2560) : EReal :=
  ropeAt (n := 2560) rfl (colOf m c b s)
    (fun e => (m ((c.tc : Thread nD τ).loc main_arg4) : FVec Ideal S4x8x8192 .f32) (ix3 b e s))
    (fun e => (m ((c.tc : Thread nD τ).loc main_arg5) : FVec Ideal S4x8x8192 .f32) (ix3 b e s)) j

section

variable (b : Fin 4) (g : Fin 16) (hb : (grid0.coords t 0).val = b.val) (hg : (grid0.coords t 1).val = g.val)
  (r : Fin 512) (s : Fin 8192) (hs : s.val = 512 * g.val + r.val)
include hb hg hs

theorem norm_blk (k : Fin 1024) : k0_pay4 (F := Ideal) (iblk m c 0 t) (iblk m c 1 t) (iblk m c 2 t) (ix2 r k) =
    modulated (Ideal.ofBits .f32 0x44800000#32) (Ideal.ofBits .f32 0x358637BD#32) (Ideal.ofBits .f32 0x3F800000#32)
      (fun k => (m ((c.tc : Thread nD τ).loc main_arg0) : FVec Ideal S4x8192x1024 .f32) (ix3 b s k))
      (fun k => (m ((c.tc : Thread nD τ).loc main_arg2) : FVec Ideal S1024 .f32) (ix1 k))
      (fun k => (m ((c.tc : Thread nD τ).loc main_arg1) : FVec Ideal S4x6144 .f32) (ix2 b ⟨k.val, by omega⟩))
      (fun k => (m ((c.tc : Thread nD τ).loc main_arg1) : FVec Ideal S4x6144 .f32) (ix2 b ⟨1024 + k.val, by omega⟩)) k := by
  refine (pay4_apply _ _ _ r k).trans ?_
  congr 1
  · funext k; exact blk_x m c t b g hb hg r k s hs
  · funext k; exact blk_g m c t k
  · funext k; exact (blk_mod m c t b hb 0 k).trans (congrArg (fun i => m ((c.tc : Thread nD τ).loc main_arg1) (ix2 b i)) (Fin.ext (by simp)))
  · funext k; exact blk_mod m c t b hb 1 k

theorem u_blk (j : Fin 256) : k0_pay5 (F := Ideal) (iblk m c 0 t) (iblk m c 1 t) (iblk m c 2 t) (iblk m c 3 t) (ix2 r j) = colOf m c b s ⟨j.val, by omega⟩ := by
  refine (pay5_apply _ _ _ _ r j).trans ?_
  exact Finset.sum_congr rfl fun k _ => congrArg₂ (· * ·) (norm_blk m c t b g hb hg r s hs k) (blk_wu m c t k j)

theorem t_blk (i : Fin 2304) : k0_pay9 (F := Ideal) (k0_pay4 (iblk m c 0 t) (iblk m c 1 t) (iblk m c 2 t)) (iblk m c 4 t) (ix2 i r) = colOf m c b s (src i) := by
  refine (pay9_apply _ _ i r).trans ?_
  exact Finset.sum_congr rfl fun k _ => congrArg₂ (· * ·) (norm_blk m c t b g hb hg r s hs k) (blk_wt m c t i k)

theorem rot_blk (i : Fin 1536) : k0_pay10 (F := Ideal) (k0_pay4 (iblk m c 0 t) (iblk m c 1 t) (iblk m c 2 t)) (iblk m c 4 t) (iblk m c 5 t) (iblk m c 6 t) (ix2 i r)
    = rotOf m c b s (src ⟨i.val, by omega⟩) := by
  refine (pay10_apply _ _ _ _ r i).trans ?_
  unfold rotOf
  have ec : (fun e => (iblk m c 5 t : Vec Ideal S1x8x512 .f32) (ix3 0 e r)) = fun e => (m ((c.tc : Thread nD τ).loc main_arg4) : FVec Ideal S4x8x8192 .f32) (ix3 b e s) :=
    funext fun e => blk_cos m c t b g hb hg r e s hs
  have es : (fun e => (iblk m c 6 t : Vec Ideal S1x8x512 .f32) (ix3 0 e r)) = fun e => (m ((c.tc : Thread nD τ).loc main_arg5) : FVec Ideal S4x8x8192 .f32) (ix3 b e s) :=
    funext fun e => blk_sin m c t b g hb hg r e s hs
  rw [ec, es]
  refine ropeAt_congr _ _ _ _ _ _ _ _ ?_ fun e => ?_
  · simp only [src]
    split_ifs <;> omega
  · refine (t_blk m c t b g hb hg r s hs _).trans (congrArg (colOf m c b s) (Fin.ext ?_))
    simp only [src]
    split_ifs <;> omega

end

end Cert.Kernel3Ideal.Proj

end
-- ==== Proof.ProjArrays.lean ====
/-
  The arrays of the projection's results, in terms of the arguments.
-/
module

public import proofs.«01_k».proof.Proof.ProjBlocks

@[expose] public section

set_option maxRecDepth 16384

noncomputable section

namespace Cert.Kernel3Ideal.Proj

open Idealize.ShloMosaic Idealize.ShloMosaic.TcCoe Cert.Kernel3Ideal Cert.Kernel3Ideal.Gen Cert.Mlp Cert.Proj

theorem ld0 (x : Vec Ideal S1x512x1024 .f32) : View.ld x r0_0 = x := View.ld_unit_lit _ _ (by decide)
theorem ld1 (x : Vec Ideal S1x6x1024 .f32) : View.ld x r0_1 = x := View.ld_unit_lit _ _ (by decide)
theorem ld2 (x : Vec Ideal S1x1024 .f32) : View.ld x r0_2 = x := View.ld_unit_lit _ _ (by decide)
theorem ld3 (x : Vec Ideal S1024x256 .bf16) : View.ld x r0_3 = x := View.ld_unit_lit _ _ (by decide)
theorem ld6 (x : Vec Ideal S2304x1024 .bf16) : View.ld x r0_6 = x := View.ld_unit_lit _ _ (by decide)
theorem ld7 (x : Vec Ideal S1x8x512 .f32) : View.ld x r0_7 = x := View.ld_unit_lit _ _ (by decide)

/-! ## Two pieces side by side -/

theorem u2_hi (p q : Vec Ideal S1x1x512x128 .f32) (i : Fin 512) (j : Fin 128) :
    View.canon (Val := Elt Ideal) [⟨r0_5, p⟩, ⟨r0_4, q⟩] (ix4 0 1 i j) = p (ix4 0 0 i j) := by
  have e : r0_5.emb (ix4 0 0 i j : S1x1x512x128.Idx) = (ix4 0 1 i j : S1x2x512x128.Idx) := by
    funext a
    refine Fin.ext ?_
    match a with
    | ⟨0, _⟩ => rfl
    | ⟨1, _⟩ => rfl
    | ⟨2, _⟩ => show 0 + 1 * i.val = i.val; omega
    | ⟨3, _⟩ => show 0 + 1 * j.val = j.val; omega
  exact (congrArg _ e.symm).trans (View.canon_cons_emb (Val := Elt Ideal) r0_5 p [⟨r0_4, q⟩] (ix4 0 0 i j))

theorem u2_lo (p q : Vec Ideal S1x1x512x128 .f32) (i : Fin 512) (j : Fin 128) :
    View.canon (Val := Elt Ideal) [⟨r0_5, p⟩, ⟨r0_4, q⟩] (ix4 0 0 i j) = q (ix4 0 0 i j) := by
  have e : r0_4.emb (ix4 0 0 i j : S1x1x512x128.Idx) = (ix4 0 0 i j : S1x2x512x128.Idx) := by
    funext a
    refine Fin.ext ?_
    match a with
    | ⟨0, _⟩ => rfl
    | ⟨1, _⟩ => rfl
    | ⟨2, _⟩ => show 0 + 1 * i.val = i.val; omega
    | ⟨3, _⟩ => show 0 + 1 * j.val = j.val; omega
  have h : (ix4 0 0 i j : S1x2x512x128.Idx) ∉ r0_5.set := fun hm => by
    have hh : (1 : ℕ) ≤ 0 := (Rect.mem_set_unit.1 hm 1).1
    omega
  refine (View.canon_cons_of_not_mem (Val := Elt Ideal) ⟨r0_5, p⟩ [⟨r0_4, q⟩] h).trans ?_
  exact (congrArg _ e.symm).trans (View.canon_cons_emb (Val := Elt Ideal) r0_4 q [] (ix4 0 0 i j))

theorem d2_hi (p q : Vec Ideal S1x1x512x256 .bf16) (i : Fin 512) (j : Fin 256) :
    View.canon (Val := Elt Ideal) [⟨r0_12, p⟩, ⟨r0_10, q⟩] (ix4 0 1 i j) = p (ix4 0 0 i j) := by
  have e : r0_12.emb (ix4 0 0 i j : S1x1x512x256.Idx) = (ix4 0 1 i j : S1x2x512x256.Idx) := by
    funext a
    refine Fin.ext ?_
    match a with
    | ⟨0, _⟩ => rfl
    | ⟨1, _⟩ => rfl
    | ⟨2, _⟩ => show 0 + 1 * i.val = i.val; omega
    | ⟨3, _⟩ => show 0 + 1 * j.val = j.val; omega
  exact (congrArg _ e.symm).trans (View.canon_cons_emb (Val := Elt Ideal) r0_12 p [⟨r0_10, q⟩] (ix4 0 0 i j))

theorem d2_lo (p q : Vec Ideal S1x1x512x256 .bf16) (i : Fin 512) (j : Fin 256) :
    View.canon (Val := Elt Ideal) [⟨r0_12, p⟩, ⟨r0_10, q⟩] (ix4 0 0 i j) = q (ix4 0 0 i j) := by
  have e : r0_10.emb (ix4 0 0 i j : S1x1x512x256.Idx) = (ix4 0 0 i j : S1x2x512x256.Idx) := by
    funext a
    refine Fin.ext ?_
    match a with
    | ⟨0, _⟩ => rfl
    | ⟨1, _⟩ => rfl
    | ⟨2, _⟩ => show 0 + 1 * i.val = i.val; omega
    | ⟨3, _⟩ => show 0 + 1 * j.val = j.val; omega
  have h : (ix4 0 0 i j : S1x2x512x256.Idx) ∉ r0_12.set := fun hm => by
    have hh : (1 : ℕ) ≤ 0 := (Rect.mem_set_unit.1 hm 1).1
    omega
  refine (View.canon_cons_of_not_mem (Val := Elt Ideal) ⟨r0_12, p⟩ [⟨r0_10, q⟩] h).trans ?_
  exact (congrArg _ e.symm).trans (View.canon_cons_emb (Val := Elt Ideal) r0_10 q [] (ix4 0 0 i j))

theorem m2_hi (p q : Vec Ideal S1x1x256x256 .bf16) (i : Fin 256) (j : Fin 256) :
    View.canon (Val := Elt Ideal) [⟨r0_13, p⟩, ⟨r0_11, q⟩] (ix4 0 1 i j) = p (ix4 0 0 i j) := by
  have e : r0_13.emb (ix4 0 0 i j : S1x1x256x256.Idx) = (ix4 0 1 i j : S1x2x256x256.Idx) := by
    funext a
    refine Fin.ext ?_
    match a with
    | ⟨0, _⟩ => rfl
    | ⟨1, _⟩ => rfl
    | ⟨2, _⟩ => show 0 + 1 * i.val = i.val; omega
    | ⟨3, _⟩ => show 0 + 1 * j.val = j.val; omega
  exact (congrArg _ e.symm).trans (View.canon_cons_emb (Val := Elt Ideal) r0_13 p [⟨r0_11, q⟩] (ix4 0 0 i j))

theorem m2_lo (p q : Vec Ideal S1x1x256x256 .bf16) (i : Fin 256) (j : Fin 256) :
    View.canon (Val := Elt Ideal) [⟨r0_13, p⟩, ⟨r0_11, q⟩] (ix4 0 0 i j) = q (ix4 0 0 i j) := by
  have e : r0_11.emb (ix4 0 0 i j : S1x1x256x256.Idx) = (ix4 0 0 i j : S1x2x256x256.Idx) := by
    funext a
    refine Fin.ext ?_
    match a with
    | ⟨0, _⟩ => rfl
    | ⟨1, _⟩ => rfl
    | ⟨2, _⟩ => show 0 + 1 * i.val = i.val; omega
    | ⟨3, _⟩ => show 0 + 1 * j.val = j.val; omega
  have h : (ix4 0 0 i j : S1x2x256x256.Idx) ∉ r0_13.set := fun hm => by
    have hh : (1 : ℕ) ≤ 0 := (Rect.mem_set_unit.1 hm 1).1
    omega
  refine (View.canon_cons_of_not_mem (Val := Elt Ideal) ⟨r0_13, p⟩ [⟨r0_11, q⟩] h).trans ?_
  exact (congrArg _ e.symm).trans (View.canon_cons_emb (Val := Elt Ideal) r0_11 q [] (ix4 0 0 i j))

/-! ## What the body leaves -/

section

variable (x0 : Vec Ideal S1x512x1024 .f32) (x1 : Vec Ideal S1x6x1024 .f32) (x2 : Vec Ideal S1x1024 .f32) (x3 : Vec Ideal S1024x256 .bf16)
  (x4 : Vec Ideal S2304x1024 .bf16) (x5 x6 : Vec Ideal S1x8x512 .f32)

theorem out7_lo (r : Fin 512) (j : Fin 128) : out0_7 x0 x1 x2 x3 x4 x5 x6 (ix4 0 0 r j) = k0_pay5 x0 x1 x2 x3 (ix2 r ⟨j.val, by omega⟩) := by
  unfold_out out0_7
  rw [u2_lo, ld0, ld1, ld2, ld3, pay6_apply]

theorem out7_hi (r : Fin 512) (j : Fin 128) : out0_7 x0 x1 x2 x3 x4 x5 x6 (ix4 0 1 r j) = k0_pay5 x0 x1 x2 x3 (ix2 r ⟨128 + j.val, by omega⟩) := by
  unfold_out out0_7
  rw [u2_hi, ld0, ld1, ld2, ld3, pay8_apply]

theorem out8_lo (q : Fin 512) (r : Fin 256) : out0_8 x0 x1 x2 x3 x4 x5 x6 (ix4 0 0 q r) =
    k0_pay10 (F := Ideal) (k0_pay4 x0 x1 x2) x4 x5 x6 (ix2 ⟨q.val, by omega⟩ ⟨r.val, by omega⟩) := by
  unfold_out out0_8
  rw [d2_lo, ld0, ld1, ld2, ld6, ld7, ld7, pay18_apply, pay11_apply]

theorem out8_hi (q : Fin 512) (r : Fin 256) : out0_8 x0 x1 x2 x3 x4 x5 x6 (ix4 0 1 q r) =
    k0_pay10 (F := Ideal) (k0_pay4 x0 x1 x2) x4 x5 x6 (ix2 ⟨q.val, by omega⟩ ⟨256 + r.val, by omega⟩) := by
  unfold_out out0_8
  rw [d2_hi, ld0, ld1, ld2, ld6, ld7, ld7, pay22_apply, pay11_apply]

theorem out9 (r q : Fin 512) : out0_9 x0 x1 x2 x3 x4 x5 x6 (ix3 0 r q) = k0_pay10 (F := Ideal) (k0_pay4 x0 x1 x2) x4 x5 x6 (ix2 ⟨512 + q.val, by omega⟩ r) := by
  unfold_out out0_9
  rw [View.canon_cons_unit_lit (S := S1x512x512) _ _ _ (by decide), ld0, ld1, ld2, ld6, ld7, ld7, pay12_apply]

theorem out10_lo (q : Fin 512) (r : Fin 256) : out0_10 x0 x1 x2 x3 x4 x5 x6 (ix4 0 0 q r) =
    k0_pay9 (F := Ideal) (k0_pay4 x0 x1 x2) x4 (ix2 ⟨1536 + q.val, by omega⟩ ⟨r.val, by omega⟩) := by
  unfold_out out0_10
  rw [d2_lo, ld0, ld1, ld2, ld6, pay19_apply]

theorem out10_hi (q : Fin 512) (r : Fin 256) : out0_10 x0 x1 x2 x3 x4 x5 x6 (ix4 0 1 q r) =
    k0_pay9 (F := Ideal) (k0_pay4 x0 x1 x2) x4 (ix2 ⟨1536 + q.val, by omega⟩ ⟨256 + r.val, by omega⟩) := by
  unfold_out out0_10
  rw [d2_hi, ld0, ld1, ld2, ld6, pay1_apply]

theorem out11_lo (q r : Fin 256) : out0_11 x0 x1 x2 x3 x4 x5 x6 (ix4 0 0 q r) =
    k0_pay10 (F := Ideal) (k0_pay4 x0 x1 x2) x4 x5 x6 (ix2 ⟨1024 + q.val, by omega⟩ ⟨r.val, by omega⟩) := by
  unfold_out out0_11
  rw [m2_lo, ld0, ld1, ld2, ld6, ld7, ld7, pay20_apply, pay13_apply]

theorem out11_hi (q r : Fin 256) : out0_11 x0 x1 x2 x3 x4 x5 x6 (ix4 0 1 q r) =
    k0_pay10 (F := Ideal) (k0_pay4 x0 x1 x2) x4 x5 x6 (ix2 ⟨1024 + q.val, by omega⟩ ⟨256 + r.val, by omega⟩) := by
  unfold_out out0_11
  rw [m2_hi, ld0, ld1, ld2, ld6, ld7, ld7, pay2_apply, pay13_apply]

theorem out12 (r : Fin 512) (q : Fin 256) : out0_12 x0 x1 x2 x3 x4 x5 x6 (ix3 0 r q) =
    k0_pay10 (F := Ideal) (k0_pay4 x0 x1 x2) x4 x5 x6 (ix2 ⟨1280 + q.val, by omega⟩ r) := by
  unfold_out out0_12
  rw [View.canon_cons_unit_lit (S := S1x512x256) _ _ _ (by decide), ld0, ld1, ld2, ld6, ld7, ld7, pay15_apply]

theorem out13_lo (q r : Fin 256) : out0_13 x0 x1 x2 x3 x4 x5 x6 (ix4 0 0 q r) =
    k0_pay9 (F := Ideal) (k0_pay4 x0 x1 x2) x4 (ix2 ⟨2048 + q.val, by omega⟩ ⟨r.val, by omega⟩) := by
  unfold_out out0_13
  rw [m2_lo, ld0, ld1, ld2, ld6, pay21_apply]

theorem out13_hi (q r : Fin 256) : out0_13 x0 x1 x2 x3 x4 x5 x6 (ix4 0 1 q r) =
    k0_pay9 (F := Ideal) (k0_pay4 x0 x1 x2) x4 (ix2 ⟨2048 + q.val, by omega⟩ ⟨256 + r.val, by omega⟩) := by
  unfold_out out0_13
  rw [m2_hi, ld0, ld1, ld2, ld6, pay3_apply]

end

/-! ## The results -/

variable (m : (ℓ : Loc nD τ sig) → Buf (Elt Ideal) ℓ) (c : Dev nD) (t : Fin cfg0.N)

/-- The state-space part, in two halves of its features. -/
def uAt (b : Fin 4) (a : Fin 2) (s : Fin 8192) (j : Fin 128) : EReal := colOf m c b s ⟨128 * a.val + j.val, by omega⟩

/-- Rotated and scaled queries, by blocks of tokens, features first. -/
def dqAt (b : Fin 4) (k : Fin 32) (q : Fin 512) (r : Fin 256) : EReal :=
  rotOf m c b ⟨256 * k.val + r.val, by omega⟩ ⟨256 + q.val, by omega⟩

/-- Rotated keys. -/
def dkAt (b : Fin 4) (s : Fin 8192) (q : Fin 512) : EReal := rotOf m c b s ⟨768 + q.val, by omega⟩

/-- Values, by blocks of tokens, features first. -/
def dvAt (b : Fin 4) (k : Fin 32) (q : Fin 512) (r : Fin 256) : EReal := colOf m c b ⟨256 * k.val + r.val, by omega⟩ ⟨1280 + q.val, by omega⟩

/-- The same of the block attention. -/
def mqAt (b : Fin 4) (k : Fin 32) (q r : Fin 256) : EReal :=
  rotOf m c b ⟨256 * k.val + r.val, by omega⟩ ⟨1792 + q.val, by omega⟩

def mkAt (b : Fin 4) (s : Fin 8192) (q : Fin 256) : EReal := rotOf m c b s ⟨2048 + q.val, by omega⟩

def mvAt (b : Fin 4) (k : Fin 32) (q r : Fin 256) : EReal := colOf m c b ⟨256 * k.val + r.val, by omega⟩ ⟨2304 + q.val, by omega⟩

section

variable (b : Fin 4) (g : Fin 16) (hb : (grid0.coords t 0).val = b.val) (hg : (grid0.coords t 1).val = g.val)
include hb hg

theorem u_out (a : Fin 2) (r : Fin 512) (j : Fin 128) (s : Fin 8192) (hs : s.val = 512 * g.val + r.val) :
    out0_7 (iblk m c 0 t) (iblk m c 1 t) (iblk m c 2 t) (iblk m c 3 t) (iblk m c 4 t) (iblk m c 5 t) (iblk m c 6 t) (ix4 0 a r j) = uAt m c b a s j := by
  have ha : a = 0 ∨ a = 1 := by omega
  rcases ha with rfl | rfl
  · refine (out7_lo _ _ _ _ _ _ _ r j).trans ((u_blk m c t b g hb hg r s hs _).trans (congrArg (colOf m c b s) (Fin.ext ?_)))
    simp
  · exact (out7_hi _ _ _ _ _ _ _ r j).trans (u_blk m c t b g hb hg r s hs _)

theorem dk_out (r q : Fin 512) (s : Fin 8192) (hs : s.val = 512 * g.val + r.val) : out0_9 (iblk m c 0 t) (iblk m c 1 t) (iblk m c 2 t) (iblk m c 3 t) (iblk m c 4 t) (iblk m c 5 t) (iblk m c 6 t) (ix3 0 r q) = dkAt m c b s q := by
  refine (out9 _ _ _ _ _ _ _ r q).trans ((rot_blk m c t b g hb hg r s hs _).trans (congrArg (rotOf m c b s) (Fin.ext ?_)))
  simp only [src]
  split_ifs <;> omega

theorem mk_out (r : Fin 512) (q : Fin 256) (s : Fin 8192) (hs : s.val = 512 * g.val + r.val) : out0_12 (iblk m c 0 t) (iblk m c 1 t) (iblk m c 2 t) (iblk m c 3 t) (iblk m c 4 t) (iblk m c 5 t) (iblk m c 6 t) (ix3 0 r q) = mkAt m c b s q := by
  refine (out12 _ _ _ _ _ _ _ r q).trans ((rot_blk m c t b g hb hg r s hs _).trans (congrArg (rotOf m c b s) (Fin.ext ?_)))
  simp only [src]
  split_ifs <;> omega

theorem dq_out (a : Fin 2) (q : Fin 512) (r : Fin 256) (k : Fin 32) (hk : k.val = 2 * g.val + a.val) : out0_8 (iblk m c 0 t) (iblk m c 1 t) (iblk m c 2 t) (iblk m c 3 t) (iblk m c 4 t) (iblk m c 5 t) (iblk m c 6 t) (ix4 0 a q r) = dqAt m c b k q r := by
  have ha : a = 0 ∨ a = 1 := by omega
  rcases ha with rfl | rfl
  · refine (out8_lo _ _ _ _ _ _ _ q r).trans (((rot_blk m c t b g hb hg _ ⟨256 * k.val + r.val, by omega⟩ (by simp at hk ⊢; omega) _).trans (congrArg (rotOf m c b _) (Fin.ext ?_))))
    simp only [src]
    split_ifs <;> omega
  · refine (out8_hi _ _ _ _ _ _ _ q r).trans (((rot_blk m c t b g hb hg _ ⟨256 * k.val + r.val, by omega⟩ (by simp at hk ⊢; omega) _).trans (congrArg (rotOf m c b _) (Fin.ext ?_))))
    simp only [src]
    split_ifs <;> omega

theorem dv_out (a : Fin 2) (q : Fin 512) (r : Fin 256) (k : Fin 32) (hk : k.val = 2 * g.val + a.val) : out0_10 (iblk m c 0 t) (iblk m c 1 t) (iblk m c 2 t) (iblk m c 3 t) (iblk m c 4 t) (iblk m c 5 t) (iblk m c 6 t) (ix4 0 a q r) = dvAt m c b k q r := by
  have ha : a = 0 ∨ a = 1 := by omega
  rcases ha with rfl | rfl
  · refine (out10_lo _ _ _ _ _ _ _ q r).trans ((t_blk m c t b g hb hg _ ⟨256 * k.val + r.val, by omega⟩ (by simp at hk ⊢; omega) _).trans (congrArg (colOf m c b _) (Fin.ext ?_)))
    simp only [src]
    split_ifs <;> omega
  · refine (out10_hi _ _ _ _ _ _ _ q r).trans ((t_blk m c t b g hb hg _ ⟨256 * k.val + r.val, by omega⟩ (by simp at hk ⊢; omega) _).trans (congrArg (colOf m c b _) (Fin.ext ?_)))
    simp only [src]
    split_ifs <;> omega

theorem mq_out (a : Fin 2) (q r : Fin 256) (k : Fin 32) (hk : k.val = 2 * g.val + a.val) : out0_11 (iblk m c 0 t) (iblk m c 1 t) (iblk m c 2 t) (iblk m c 3 t) (iblk m c 4 t) (iblk m c 5 t) (iblk m c 6 t) (ix4 0 a q r) = mqAt m c b k q r := by
  have ha : a = 0 ∨ a = 1 := by omega
  rcases ha with rfl | rfl
  · refine (out11_lo _ _ _ _ _ _ _ q r).trans (((rot_blk m c t b g hb hg _ ⟨256 * k.val + r.val, by omega⟩ (by simp at hk ⊢; omega) _).trans (congrArg (rotOf m c b _) (Fin.ext ?_))))
    simp only [src]
    split_ifs <;> omega
  · refine (out11_hi _ _ _ _ _ _ _ q r).trans (((rot_blk m c t b g hb hg _ ⟨256 * k.val + r.val, by omega⟩ (by simp at hk ⊢; omega) _).trans (congrArg (rotOf m c b _) (Fin.ext ?_))))
    simp only [src]
    split_ifs <;> omega

theorem mv_out (a : Fin 2) (q r : Fin 256) (k : Fin 32) (hk : k.val = 2 * g.val + a.val) : out0_13 (iblk m c 0 t) (iblk m c 1 t) (iblk m c 2 t) (iblk m c 3 t) (iblk m c 4 t) (iblk m c 5 t) (iblk m c 6 t) (ix4 0 a q r) = mvAt m c b k q r := by
  have ha : a = 0 ∨ a = 1 := by omega
  rcases ha with rfl | rfl
  · refine (out13_lo _ _ _ _ _ _ _ q r).trans ((t_blk m c t b g hb hg _ ⟨256 * k.val + r.val, by omega⟩ (by simp at hk ⊢; omega) _).trans (congrArg (colOf m c b _) (Fin.ext ?_)))
    simp only [src]
    split_ifs <;> omega
  · refine (out13_hi _ _ _ _ _ _ _ q r).trans ((t_blk m c t b g hb hg _ ⟨256 * k.val + r.val, by omega⟩ (by simp at hk ⊢; omega) _).trans (congrArg (colOf m c b _) (Fin.ext ?_)))
    simp only [src]
    split_ifs <;> omega

end

theorem u_arr : (dats m 0 c).arrAt 7 (cfgs 0).N = fun z : S4x2x8192x128.Idx => uAt m c (z 0) (z 1) (z 2) (z 3) := by
  refine (dats m 0 c).arrAt_eq_of_covers 7 _ (by decide +kernel) fun t hf y => ?_
  obtain ⟨e0, e1, e2, e3, e4, e5, e6, e7, e8, e9, e10, e11, e12, e13⟩ := index_facts t
  blk_simp
  rw [after0_7]
  idx_bounds y
  have h0 := (grid0.coords t 1).isLt
  have ey : y = ix4 0 (y 1) (y 2) (y 3) := by
    funext a
    fin_cases a
    · exact Fin.ext (by have h : (y 0).val < 1 := (y 0).isLt; show (y 0).val = 0; omega)
    · rfl
    · rfl
    · rfl
  have hs : 512 * (grid0.coords t 1).val + (y 2).val < 8192 := by
    change (grid0.coords t 1).val < 16 at h0
    have h : (y 2).val < 512 := (y 2).isLt
    omega
  refine (congrArg (out0_7 _ _ _ _ _ _ _) ey).trans ((u_out m c t (grid0.coords t 0) (grid0.coords t 1) rfl rfl (y 1) (y 2) (y 3) ⟨_, hs⟩ rfl).trans ?_)
  refine congr (congr (congr (congrArg (uAt m c) ?_) ?_) ?_) ?_ <;> refine Fin.ext ?_ <;> blk_simp [e7] <;> dsimp only <;> omega

theorem dq_arr : (dats m 0 c).arrAt 8 (cfgs 0).N = fun z : S4x32x512x256.Idx => dqAt m c (z 0) (z 1) (z 2) (z 3) := by
  refine (dats m 0 c).arrAt_eq_of_covers 8 _ (by decide +kernel) fun t hf y => ?_
  obtain ⟨e0, e1, e2, e3, e4, e5, e6, e7, e8, e9, e10, e11, e12, e13⟩ := index_facts t
  blk_simp
  rw [after0_8]
  idx_bounds y
  have h0 := (grid0.coords t 1).isLt
  have ey : y = ix4 0 (y 1) (y 2) (y 3) := by
    funext a
    fin_cases a
    · exact Fin.ext (by have h : (y 0).val < 1 := (y 0).isLt; show (y 0).val = 0; omega)
    · rfl
    · rfl
    · rfl
  have hs : 2 * (grid0.coords t 1).val + (y 1).val < 32 := by
    change (grid0.coords t 1).val < 16 at h0
    have h : (y 1).val < 2 := (y 1).isLt
    omega
  refine (congrArg (out0_8 _ _ _ _ _ _ _) ey).trans ((dq_out m c t (grid0.coords t 0) (grid0.coords t 1) rfl rfl (y 1) (y 2) (y 3) ⟨_, hs⟩ rfl).trans ?_)
  refine congr (congr (congr (congrArg (dqAt m c) ?_) ?_) ?_) ?_ <;> refine Fin.ext ?_ <;> blk_simp [e8] <;> dsimp only <;> omega

theorem dk_arr : (dats m 0 c).arrAt 9 (cfgs 0).N = fun z : S4x8192x512.Idx => dkAt m c (z 0) (z 1) (z 2) := by
  refine (dats m 0 c).arrAt_eq_of_covers 9 _ (by decide +kernel) fun t hf y => ?_
  obtain ⟨e0, e1, e2, e3, e4, e5, e6, e7, e8, e9, e10, e11, e12, e13⟩ := index_facts t
  blk_simp
  rw [after0_9]
  idx_bounds y
  have h0 := (grid0.coords t 1).isLt
  have ey : y = ix3 0 (y 1) (y 2) := by
    funext a
    fin_cases a
    · exact Fin.ext (by have h : (y 0).val < 1 := (y 0).isLt; show (y 0).val = 0; omega)
    · rfl
    · rfl
  have hs : 512 * (grid0.coords t 1).val + (y 1).val < 8192 := by
    change (grid0.coords t 1).val < 16 at h0
    have h : (y 1).val < 512 := (y 1).isLt
    omega
  refine (congrArg (out0_9 _ _ _ _ _ _ _) ey).trans ((dk_out m c t (grid0.coords t 0) (grid0.coords t 1) rfl rfl (y 1) (y 2) ⟨_, hs⟩ rfl).trans ?_)
  refine congr (congr (congrArg (dkAt m c) ?_) ?_) ?_ <;> refine Fin.ext ?_ <;> blk_simp [e9] <;> dsimp only <;> omega

theorem dv_arr : (dats m 0 c).arrAt 10 (cfgs 0).N = fun z : S4x32x512x256.Idx => dvAt m c (z 0) (z 1) (z 2) (z 3) := by
  refine (dats m 0 c).arrAt_eq_of_covers 10 _ (by decide +kernel) fun t hf y => ?_
  obtain ⟨e0, e1, e2, e3, e4, e5, e6, e7, e8, e9, e10, e11, e12, e13⟩ := index_facts t
  blk_simp
  rw [after0_10]
  idx_bounds y
  have h0 := (grid0.coords t 1).isLt
  have ey : y = ix4 0 (y 1) (y 2) (y 3) := by
    funext a
    fin_cases a
    · exact Fin.ext (by have h : (y 0).val < 1 := (y 0).isLt; show (y 0).val = 0; omega)
    · rfl
    · rfl
    · rfl
  have hs : 2 * (grid0.coords t 1).val + (y 1).val < 32 := by
    change (grid0.coords t 1).val < 16 at h0
    have h : (y 1).val < 2 := (y 1).isLt
    omega
  refine (congrArg (out0_10 _ _ _ _ _ _ _) ey).trans ((dv_out m c t (grid0.coords t 0) (grid0.coords t 1) rfl rfl (y 1) (y 2) (y 3) ⟨_, hs⟩ rfl).trans ?_)
  refine congr (congr (congr (congrArg (dvAt m c) ?_) ?_) ?_) ?_ <;> refine Fin.ext ?_ <;> blk_simp [e10] <;> dsimp only <;> omega

theorem mq_arr : (dats m 0 c).arrAt 11 (cfgs 0).N = fun z : S4x32x256x256.Idx => mqAt m c (z 0) (z 1) (z 2) (z 3) := by
  refine (dats m 0 c).arrAt_eq_of_covers 11 _ (by decide +kernel) fun t hf y => ?_
  obtain ⟨e0, e1, e2, e3, e4, e5, e6, e7, e8, e9, e10, e11, e12, e13⟩ := index_facts t
  blk_simp
  rw [after0_11]
  idx_bounds y
  have h0 := (grid0.coords t 1).isLt
  have ey : y = ix4 0 (y 1) (y 2) (y 3) := by
    funext a
    fin_cases a
    · exact Fin.ext (by have h : (y 0).val < 1 := (y 0).isLt; show (y 0).val = 0; omega)
    · rfl
    · rfl
    · rfl
  have hs : 2 * (grid0.coords t 1).val + (y 1).val < 32 := by
    change (grid0.coords t 1).val < 16 at h0
    have h : (y 1).val < 2 := (y 1).isLt
    omega
  refine (congrArg (out0_11 _ _ _ _ _ _ _) ey).trans ((mq_out m c t (grid0.coords t 0) (grid0.coords t 1) rfl rfl (y 1) (y 2) (y 3) ⟨_, hs⟩ rfl).trans ?_)
  refine congr (congr (congr (congrArg (mqAt m c) ?_) ?_) ?_) ?_ <;> refine Fin.ext ?_ <;> blk_simp [e11] <;> dsimp only <;> omega

theorem mk_arr : (dats m 0 c).arrAt 12 (cfgs 0).N = fun z : S4x8192x256.Idx => mkAt m c (z 0) (z 1) (z 2) := by
  refine (dats m 0 c).arrAt_eq_of_covers 12 _ (by decide +kernel) fun t hf y => ?_
  obtain ⟨e0, e1, e2, e3, e4, e5, e6, e7, e8, e9, e10, e11, e12, e13⟩ := index_facts t
  blk_simp
  rw [after0_12]
  idx_bounds y
  have h0 := (grid0.coords t 1).isLt
  have ey : y = ix3 0 (y 1) (y 2) := by
    funext a
    fin_cases a
    · exact Fin.ext (by have h : (y 0).val < 1 := (y 0).isLt; show (y 0).val = 0; omega)
    · rfl
    · rfl
  have hs : 512 * (grid0.coords t 1).val + (y 1).val < 8192 := by
    change (grid0.coords t 1).val < 16 at h0
    have h : (y 1).val < 512 := (y 1).isLt
    omega
  refine (congrArg (out0_12 _ _ _ _ _ _ _) ey).trans ((mk_out m c t (grid0.coords t 0) (grid0.coords t 1) rfl rfl (y 1) (y 2) ⟨_, hs⟩ rfl).trans ?_)
  refine congr (congr (congrArg (mkAt m c) ?_) ?_) ?_ <;> refine Fin.ext ?_ <;> blk_simp [e12] <;> dsimp only <;> omega

theorem mv_arr : (dats m 0 c).arrAt 13 (cfgs 0).N = fun z : S4x32x256x256.Idx => mvAt m c (z 0) (z 1) (z 2) (z 3) := by
  refine (dats m 0 c).arrAt_eq_of_covers 13 _ (by decide +kernel) fun t hf y => ?_
  obtain ⟨e0, e1, e2, e3, e4, e5, e6, e7, e8, e9, e10, e11, e12, e13⟩ := index_facts t
  blk_simp
  rw [after0_13]
  idx_bounds y
  have h0 := (grid0.coords t 1).isLt
  have ey : y = ix4 0 (y 1) (y 2) (y 3) := by
    funext a
    fin_cases a
    · exact Fin.ext (by have h : (y 0).val < 1 := (y 0).isLt; show (y 0).val = 0; omega)
    · rfl
    · rfl
    · rfl
  have hs : 2 * (grid0.coords t 1).val + (y 1).val < 32 := by
    change (grid0.coords t 1).val < 16 at h0
    have h : (y 1).val < 2 := (y 1).isLt
    omega
  refine (congrArg (out0_13 _ _ _ _ _ _ _) ey).trans ((mv_out m c t (grid0.coords t 0) (grid0.coords t 1) rfl rfl (y 1) (y 2) (y 3) ⟨_, hs⟩ rfl).trans ?_)
  refine congr (congr (congr (congrArg (mvAt m c) ?_) ?_) ?_) ?_ <;> refine Fin.ext ?_ <;> blk_simp [e13] <;> dsimp only <;> omega

end Cert.Kernel3Ideal.Proj

end
-- ==== Proof.ProjRef.lean ====
/-
  The results of the projection's reference at an index, over extended reals.
-/
module

public import proofs.«01_k».proof.Proof.Gen.Reference3Ideal.Run
public import proofs.«01_k».proof.Proof.ProjMath
public import Idealize.ShloMosaic.Lib.Pipeline.ValueKit

@[expose] public section

noncomputable section

namespace Cert.Reference3Ideal.Value

open Cert.Reference3Ideal Cert.Reference3Ideal.Gen Idealize.ShloMosaic Idealize.ShloMosaic.TcCoe Cert.Mlp Cert.Proj

variable {F : FTy → Type} [FloatOps F]

/-! ## Stages -/

/-- The modulation, for all the tokens of a sequence. -/
def tokens (md : FVec F S4x6144 .f32) : FVec F S4x1x6144 .f32 := broadcastInDim S4x1x6144 ![0, 2] bcast_S4x6144_S4x1x6144_0_2 md

def shift (md : FVec F S4x6144 .f32) : FVec F S4x1x1024 .f32 := extractStridedSlice S4x1x1024 ![0, 0, 0] (tokens md) slices_S4x1x6144_S4x1x1024_0_0_0
def scale (md : FVec F S4x6144 .f32) : FVec F S4x1x1024 .f32 := extractStridedSlice S4x1x1024 ![0, 0, 1024] (tokens md) slices_S4x1x6144_S4x1x1024_0_0_1024

def spread (v : FVec F S4x1x1024 .f32) : FVec F S4x8192x1024 .f32 := broadcastInDim S4x8192x1024 ![0, 1, 2] bcast_S4x1x1024_S4x8192x1024_0_1_2 v

/-- The root-mean-square norm with its gain. -/
def norm (x : FVec F S4x8192x1024 .f32) (g : FVec F S1024 .f32) : FVec F S4x8192x1024 .f32 :=
  mulf (mulf x (broadcastInDim S4x8192x1024 ![0, 1, 2] bcast_S4x8192x1_S4x8192x1024_0_1_2
      (Host.rsqrt (addf (Host.divf
        (broadcastInDim S4x8192x1 ![0, 1] bcast_S4x8192_S4x8192x1_0_1 (Host.reduceAdd (mulf x x) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

def modulate (x : FVec F S4x8192x1024 .f32) (md : FVec F S4x6144 .f32) : FVec F S4x8192x1024 .f32 :=
  addf (mulf x (spread (addf (broadcastInDim S4x1x1024 ![] bcast_S_S4x1x1024 (constant S_ .f32 0x3F800000#32)) (scale md)))) (spread (shift md))

/-- Every token's features. -/
def proj (x : FVec F S4x8192x1024 .f32) (md : FVec F S4x6144 .f32) (g : FVec F S1024 .f32) (w : FVec F S1024x2560 .f32) : FVec F S4x8192x2560 .f32 :=
  Host.dotGeneral dot_S4x8192x1024_S1024x2560_S4x8192x2560_2_0_01_1_n_n none (modulate (norm x g) md) w

/-- A table turned over. -/
def table (a : FVec F S4x8x8192 .f32) : FVec F S4x8192x8 .f32 := transpose S4x8192x8 [0, 2, 1] a transposes_S4x8x8192_S4x8192x8_0_2_1

def table5 (a : FVec F S4x8x8192 .f32) : FVec F S4x8192x4x2x8 .f32 :=
  broadcastInDim S4x8192x4x2x8 ![0, 1, 2, 3, 4] bcast_S4x8192x1x1x8_S4x8192x4x2x8_0_1_2_3_4 (broadcastInDim S4x8192x1x1x8 ![0, 1, 4] bcast_S4x8192x8_S4x8192x1x1x8_0_1_4 (table a))

def table4 (a : FVec F S4x8x8192 .f32) : FVec F S4x8192x4x8 .f32 :=
  broadcastInDim S4x8192x4x8 ![0, 1, 2, 3] bcast_S4x8192x1x8_S4x8192x4x8_0_1_2_3 (broadcastInDim S4x8192x1x8 ![0, 1, 3] bcast_S4x8192x8_S4x8192x1x8_0_1_3 (table a))

/-- The rotation of the differential heads. -/
def rot5 (y : FVec F S4x8192x4x2x64 .f32) (cs sn : FVec F S4x8192x4x2x8 .f32) : FVec F S4x8192x4x2x64 .f32 :=
  concatenate S4x8192x4x2x64 4 [
    ⟨S4x8192x4x2x8, subf (mulf (extractStridedSlice S4x8192x4x2x8 ![0, 0, 0, 0, 0] y slices_S4x8192x4x2x64_S4x8192x4x2x8_0_0_0_0_0) cs)
      (mulf (extractStridedSlice S4x8192x4x2x8 ![0, 0, 0, 0, 8] y slices_S4x8192x4x2x64_S4x8192x4x2x8_0_0_0_0_8) sn)⟩,
    ⟨S4x8192x4x2x8, addf (mulf (extractStridedSlice S4x8192x4x2x8 ![0, 0, 0, 0, 8] y slices_S4x8192x4x2x64_S4x8192x4x2x8_0_0_0_0_8) cs)
      (mulf (extractStridedSlice S4x8192x4x2x8 ![0, 0, 0, 0, 0] y slices_S4x8192x4x2x64_S4x8192x4x2x8_0_0_0_0_0) sn)⟩,
    ⟨S4x8192x4x2x48, extractStridedSlice S4x8192x4x2x48 ![0, 0, 0, 0, 16] y slices_S4x8192x4x2x64_S4x8192x4x2x48_0_0_0_0_16⟩]
    concatenates_S4x8192x4x2x8_S4x8192x4x2x8_S4x8192x4x2x48_S4x8192x4x2x64_d4

/-- The rotation of the block attention's heads. -/
def rot4 (y : FVec F S4x8192x4x64 .f32) (cs sn : FVec F S4x8192x4x8 .f32) : FVec F S4x8192x4x64 .f32 :=
  concatenate S4x8192x4x64 3 [
    ⟨S4x8192x4x8, subf (mulf (extractStridedSlice S4x8192x4x8 ![0, 0, 0, 0] y slices_S4x8192x4x64_S4x8192x4x8_0_0_0_0) cs)
      (mulf (extractStridedSlice S4x8192x4x8 ![0, 0, 0, 8] y slices_S4x8192x4x64_S4x8192x4x8_0_0_0_8) sn)⟩,
    ⟨S4x8192x4x8, addf (mulf (extractStridedSlice S4x8192x4x8 ![0, 0, 0, 8] y slices_S4x8192x4x64_S4x8192x4x8_0_0_0_8) cs)
      (mulf (extractStridedSlice S4x8192x4x8 ![0, 0, 0, 0] y slices_S4x8192x4x64_S4x8192x4x8_0_0_0_0) sn)⟩,
    ⟨S4x8192x4x48, extractStridedSlice S4x8192x4x48 ![0, 0, 0, 16] y slices_S4x8192x4x64_S4x8192x4x48_0_0_0_16⟩]
    concatenates_S4x8192x4x8_S4x8192x4x8_S4x8192x4x48_S4x8192x4x64_d3

def dqHeads (y : FVec F S4x8192x2560 .f32) : FVec F S4x8192x4x2x64 .f32 :=
  shapeCast S4x8192x4x2x64 (extractStridedSlice S4x8192x512 ![0, 0, 256] y slices_S4x8192x2560_S4x8192x512_0_0_256) shapeCasts_S4x8192x512_S4x8192x4x2x64
def dkHeads (y : FVec F S4x8192x2560 .f32) : FVec F S4x8192x4x2x64 .f32 :=
  shapeCast S4x8192x4x2x64 (extractStridedSlice S4x8192x512 ![0, 0, 768] y slices_S4x8192x2560_S4x8192x512_0_0_768) shapeCasts_S4x8192x512_S4x8192x4x2x64
def mqHeads (y : FVec F S4x8192x2560 .f32) : FVec F S4x8192x4x64 .f32 :=
  shapeCast S4x8192x4x64 (extractStridedSlice S4x8192x256 ![0, 0, 1792] y slices_S4x8192x2560_S4x8192x256_0_0_1792) shapeCasts_S4x8192x256_S4x8192x4x64
def mkHeads (y : FVec F S4x8192x2560 .f32) : FVec F S4x8192x4x64 .f32 :=
  shapeCast S4x8192x4x64 (extractStridedSlice S4x8192x256 ![0, 0, 2048] y slices_S4x8192x2560_S4x8192x256_0_0_2048) shapeCasts_S4x8192x256_S4x8192x4x64

/-! ## The results -/

def uOut (y : FVec F S4x8192x2560 .f32) : FVec F S4x2x8192x128 .f32 :=
  transpose S4x2x8192x128 [0, 2, 1, 3] (shapeCast S4x8192x2x128 (extractStridedSlice S4x8192x256 ![0, 0, 0] y slices_S4x8192x2560_S4x8192x256_0_0_0)
    shapeCasts_S4x8192x256_S4x8192x2x128) transposes_S4x8192x2x128_S4x2x8192x128_0_2_1_3

def dqOut (y : FVec F S4x8192x4x2x64 .f32) : FVec F S4x32x512x256 .bf16 :=
  truncf .bf16 (transpose S4x32x512x256 [0, 1, 3, 2] (shapeCast S4x32x256x512 y
    shapeCasts_S4x8192x4x2x64_S4x32x256x512) transposes_S4x32x256x512_S4x32x512x256_0_1_3_2) bitsLt_bf16_f32

def dkOut (y : FVec F S4x8192x4x2x64 .f32) : FVec F S4x8192x512 .bf16 :=
  truncf .bf16 (shapeCast S4x8192x512 y shapeCasts_S4x8192x4x2x64_S4x8192x512) bitsLt_bf16_f32

def dvOut (y : FVec F S4x8192x2560 .f32) : FVec F S4x32x512x256 .bf16 :=
  truncf .bf16 (transpose S4x32x512x256 [0, 1, 3, 2] (shapeCast S4x32x256x512 (extractStridedSlice S4x8192x512 ![0, 0, 1280] y slices_S4x8192x2560_S4x8192x512_0_0_1280)
    shapeCasts_S4x8192x512_S4x32x256x512) transposes_S4x32x256x512_S4x32x512x256_0_1_3_2) bitsLt_bf16_f32

def mqOut (y : FVec F S4x8192x4x64 .f32) : FVec F S4x32x256x256 .bf16 :=
  truncf .bf16 (transpose S4x32x256x256 [0, 1, 3, 2] (shapeCast S4x32x256x256 y
    shapeCasts_S4x8192x4x64_S4x32x256x256) transposes_S4x32x256x256_S4x32x256x256_0_1_3_2) bitsLt_bf16_f32

def mkOut (y : FVec F S4x8192x4x64 .f32) : FVec F S4x8192x256 .bf16 :=
  truncf .bf16 (shapeCast S4x8192x256 y shapeCasts_S4x8192x4x64_S4x8192x256) bitsLt_bf16_f32

def mvOut (y : FVec F S4x8192x2560 .f32) : FVec F S4x32x256x256 .bf16 :=
  truncf .bf16 (transpose S4x32x256x256 [0, 1, 3, 2] (shapeCast S4x32x256x256 (extractStridedSlice S4x8192x256 ![0, 0, 2304] y slices_S4x8192x2560_S4x8192x256_0_0_2304)
    shapeCasts_S4x8192x256_S4x32x256x256) transposes_S4x32x256x256_S4x32x256x256_0_1_3_2) bitsLt_bf16_f32

/-! ## At an index -/

section

variable (b : Fin 4) (s : Fin 8192)

theorem shift_apply (md : FVec Ideal S4x6144 .f32) (d : Fin 1024) : spread (F := Ideal) (shift md) (ix3 b s d) = md (ix2 b ⟨d.val, by omega⟩) := by
  pointwise [spread, shift, tokens]

theorem scale_apply (md : FVec Ideal S4x6144 .f32) (d : Fin 1024) :
    spread (F := Ideal) (addf (broadcastInDim S4x1x1024 ![] bcast_S_S4x1x1024 (constant S_ .f32 0x3F800000#32)) (scale md)) (ix3 b s d)
      = Ideal.ofBits .f32 0x3F800000#32 + md (ix2 b ⟨1024 + d.val, by omega⟩) := by
  pointwise [spread, scale, tokens]

theorem norm_apply (x : FVec Ideal S4x8192x1024 .f32) (g : FVec Ideal S1024 .f32) (d : Fin 1024) :
    norm (F := Ideal) x g (ix3 b s d) =
      normed (Ideal.ofBits .f32 0x44800000#32) (Ideal.ofBits .f32 0x358637BD#32) (fun k => x (ix3 b s k)) (fun k => g (ix1 k)) d := by
  pointwise [norm]
  rfl

theorem modulate_apply (x : FVec Ideal S4x8192x1024 .f32) (md : FVec Ideal S4x6144 .f32) (d : Fin 1024) :
    modulate (F := Ideal) x md (ix3 b s d) =
      x (ix3 b s d) * (Ideal.ofBits .f32 0x3F800000#32 + md (ix2 b ⟨1024 + d.val, by omega⟩)) + md (ix2 b ⟨d.val, by omega⟩) := by
  rw [← scale_apply b s md d, ← shift_apply b s md d]
  rfl

theorem proj_apply (x : FVec Ideal S4x8192x1024 .f32) (md : FVec Ideal S4x6144 .f32) (g : FVec Ideal S1024 .f32) (w : FVec Ideal S1024x2560 .f32) (j : Fin 2560) :
    proj (F := Ideal) x md g w (ix3 b s j) =
      feature (Ideal.ofBits .f32 0x44800000#32) (Ideal.ofBits .f32 0x358637BD#32) (Ideal.ofBits .f32 0x3F800000#32)
        (fun k => x (ix3 b s k)) (fun k => g (ix1 k)) (fun k => md (ix2 b ⟨k.val, by omega⟩)) (fun k => md (ix2 b ⟨1024 + k.val, by omega⟩))
        (fun k => w (ix2 k j)) := by
  have e : proj (F := Ideal) x md g w (ix3 b s j) = ∑ k : Fin 1024, modulate (F := Ideal) (norm x g) md (ix3 b s k) * w (ix2 k j) := by
    unfold proj
    generalize modulate (F := Ideal) (norm x g) md = h
    pointwise
  rw [e]
  simp only [modulate_apply, norm_apply]
  rfl

theorem table5_apply (a : FVec Ideal S4x8x8192 .f32) (h : Fin 4) (i : Fin 2) (e : Fin 8) : table5 (F := Ideal) a (ix5 b s h i e) = a (ix3 b e s) := by
  pointwise [table5, table]

theorem table4_apply (a : FVec Ideal S4x8x8192 .f32) (h : Fin 4) (e : Fin 8) : table4 (F := Ideal) a (ix4 b s h e) = a (ix3 b e s) := by
  pointwise [table4, table]

section

variable (y : FVec Ideal S4x8192x4x2x64 .f32) (cs sn : FVec Ideal S4x8192x4x2x8 .f32) (h : Fin 4) (i : Fin 2)

theorem rot5_1 (e : Fin 8) : rot5 (F := Ideal) y cs sn (ix5 b s h i ⟨e.val, by omega⟩) =
    y (ix5 b s h i ⟨e.val, by omega⟩) * cs (ix5 b s h i e) - y (ix5 b s h i ⟨8 + e.val, by omega⟩) * sn (ix5 b s h i e) := by
  pointwise [rot5]

theorem rot5_2 (e : Fin 8) : rot5 (F := Ideal) y cs sn (ix5 b s h i ⟨8 + e.val, by omega⟩) =
    y (ix5 b s h i ⟨8 + e.val, by omega⟩) * cs (ix5 b s h i e) + y (ix5 b s h i ⟨e.val, by omega⟩) * sn (ix5 b s h i e) := by
  pointwise [rot5]

theorem rot5_3 (e : Fin 48) : rot5 (F := Ideal) y cs sn (ix5 b s h i ⟨16 + e.val, by omega⟩) = y (ix5 b s h i ⟨16 + e.val, by omega⟩) := by
  pointwise [rot5]
  refine (dif_neg (by omega)).trans ((dif_neg (by omega)).trans ?_)
  exact congrArg y (congrArg (ix5 b s h i) (Fin.ext (by simp only; omega)))

end

section

variable (y : FVec Ideal S4x8192x4x64 .f32) (cs sn : FVec Ideal S4x8192x4x8 .f32) (h : Fin 4)

theorem rot4_1 (e : Fin 8) : rot4 (F := Ideal) y cs sn (ix4 b s h ⟨e.val, by omega⟩) =
    y (ix4 b s h ⟨e.val, by omega⟩) * cs (ix4 b s h e) - y (ix4 b s h ⟨8 + e.val, by omega⟩) * sn (ix4 b s h e) := by
  pointwise [rot4]

theorem rot4_2 (e : Fin 8) : rot4 (F := Ideal) y cs sn (ix4 b s h ⟨8 + e.val, by omega⟩) =
    y (ix4 b s h ⟨8 + e.val, by omega⟩) * cs (ix4 b s h e) + y (ix4 b s h ⟨e.val, by omega⟩) * sn (ix4 b s h e) := by
  pointwise [rot4]

theorem rot4_3 (e : Fin 48) : rot4 (F := Ideal) y cs sn (ix4 b s h ⟨16 + e.val, by omega⟩) = y (ix4 b s h ⟨16 + e.val, by omega⟩) := by
  pointwise [rot4]
  refine (dif_neg (by omega)).trans ((dif_neg (by omega)).trans ?_)
  exact congrArg y (congrArg (ix4 b s h) (Fin.ext (by simp only; omega)))

end

end

end Cert.Reference3Ideal.Value

end
-- ==== Proof.ProjRefOut.lean ====
/-
  The results of the projection's reference, each as features of one token.
-/
module

public import proofs.«01_k».proof.Proof.ProjRef

@[expose] public section

noncomputable section

namespace Cert.Reference3Ideal.Value

open Cert.Reference3Ideal Cert.Reference3Ideal.Gen Idealize.ShloMosaic Idealize.ShloMosaic.TcCoe Cert.Mlp Cert.Proj

theorem rot5_apply (y : FVec Ideal S4x8192x4x2x64 .f32) (cs sn : FVec Ideal S4x8192x4x2x8 .f32) (b : Fin 4) (s : Fin 8192) (h : Fin 4) (i : Fin 2) (e : Fin 64) :
    rot5 (F := Ideal) y cs sn (ix5 b s h i e) =
      ropeAt (n := 64) rfl (fun e => y (ix5 b s h i e)) (fun e => cs (ix5 b s h i e)) (fun e => sn (ix5 b s h i e)) e := by
  refine eq_ropeAt (n := 64) rfl (fun e => y (ix5 b s h i e)) (fun e => rot5 (F := Ideal) y cs sn (ix5 b s h i e)) _ _ (fun p e => ?_) (fun p e => ?_) (fun p e => ?_) e
  all_goals
    have hp : p.val = 0 := by omega
    simp only [hp, Nat.mul_zero, Nat.zero_add]
  · exact rot5_1 b s y cs sn h i e
  · exact rot5_2 b s y cs sn h i e
  · exact rot5_3 b s y cs sn h i e

theorem rot4_apply (y : FVec Ideal S4x8192x4x64 .f32) (cs sn : FVec Ideal S4x8192x4x8 .f32) (b : Fin 4) (s : Fin 8192) (h : Fin 4) (e : Fin 64) :
    rot4 (F := Ideal) y cs sn (ix4 b s h e) =
      ropeAt (n := 64) rfl (fun e => y (ix4 b s h e)) (fun e => cs (ix4 b s h e)) (fun e => sn (ix4 b s h e)) e := by
  refine eq_ropeAt (n := 64) rfl (fun e => y (ix4 b s h e)) (fun e => rot4 (F := Ideal) y cs sn (ix4 b s h e)) _ _ (fun p e => ?_) (fun p e => ?_) (fun p e => ?_) e
  all_goals
    have hp : p.val = 0 := by omega
    simp only [hp, Nat.mul_zero, Nat.zero_add]
  · exact rot4_1 b s y cs sn h e
  · exact rot4_2 b s y cs sn h e
  · exact rot4_3 b s y cs sn h e

/-! ## The heads -/

theorem dqHeads_apply (y : FVec Ideal S4x8192x2560 .f32) (b : Fin 4) (s : Fin 8192) (h : Fin 4) (i : Fin 2) (e : Fin 64) :
    dqHeads (F := Ideal) y (ix5 b s h i e) = y (ix3 b s ⟨256 + (128 * h.val + 64 * i.val + e.val), by omega⟩) := by
  pointwise [dqHeads]
  refine congrArg y (congrArg (ix3 b s) (Fin.ext ?_))
  simp only
  omega

theorem dkHeads_apply (y : FVec Ideal S4x8192x2560 .f32) (b : Fin 4) (s : Fin 8192) (h : Fin 4) (i : Fin 2) (e : Fin 64) :
    dkHeads (F := Ideal) y (ix5 b s h i e) = y (ix3 b s ⟨768 + (128 * h.val + 64 * i.val + e.val), by omega⟩) := by
  pointwise [dkHeads]
  refine congrArg y (congrArg (ix3 b s) (Fin.ext ?_))
  simp only
  omega

theorem mqHeads_apply (y : FVec Ideal S4x8192x2560 .f32) (b : Fin 4) (s : Fin 8192) (h : Fin 4) (e : Fin 64) :
    mqHeads (F := Ideal) y (ix4 b s h e) = y (ix3 b s ⟨1792 + (64 * h.val + e.val), by omega⟩) := by
  pointwise [mqHeads]
  refine congrArg y (congrArg (ix3 b s) (Fin.ext ?_))
  simp only
  omega

theorem mkHeads_apply (y : FVec Ideal S4x8192x2560 .f32) (b : Fin 4) (s : Fin 8192) (h : Fin 4) (e : Fin 64) :
    mkHeads (F := Ideal) y (ix4 b s h e) = y (ix3 b s ⟨2048 + (64 * h.val + e.val), by omega⟩) := by
  pointwise [mkHeads]
  refine congrArg y (congrArg (ix3 b s) (Fin.ext ?_))
  simp only
  omega

/-! ## The layouts -/

theorem uOut_apply (y : FVec Ideal S4x8192x2560 .f32) (b : Fin 4) (a : Fin 2) (s : Fin 8192) (j : Fin 128) :
    uOut (F := Ideal) y (ix4 b a s j) = y (ix3 b s ⟨128 * a.val + j.val, by omega⟩) := by
  pointwise [uOut]
  simp only [Nat.mul_comm a.val 128]

theorem dvOut_apply (y : FVec Ideal S4x8192x2560 .f32) (b : Fin 4) (k : Fin 32) (q : Fin 512) (r : Fin 256) :
    dvOut (F := Ideal) y (ix4 b k q r) = y (ix3 b ⟨256 * k.val + r.val, by omega⟩ ⟨1280 + q.val, by omega⟩) := by
  pointwise [dvOut]
  simp only [Nat.mul_comm k.val 256]

theorem mvOut_apply (y : FVec Ideal S4x8192x2560 .f32) (b : Fin 4) (k : Fin 32) (q r : Fin 256) :
    mvOut (F := Ideal) y (ix4 b k q r) = y (ix3 b ⟨256 * k.val + r.val, by omega⟩ ⟨2304 + q.val, by omega⟩) := by
  pointwise [mvOut]
  simp only [Nat.mul_comm k.val 256]

theorem dqOut_apply (z : FVec Ideal S4x8192x4x2x64 .f32) (b : Fin 4) (k : Fin 32) (q : Fin 512) (r : Fin 256) :
    dqOut (F := Ideal) z (ix4 b k q r) = z (ix5 b ⟨256 * k.val + r.val, by omega⟩ ⟨q.val / 128, by omega⟩ ⟨q.val / 64 % 2, by omega⟩ ⟨q.val % 64, by omega⟩) := by
  pointwise [dqOut]
  simp only [Nat.mul_comm k.val 256]

theorem dkOut_apply (z : FVec Ideal S4x8192x4x2x64 .f32) (b : Fin 4) (s : Fin 8192) (q : Fin 512) :
    dkOut (F := Ideal) z (ix3 b s q) = z (ix5 b s ⟨q.val / 128, by omega⟩ ⟨q.val / 64 % 2, by omega⟩ ⟨q.val % 64, by omega⟩) := by
  pointwise [dkOut]

theorem mqOut_apply (z : FVec Ideal S4x8192x4x64 .f32) (b : Fin 4) (k : Fin 32) (q r : Fin 256) :
    mqOut (F := Ideal) z (ix4 b k q r) = z (ix4 b ⟨256 * k.val + r.val, by omega⟩ ⟨q.val / 64, by omega⟩ ⟨q.val % 64, by omega⟩) := by
  pointwise [mqOut]
  simp only [Nat.mul_comm k.val 256]

theorem mkOut_apply (z : FVec Ideal S4x8192x4x64 .f32) (b : Fin 4) (s : Fin 8192) (q : Fin 256) :
    mkOut (F := Ideal) z (ix3 b s q) = z (ix4 b s ⟨q.val / 64, by omega⟩ ⟨q.val % 64, by omega⟩) := by
  pointwise [mkOut]

/-! ## The rotated results, as features of a token -/

section

variable (y : FVec Ideal S4x8192x2560 .f32) (ct st : FVec Ideal S4x8x8192 .f32) (b : Fin 4)

theorem dq_row (k : Fin 32) (q : Fin 512) (r : Fin 256) : dqOut (F := Ideal) (rot5 (dqHeads y) (table5 ct) (table5 st)) (ix4 b k q r) =
    ropeAt (n := 2560) rfl (fun j => y (ix3 b ⟨256 * k.val + r.val, by omega⟩ j)) (fun e => ct (ix3 b e ⟨256 * k.val + r.val, by omega⟩)) (fun e => st (ix3 b e ⟨256 * k.val + r.val, by omega⟩)) ⟨256 + q.val, by omega⟩ := by
  rw [dqOut_apply, rot5_apply]
  simp only [table5_apply]
  refine ropeAt_congr _ _ _ _ _ _ _ _ (by simp only; omega) fun e => ?_
  refine (dqHeads_apply _ _ _ _ _ _).trans (congrArg y (congrArg (ix3 b _) (Fin.ext ?_)))
  simp only
  omega

theorem dk_row (s : Fin 8192) (q : Fin 512) : dkOut (F := Ideal) (rot5 (dkHeads y) (table5 ct) (table5 st)) (ix3 b s q) =
    ropeAt (n := 2560) rfl (fun j => y (ix3 b s j)) (fun e => ct (ix3 b e s)) (fun e => st (ix3 b e s)) ⟨768 + q.val, by omega⟩ := by
  rw [dkOut_apply, rot5_apply]
  simp only [table5_apply]
  refine ropeAt_congr _ _ _ _ _ _ _ _ (by simp only; omega) fun e => ?_
  refine (dkHeads_apply _ _ _ _ _ _).trans (congrArg y (congrArg (ix3 b _) (Fin.ext ?_)))
  simp only
  omega

theorem mq_row (k : Fin 32) (q r : Fin 256) : mqOut (F := Ideal) (rot4 (mqHeads y) (table4 ct) (table4 st)) (ix4 b k q r) =
    ropeAt (n := 2560) rfl (fun j => y (ix3 b ⟨256 * k.val + r.val, by omega⟩ j)) (fun e => ct (ix3 b e ⟨256 * k.val + r.val, by omega⟩)) (fun e => st (ix3 b e ⟨256 * k.val + r.val, by omega⟩)) ⟨1792 + q.val, by omega⟩ := by
  rw [mqOut_apply, rot4_apply]
  simp only [table4_apply]
  refine ropeAt_congr _ _ _ _ _ _ _ _ (by simp only; omega) fun e => ?_
  refine (mqHeads_apply _ _ _ _ _).trans (congrArg y (congrArg (ix3 b _) (Fin.ext ?_)))
  simp only
  omega

theorem mk_row (s : Fin 8192) (q : Fin 256) : mkOut (F := Ideal) (rot4 (mkHeads y) (table4 ct) (table4 st)) (ix3 b s q) =
    ropeAt (n := 2560) rfl (fun j => y (ix3 b s j)) (fun e => ct (ix3 b e s)) (fun e => st (ix3 b e s)) ⟨2048 + q.val, by omega⟩ := by
  rw [mkOut_apply, rot4_apply]
  simp only [table4_apply]
  refine ropeAt_congr _ _ _ _ _ _ _ _ (by simp only; omega) fun e => ?_
  refine (mkHeads_apply _ _ _ _ _).trans (congrArg y (congrArg (ix3 b _) (Fin.ext ?_)))
  simp only
  omega

end

/-! ## The run's results -/

variable {F : FTy → Type} [FloatOps F]

set_option maxRecDepth 8192 in
theorem res_eq1 (m : (ℓ : Loc nD τ sig) → Buf (Elt F) ℓ) (c : Dev nD) : res_out1 m c =
    dqOut (rot5 (dqHeads (proj (m ((c.tc : Thread nD τ).loc main_arg0)) (m ((c.tc : Thread nD τ).loc main_arg1)) (m ((c.tc : Thread nD τ).loc main_arg2)) (m ((c.tc : Thread nD τ).loc main_arg3))))
      (table5 (m ((c.tc : Thread nD τ).loc main_arg4))) (table5 (m ((c.tc : Thread nD τ).loc main_arg5)))) := by
  unfold res_out1 res_main_v104
  rfl

set_option maxRecDepth 8192 in
theorem res_eq2 (m : (ℓ : Loc nD τ sig) → Buf (Elt F) ℓ) (c : Dev nD) : res_out2 m c =
    dkOut (rot5 (dkHeads (proj (m ((c.tc : Thread nD τ).loc main_arg0)) (m ((c.tc : Thread nD τ).loc main_arg1)) (m ((c.tc : Thread nD τ).loc main_arg2)) (m ((c.tc : Thread nD τ).loc main_arg3))))
      (table5 (m ((c.tc : Thread nD τ).loc main_arg4))) (table5 (m ((c.tc : Thread nD τ).loc main_arg5)))) := by
  unfold res_out2 res_main_v106
  rfl

set_option maxRecDepth 8192 in
theorem res_eq4 (m : (ℓ : Loc nD τ sig) → Buf (Elt F) ℓ) (c : Dev nD) : res_out4 m c =
    mqOut (rot4 (mqHeads (proj (m ((c.tc : Thread nD τ).loc main_arg0)) (m ((c.tc : Thread nD τ).loc main_arg1)) (m ((c.tc : Thread nD τ).loc main_arg2)) (m ((c.tc : Thread nD τ).loc main_arg3))))
      (table4 (m ((c.tc : Thread nD τ).loc main_arg4))) (table4 (m ((c.tc : Thread nD τ).loc main_arg5)))) := by
  unfold res_out4 res_main_v112
  rfl

set_option maxRecDepth 8192 in
theorem res_eq5 (m : (ℓ : Loc nD τ sig) → Buf (Elt F) ℓ) (c : Dev nD) : res_out5 m c =
    mkOut (rot4 (mkHeads (proj (m ((c.tc : Thread nD τ).loc main_arg0)) (m ((c.tc : Thread nD τ).loc main_arg1)) (m ((c.tc : Thread nD τ).loc main_arg2)) (m ((c.tc : Thread nD τ).loc main_arg3))))
      (table4 (m ((c.tc : Thread nD τ).loc main_arg4))) (table4 (m ((c.tc : Thread nD τ).loc main_arg5)))) := by
  unfold res_out5 res_main_v114
  rfl

end Cert.Reference3Ideal.Value

end
-- ==== Proof.ProjValue.lean ====
/-
  The claims of the projection.
-/
module

public import proofs.«01_k».proof.Defs
public import proofs.«01_k».proof.Proof.ProjArrays
public import proofs.«01_k».proof.Proof.ProjRefOut
public import proofs.«01_k».proof.Proof.Gen.Kernel3
public import proofs.«01_k».proof.Proof.Gen.Reference3Ideal

@[expose] public section

set_option maxRecDepth 16384

noncomputable section

namespace Cert.Proof

open Idealize.ShloMosaic Idealize.ShloMosaic.TcCoe Idealize.SL.Sem Cert.Kernel3Ideal.Gen

set_option maxHeartbeats 8000000 in
/-- The two programs have one table of bodies. -/
theorem defs₀_eq3 : Cert.Kernel3.defs₀ (F := Bits) = Cert.Kernel3Ideal.defs₀ (F := Bits) := by
  unfold Cert.Kernel3.defs₀ Cert.Kernel3Ideal.defs₀
  congr 1
  funext f x
  match f, x with
  | 0, (t, s) => exact rfl
  | ⟨_ + 1, h⟩, _ => exact absurd h (Nat.not_lt.2 (Nat.le_add_left _ _))

theorem defs_eq3 : Cert.Kernel3.defs (F := Bits) = Cert.Kernel3Ideal.defs (F := Bits) := by
  unfold Cert.Kernel3.defs Cert.Kernel3Ideal.defs
  rw [defs₀_eq3]
  rfl

theorem frame_kernel3 : Cert.quiescent_Kernel3 (hKernel3 := Cert.Kernel3.Gen.facts) := fun m ρ _ => by
  rw [defs_eq3]
  exact Cert.Kernel3Ideal.Gen.frame (F := Bits) m ρ

theorem frame_kernel3Ideal : Cert.quiescent_Kernel3Ideal (hKernel3Ideal := Cert.Kernel3Ideal.Gen.facts) := fun m ρ _ =>
  Cert.Kernel3Ideal.Gen.frame (F := Ideal) m ρ

theorem frame_reference3Ideal : Cert.quiescent_Reference3Ideal (hReference3Ideal := Cert.Reference3Ideal.Gen.facts) := fun m ρ _ =>
  (θ_run Cert.Reference3Ideal.defs _ _).mono (fun r h => ⟨fun c => (h c).2.2.2.2.2.2.2, sem_eq_zero_of_no_sems rfl r.2⟩) (Cert.Reference3Ideal.Value.run (F := Ideal) m ρ)

theorem ix4_eta {a b c d : ℕ} (z : (⟨4, ![a, b, c, d]⟩ : Shape).Idx) : z = ix4 (z 0) (z 1) (z 2) (z 3) := by
  funext i
  fin_cases i <;> rfl

theorem ix3_eta {a b c : ℕ} (z : (⟨3, ![a, b, c]⟩ : Shape).Idx) : z = ix3 (z 0) (z 1) (z 2) := by
  funext i
  fin_cases i <;> rfl

section

open Cert.Reference3Ideal.Value Cert.Kernel3Ideal.Proj

variable (m : (ℓ : Loc Cert.Kernel3Ideal.nD Cert.Kernel3Ideal.τ Cert.Kernel3Ideal.sig) → Buf (Elt Ideal) ℓ) (c : Dev Cert.Kernel3Ideal.nD)

/-- The reference's features of the kernel's arguments. -/
def featuresOf : FVec Ideal Cert.Reference3Ideal.S4x8192x2560 .f32 :=
  proj (F := Ideal) (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))

theorem features_col (b : Fin 4) (s : Fin 8192) (j : Fin 2560) : featuresOf m c (ix3 b s j) = colOf m c b s j :=
  proj_apply b s _ _ _ _ j

def cosOf : FVec Ideal Cert.Reference3Ideal.S4x8x8192 .f32 := m ((c.tc : Thread Cert.Kernel3Ideal.nD Cert.Kernel3Ideal.τ).loc Cert.Kernel3Ideal.main_arg4)
def sinOf : FVec Ideal Cert.Reference3Ideal.S4x8x8192 .f32 := m ((c.tc : Thread Cert.Kernel3Ideal.nD Cert.Kernel3Ideal.τ).loc Cert.Kernel3Ideal.main_arg5)

theorem rot_col (b : Fin 4) (s : Fin 8192) (j : Fin 2560) :
    Cert.Proj.ropeAt (n := 2560) rfl (fun j => featuresOf m c (ix3 b s j)) (fun e => cosOf m c (ix3 b e s)) (fun e => sinOf m c (ix3 b e s)) j = rotOf m c b s j := by
  rw [funext fun j => features_col m c b s j]
  rfl

theorem u_ref : uOut (F := Ideal) (featuresOf m c) = fun z => uAt m c (z 0) (z 1) (z 2) (z 3) := by
  funext z
  exact (congrArg (uOut (F := Ideal) (featuresOf m c)) (ix4_eta z)).trans ((uOut_apply _ _ _ _ _).trans (features_col m c _ _ _))

theorem dv_ref : dvOut (F := Ideal) (featuresOf m c) = fun z => dvAt m c (z 0) (z 1) (z 2) (z 3) := by
  funext z
  exact (congrArg (dvOut (F := Ideal) (featuresOf m c)) (ix4_eta z)).trans ((dvOut_apply _ _ _ _ _).trans (features_col m c _ _ _))

theorem mv_ref : mvOut (F := Ideal) (featuresOf m c) = fun z => mvAt m c (z 0) (z 1) (z 2) (z 3) := by
  funext z
  exact (congrArg (mvOut (F := Ideal) (featuresOf m c)) (ix4_eta z)).trans ((mvOut_apply _ _ _ _ _).trans (features_col m c _ _ _))

theorem dq_ref : dqOut (F := Ideal) (rot5 (dqHeads (featuresOf m c)) (table5 (cosOf m c)) (table5 (sinOf m c))) = fun z => dqAt m c (z 0) (z 1) (z 2) (z 3) := by
  funext z
  exact (congrArg (dqOut (F := Ideal) (rot5 (dqHeads (featuresOf m c)) (table5 (cosOf m c)) (table5 (sinOf m c)))) (ix4_eta z)).trans
    ((dq_row _ _ _ _ _ _ _).trans (rot_col m c _ _ _))

theorem dk_ref : dkOut (F := Ideal) (rot5 (dkHeads (featuresOf m c)) (table5 (cosOf m c)) (table5 (sinOf m c))) = fun z => dkAt m c (z 0) (z 1) (z 2) := by
  funext z
  exact (congrArg (dkOut (F := Ideal) (rot5 (dkHeads (featuresOf m c)) (table5 (cosOf m c)) (table5 (sinOf m c)))) (ix3_eta z)).trans
    ((dk_row _ _ _ _ _ _).trans (rot_col m c _ _ _))

theorem mq_ref : mqOut (F := Ideal) (rot4 (mqHeads (featuresOf m c)) (table4 (cosOf m c)) (table4 (sinOf m c))) = fun z => mqAt m c (z 0) (z 1) (z 2) (z 3) := by
  funext z
  exact (congrArg (mqOut (F := Ideal) (rot4 (mqHeads (featuresOf m c)) (table4 (cosOf m c)) (table4 (sinOf m c)))) (ix4_eta z)).trans
    ((mq_row _ _ _ _ _ _ _).trans (rot_col m c _ _ _))

theorem mk_ref : mkOut (F := Ideal) (rot4 (mkHeads (featuresOf m c)) (table4 (cosOf m c)) (table4 (sinOf m c))) = fun z => mkAt m c (z 0) (z 1) (z 2) := by
  funext z
  exact (congrArg (mkOut (F := Ideal) (rot4 (mkHeads (featuresOf m c)) (table4 (cosOf m c)) (table4 (sinOf m c)))) (ix3_eta z)).trans
    ((mk_row _ _ _ _ _ _).trans (rot_col m c _ _ _))

end

theorem algebraic3 : Cert.algebraic_Kernel3Ideal_Reference3Ideal (hKernel3Ideal := Cert.Kernel3Ideal.Gen.facts)
    (hReference3Ideal := Cert.Reference3Ideal.Gen.facts) := by
  intro m g m' g' _ hm
  refine ⟨fun c => (dats m 0 c).arrAt 7 (Cert.Kernel3Ideal.cfgs 0).N, fun c => (dats m 0 c).arrAt 8 (Cert.Kernel3Ideal.cfgs 0).N,
    fun c => (dats m 0 c).arrAt 9 (Cert.Kernel3Ideal.cfgs 0).N, fun c => (dats m 0 c).arrAt 10 (Cert.Kernel3Ideal.cfgs 0).N,
    fun c => (dats m 0 c).arrAt 11 (Cert.Kernel3Ideal.cfgs 0).N, fun c => (dats m 0 c).arrAt 12 (Cert.Kernel3Ideal.cfgs 0).N,
    fun c => (dats m 0 c).arrAt 13 (Cert.Kernel3Ideal.cfgs 0).N, Cert.Kernel3Ideal.Value.run_blocks (F := Ideal) m g, ?_⟩
  refine (θ_run Cert.Reference3Ideal.defs _ _).mono (fun r h c => ?_) (Cert.Reference3Ideal.Value.run (F := Ideal) m' g')
  obtain ⟨h0, h1, h2, h3, h4, h5, h6, h7⟩ := h c
  obtain ⟨e0, e1, e2, e3, e4, e5⟩ := hm c
  have hp : Cert.Reference3Ideal.Value.proj (F := Ideal) (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3)) = featuresOf m c := by
    rw [e0, e1, e2, e3]
    rfl
  have hc : (m' ((c.tc : Thread Cert.Reference3Ideal.nD Cert.Reference3Ideal.τ).loc Cert.Reference3Ideal.main_arg4) : FVec Ideal Cert.Reference3Ideal.S4x8x8192 .f32) = cosOf m c := e4
  have hs : (m' ((c.tc : Thread Cert.Reference3Ideal.nD Cert.Reference3Ideal.τ).loc Cert.Reference3Ideal.main_arg5) : FVec Ideal Cert.Reference3Ideal.S4x8x8192 .f32) = sinOf m c := e5
  refine ⟨h0.trans ?_, h1.trans ?_, h2.trans ?_, h3.trans ?_, h4.trans ?_, h5.trans ?_, h6.trans ?_, h7⟩
  · exact (congrArg (Cert.Reference3Ideal.Value.uOut (F := Ideal)) hp).trans ((u_ref m c).trans (Cert.Kernel3Ideal.Proj.u_arr m c).symm)
  · refine (Cert.Reference3Ideal.Value.res_eq1 (F := Ideal) m' c).trans ?_
    rw [hp, hc, hs]
    exact (dq_ref m c).trans (Cert.Kernel3Ideal.Proj.dq_arr m c).symm
  · refine (Cert.Reference3Ideal.Value.res_eq2 (F := Ideal) m' c).trans ?_
    rw [hp, hc, hs]
    exact (dk_ref m c).trans (Cert.Kernel3Ideal.Proj.dk_arr m c).symm
  · exact (congrArg (Cert.Reference3Ideal.Value.dvOut (F := Ideal)) hp).trans ((dv_ref m c).trans (Cert.Kernel3Ideal.Proj.dv_arr m c).symm)
  · refine (Cert.Reference3Ideal.Value.res_eq4 (F := Ideal) m' c).trans ?_
    rw [hp, hc, hs]
    exact (mq_ref m c).trans (Cert.Kernel3Ideal.Proj.mq_arr m c).symm
  · refine (Cert.Reference3Ideal.Value.res_eq5 (F := Ideal) m' c).trans ?_
    rw [hp, hc, hs]
    exact (mk_ref m c).trans (Cert.Kernel3Ideal.Proj.mk_arr m c).symm
  · exact (congrArg (Cert.Reference3Ideal.Value.mvOut (F := Ideal)) hp).trans ((mv_ref m c).trans (Cert.Kernel3Ideal.Proj.mv_arr m c).symm)

end Cert.Proof

end
-- ==== Proof.AdaArrays.lean ====
/-
  The modulation: a block's result at an index, the array of the result, and the reference's result, in terms of the arguments.
-/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.Kernel4Ideal.Ada

open Idealize.ShloMosaic Idealize.ShloMosaic.TcCoe Cert.Kernel4Ideal Cert.Kernel4Ideal.Gen

theorem pay1_apply (v : Vec Ideal S4x1024 .f32) (w : Vec Ideal S1x1024x1024 .f32) (d : Vec Ideal S1x1x1024 .f32) (b : Fin 4) (j : Fin 1024) :
    k0_pay1 (F := Ideal) v w d (ix3 0 b j) = (∑ k : Fin 1024, v (ix2 b k) * Ideal.logistic (v (ix2 b k)) * w (ix3 0 k j)) + d (ix3 0 0 j) := by
  pointwise [k0_pay1]

theorem ref_apply (x : FVec Ideal Cert.Reference4Ideal.S4x1024 .f32) (w : FVec Ideal Cert.Reference4Ideal.S2x1024x6144 .f32)
    (d : FVec Ideal Cert.Reference4Ideal.S2x6144 .f32) (l : Fin 2) (b : Fin 4) (j : Fin 6144) :
    (open Cert.Reference4Ideal Cert.Reference4Ideal.Gen in addf (transpose S2x4x6144 [0, 2, 1] (Host.dotGeneral dot_S2x1024x6144_S4x1024_S2x6144x4_1_1_02_0_n_n none w (mulf x (Host.divf (broadcastInDim S4x1024 ![] bcast_S_S4x1024 (constant S_ .f32 0x3F800000#32)) (addf (broadcastInDim S4x1024 ![] bcast_S_S4x1024 (constant S_ .f32 0x3F800000#32)) (Host.exp (Host.negf x)))))) transposes_S2x6144x4_S2x4x6144_0_2_1) (broadcastInDim S2x4x6144 ![0, 1, 2] bcast_S2x1x6144_S2x4x6144_0_1_2 (broadcastInDim S2x1x6144 ![0, 2] bcast_S2x6144_S2x1x6144_0_2 d)))
      (ix3 l b j) = (∑ k : Fin 1024, x (ix2 b k) * Ideal.logistic (x (ix2 b k)) * w (ix3 l k j)) + d (ix2 l j) := by
  pointwise
  exact congrArg (· + d (ix2 l j)) (Finset.sum_congr rfl fun k _ => mul_comm _ _)

theorem ld0 (x : Vec Ideal S4x1024 .f32) : View.ld x r0_0 = x := View.ld_unit_lit _ _ (by decide)
theorem ld1 (x : Vec Ideal S1x1024x1024 .f32) : View.ld x r0_1 = x := View.ld_unit_lit _ _ (by decide)
theorem ld2 (x : Vec Ideal S1x1x1024 .f32) : View.ld x r0_2 = x := View.ld_unit_lit _ _ (by decide)

/-- The body's result at an index of the block. -/
theorem out_apply (x0 : Vec Ideal S4x1024 .f32) (x1 : Vec Ideal S1x1024x1024 .f32) (x2 : Vec Ideal S1x1x1024 .f32) (b : Fin 4) (j : Fin 1024) :
    out0_3 x0 x1 x2 (ix3 0 b j) = (∑ k : Fin 1024, x0 (ix2 b k) * Ideal.logistic (x0 (ix2 b k)) * x1 (ix3 0 k j)) + x2 (ix3 0 0 j) := by
  unfold out0_3
  rw [View.canon_cons_unit_lit (S := S1x4x1024) _ _ _ (by decide)]
  simp only [ld0, ld1, ld2]
  exact pay1_apply x0 x1 x2 b j

theorem index_facts : ∀ t : Fin grid0.N,
    win0_0.index t = ![0, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] := by decide +kernel

variable (m : (ℓ : Loc nD τ sig) → Buf (Elt Ideal) ℓ) (c : Dev nD) (t : Fin cfg0.N)

theorem V_c (b : Fin 4) (k : Fin 1024) : V m c main_arg0 (ix2 b k) = m ((c.tc : Thread nD τ).loc main_arg0) (ix2 b k) := by
  rw [V_main_arg0]

theorem V_w (l : Fin 2) (k : Fin 1024) (j : Fin 6144) : V m c main_arg1 (ix3 l k j) = m ((c.tc : Thread nD τ).loc main_arg1) (ix3 l k j) := by
  rw [V_main_arg1]

theorem V_b (l : Fin 2) (j : Fin 6144) : V m c main_v0 (ix3 l 0 j) = m ((c.tc : Thread nD τ).loc main_arg2) (ix2 l j) := by
  entry_read
  pointwise

theorem blk_c (b : Fin 4) (k : Fin 1024) : iblk m c 0 t (ix2 b k) = m ((c.tc : Thread nD τ).loc main_arg0) (ix2 b k) := by
  rw [← V_c m c b k]
  obtain ⟨e0, e1, e2, e3⟩ := index_facts t
  blk_ext [iblk, e0]

theorem blk_w (l : Fin 2) (g : Fin 6) (hl : (grid0.coords t 0).val = l.val) (hg : (grid0.coords t 1).val = g.val)
    (k i : Fin 1024) (j : Fin 6144) (hj : j.val = 1024 * g.val + i.val) :
    iblk m c 1 t (ix3 0 k i) = m ((c.tc : Thread nD τ).loc main_arg1) (ix3 l k j) := by
  rw [← V_w m c l k j]
  obtain ⟨e0, e1, e2, e3⟩ := index_facts t
  blk_ext [iblk, e1, hl, hg]

theorem blk_b (l : Fin 2) (g : Fin 6) (hl : (grid0.coords t 0).val = l.val) (hg : (grid0.coords t 1).val = g.val)
    (i : Fin 1024) (j : Fin 6144) (hj : j.val = 1024 * g.val + i.val) :
    iblk m c 2 t (ix3 0 0 i) = m ((c.tc : Thread nD τ).loc main_arg2) (ix2 l j) := by
  rw [← V_b m c l j]
  obtain ⟨e0, e1, e2, e3⟩ := index_facts t
  blk_ext [iblk, e2, hl, hg]

/-- The modulation of a layer, a batch row and a column. -/
def modAt (x : FVec Ideal S4x1024 .f32) (w : FVec Ideal S2x1024x6144 .f32) (d : FVec Ideal S2x6144 .f32) (l : Fin 2) (b : Fin 4) (j : Fin 6144) : EReal :=
  (∑ k : Fin 1024, x (ix2 b k) * Ideal.logistic (x (ix2 b k)) * w (ix3 l k j)) + d (ix2 l j)

/-- The same, of the arguments. -/
def modOf (l : Fin 2) (b : Fin 4) (j : Fin 6144) : EReal :=
  modAt (m ((c.tc : Thread nD τ).loc main_arg0)) (m ((c.tc : Thread nD τ).loc main_arg1)) (m ((c.tc : Thread nD τ).loc main_arg2)) l b j

theorem blk_out (l : Fin 2) (g : Fin 6) (hl : (grid0.coords t 0).val = l.val) (hg : (grid0.coords t 1).val = g.val)
    (b : Fin 4) (i : Fin 1024) (j : Fin 6144) (hj : j.val = 1024 * g.val + i.val) :
    out0_3 (iblk m c 0 t) (iblk m c 1 t) (iblk m c 2 t) (ix3 0 b i) = modOf m c l b j := by
  refine (out_apply _ _ _ b i).trans ?_
  unfold modOf modAt
  refine congr (congrArg _ (Finset.sum_congr rfl fun k _ => ?_)) (blk_b m c t l g hl hg i j hj)
  rw [blk_c m c t b k]
  exact congrArg _ (blk_w m c t l g hl hg k i j hj)

theorem arr_eq : (dats m 0 c).arrAt 3 (cfgs 0).N = fun z : S2x4x6144.Idx => modOf m c (z 0) (z 1) (z 2) := by
  refine (dats m 0 c).arrAt_eq_of_covers 3 _ (by decide +kernel) fun t hf y => ?_
  obtain ⟨e0, e1, e2, e3⟩ := index_facts t
  blk_simp
  rw [after0_3]
  idx_bounds y
  have h0 := (grid0.coords t 1).isLt
  have ey : y = ix3 0 (y 1) (y 2) := by
    funext a
    fin_cases a
    · exact Fin.ext (by have h : (y 0).val < 1 := (y 0).isLt; show (y 0).val = 0; omega)
    · rfl
    · rfl
  have hs : 1024 * (grid0.coords t 1).val + (y 2).val < 6144 := by
    change (grid0.coords t 1).val < 6 at h0
    have h : (y 2).val < 1024 := (y 2).isLt
    omega
  refine (congrArg (out0_3 _ _ _) ey).trans ((blk_out m c t (grid0.coords t 0) (grid0.coords t 1) rfl rfl (y 1) (y 2) ⟨_, hs⟩ rfl).trans ?_)
  refine congr (congr (congrArg (modOf m c) ?_) ?_) ?_ <;> refine Fin.ext ?_ <;> blk_simp [e3] <;> dsimp only <;> omega

end Cert.Kernel4Ideal.Ada

end
-- ==== Proof.AdaValue.lean ====
/-
  The claims of the modulation.
-/
module

public import proofs.«01_k».proof.Defs
public import proofs.«01_k».proof.Proof.AdaArrays
public import proofs.«01_k».proof.Proof.Gen.Kernel4
public import proofs.«01_k».proof.Proof.Gen.Reference4Ideal

@[expose] public section

set_option maxRecDepth 16384

noncomputable section

namespace Cert.Proof

open Idealize.ShloMosaic Idealize.ShloMosaic.TcCoe Idealize.SL.Sem Cert.Kernel4Ideal.Gen

set_option maxHeartbeats 8000000 in
/-- The two programs have one table of bodies. -/
theorem defs₀_eq4 : Cert.Kernel4.defs₀ (F := Bits) = Cert.Kernel4Ideal.defs₀ (F := Bits) := by
  unfold Cert.Kernel4.defs₀ Cert.Kernel4Ideal.defs₀
  congr 1
  funext f x
  match f, x with
  | 0, (t, s) => exact rfl
  | ⟨_ + 1, h⟩, _ => exact absurd h (Nat.not_lt.2 (Nat.le_add_left _ _))

theorem defs_eq4 : Cert.Kernel4.defs (F := Bits) = Cert.Kernel4Ideal.defs (F := Bits) := by
  unfold Cert.Kernel4.defs Cert.Kernel4Ideal.defs
  rw [defs₀_eq4]
  rfl

theorem frame_kernel4 : Cert.quiescent_Kernel4 (hKernel4 := Cert.Kernel4.Gen.facts) := fun m ρ _ => by
  rw [defs_eq4]
  exact Cert.Kernel4Ideal.Gen.frame (F := Bits) m ρ

theorem frame_kernel4Ideal : Cert.quiescent_Kernel4Ideal (hKernel4Ideal := Cert.Kernel4Ideal.Gen.facts) := fun m ρ _ =>
  Cert.Kernel4Ideal.Gen.frame (F := Ideal) m ρ

theorem frame_reference4Ideal : Cert.quiescent_Reference4Ideal (hReference4Ideal := Cert.Reference4Ideal.Gen.facts) := fun m ρ _ =>
  (θ_run Cert.Reference4Ideal.defs _ _).mono (fun r h => ⟨fun c => (h c).2, sem_eq_zero_of_no_sems rfl r.2⟩) (Cert.Reference4Ideal.Value.run (F := Ideal) m ρ)

theorem modulation_eta (z : Cert.Kernel4Ideal.S2x4x6144.Idx) : z = ix3 (z 0) (z 1) (z 2) := by
  funext i
  fin_cases i <;> rfl

theorem algebraic4 : Cert.algebraic_Kernel4Ideal_Reference4Ideal (hKernel4Ideal := Cert.Kernel4Ideal.Gen.facts)
    (hReference4Ideal := Cert.Reference4Ideal.Gen.facts) := by
  intro m g m' g' _ hm
  refine ⟨fun c => (dats m 0 c).arrAt 3 (Cert.Kernel4Ideal.cfgs 0).N, Cert.Kernel4Ideal.Value.run_blocks (F := Ideal) m g, ?_⟩
  refine (θ_run Cert.Reference4Ideal.defs _ _).mono (fun r h c => ?_) (Cert.Reference4Ideal.Value.run (F := Ideal) m' g')
  obtain ⟨h0, h1⟩ := h c
  obtain ⟨e0, e1, e2⟩ := hm c
  refine ⟨h0.trans ?_, h1⟩
  rw [e0, e1, e2]
  refine Eq.trans ?_ (Cert.Kernel4Ideal.Ada.arr_eq m c).symm
  funext z
  exact (congrArg _ (modulation_eta z)).trans (Cert.Kernel4Ideal.Ada.ref_apply _ _ _ (z 0) (z 1) (z 2))

end Cert.Proof

end
-- ==== Proof.RopeArrays.lean ====
/-
  The rotation tables: a block's results at an index, the arrays of the results, and the reference's results, in terms of the positions.
-/
module

public import proofs.«01_k».proof.Proof.Gen.Kernel5Ideal.Frame
public import proofs.«01_k».proof.Proof.Gen.Reference5Ideal.Run
public import Idealize.ShloMosaic.Lib.Pipeline.Value
public import Idealize.ShloMosaic.Lib.Pipeline.ValueKit
public import Idealize.ShloMosaic.Lib.Pointwise

@[expose] public section

set_option maxRecDepth 16384

noncomputable section

namespace Cert.Rope

open Idealize.ShloMosaic Idealize.ShloMosaic.TcCoe

/-- The frequencies. -/
def freqs : FVec Ideal Cert.Reference5Ideal.S8 .f32 :=
  open Cert.Reference5Ideal Cert.Reference5Ideal.Gen in
  Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))

/-- The angle at a frequency and a position. -/
def angle (p : BitVec 32) (e : Fin 8) : EReal := freqs (ix1 e) * Scalar.sitofp (F := Ideal) .f32 p

section

variable (x : IVec Cert.Reference5Ideal.S4x8192 32) (b : Fin 4) (e : Fin 8) (s : Fin 8192)

theorem ref_cos : (open Cert.Reference5Ideal Cert.Reference5Ideal.Gen in transpose S4x8x8192 [0, 2, 1] (Host.cos (mulf (broadcastInDim S4x8192x8 ![0, 1, 2] bcast_S4x8192x1_S4x8192x8_0_1_2 (broadcastInDim S4x8192x1 ![0, 1] bcast_S4x8192_S4x8192x1_0_1 (sitofp (F := Ideal) .f32 x))) (broadcastInDim S4x8192x8 ![0, 1, 2] bcast_S1x1x8_S4x8192x8_0_1_2 (broadcastInDim S1x1x8 ![2] bcast_S8_S1x1x8_2 freqs)))) transposes_S4x8192x8_S4x8x8192_0_2_1)
      (ix3 b e s) = Ideal.cos (angle (x (ix2 b s)) e) := by
  unfold angle
  generalize freqs = f
  rw [mul_comm]
  pointwise
  rfl

theorem ref_sin : (open Cert.Reference5Ideal Cert.Reference5Ideal.Gen in transpose S4x8x8192 [0, 2, 1] (Host.sin (mulf (broadcastInDim S4x8192x8 ![0, 1, 2] bcast_S4x8192x1_S4x8192x8_0_1_2 (broadcastInDim S4x8192x1 ![0, 1] bcast_S4x8192_S4x8192x1_0_1 (sitofp (F := Ideal) .f32 x))) (broadcastInDim S4x8192x8 ![0, 1, 2] bcast_S1x1x8_S4x8192x8_0_1_2 (broadcastInDim S1x1x8 ![2] bcast_S8_S1x1x8_2 freqs)))) transposes_S4x8192x8_S4x8x8192_0_2_1)
      (ix3 b e s) = Ideal.sin (angle (x (ix2 b s)) e) := by
  unfold angle
  generalize freqs = f
  rw [mul_comm]
  pointwise
  rfl

end

end Cert.Rope

namespace Cert.Kernel5Ideal.Rope

open Idealize.ShloMosaic Idealize.ShloMosaic.TcCoe Cert.Kernel5Ideal Cert.Kernel5Ideal.Gen Cert.Rope

theorem pay2_apply (f : Vec Ideal S8x1 .f32) (p : Vec Ideal S1x1x8192 .i32) (e : Fin 8) (s : Fin 8192) :
    k0_pay2 (F := Ideal) f p (ix3 0 e s) = Ideal.cos (f (ix2 e 0) * Scalar.sitofp (F := Ideal) .f32 (p (ix3 0 0 s))) := by
  pointwise [k0_pay2, k0_pay1]
  rfl

theorem pay3_apply (f : Vec Ideal S8x1 .f32) (p : Vec Ideal S1x1x8192 .i32) (e : Fin 8) (s : Fin 8192) :
    k0_pay3 (F := Ideal) f p (ix3 0 e s) = Ideal.sin (f (ix2 e 0) * Scalar.sitofp (F := Ideal) .f32 (p (ix3 0 0 s))) := by
  pointwise [k0_pay3, k0_pay1]
  rfl

theorem ld0 (x : Vec Ideal S8x1 .f32) : View.ld x r0_0 = x := View.ld_unit_lit _ _ (by decide)
theorem ld1 (x : Vec Ideal S1x1x8192 .i32) : View.ld x r0_1 = x := View.ld_unit_lit _ _ (by decide)

theorem out2_apply (f : Vec Ideal S8x1 .f32) (p : Vec Ideal S1x1x8192 .i32) (e : Fin 8) (s : Fin 8192) :
    out0_2 f p (ix3 0 e s) = Ideal.cos (f (ix2 e 0) * Scalar.sitofp (F := Ideal) .f32 (p (ix3 0 0 s))) := by
  unfold out0_2
  rw [View.canon_cons_unit_lit (S := S1x8x8192) _ _ _ (by decide), ld0, ld1]
  exact pay2_apply f p e s

theorem out3_apply (f : Vec Ideal S8x1 .f32) (p : Vec Ideal S1x1x8192 .i32) (e : Fin 8) (s : Fin 8192) :
    out0_3 f p (ix3 0 e s) = Ideal.sin (f (ix2 e 0) * Scalar.sitofp (F := Ideal) .f32 (p (ix3 0 0 s))) := by
  unfold out0_3
  rw [View.canon_cons_unit_lit (S := S1x8x8192) _ _ _ (by decide), ld0, ld1]
  exact pay3_apply f p e s

theorem index_facts : ∀ t : Fin grid0.N,
    win0_0.index t = ![0, 0]
    ∧ win0_1.index t = ![(grid0.coords t 0).val, 0, 0]
    ∧ win0_2.index t = ![(grid0.coords t 0).val, 0, 0]
    ∧ win0_3.index t = ![(grid0.coords t 0).val, 0, 0] := by decide +kernel

variable (m : (ℓ : Loc nD τ sig) → Buf (Elt Ideal) ℓ) (c : Dev nD) (t : Fin cfg0.N)

theorem V_f (e : Fin 8) : V m c main_v10 (ix2 e 0) = freqs (ix1 e) := by
  have h : V m c main_v10 = shapeCast S8x1 freqs shapeCasts_S8_S8x1 := by
    simp only [V, hostOps0]
    after_results_simp
    rfl
  rw [h]
  generalize freqs = f
  pointwise

theorem V_p (b : Fin 4) (s : Fin 8192) : V m c main_v11 (ix3 b 0 s) = m ((c.tc : Thread nD τ).loc main_arg0) (ix2 b s) := by
  entry_read
  pointwise

theorem blk_f (e : Fin 8) : iblk m c 0 t (ix2 e 0) = freqs (ix1 e) := by
  rw [← V_f m c e]
  obtain ⟨e0, e1, e2, e3⟩ := index_facts t
  blk_ext [iblk, e0]

theorem blk_p (b : Fin 4) (hb : (grid0.coords t 0).val = b.val) (s : Fin 8192) :
    iblk m c 1 t (ix3 0 0 s) = m ((c.tc : Thread nD τ).loc main_arg0) (ix2 b s) := by
  rw [← V_p m c b s]
  obtain ⟨e0, e1, e2, e3⟩ := index_facts t
  blk_ext [iblk, e1, hb]

/-- The angle of a batch row, a frequency and a token, of the positions. -/
def angleOf (b : Fin 4) (e : Fin 8) (s : Fin 8192) : EReal :=
  angle ((m ((c.tc : Thread nD τ).loc main_arg0) : IVec S4x8192 32) (ix2 b s)) e

theorem blk_cos (b : Fin 4) (hb : (grid0.coords t 0).val = b.val) (e : Fin 8) (s : Fin 8192) :
    out0_2 (iblk m c 0 t) (iblk m c 1 t) (ix3 0 e s) = Ideal.cos (angleOf m c b e s) := by
  refine (out2_apply _ _ e s).trans ?_
  rw [blk_f m c t e, blk_p m c t b hb s]
  rfl

theorem blk_sin (b : Fin 4) (hb : (grid0.coords t 0).val = b.val) (e : Fin 8) (s : Fin 8192) :
    out0_3 (iblk m c 0 t) (iblk m c 1 t) (ix3 0 e s) = Ideal.sin (angleOf m c b e s) := by
  refine (out3_apply _ _ e s).trans ?_
  rw [blk_f m c t e, blk_p m c t b hb s]
  rfl

theorem arr_cos : (dats m 0 c).arrAt 2 (cfgs 0).N = fun z : S4x8x8192.Idx => Ideal.cos (angleOf m c (z 0) (z 1) (z 2)) := by
  refine (dats m 0 c).arrAt_eq_of_covers 2 _ (by decide +kernel) fun t hf y => ?_
  obtain ⟨e0, e1, e2, e3⟩ := index_facts t
  blk_simp
  rw [after0_2]
  idx_bounds y
  have ey : y = ix3 0 (y 1) (y 2) := by
    funext a
    fin_cases a
    · exact Fin.ext (by have h : (y 0).val < 1 := (y 0).isLt; show (y 0).val = 0; omega)
    · rfl
    · rfl
  refine (congrArg (out0_2 _ _) ey).trans ((blk_cos m c t (grid0.coords t 0) rfl (y 1) (y 2)).trans (congrArg Ideal.cos ?_))
  refine congr (congr (congrArg (angleOf m c) ?_) ?_) ?_ <;> refine Fin.ext ?_ <;> blk_simp [e2] <;> dsimp only <;> omega

theorem arr_sin : (dats m 0 c).arrAt 3 (cfgs 0).N = fun z : S4x8x8192.Idx => Ideal.sin (angleOf m c (z 0) (z 1) (z 2)) := by
  refine (dats m 0 c).arrAt_eq_of_covers 3 _ (by decide +kernel) fun t hf y => ?_
  obtain ⟨e0, e1, e2, e3⟩ := index_facts t
  blk_simp
  rw [after0_3]
  idx_bounds y
  have ey : y = ix3 0 (y 1) (y 2) := by
    funext a
    fin_cases a
    · exact Fin.ext (by have h : (y 0).val < 1 := (y 0).isLt; show (y 0).val = 0; omega)
    · rfl
    · rfl
  refine (congrArg (out0_3 _ _) ey).trans ((blk_sin m c t (grid0.coords t 0) rfl (y 1) (y 2)).trans (congrArg Ideal.sin ?_))
  refine congr (congr (congrArg (angleOf m c) ?_) ?_) ?_ <;> refine Fin.ext ?_ <;> blk_simp [e3] <;> dsimp only <;> omega

open Idealize.SL.Sem in
/-- The run, with the arrays of the results named. -/
theorem run_blocks (ρ : Dev nD → PrngReg) : θ_run defs (onTc (τ := τ) (main (F := Ideal))) ⟨m, fun _ => 0, ρ⟩ fun r => ∀ c : Dev nD,
      r.2.mem ((c : Thread nD τ).loc main_v12_0) = (dats m 0 c).arrAt 2 cfg0.N
      ∧ r.2.mem ((c : Thread nD τ).loc main_v12_1) = (dats m 0 c).arrAt 3 cfg0.N
      ∧ r.2.mem ((c : Thread nD τ).loc main_arg0) = m ((c : Thread nD τ).loc main_arg0) :=
  (θ_run defs _ _).mono (fun _ h c => ⟨(h c).1 2, (h c).1 3,
      ((h c).2 main_arg0 (Pipeline.mem_restRefs_of main_arg0 (by decide) (by decide))).trans (V_main_arg0 m c)⟩)
    (run_main m ρ)

end Cert.Kernel5Ideal.Rope

end
-- ==== Proof.RopeValue.lean ====
/-
  The claims of the rotation tables.
-/
module

public import proofs.«01_k».proof.Defs
public import proofs.«01_k».proof.Proof.RopeArrays
public import proofs.«01_k».proof.Proof.Gen.Kernel5
public import proofs.«01_k».proof.Proof.Gen.Reference5Ideal

@[expose] public section

set_option maxRecDepth 16384

noncomputable section

namespace Cert.Proof

open Idealize.ShloMosaic Idealize.ShloMosaic.TcCoe Idealize.SL.Sem Cert.Kernel5Ideal.Gen

set_option maxHeartbeats 8000000 in
/-- The two programs have one table of bodies. -/
theorem defs₀_eq5 : Cert.Kernel5.defs₀ (F := Bits) = Cert.Kernel5Ideal.defs₀ (F := Bits) := by
  unfold Cert.Kernel5.defs₀ Cert.Kernel5Ideal.defs₀
  congr 1
  funext f x
  match f, x with
  | 0, (t, s) => exact rfl
  | ⟨_ + 1, h⟩, _ => exact absurd h (Nat.not_lt.2 (Nat.le_add_left _ _))

theorem defs_eq5 : Cert.Kernel5.defs (F := Bits) = Cert.Kernel5Ideal.defs (F := Bits) := by
  unfold Cert.Kernel5.defs Cert.Kernel5Ideal.defs
  rw [defs₀_eq5]
  rfl

theorem frame_kernel5 : Cert.quiescent_Kernel5 (hKernel5 := Cert.Kernel5.Gen.facts) := fun m ρ _ => by
  rw [defs_eq5]
  exact Cert.Kernel5Ideal.Gen.frame (F := Bits) m ρ

theorem frame_kernel5Ideal : Cert.quiescent_Kernel5Ideal (hKernel5Ideal := Cert.Kernel5Ideal.Gen.facts) := fun m ρ _ =>
  Cert.Kernel5Ideal.Gen.frame (F := Ideal) m ρ

theorem frame_reference5Ideal : Cert.quiescent_Reference5Ideal (hReference5Ideal := Cert.Reference5Ideal.Gen.facts) := fun m ρ _ =>
  (θ_run Cert.Reference5Ideal.defs _ _).mono (fun r h => ⟨fun c => (h c).2.2, sem_eq_zero_of_no_sems rfl r.2⟩) (Cert.Reference5Ideal.Value.run (F := Ideal) m ρ)

theorem table_eta (z : Cert.Kernel5Ideal.S4x8x8192.Idx) : z = ix3 (z 0) (z 1) (z 2) := by
  funext i
  fin_cases i <;> rfl

theorem algebraic5 : Cert.algebraic_Kernel5Ideal_Reference5Ideal (hKernel5Ideal := Cert.Kernel5Ideal.Gen.facts)
    (hReference5Ideal := Cert.Reference5Ideal.Gen.facts) := by
  intro m g m' g' _ hm
  refine ⟨fun c => (dats m 0 c).arrAt 2 (Cert.Kernel5Ideal.cfgs 0).N, fun c => (dats m 0 c).arrAt 3 (Cert.Kernel5Ideal.cfgs 0).N,
    Cert.Kernel5Ideal.Rope.run_blocks m g, ?_⟩
  refine (θ_run Cert.Reference5Ideal.defs _ _).mono (fun r h c => ?_) (Cert.Reference5Ideal.Value.run (F := Ideal) m' g')
  obtain ⟨h0, h1, h2⟩ := h c
  have e0 := hm c
  refine ⟨h0.trans ?_, h1.trans ?_, h2⟩
  · rw [e0]
    refine Eq.trans ?_ (Cert.Kernel5Ideal.Rope.arr_cos m c).symm
    funext z
    exact (congrArg _ (table_eta z)).trans (Cert.Rope.ref_cos _ (z 0) (z 1) (z 2))
  · rw [e0]
    refine Eq.trans ?_ (Cert.Kernel5Ideal.Rope.arr_sin m c).symm
    funext z
    exact (congrArg _ (table_eta z)).trans (Cert.Rope.ref_sin _ (z 0) (z 1) (z 2))

end Cert.Proof

end
-- ==== Proof.Mlp0Rows.lean ====
/-
  The body of the first layer's output projection with its MLP, at an index, over extended reals.
-/
module

public import proofs.«01_k».proof.Proof.Gen.Kernel6Ideal.Value
public import proofs.«01_k».proof.Proof.MlpMath
public import Idealize.ShloMosaic.Lib.Pipeline.ValueKit

@[expose] public section

set_option maxRecDepth 16384

noncomputable section

namespace Cert.Kernel6Ideal.Mlp

open Idealize.ShloMosaic Idealize.ShloMosaic.TcCoe Cert.Kernel6Ideal Cert.Kernel6Ideal.Gen Cert.Mlp

/-! ## The payloads -/

theorem pay3_apply (v0 : Vec Ideal S1x512x1024 .f32) (v2 : Vec Ideal S1x6x1024 .f32) (v4 : Vec Ideal S1x512x256 .bf16) (v6 : Vec Ideal S256x1024 .bf16)
    (v9 : Vec Ideal S1x512x512 .bf16) (v11 : Vec Ideal S512x1024 .bf16) (v15 : Vec Ideal S1x512x256 .bf16) (v17 : Vec Ideal S256x1024 .bf16)
    (r : Fin 512) (d : Fin 1024) : k0_pay3 (F := Ideal) v0 v2 v4 v6 v9 v11 v15 v17 (ix2 r d) =
      v0 (ix3 0 r d) + v2 (ix3 0 2 d) * ((∑ k : Fin 256, v4 (ix3 0 r k) * v6 (ix2 k d)) + (∑ k : Fin 512, v9 (ix3 0 r k) * v11 (ix2 k d))
        + ∑ k : Fin 256, v15 (ix3 0 r k) * v17 (ix2 k d)) := by
  pointwise [k0_pay3, k0_pay2]

theorem pay5_apply (v0 : Vec Ideal S1x512x1024 .f32) (v2 : Vec Ideal S1x6x1024 .f32) (v4 : Vec Ideal S1x512x256 .bf16) (v6 : Vec Ideal S256x1024 .bf16)
    (v9 : Vec Ideal S1x512x512 .bf16) (v11 : Vec Ideal S512x1024 .bf16) (v15 : Vec Ideal S1x512x256 .bf16) (v17 : Vec Ideal S256x1024 .bf16)
    (r : Fin 512) : k0_pay5 (F := Ideal) v0 v2 v4 v6 v9 v11 v15 v17 (ix2 r 0) =
      ∑ k : Fin 1024, k0_pay3 (F := Ideal) v0 v2 v4 v6 v9 v11 v15 v17 (ix2 r k) * k0_pay3 (F := Ideal) v0 v2 v4 v6 v9 v11 v15 v17 (ix2 r k) := by
  unfold k0_pay5
  generalize k0_pay3 (F := Ideal) v0 v2 v4 v6 v9 v11 v15 v17 = x
  pointwise

theorem pay6_apply (v2 : Vec Ideal S1x6x1024 .f32) (x : FVec Ideal S512x1024 .f32) (g : Vec Ideal S1x1024 .f32) (s : FVec Ideal S512x1 .f32) (n : Ideal .f32)
    (r : Fin 512) (d : Fin 1024) (hs : s (ix2 r 0) = ∑ k : Fin 1024, x (ix2 r k) * x (ix2 r k)) :
    k0_pay6 (F := Ideal) (k0_pay2 v2) x (k0_pay4 g) s n (ix2 r d) =
      modulated n (Ideal.ofBits .f32 0x358637BD#32) (Ideal.ofBits .f32 0x3F800000#32) (fun k => x (ix2 r k)) (fun k => g (ix2 0 k))
        (fun k => v2 (ix3 0 3 k)) (fun k => v2 (ix3 0 4 k)) d := by
  unfold modulated normed
  rw [← hs]
  pointwise [k0_pay6, k0_pay2, k0_pay4]

theorem pay7_apply (v3 : FVec Ideal S6x1024 .f32) (v24 : FVec Ideal S512x1024 .f32) (v26 : FVec Ideal S1x1024 .f32) (v29 : FVec Ideal S512x1 .f32) (n : Ideal .f32)
    (v49 v56 v60 v67 : Vec Ideal S1024x1024 .bf16) (r : Fin 512) (d : Fin 1024) :
    k0_pay7 (F := Ideal) v3 v24 v26 v29 n v49 v56 v60 v67 (ix2 r d) =
      mlp (fun k => k0_pay6 (F := Ideal) v3 v24 v26 v29 n (ix2 r k)) (fun k j => v49 (ix2 k j)) (fun j => v56 (ix2 j d))
      + mlp (fun k => k0_pay6 (F := Ideal) v3 v24 v26 v29 n (ix2 r k)) (fun k j => v60 (ix2 k j)) (fun j => v67 (ix2 j d)) := by
  unfold k0_pay7 mlp act
  generalize k0_pay6 (F := Ideal) v3 v24 v26 v29 n = h
  pointwise

/-- The stored row: the whole network gated and added. -/
theorem pay1_apply (v2 : Vec Ideal S1x6x1024 .f32) (x : FVec Ideal S512x1024 .f32) (h : FVec Ideal S512x1024 .bf16) (a : FVec Ideal S512x1024 .f32)
    (v71 v78 v82 v89 : Vec Ideal S1024x1024 .bf16) (r : Fin 512) (d : Fin 1024) :
    k0_pay1 (F := Ideal) (k0_pay2 v2) x h a v71 v78 v82 v89 (ix3 0 r d) =
      x (ix2 r d) + v2 (ix3 0 5 d) *
        (a (ix2 r d) + mlp (fun k => h (ix2 r k)) (fun k j => v71 (ix2 k j)) (fun j => v78 (ix2 j d))
          + mlp (fun k => h (ix2 r k)) (fun k j => v82 (ix2 k j)) (fun j => v89 (ix2 j d))) := by
  unfold mlp act
  pointwise [k0_pay1, k0_pay2]

end Cert.Kernel6Ideal.Mlp

end
-- ==== Proof.Mlp0Arrays.lean ====
/-
  The blocks of the operands of the first layer's output projection and the array of its result, in terms of the arguments.
-/
module

public import proofs.«01_k».proof.Proof.Mlp0Rows

@[expose] public section

set_option maxRecDepth 16384

noncomputable section

namespace Cert.Kernel6Ideal.Mlp

open Idealize.ShloMosaic Idealize.ShloMosaic.TcCoe Cert.Kernel6Ideal Cert.Kernel6Ideal.Gen Cert.Mlp

/-! ## The pieces of a block -/

section

variable (x : Vec Ideal S1024x1024 .bf16) (w : Vec Ideal S1024x4096 .bf16) (v : Vec Ideal S4096x1024 .bf16)

theorem ld3 (k : Fin 256) (d : Fin 1024) : View.ld x r0_3 (ix2 k d) = x (ix2 ⟨k.val, by omega⟩ d) := by pointwise
theorem ld5 (k : Fin 512) (d : Fin 1024) : View.ld x r0_5 (ix2 k d) = x (ix2 ⟨256 + k.val, by omega⟩ d) := by pointwise
theorem ld6 (k : Fin 256) (d : Fin 1024) : View.ld x r0_6 (ix2 k d) = x (ix2 ⟨768 + k.val, by omega⟩ d) := by pointwise
theorem ld8 (k d : Fin 1024) : View.ld w r0_8 (ix2 k d) = w (ix2 k ⟨d.val, by omega⟩) := by pointwise
theorem ld10 (k d : Fin 1024) : View.ld w r0_10 (ix2 k d) = w (ix2 k ⟨1024 + d.val, by omega⟩) := by pointwise
theorem ld12 (k d : Fin 1024) : View.ld w r0_12 (ix2 k d) = w (ix2 k ⟨2048 + d.val, by omega⟩) := by pointwise
theorem ld14 (k d : Fin 1024) : View.ld w r0_14 (ix2 k d) = w (ix2 k ⟨3072 + d.val, by omega⟩) := by pointwise
theorem ld9 (k d : Fin 1024) : View.ld v r0_9 (ix2 k d) = v (ix2 ⟨k.val, by omega⟩ d) := by pointwise
theorem ld11 (k d : Fin 1024) : View.ld v r0_11 (ix2 k d) = v (ix2 ⟨1024 + k.val, by omega⟩ d) := by pointwise
theorem ld13 (k d : Fin 1024) : View.ld v r0_13 (ix2 k d) = v (ix2 ⟨2048 + k.val, by omega⟩ d) := by pointwise
theorem ld15 (k d : Fin 1024) : View.ld v r0_15 (ix2 k d) = v (ix2 ⟨3072 + k.val, by omega⟩ d) := by pointwise

end

theorem ld0 (x : Vec Ideal S1x512x1024 .f32) : View.ld x r0_0 = x := View.ld_unit_lit _ _ (by decide)
theorem ld1 (x : Vec Ideal S1x6x1024 .f32) : View.ld x r0_1 = x := View.ld_unit_lit _ _ (by decide)
theorem ld2 (x : Vec Ideal S1x512x256 .bf16) : View.ld x r0_2 = x := View.ld_unit_lit _ _ (by decide)
theorem ld4 (x : Vec Ideal S1x512x512 .bf16) : View.ld x r0_4 = x := View.ld_unit_lit _ _ (by decide)
theorem ld7 (x : Vec Ideal S1x1024 .f32) : View.ld x r0_7 = x := View.ld_unit_lit _ _ (by decide)

/-- The stored value, of blocks whose pieces are given. -/
theorem body_apply (x0 : Vec Ideal S1x512x1024 .f32) (x1 : Vec Ideal S1x512x256 .bf16) (x2 : Vec Ideal S1x512x512 .bf16) (x3 : Vec Ideal S1x512x256 .bf16)
    (x4 : Vec Ideal S1x6x1024 .f32) (x5 : Vec Ideal S1x1024 .f32) (x6 : Vec Ideal S1024x1024 .bf16) (x7 : Vec Ideal S1024x4096 .bf16)
    (x8 : Vec Ideal S4096x1024 .bf16)
    (o1 : Vec Ideal S256x1024 .bf16) (o2 : Vec Ideal S512x1024 .bf16) (o3 : Vec Ideal S256x1024 .bf16) (a1 a2 a3 a4 b1 b2 b3 b4 : Vec Ideal S1024x1024 .bf16)
    (ho1 : ∀ (k : Fin 256) (d : Fin 1024), o1 (ix2 k d) = x6 (ix2 ⟨k.val, by omega⟩ d))
    (ho2 : ∀ (k : Fin 512) (d : Fin 1024), o2 (ix2 k d) = x6 (ix2 ⟨256 + k.val, by omega⟩ d))
    (ho3 : ∀ (k : Fin 256) (d : Fin 1024), o3 (ix2 k d) = x6 (ix2 ⟨768 + k.val, by omega⟩ d))
    (ha1 : ∀ k d : Fin 1024, a1 (ix2 k d) = x7 (ix2 k ⟨d.val, by omega⟩))
    (ha2 : ∀ k d : Fin 1024, a2 (ix2 k d) = x7 (ix2 k ⟨1024 + d.val, by omega⟩))
    (ha3 : ∀ k d : Fin 1024, a3 (ix2 k d) = x7 (ix2 k ⟨2048 + d.val, by omega⟩))
    (ha4 : ∀ k d : Fin 1024, a4 (ix2 k d) = x7 (ix2 k ⟨3072 + d.val, by omega⟩))
    (hb1 : ∀ k d : Fin 1024, b1 (ix2 k d) = x8 (ix2 ⟨k.val, by omega⟩ d))
    (hb2 : ∀ k d : Fin 1024, b2 (ix2 k d) = x8 (ix2 ⟨1024 + k.val, by omega⟩ d))
    (hb3 : ∀ k d : Fin 1024, b3 (ix2 k d) = x8 (ix2 ⟨2048 + k.val, by omega⟩ d))
    (hb4 : ∀ k d : Fin 1024, b4 (ix2 k d) = x8 (ix2 ⟨3072 + k.val, by omega⟩ d))
    (r : Fin 512) (d : Fin 1024) :
    k0_pay1 (F := Ideal) (k0_pay2 x4) (k0_pay3 x0 x4 x1 o1 x2 o2 x3 o3)
      (k0_pay6 (k0_pay2 x4) (k0_pay3 x0 x4 x1 o1 x2 o2 x3 o3) (k0_pay4 x5) (k0_pay5 x0 x4 x1 o1 x2 o2 x3 o3) (Scalar.ofBits .f32 0x44800000#32))
      (k0_pay7 (k0_pay2 x4) (k0_pay3 x0 x4 x1 o1 x2 o2 x3 o3) (k0_pay4 x5) (k0_pay5 x0 x4 x1 o1 x2 o2 x3 o3) (Scalar.ofBits .f32 0x44800000#32) a1 b1 a2 b2)
      a3 b3 a4 b4 (ix3 0 r d) =
      row0 (Ideal.ofBits .f32 0x44800000#32) (Ideal.ofBits .f32 0x358637BD#32) (Ideal.ofBits .f32 0x3F800000#32)
        (fun i k => x4 (ix3 0 i k)) (fun k => x5 (ix2 0 k)) (fun k j => x7 (ix2 k j)) (fun j k => x8 (ix2 j k))
        (mixed (fun k => x0 (ix3 0 r k)) (fun k => x4 (ix3 0 2 k)) (fun k => x1 (ix3 0 r k)) (fun k => x2 (ix3 0 r k)) (fun k => x3 (ix3 0 r k))
          fun k j => x6 (ix2 k j)) d := by
  rw [pay1_apply]
  unfold row0
  simp only [pay7_apply]
  have h6 := fun k => pay6_apply x4 (k0_pay3 (F := Ideal) x0 x4 x1 o1 x2 o2 x3 o3) x5 _
    (Scalar.ofBits .f32 0x44800000#32) r k (pay5_apply x0 x4 x1 o1 x2 o2 x3 o3 r)
  simp only [h6, pay3_apply, ho1, ho2, ho3, ha1, ha2, ha3, ha4, hb1, hb2, hb3, hb4]
  rw [mlp_chunks]
  rfl

/-- The body's result at an index of the block. -/
theorem out_apply (x0 : Vec Ideal S1x512x1024 .f32) (x1 : Vec Ideal S1x512x256 .bf16) (x2 : Vec Ideal S1x512x512 .bf16) (x3 : Vec Ideal S1x512x256 .bf16)
    (x4 : Vec Ideal S1x6x1024 .f32) (x5 : Vec Ideal S1x1024 .f32) (x6 : Vec Ideal S1024x1024 .bf16) (x7 : Vec Ideal S1024x4096 .bf16)
    (x8 : Vec Ideal S4096x1024 .bf16) (x9 : Vec Ideal S1x1024 .f32) (r : Fin 512) (d : Fin 1024) :
    out0_10 x0 x1 x2 x3 x4 x5 x6 x7 x8 x9 (ix3 0 r d) =
      row0 (Ideal.ofBits .f32 0x44800000#32) (Ideal.ofBits .f32 0x358637BD#32) (Ideal.ofBits .f32 0x3F800000#32)
        (fun i k => x4 (ix3 0 i k)) (fun k => x5 (ix2 0 k)) (fun k j => x7 (ix2 k j)) (fun j k => x8 (ix2 j k))
        (mixed (fun k => x0 (ix3 0 r k)) (fun k => x4 (ix3 0 2 k)) (fun k => x1 (ix3 0 r k)) (fun k => x2 (ix3 0 r k)) (fun k => x3 (ix3 0 r k))
          fun k j => x6 (ix2 k j)) d := by
  unfold_out out0_10
  rw [View.canon_cons_unit_lit (S := S1x512x1024) _ _ _ (by decide)]
  simp only [ld0, ld1, ld2, ld4, ld7]
  exact body_apply x0 x1 x2 x3 x4 x5 x6 x7 x8 _ _ _ _ _ _ _ _ _ _ _ (ld3 x6) (ld5 x6) (ld6 x6) (ld8 x7) (ld10 x7) (ld12 x7) (ld14 x7)
    (ld9 x8) (ld11 x8) (ld13 x8) (ld15 x8) r d

/-! ## Where the blocks lie -/

theorem index_facts : ∀ t : Fin grid0.N,
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, 0, 0]
    ∧ win0_5.index t = ![0, 0] ∧ win0_6.index t = ![0, 0] ∧ win0_7.index t = ![0, 0] ∧ win0_8.index t = ![0, 0] ∧ win0_9.index t = ![0, 0]
    ∧ win0_10.index t = ![(grid0.coords t 0).val, (grid0.coords t 1).val, 0] := by decide +kernel

variable (m : (ℓ : Loc nD τ sig) → Buf (Elt Ideal) ℓ) (c : Dev nD) (t : Fin cfg0.N)

/-! ## The arrays the kernel finds -/

theorem V_x (b : Fin 4) (s : Fin 8192) (d : Fin 1024) : V m c main_arg0 (ix3 b s d) = m ((c.tc : Thread nD τ).loc main_arg0) (ix3 b s d) := by
  rw [V_main_arg0]

theorem V_y1 (b : Fin 4) (s : Fin 8192) (d : Fin 256) : V m c main_v0 (ix3 b s d) = m ((c.tc : Thread nD τ).loc main_arg1) (ix3 b s d) := by
  entry_read
  pointwise

theorem V_y2 (b : Fin 4) (s : Fin 8192) (d : Fin 512) : V m c main_v1 (ix3 b s d) = m ((c.tc : Thread nD τ).loc main_arg2) (ix3 b s d) := by
  entry_read
  pointwise

theorem V_y3 (b : Fin 4) (s : Fin 8192) (d : Fin 256) : V m c main_v2 (ix3 b s d) = m ((c.tc : Thread nD τ).loc main_arg3) (ix3 b s d) := by
  entry_read
  pointwise

theorem V_mod (b : Fin 4) (i : Fin 6) (d : Fin 1024) :
    V m c main_v3 (ix3 b i d) = m ((c.tc : Thread nD τ).loc main_arg4) (ix2 b ⟨1024 * i.val + d.val, by omega⟩) := by
  entry_read
  pointwise
  refine congrArg (m (c.tc.loc main_arg4)) (congrArg (ix2 b) ?_)
  exact Fin.ext (by simp only; omega)

theorem V_g (d : Fin 1024) : V m c main_v4 (ix2 0 d) = m ((c.tc : Thread nD τ).loc main_arg5) (ix1 d) := by
  entry_read
  pointwise

theorem V_wo (k d : Fin 1024) : V m c main_v5 (ix2 k d) = m ((c.tc : Thread nD τ).loc main_arg6) (ix2 k d) := by
  entry_read
  pointwise

theorem V_w1 (k : Fin 1024) (j : Fin 4096) : V m c main_v6 (ix2 k j) = m ((c.tc : Thread nD τ).loc main_arg7) (ix2 k j) := by
  entry_read
  pointwise

theorem V_w2 (j : Fin 4096) (d : Fin 1024) : V m c main_v7 (ix2 j d) = m ((c.tc : Thread nD τ).loc main_arg8) (ix2 j d) := by
  entry_read
  pointwise

/-! ## The blocks -/

theorem blk_x (b : Fin 4) (g : Fin 16) (hb : (grid0.coords t 0).val = b.val) (hg : (grid0.coords t 1).val = g.val)
    (r : Fin 512) (d : Fin 1024) (s : Fin 8192) (hs : s.val = 512 * g.val + r.val) :
    iblk m c 0 t (ix3 0 r d) = m ((c.tc : Thread nD τ).loc main_arg0) (ix3 b s d) := by
  rw [← V_x m c b s d]
  obtain ⟨e0, e1, e2, e3, e4, e5, e6, e7, e8, e9, e10⟩ := index_facts t
  blk_ext [iblk, e0, hb, hg]

theorem blk_y1 (b : Fin 4) (g : Fin 16) (hb : (grid0.coords t 0).val = b.val) (hg : (grid0.coords t 1).val = g.val)
    (r : Fin 512) (d : Fin 256) (s : Fin 8192) (hs : s.val = 512 * g.val + r.val) :
    iblk m c 1 t (ix3 0 r d) = m ((c.tc : Thread nD τ).loc main_arg1) (ix3 b s d) := by
  rw [← V_y1 m c b s d]
  obtain ⟨e0, e1, e2, e3, e4, e5, e6, e7, e8, e9, e10⟩ := index_facts t
  blk_ext [iblk, e1, hb, hg]

theorem blk_y2 (b : Fin 4) (g : Fin 16) (hb : (grid0.coords t 0).val = b.val) (hg : (grid0.coords t 1).val = g.val)
    (r : Fin 512) (d : Fin 512) (s : Fin 8192) (hs : s.val = 512 * g.val + r.val) :
    iblk m c 2 t (ix3 0 r d) = m ((c.tc : Thread nD τ).loc main_arg2) (ix3 b s d) := by
  rw [← V_y2 m c b s d]
  obtain ⟨e0, e1, e2, e3, e4, e5, e6, e7, e8, e9, e10⟩ := index_facts t
  blk_ext [iblk, e2, hb, hg]

theorem blk_y3 (b : Fin 4) (g : Fin 16) (hb : (grid0.coords t 0).val = b.val) (hg : (grid0.coords t 1).val = g.val)
    (r : Fin 512) (d : Fin 256) (s : Fin 8192) (hs : s.val = 512 * g.val + r.val) :
    iblk m c 3 t (ix3 0 r d) = m ((c.tc : Thread nD τ).loc main_arg3) (ix3 b s d) := by
  rw [← V_y3 m c b s d]
  obtain ⟨e0, e1, e2, e3, e4, e5, e6, e7, e8, e9, e10⟩ := index_facts t
  blk_ext [iblk, e3, hb, hg]

theorem blk_mod (b : Fin 4) (hb : (grid0.coords t 0).val = b.val) (i : Fin 6) (d : Fin 1024) :
    iblk m c 4 t (ix3 0 i d) = m ((c.tc : Thread nD τ).loc main_arg4) (ix2 b ⟨1024 * i.val + d.val, by omega⟩) := by
  rw [← V_mod m c b i d]
  obtain ⟨e0, e1, e2, e3, e4, e5, e6, e7, e8, e9, e10⟩ := index_facts t
  blk_ext [iblk, e4, hb]

theorem blk_g (d : Fin 1024) : iblk m c 5 t (ix2 0 d) = m ((c.tc : Thread nD τ).loc main_arg5) (ix1 d) := by
  rw [← V_g m c d]
  obtain ⟨e0, e1, e2, e3, e4, e5, e6, e7, e8, e9, e10⟩ := index_facts t
  blk_ext [iblk, e5]

theorem blk_wo (k d : Fin 1024) : iblk m c 6 t (ix2 k d) = m ((c.tc : Thread nD τ).loc main_arg6) (ix2 k d) := by
  rw [← V_wo m c k d]
  obtain ⟨e0, e1, e2, e3, e4, e5, e6, e7, e8, e9, e10⟩ := index_facts t
  blk_ext [iblk, e6]

theorem blk_w1 (k : Fin 1024) (j : Fin 4096) : iblk m c 7 t (ix2 k j) = m ((c.tc : Thread nD τ).loc main_arg7) (ix2 k j) := by
  rw [← V_w1 m c k j]
  obtain ⟨e0, e1, e2, e3, e4, e5, e6, e7, e8, e9, e10⟩ := index_facts t
  blk_ext [iblk, e7]

theorem blk_w2 (j : Fin 4096) (d : Fin 1024) : iblk m c 8 t (ix2 j d) = m ((c.tc : Thread nD τ).loc main_arg8) (ix2 j d) := by
  rw [← V_w2 m c j d]
  obtain ⟨e0, e1, e2, e3, e4, e5, e6, e7, e8, e9, e10⟩ := index_facts t
  blk_ext [iblk, e8]

/-! ## The result -/

/-- The result row of a token, of the arguments. -/
def rowOf (b : Fin 4) (s : Fin 8192) (d : Fin 1024) : EReal :=
  row0 (Ideal.ofBits .f32 0x44800000#32) (Ideal.ofBits .f32 0x358637BD#32) (Ideal.ofBits .f32 0x3F800000#32)
    (fun i k => (m ((c.tc : Thread nD τ).loc main_arg4) : FVec Ideal S4x6144 .f32) (ix2 b ⟨1024 * i.val + k.val, by omega⟩))
    (fun k => (m ((c.tc : Thread nD τ).loc main_arg5) : FVec Ideal S1024 .f32) (ix1 k))
    (fun k j => (m ((c.tc : Thread nD τ).loc main_arg7) : FVec Ideal S1024x4096 .f32) (ix2 k j))
    (fun j k => (m ((c.tc : Thread nD τ).loc main_arg8) : FVec Ideal S4096x1024 .f32) (ix2 j k))
    (mixed (fun k => (m ((c.tc : Thread nD τ).loc main_arg0) : FVec Ideal S4x8192x1024 .f32) (ix3 b s k))
      (fun k => (m ((c.tc : Thread nD τ).loc main_arg4) : FVec Ideal S4x6144 .f32) (ix2 b ⟨2048 + k.val, by omega⟩))
      (fun k => (m ((c.tc : Thread nD τ).loc main_arg1) : FVec Ideal S4x8192x256 .f32) (ix3 b s k))
      (fun k => (m ((c.tc : Thread nD τ).loc main_arg2) : FVec Ideal S4x8192x512 .f32) (ix3 b s k))
      (fun k => (m ((c.tc : Thread nD τ).loc main_arg3) : FVec Ideal S4x8192x256 .f32) (ix3 b s k))
      fun k j => (m ((c.tc : Thread nD τ).loc main_arg6) : FVec Ideal S1024x1024 .f32) (ix2 k j)) d

theorem blk_out (b : Fin 4) (g : Fin 16) (hb : (grid0.coords t 0).val = b.val) (hg : (grid0.coords t 1).val = g.val)
    (r : Fin 512) (d : Fin 1024) (s : Fin 8192) (hs : s.val = 512 * g.val + r.val) :
    out0_10 (iblk m c 0 t) (iblk m c 1 t) (iblk m c 2 t) (iblk m c 3 t) (iblk m c 4 t) (iblk m c 5 t) (iblk m c 6 t) (iblk m c 7 t) (iblk m c 8 t) (iblk m c 9 t) (ix3 0 r d)
      = rowOf m c b s d := by
  refine (out_apply _ _ _ _ _ _ _ _ _ _ r d).trans ?_
  unfold rowOf
  congr 1
  · funext i k; exact blk_mod m c t b hb i k
  · funext k; exact blk_g m c t k
  · funext k j; exact blk_w1 m c t k j
  · funext j k; exact blk_w2 m c t j k
  · congr 1
    · funext k; exact blk_x m c t b g hb hg r k s hs
    · funext k; exact blk_mod m c t b hb 2 k
    · funext k; exact blk_y1 m c t b g hb hg r k s hs
    · funext k; exact blk_y2 m c t b g hb hg r k s hs
    · funext k; exact blk_y3 m c t b g hb hg r k s hs
    · funext k j; exact blk_wo m c t k j

theorem arr_eq : (dats m 0 c).arrAt 10 (cfgs 0).N = fun z : S4x8192x1024.Idx => rowOf m c (z 0) (z 1) (z 2) := by
  refine (dats m 0 c).arrAt_eq_of_covers 10 _ (by decide +kernel) fun t hf y => ?_
  obtain ⟨e0, e1, e2, e3, e4, e5, e6, e7, e8, e9, e10⟩ := index_facts t
  blk_simp
  rw [after0_10]
  idx_bounds y
  have h0 := (grid0.coords t 1).isLt
  have ey : y = ix3 0 (y 1) (y 2) := by
    funext a
    fin_cases a
    · exact Fin.ext (by have h : (y 0).val < 1 := (y 0).isLt; show (y 0).val = 0; omega)
    · rfl
    · rfl
  have hs : 512 * (grid0.coords t 1).val + (y 1).val < 8192 := by
    change (grid0.coords t 1).val < 16 at h0
    have h : (y 1).val < 512 := (y 1).isLt
    omega
  refine (congrArg (out0_10 _ _ _ _ _ _ _ _ _ _) ey).trans ((blk_out m c t (grid0.coords t 0) (grid0.coords t 1) rfl rfl (y 1) (y 2) ⟨_, hs⟩ rfl).trans ?_)
  refine congr (congr (congrArg (rowOf m c) ?_) ?_) ?_ <;> refine Fin.ext ?_ <;> blk_simp [e10] <;> dsimp only <;> omega

end Cert.Kernel6Ideal.Mlp

end
-- ==== Proof.Mlp0Ref.lean ====
/-
  The result of the reference of the first layer's output projection at an index, over extended reals.
-/
module

public import proofs.«01_k».proof.Proof.Gen.Reference6Ideal.Run
public import proofs.«01_k».proof.Proof.MlpMath
public import Idealize.ShloMosaic.Lib.Pipeline.ValueKit

@[expose] public section

noncomputable section

namespace Cert.Reference6Ideal.Value

open Cert.Reference6Ideal Cert.Reference6Ideal.Gen Idealize.ShloMosaic Idealize.ShloMosaic.TcCoe Cert.Mlp

variable {F : FTy → Type} [FloatOps F]

/-! ## Stages -/

/-- The modulation, for all the tokens of a sequence. -/
def tokens (md : FVec F S4x6144 .f32) : FVec F S4x1x6144 .f32 := broadcastInDim S4x1x6144 ![0, 2] bcast_S4x6144_S4x1x6144_0_2 md

def gate1 (md : FVec F S4x6144 .f32) : FVec F S4x1x1024 .f32 := extractStridedSlice S4x1x1024 ![0, 0, 2048] (tokens md) slices_S4x1x6144_S4x1x1024_0_0_2048
def shift (md : FVec F S4x6144 .f32) : FVec F S4x1x1024 .f32 := extractStridedSlice S4x1x1024 ![0, 0, 3072] (tokens md) slices_S4x1x6144_S4x1x1024_0_0_3072
def scale (md : FVec F S4x6144 .f32) : FVec F S4x1x1024 .f32 := extractStridedSlice S4x1x1024 ![0, 0, 4096] (tokens md) slices_S4x1x6144_S4x1x1024_0_0_4096
def gate2 (md : FVec F S4x6144 .f32) : FVec F S4x1x1024 .f32 := extractStridedSlice S4x1x1024 ![0, 0, 5120] (tokens md) slices_S4x1x6144_S4x1x1024_0_0_5120

def spread (v : FVec F S4x1x1024 .f32) : FVec F S4x8192x1024 .f32 := broadcastInDim S4x8192x1024 ![0, 1, 2] bcast_S4x1x1024_S4x8192x1024_0_1_2 v

/-- The mixers' outputs side by side. -/
def mix (y1 : FVec F S4x8192x256 .f32) (y2 : FVec F S4x8192x512 .f32) (y3 : FVec F S4x8192x256 .f32) : FVec F S4x8192x1024 .f32 :=
  concatenate S4x8192x1024 2 [⟨S4x8192x256, y1⟩, ⟨S4x8192x512, y2⟩, ⟨S4x8192x256, y3⟩] concatenates_S4x8192x256_S4x8192x512_S4x8192x256_S4x8192x1024_d2

/-- The projection gated and added. -/
def residual (x : FVec F S4x8192x1024 .f32) (md : FVec F S4x6144 .f32) (y : FVec F S4x8192x1024 .f32) (w : FVec F S1024x1024 .f32) : FVec F S4x8192x1024 .f32 :=
  addf x (mulf (spread (gate1 md)) (Host.dotGeneral dot_S4x8192x1024_S1024x1024_S4x8192x1024_2_0_01_1_n_n none y w))

/-- The root-mean-square norm with its gain. -/
def norm (x : FVec F S4x8192x1024 .f32) (g : FVec F S1024 .f32) : FVec F S4x8192x1024 .f32 :=
  mulf (mulf x (broadcastInDim S4x8192x1024 ![0, 1, 2] bcast_S4x8192x1_S4x8192x1024_0_1_2
      (Host.rsqrt (addf (Host.divf
        (broadcastInDim S4x8192x1 ![0, 1] bcast_S4x8192_S4x8192x1_0_1 (Host.reduceAdd (mulf x x) (constant S_ .f32 0x00000000#32) reducesTo_S4x8192x1024_S4x8192_d2 h_S_))
        (broadcastInDim S4x8192x1 ![] bcast_S_S4x8192x1 (constant S_ .f32 0x44800000#32)))
        (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

def modulate (x : FVec F S4x8192x1024 .f32) (md : FVec F S4x6144 .f32) : FVec F S4x8192x1024 .f32 :=
  addf (mulf x (spread (addf (broadcastInDim S4x1x1024 ![] bcast_S_S4x1x1024 (constant S_ .f32 0x3F800000#32)) (scale md)))) (spread (shift md))

def rect (h : FVec F S4x8192x1024 .f32) (w1 : FVec F S1024x4096 .f32) : FVec F S4x8192x4096 .f32 :=
  maximumf (Host.dotGeneral dot_S4x8192x1024_S1024x4096_S4x8192x4096_2_0_01_1_n_n none h w1)
    (broadcastInDim S4x8192x4096 ![] bcast_S_S4x8192x4096 (constant S_ .f32 0x00000000#32))

def network (h : FVec F S4x8192x1024 .f32) (w1 : FVec F S1024x4096 .f32) (w2 : FVec F S4096x1024 .f32) : FVec F S4x8192x1024 .f32 :=
  Host.dotGeneral dot_S4x8192x4096_S4096x1024_S4x8192x1024_2_0_01_1_n_n none (mulf (rect h w1) (rect h w1)) w2

/-- The second half of the first layer. -/
def rest (x : FVec F S4x8192x1024 .f32) (md : FVec F S4x6144 .f32) (g : FVec F S1024 .f32) (w1 : FVec F S1024x4096 .f32) (w2 : FVec F S4096x1024 .f32) :
    FVec F S4x8192x1024 .f32 :=
  addf x (mulf (spread (gate2 md)) (network (modulate (norm x g) md) w1 w2))

set_option maxRecDepth 8192 in
theorem res_eq (m : (ℓ : Loc nD τ sig) → Buf (Elt F) ℓ) (c : Dev nD) : res_out0 m c =
    rest (residual (m ((c.tc : Thread nD τ).loc main_arg0)) (m ((c.tc : Thread nD τ).loc main_arg4))
      (mix (m ((c.tc : Thread nD τ).loc main_arg1)) (m ((c.tc : Thread nD τ).loc main_arg2)) (m ((c.tc : Thread nD τ).loc main_arg3)))
      (m ((c.tc : Thread nD τ).loc main_arg6)))
      (m ((c.tc : Thread nD τ).loc main_arg4)) (m ((c.tc : Thread nD τ).loc main_arg5)) (m ((c.tc : Thread nD τ).loc main_arg7))
      (m ((c.tc : Thread nD τ).loc main_arg8)) := by
  unfold res_out0 res_main_v37
  rfl

/-! ## At an index -/

section

variable (b : Fin 4) (s : Fin 8192)

theorem gate1_apply (md : FVec Ideal S4x6144 .f32) (d : Fin 1024) : spread (F := Ideal) (gate1 md) (ix3 b s d) = md (ix2 b ⟨2048 + d.val, by omega⟩) := by
  pointwise [spread, gate1, tokens]

theorem shift_apply (md : FVec Ideal S4x6144 .f32) (d : Fin 1024) : spread (F := Ideal) (shift md) (ix3 b s d) = md (ix2 b ⟨3072 + d.val, by omega⟩) := by
  pointwise [spread, shift, tokens]

theorem gate2_apply (md : FVec Ideal S4x6144 .f32) (d : Fin 1024) : spread (F := Ideal) (gate2 md) (ix3 b s d) = md (ix2 b ⟨5120 + d.val, by omega⟩) := by
  pointwise [spread, gate2, tokens]

theorem scale_apply (md : FVec Ideal S4x6144 .f32) (d : Fin 1024) :
    spread (F := Ideal) (addf (broadcastInDim S4x1x1024 ![] bcast_S_S4x1x1024 (constant S_ .f32 0x3F800000#32)) (scale md)) (ix3 b s d)
      = Ideal.ofBits .f32 0x3F800000#32 + md (ix2 b ⟨4096 + d.val, by omega⟩) := by
  pointwise [spread, scale, tokens]

theorem mix1 (y1 : FVec Ideal S4x8192x256 .f32) (y2 : FVec Ideal S4x8192x512 .f32) (y3 : FVec Ideal S4x8192x256 .f32) (k : Fin 256) :
    mix (F := Ideal) y1 y2 y3 (ix3 b s ⟨k.val, by omega⟩) = y1 (ix3 b s k) := by
  pointwise [mix]

theorem mix2 (y1 : FVec Ideal S4x8192x256 .f32) (y2 : FVec Ideal S4x8192x512 .f32) (y3 : FVec Ideal S4x8192x256 .f32) (k : Fin 512) :
    mix (F := Ideal) y1 y2 y3 (ix3 b s ⟨256 + k.val, by omega⟩) = y2 (ix3 b s k) := by
  pointwise [mix]

theorem mix3 (y1 : FVec Ideal S4x8192x256 .f32) (y2 : FVec Ideal S4x8192x512 .f32) (y3 : FVec Ideal S4x8192x256 .f32) (k : Fin 256) :
    mix (F := Ideal) y1 y2 y3 (ix3 b s ⟨768 + k.val, by omega⟩) = y3 (ix3 b s k) := by
  pointwise [mix]
  rw [dif_neg (by omega), dif_neg (by omega)]
  exact congrArg y3 (congrArg (ix3 b s) (Fin.ext (by simp only; omega)))

theorem residual_apply (x : FVec Ideal S4x8192x1024 .f32) (md : FVec Ideal S4x6144 .f32) (y1 : FVec Ideal S4x8192x256 .f32) (y2 : FVec Ideal S4x8192x512 .f32)
    (y3 : FVec Ideal S4x8192x256 .f32) (w : FVec Ideal S1024x1024 .f32) (d : Fin 1024) :
    residual (F := Ideal) x md (mix y1 y2 y3) w (ix3 b s d) =
      mixed (fun k => x (ix3 b s k)) (fun k => md (ix2 b ⟨2048 + k.val, by omega⟩)) (fun k => y1 (ix3 b s k)) (fun k => y2 (ix3 b s k)) (fun k => y3 (ix3 b s k))
        (fun k j => w (ix2 k j)) d := by
  have e : residual (F := Ideal) x md (mix y1 y2 y3) w (ix3 b s d)
      = x (ix3 b s d) + md (ix2 b ⟨2048 + d.val, by omega⟩) * ∑ k : Fin 1024, mix (F := Ideal) y1 y2 y3 (ix3 b s k) * w (ix2 k d) := by
    rw [← gate1_apply b s md d]
    unfold residual
    generalize mix (F := Ideal) y1 y2 y3 = y
    generalize spread (F := Ideal) (gate1 md) = z
    pointwise
  rw [e, sum_parts]
  simp only [mix1, mix2, mix3]
  rfl

theorem norm_apply (x : FVec Ideal S4x8192x1024 .f32) (g : FVec Ideal S1024 .f32) (d : Fin 1024) :
    norm (F := Ideal) x g (ix3 b s d) =
      normed (Ideal.ofBits .f32 0x44800000#32) (Ideal.ofBits .f32 0x358637BD#32) (fun k => x (ix3 b s k)) (fun k => g (ix1 k)) d := by
  pointwise [norm]
  rfl

theorem modulate_apply (x : FVec Ideal S4x8192x1024 .f32) (md : FVec Ideal S4x6144 .f32) (d : Fin 1024) :
    modulate (F := Ideal) x md (ix3 b s d) =
      x (ix3 b s d) * (Ideal.ofBits .f32 0x3F800000#32 + md (ix2 b ⟨4096 + d.val, by omega⟩)) + md (ix2 b ⟨3072 + d.val, by omega⟩) := by
  rw [← scale_apply b s md d, ← shift_apply b s md d]
  rfl

theorem rect_apply (h : FVec Ideal S4x8192x1024 .f32) (w1 : FVec Ideal S1024x4096 .f32) (j : Fin 4096) :
    rect (F := Ideal) h w1 (ix3 b s j) = max (∑ k : Fin 1024, h (ix3 b s k) * w1 (ix2 k j)) 0 := by
  pointwise [rect]

theorem network_apply (h : FVec Ideal S4x8192x1024 .f32) (w1 : FVec Ideal S1024x4096 .f32) (w2 : FVec Ideal S4096x1024 .f32) (d : Fin 1024) :
    network (F := Ideal) h w1 w2 (ix3 b s d) = mlp (fun k => h (ix3 b s k)) (fun k j => w1 (ix2 k j)) (fun j => w2 (ix2 j d)) := by
  unfold network mlp act
  simp only [← rect_apply b s h w1]
  generalize rect (F := Ideal) h w1 = a
  pointwise

theorem rest_apply (x : FVec Ideal S4x8192x1024 .f32) (md : FVec Ideal S4x6144 .f32) (g : FVec Ideal S1024 .f32) (w1 : FVec Ideal S1024x4096 .f32)
    (w2 : FVec Ideal S4096x1024 .f32) (d : Fin 1024) :
    rest (F := Ideal) x md g w1 w2 (ix3 b s d) =
      row0 (Ideal.ofBits .f32 0x44800000#32) (Ideal.ofBits .f32 0x358637BD#32) (Ideal.ofBits .f32 0x3F800000#32)
        (fun i k => md (ix2 b ⟨1024 * i.val + k.val, by omega⟩)) (fun k => g (ix1 k)) (fun k j => w1 (ix2 k j)) (fun j k => w2 (ix2 j k))
        (fun k => x (ix3 b s k)) d := by
  unfold rest row0
  have e : addf (F := Ideal) x (mulf (spread (gate2 md)) (network (modulate (norm x g) md) w1 w2)) (ix3 b s d)
      = x (ix3 b s d) + spread (F := Ideal) (gate2 md) (ix3 b s d) * network (F := Ideal) (modulate (norm x g) md) w1 w2 (ix3 b s d) := rfl
  rw [e, gate2_apply, network_apply]
  simp only [modulate_apply, norm_apply]
  rfl

end

end Cert.Reference6Ideal.Value

end
-- ==== Proof.Mlp0Value.lean ====
/-
  The claims of the output projection with its MLP, as the first layer makes it.
-/
module

public import proofs.«01_k».proof.Defs
public import proofs.«01_k».proof.Proof.Mlp0Arrays
public import proofs.«01_k».proof.Proof.Mlp0Ref
public import proofs.«01_k».proof.Proof.Gen.Kernel6
public import proofs.«01_k».proof.Proof.Gen.Reference6Ideal

@[expose] public section

set_option maxRecDepth 16384

noncomputable section

namespace Cert.Proof

open Idealize.ShloMosaic Idealize.ShloMosaic.TcCoe Idealize.SL.Sem Cert.Kernel6Ideal.Gen

/-- The two programs have one table of bodies. -/
theorem defs₀_eq6 : Cert.Kernel6.defs₀ (F := Bits) = Cert.Kernel6Ideal.defs₀ (F := Bits) := by
  unfold Cert.Kernel6.defs₀ Cert.Kernel6Ideal.defs₀
  congr 1
  funext f x
  match f, x with
  | 0, (t, s) => exact rfl
  | ⟨_ + 1, h⟩, _ => exact absurd h (Nat.not_lt.2 (Nat.le_add_left _ _))

theorem defs_eq6 : Cert.Kernel6.defs (F := Bits) = Cert.Kernel6Ideal.defs (F := Bits) := by
  unfold Cert.Kernel6.defs Cert.Kernel6Ideal.defs
  rw [defs₀_eq6]
  rfl

theorem frame_kernel6 : Cert.quiescent_Kernel6 (hKernel6 := Cert.Kernel6.Gen.facts) := fun m ρ _ => by
  rw [defs_eq6]
  exact Cert.Kernel6Ideal.Gen.frame (F := Bits) m ρ

theorem frame_kernel6Ideal : Cert.quiescent_Kernel6Ideal (hKernel6Ideal := Cert.Kernel6Ideal.Gen.facts) := fun m ρ _ =>
  Cert.Kernel6Ideal.Gen.frame (F := Ideal) m ρ

theorem frame_reference6Ideal : Cert.quiescent_Reference6Ideal (hReference6Ideal := Cert.Reference6Ideal.Gen.facts) := fun m ρ _ =>
  (θ_run Cert.Reference6Ideal.defs _ _).mono (fun r h => ⟨fun c => (h c).2, sem_eq_zero_of_no_sems rfl r.2⟩) (Cert.Reference6Ideal.Value.run (F := Ideal) m ρ)

theorem algebraic6 : Cert.algebraic_Kernel6Ideal_Reference6Ideal (hKernel6Ideal := Cert.Kernel6Ideal.Gen.facts)
    (hReference6Ideal := Cert.Reference6Ideal.Gen.facts) := by
  intro m g m' g' _ hm
  refine ⟨fun c => (dats m 0 c).arrAt 10 (Cert.Kernel6Ideal.cfgs 0).N, Cert.Kernel6Ideal.Value.run_blocks (F := Ideal) m g, ?_⟩
  refine (θ_run Cert.Reference6Ideal.defs _ _).mono (fun r h c => ⟨(h c).1.trans ?_, (h c).2⟩) (Cert.Reference6Ideal.Value.run (F := Ideal) m' g')
  obtain ⟨e0, e1, e2, e3, e4, e5, e6, e7, e8, e9⟩ := hm c
  refine (Cert.Reference6Ideal.Value.res_eq (F := Ideal) m' c).trans ?_
  rw [e0, e1, e2, e3, e4, e5, e6, e7, e8]
  refine Eq.trans ?_ (Cert.Kernel6Ideal.Mlp.arr_eq m c).symm
  funext z
  have ez : z = ix3 (z 0) (z 1) (z 2) := by
    funext a
    fin_cases a <;> rfl
  refine (congrArg (Cert.Reference6Ideal.Value.rest (F := Ideal) _ _ _ _ _) ez).trans ((Cert.Reference6Ideal.Value.rest_apply (z 0) (z 1) _ _ _ _ _ (z 2)).trans ?_)
  exact congrFun (congrArg (Cert.Mlp.row0 _ _ _ _ _ _ _) (funext fun k => Cert.Reference6Ideal.Value.residual_apply (z 0) (z 1) _ _ _ _ _ _ k)) (z 2)

end Cert.Proof

end
-- ==== Proof.lean ====
/- The claims about the differential attention, the output projection with its MLP in both layers, the projection, the modulation and the rotation tables: each kernel, its exact form and the exact reference. -/
module

public import proofs.«01_k».proof.Defs
public import proofs.«01_k».proof.Proof.Frames
public import proofs.«01_k».proof.Proof.Value
public import proofs.«01_k».proof.Proof.MlpValue
public import proofs.«01_k».proof.Proof.ProjValue
public import proofs.«01_k».proof.Proof.AdaValue
public import proofs.«01_k».proof.Proof.RopeValue
public import proofs.«01_k».proof.Proof.Mlp0Value

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, preFacts,
    frame_kernel, frame_kernelIdeal, fun m ρ _ => frame_kernelIdeal m ρ trivial,
    frame_referenceIdeal, fun m ρ _ => frame_referenceIdeal m ρ trivial,
    frame_kernel2, frame_kernel2Ideal, frame_reference2Ideal,
    frame_kernel3, frame_kernel3Ideal, frame_reference3Ideal,
    frame_kernel4, frame_kernel4Ideal, frame_reference4Ideal,
    frame_kernel5, frame_kernel5Ideal, frame_reference5Ideal,
    frame_kernel6, frame_kernel6Ideal, frame_reference6Ideal,
    preserved, algebraic, trivial, algebraic2, trivial, algebraic3, trivial, algebraic4, trivial, algebraic5,
    trivial, algebraic6⟩

end Cert.Proof

end
